-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormReferenceIdeal (m : (ℓ : Loc Cert.NormReferenceIdeal.nD Cert.NormReferenceIdeal.τ Cert.NormReferenceIdeal.sig) → Buf (Elt Ideal) ℓ) : Prop :=
  True

def Pre_KProj [hPre_slots_in_range : Cert.Pre_slots_in_range.Facts] (m : (ℓ : Loc Cert.KProj.nD Cert.KProj.τ Cert.KProj.sig) → Buf (Elt Bits) ℓ) : Prop :=
  ∀ c : Dev Cert.KProj.nD,
    (Cert.Pre_slots_in_range.fn (F := Bits) (m ((c.tc : Thread Cert.KProj.nD Cert.KProj.τ).loc Cert.KProj.main_arg0)) (m ((c.tc : Thread Cert.KProj.nD Cert.KProj.τ).loc Cert.KProj.main_arg1)) (m ((c.tc : Thread Cert.KProj.nD Cert.KProj.τ).loc Cert.KProj.main_arg2)) (m ((c.tc : Thread Cert.KProj.nD Cert.KProj.τ).loc Cert.KProj.main_arg3)) (m ((c.tc : Thread Cert.KProj.nD Cert.KProj.τ).loc Cert.KProj.main_arg4)) (m ((c.tc : Thread Cert.KProj.nD Cert.KProj.τ).loc Cert.KProj.main_arg5)) (m ((c.tc : Thread Cert.KProj.nD Cert.KProj.τ).loc Cert.KProj.main_arg6))) = (fun _ => 1#1)

def Pre_KProjIdeal [hPre_slots_in_range : Cert.Pre_slots_in_range.Facts] (m : (ℓ : Loc Cert.KProjIdeal.nD Cert.KProjIdeal.τ Cert.KProjIdeal.sig) → Buf (Elt Ideal) ℓ) : Prop :=
  ∀ c : Dev Cert.KProjIdeal.nD,
    (Cert.Pre_slots_in_range.fn (F := Ideal) (m ((c.tc : Thread Cert.KProjIdeal.nD Cert.KProjIdeal.τ).loc Cert.KProjIdeal.main_arg0)) (m ((c.tc : Thread Cert.KProjIdeal.nD Cert.KProjIdeal.τ).loc Cert.KProjIdeal.main_arg1)) (m ((c.tc : Thread Cert.KProjIdeal.nD Cert.KProjIdeal.τ).loc Cert.KProjIdeal.main_arg2)) (m ((c.tc : Thread Cert.KProjIdeal.nD Cert.KProjIdeal.τ).loc Cert.KProjIdeal.main_arg3)) (m ((c.tc : Thread Cert.KProjIdeal.nD Cert.KProjIdeal.τ).loc Cert.KProjIdeal.main_arg4)) (m ((c.tc : Thread Cert.KProjIdeal.nD Cert.KProjIdeal.τ).loc Cert.KProjIdeal.main_arg5)) (m ((c.tc : Thread Cert.KProjIdeal.nD Cert.KProjIdeal.τ).loc Cert.KProjIdeal.main_arg6))) = (fun _ => 1#1)

def Pre_KReferenceIdeal [hPre_slots_in_range : Cert.Pre_slots_in_range.Facts] (m : (ℓ : Loc Cert.KReferenceIdeal.nD Cert.KReferenceIdeal.τ Cert.KReferenceIdeal.sig) → Buf (Elt Ideal) ℓ) : Prop :=
  ∀ c : Dev Cert.KReferenceIdeal.nD,
    (Cert.Pre_slots_in_range.fn (F := Ideal) (m ((c.tc : Thread Cert.KReferenceIdeal.nD Cert.KReferenceIdeal.τ).loc Cert.KReferenceIdeal.main_arg0)) (m ((c.tc : Thread Cert.KReferenceIdeal.nD Cert.KReferenceIdeal.τ).loc Cert.KReferenceIdeal.main_arg1)) (m ((c.tc : Thread Cert.KReferenceIdeal.nD Cert.KReferenceIdeal.τ).loc Cert.KReferenceIdeal.main_arg2)) (m ((c.tc : Thread Cert.KReferenceIdeal.nD Cert.KReferenceIdeal.τ).loc Cert.KReferenceIdeal.main_arg3)) (m ((c.tc : Thread Cert.KReferenceIdeal.nD Cert.KReferenceIdeal.τ).loc Cert.KReferenceIdeal.main_arg4)) (m ((c.tc : Thread Cert.KReferenceIdeal.nD Cert.KReferenceIdeal.τ).loc Cert.KReferenceIdeal.main_arg5)) (m ((c.tc : Thread Cert.KReferenceIdeal.nD Cert.KReferenceIdeal.τ).loc Cert.KReferenceIdeal.main_arg6))) = (fun _ => 1#1)

def Pre_VProj [hPre_slots_in_range : Cert.Pre_slots_in_range.Facts] (m : (ℓ : Loc Cert.VProj.nD Cert.VProj.τ Cert.VProj.sig) → Buf (Elt Bits) ℓ) : Prop :=
  ∀ c : Dev Cert.VProj.nD,
    (Cert.Pre_slots_in_range.fn (F := Bits) (m ((c.tc : Thread Cert.VProj.nD Cert.VProj.τ).loc Cert.VProj.main_arg0)) (m ((c.tc : Thread Cert.VProj.nD Cert.VProj.τ).loc Cert.VProj.main_arg1)) (m ((c.tc : Thread Cert.VProj.nD Cert.VProj.τ).loc Cert.VProj.main_arg2)) (m ((c.tc : Thread Cert.VProj.nD Cert.VProj.τ).loc Cert.VProj.main_arg3)) (m ((c.tc : Thread Cert.VProj.nD Cert.VProj.τ).loc Cert.VProj.main_arg4)) (m ((c.tc : Thread Cert.VProj.nD Cert.VProj.τ).loc Cert.VProj.main_arg5)) (m ((c.tc : Thread Cert.VProj.nD Cert.VProj.τ).loc Cert.VProj.main_arg6))) = (fun _ => 1#1)

def Pre_VProjIdeal [hPre_slots_in_range : Cert.Pre_slots_in_range.Facts] (m : (ℓ : Loc Cert.VProjIdeal.nD Cert.VProjIdeal.τ Cert.VProjIdeal.sig) → Buf (Elt Ideal) ℓ) : Prop :=
  ∀ c : Dev Cert.VProjIdeal.nD,
    (Cert.Pre_slots_in_range.fn (F := Ideal) (m ((c.tc : Thread Cert.VProjIdeal.nD Cert.VProjIdeal.τ).loc Cert.VProjIdeal.main_arg0)) (m ((c.tc : Thread Cert.VProjIdeal.nD Cert.VProjIdeal.τ).loc Cert.VProjIdeal.main_arg1)) (m ((c.tc : Thread Cert.VProjIdeal.nD Cert.VProjIdeal.τ).loc Cert.VProjIdeal.main_arg2)) (m ((c.tc : Thread Cert.VProjIdeal.nD Cert.VProjIdeal.τ).loc Cert.VProjIdeal.main_arg3)) (m ((c.tc : Thread Cert.VProjIdeal.nD Cert.VProjIdeal.τ).loc Cert.VProjIdeal.main_arg4)) (m ((c.tc : Thread Cert.VProjIdeal.nD Cert.VProjIdeal.τ).loc Cert.VProjIdeal.main_arg5)) (m ((c.tc : Thread Cert.VProjIdeal.nD Cert.VProjIdeal.τ).loc Cert.VProjIdeal.main_arg6))) = (fun _ => 1#1)

def Pre_VReferenceIdeal [hPre_slots_in_range : Cert.Pre_slots_in_range.Facts] (m : (ℓ : Loc Cert.VReferenceIdeal.nD Cert.VReferenceIdeal.τ Cert.VReferenceIdeal.sig) → Buf (Elt Ideal) ℓ) : Prop :=
  ∀ c : Dev Cert.VReferenceIdeal.nD,
    (Cert.Pre_slots_in_range.fn (F := Ideal) (m ((c.tc : Thread Cert.VReferenceIdeal.nD Cert.VReferenceIdeal.τ).loc Cert.VReferenceIdeal.main_arg0)) (m ((c.tc : Thread Cert.VReferenceIdeal.nD Cert.VReferenceIdeal.τ).loc Cert.VReferenceIdeal.main_arg1)) (m ((c.tc : Thread Cert.VReferenceIdeal.nD Cert.VReferenceIdeal.τ).loc Cert.VReferenceIdeal.main_arg2)) (m ((c.tc : Thread Cert.VReferenceIdeal.nD Cert.VReferenceIdeal.τ).loc Cert.VReferenceIdeal.main_arg3)) (m ((c.tc : Thread Cert.VReferenceIdeal.nD Cert.VReferenceIdeal.τ).loc Cert.VReferenceIdeal.main_arg4)) (m ((c.tc : Thread Cert.VReferenceIdeal.nD Cert.VReferenceIdeal.τ).loc Cert.VReferenceIdeal.main_arg5)) (m ((c.tc : Thread Cert.VReferenceIdeal.nD Cert.VReferenceIdeal.τ).loc Cert.VReferenceIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ r.2.sem = fun _ => 0)

def quiescent_NormReferenceIdeal [hNormReferenceIdeal : Cert.NormReferenceIdeal.Facts] : Prop :=
  ∀ (m : (ℓ : Loc Cert.NormReferenceIdeal.nD Cert.NormReferenceIdeal.τ Cert.NormReferenceIdeal.sig) → Buf (Elt Ideal) ℓ) (g : Dev Cert.NormReferenceIdeal.nD → PrngReg), Pre_NormReferenceIdeal m →
    θ_run (Cert.NormReferenceIdeal.defs (F := Ideal)) (onTc (τ := Cert.NormReferenceIdeal.τ) (Cert.NormReferenceIdeal.main (F := Ideal))) ⟨m, fun _ => 0, g⟩ (fun r => (∀ c : Dev Cert.NormReferenceIdeal.nD,
      r.2.mem ((c.tc : Thread Cert.NormReferenceIdeal.nD Cert.NormReferenceIdeal.τ).loc Cert.NormReferenceIdeal.main_arg0) = m ((c.tc : Thread Cert.NormReferenceIdeal.nD Cert.NormReferenceIdeal.τ).loc Cert.NormReferenceIdeal.main_arg0)
      ∧ r.2.mem ((c.tc : Thread Cert.NormReferenceIdeal.nD Cert.NormReferenceIdeal.τ).loc Cert.NormReferenceIdeal.main_arg1) = m ((c.tc : Thread Cert.NormReferenceIdeal.nD Cert.NormReferenceIdeal.τ).loc Cert.NormReferenceIdeal.main_arg1))
      ∧ r.2.sem = fun _ => 0)

def quiescent_KProj [hKProj : Cert.KProj.Facts] [hPre_slots_in_range : Cert.Pre_slots_in_range.Facts] : Prop :=
  ∀ (m : (ℓ : Loc Cert.KProj.nD Cert.KProj.τ Cert.KProj.sig) → Buf (Elt Bits) ℓ) (g : Dev Cert.KProj.nD → PrngReg), Pre_KProj m →
    θ_run (Cert.KProj.defs (F := Bits)) (onTc (τ := Cert.KProj.τ) (Cert.KProj.main (F := Bits))) ⟨m, fun _ => 0, g⟩ (fun r => (∀ c : Dev Cert.KProj.nD,
      r.2.mem ((c.tc : Thread Cert.KProj.nD Cert.KProj.τ).loc Cert.KProj.main_arg0) = m ((c.tc : Thread Cert.KProj.nD Cert.KProj.τ).loc Cert.KProj.main_arg0)
      ∧ r.2.mem ((c.tc : Thread Cert.KProj.nD Cert.KProj.τ).loc Cert.KProj.main_arg1) = m ((c.tc : Thread Cert.KProj.nD Cert.KProj.τ).loc Cert.KProj.main_arg1)
      ∧ r.2.mem ((c.tc : Thread Cert.KProj.nD Cert.KProj.τ).loc Cert.KProj.main_arg2) = m ((c.tc : Thread Cert.KProj.nD Cert.KProj.τ).loc Cert.KProj.main_arg2)
      ∧ r.2.mem ((c.tc : Thread Cert.KProj.nD Cert.KProj.τ).loc Cert.KProj.main_arg3) = m ((c.tc : Thread Cert.KProj.nD Cert.KProj.τ).loc Cert.KProj.main_arg3)
      ∧ r.2.mem ((c.tc : Thread Cert.KProj.nD Cert.KProj.τ).loc Cert.KProj.main_arg4) = m ((c.tc : Thread Cert.KProj.nD Cert.KProj.τ).loc Cert.KProj.main_arg4)
      ∧ r.2.mem ((c.tc : Thread Cert.KProj.nD Cert.KProj.τ).loc Cert.KProj.main_arg5) = m ((c.tc : Thread Cert.KProj.nD Cert.KProj.τ).loc Cert.KProj.main_arg5)
      ∧ r.2.mem ((c.tc : Thread Cert.KProj.nD Cert.KProj.τ).loc Cert.KProj.main_arg6) = m ((c.tc : Thread Cert.KProj.nD Cert.KProj.τ).loc Cert.KProj.main_arg6))
      ∧ r.2.sem = fun _ => 0)

def quiescent_KProjIdeal [hKProjIdeal : Cert.KProjIdeal.Facts] [hPre_slots_in_range : Cert.Pre_slots_in_range.Facts] : Prop :=
  ∀ (m : (ℓ : Loc Cert.KProjIdeal.nD Cert.KProjIdeal.τ Cert.KProjIdeal.sig) → Buf (Elt Ideal) ℓ) (g : Dev Cert.KProjIdeal.nD → PrngReg), Pre_KProjIdeal m →
    θ_run (Cert.KProjIdeal.defs (F := Ideal)) (onTc (τ := Cert.KProjIdeal.τ) (Cert.KProjIdeal.main (F := Ideal))) ⟨m, fun _ => 0, g⟩ (fun r => (∀ c : Dev Cert.KProjIdeal.nD,
      r.2.mem ((c.tc : Thread Cert.KProjIdeal.nD Cert.KProjIdeal.τ).loc Cert.KProjIdeal.main_arg0) = m ((c.tc : Thread Cert.KProjIdeal.nD Cert.KProjIdeal.τ).loc Cert.KProjIdeal.main_arg0)
      ∧ r.2.mem ((c.tc : Thread Cert.KProjIdeal.nD Cert.KProjIdeal.τ).loc Cert.KProjIdeal.main_arg1) = m ((c.tc : Thread Cert.KProjIdeal.nD Cert.KProjIdeal.τ).loc Cert.KProjIdeal.main_arg1)
      ∧ r.2.mem ((c.tc : Thread Cert.KProjIdeal.nD Cert.KProjIdeal.τ).loc Cert.KProjIdeal.main_arg2) = m ((c.tc : Thread Cert.KProjIdeal.nD Cert.KProjIdeal.τ).loc Cert.KProjIdeal.main_arg2)
      ∧ r.2.mem ((c.tc : Thread Cert.KProjIdeal.nD Cert.KProjIdeal.τ).loc Cert.KProjIdeal.main_arg3) = m ((c.tc : Thread Cert.KProjIdeal.nD Cert.KProjIdeal.τ).loc Cert.KProjIdeal.main_arg3)
      ∧ r.2.mem ((c.tc : Thread Cert.KProjIdeal.nD Cert.KProjIdeal.τ).loc Cert.KProjIdeal.main_arg4) = m ((c.tc : Thread Cert.KProjIdeal.nD Cert.KProjIdeal.τ).loc Cert.KProjIdeal.main_arg4)
      ∧ r.2.mem ((c.tc : Thread Cert.KProjIdeal.nD Cert.KProjIdeal.τ).loc Cert.KProjIdeal.main_arg5) = m ((c.tc : Thread Cert.KProjIdeal.nD Cert.KProjIdeal.τ).loc Cert.KProjIdeal.main_arg5)
      ∧ r.2.mem ((c.tc : Thread Cert.KProjIdeal.nD Cert.KProjIdeal.τ).loc Cert.KProjIdeal.main_arg6) = m ((c.tc : Thread Cert.KProjIdeal.nD Cert.KProjIdeal.τ).loc Cert.KProjIdeal.main_arg6))
      ∧ r.2.sem = fun _ => 0)

def quiescent_KReferenceIdeal [hKReferenceIdeal : Cert.KReferenceIdeal.Facts] [hPre_slots_in_range : Cert.Pre_slots_in_range.Facts] : Prop :=
  ∀ (m : (ℓ : Loc Cert.KReferenceIdeal.nD Cert.KReferenceIdeal.τ Cert.KReferenceIdeal.sig) → Buf (Elt Ideal) ℓ) (g : Dev Cert.KReferenceIdeal.nD → PrngReg), Pre_KReferenceIdeal m →
    θ_run (Cert.KReferenceIdeal.defs (F := Ideal)) (onTc (τ := Cert.KReferenceIdeal.τ) (Cert.KReferenceIdeal.main (F := Ideal))) ⟨m, fun _ => 0, g⟩ (fun r => (∀ c : Dev Cert.KReferenceIdeal.nD,
      r.2.mem ((c.tc : Thread Cert.KReferenceIdeal.nD Cert.KReferenceIdeal.τ).loc Cert.KReferenceIdeal.main_arg0) = m ((c.tc : Thread Cert.KReferenceIdeal.nD Cert.KReferenceIdeal.τ).loc Cert.KReferenceIdeal.main_arg0)
      ∧ r.2.mem ((c.tc : Thread Cert.KReferenceIdeal.nD Cert.KReferenceIdeal.τ).loc Cert.KReferenceIdeal.main_arg1) = m ((c.tc : Thread Cert.KReferenceIdeal.nD Cert.KReferenceIdeal.τ).loc Cert.KReferenceIdeal.main_arg1)
      ∧ r.2.mem ((c.tc : Thread Cert.KReferenceIdeal.nD Cert.KReferenceIdeal.τ).loc Cert.KReferenceIdeal.main_arg2) = m ((c.tc : Thread Cert.KReferenceIdeal.nD Cert.KReferenceIdeal.τ).loc Cert.KReferenceIdeal.main_arg2)
      ∧ r.2.mem ((c.tc : Thread Cert.KReferenceIdeal.nD Cert.KReferenceIdeal.τ).loc Cert.KReferenceIdeal.main_arg3) = m ((c.tc : Thread Cert.KReferenceIdeal.nD Cert.KReferenceIdeal.τ).loc Cert.KReferenceIdeal.main_arg3)
      ∧ r.2.mem ((c.tc : Thread Cert.KReferenceIdeal.nD Cert.KReferenceIdeal.τ).loc Cert.KReferenceIdeal.main_arg4) = m ((c.tc : Thread Cert.KReferenceIdeal.nD Cert.KReferenceIdeal.τ).loc Cert.KReferenceIdeal.main_arg4)
      ∧ r.2.mem ((c.tc : Thread Cert.KReferenceIdeal.nD Cert.KReferenceIdeal.τ).loc Cert.KReferenceIdeal.main_arg5) = m ((c.tc : Thread Cert.KReferenceIdeal.nD Cert.KReferenceIdeal.τ).loc Cert.KReferenceIdeal.main_arg5)
      ∧ r.2.mem ((c.tc : Thread Cert.KReferenceIdeal.nD Cert.KReferenceIdeal.τ).loc Cert.KReferenceIdeal.main_arg6) = m ((c.tc : Thread Cert.KReferenceIdeal.nD Cert.KReferenceIdeal.τ).loc Cert.KReferenceIdeal.main_arg6))
      ∧ r.2.sem = fun _ => 0)

def quiescent_VProj [hVProj : Cert.VProj.Facts] [hPre_slots_in_range : Cert.Pre_slots_in_range.Facts] : Prop :=
  ∀ (m : (ℓ : Loc Cert.VProj.nD Cert.VProj.τ Cert.VProj.sig) → Buf (Elt Bits) ℓ) (g : Dev Cert.VProj.nD → PrngReg), Pre_VProj m →
    θ_run (Cert.VProj.defs (F := Bits)) (onTc (τ := Cert.VProj.τ) (Cert.VProj.main (F := Bits))) ⟨m, fun _ => 0, g⟩ (fun r => (∀ c : Dev Cert.VProj.nD,
      r.2.mem ((c.tc : Thread Cert.VProj.nD Cert.VProj.τ).loc Cert.VProj.main_arg0) = m ((c.tc : Thread Cert.VProj.nD Cert.VProj.τ).loc Cert.VProj.main_arg0)
      ∧ r.2.mem ((c.tc : Thread Cert.VProj.nD Cert.VProj.τ).loc Cert.VProj.main_arg1) = m ((c.tc : Thread Cert.VProj.nD Cert.VProj.τ).loc Cert.VProj.main_arg1)
      ∧ r.2.mem ((c.tc : Thread Cert.VProj.nD Cert.VProj.τ).loc Cert.VProj.main_arg2) = m ((c.tc : Thread Cert.VProj.nD Cert.VProj.τ).loc Cert.VProj.main_arg2)
      ∧ r.2.mem ((c.tc : Thread Cert.VProj.nD Cert.VProj.τ).loc Cert.VProj.main_arg3) = m ((c.tc : Thread Cert.VProj.nD Cert.VProj.τ).loc Cert.VProj.main_arg3)
      ∧ r.2.mem ((c.tc : Thread Cert.VProj.nD Cert.VProj.τ).loc Cert.VProj.main_arg4) = m ((c.tc : Thread Cert.VProj.nD Cert.VProj.τ).loc Cert.VProj.main_arg4)
      ∧ r.2.mem ((c.tc : Thread Cert.VProj.nD Cert.VProj.τ).loc Cert.VProj.main_arg5) = m ((c.tc : Thread Cert.VProj.nD Cert.VProj.τ).loc Cert.VProj.main_arg5)
      ∧ r.2.mem ((c.tc : Thread Cert.VProj.nD Cert.VProj.τ).loc Cert.VProj.main_arg6) = m ((c.tc : Thread Cert.VProj.nD Cert.VProj.τ).loc Cert.VProj.main_arg6))
      ∧ r.2.sem = fun _ => 0)

def quiescent_VProjIdeal [hVProjIdeal : Cert.VProjIdeal.Facts] [hPre_slots_in_range : Cert.Pre_slots_in_range.Facts] : Prop :=
  ∀ (m : (ℓ : Loc Cert.VProjIdeal.nD Cert.VProjIdeal.τ Cert.VProjIdeal.sig) → Buf (Elt Ideal) ℓ) (g : Dev Cert.VProjIdeal.nD → PrngReg), Pre_VProjIdeal m →
    θ_run (Cert.VProjIdeal.defs (F := Ideal)) (onTc (τ := Cert.VProjIdeal.τ) (Cert.VProjIdeal.main (F := Ideal))) ⟨m, fun _ => 0, g⟩ (fun r => (∀ c : Dev Cert.VProjIdeal.nD,
      r.2.mem ((c.tc : Thread Cert.VProjIdeal.nD Cert.VProjIdeal.τ).loc Cert.VProjIdeal.main_arg0) = m ((c.tc : Thread Cert.VProjIdeal.nD Cert.VProjIdeal.τ).loc Cert.VProjIdeal.main_arg0)
      ∧ r.2.mem ((c.tc : Thread Cert.VProjIdeal.nD Cert.VProjIdeal.τ).loc Cert.VProjIdeal.main_arg1) = m ((c.tc : Thread Cert.VProjIdeal.nD Cert.VProjIdeal.τ).loc Cert.VProjIdeal.main_arg1)
      ∧ r.2.mem ((c.tc : Thread Cert.VProjIdeal.nD Cert.VProjIdeal.τ).loc Cert.VProjIdeal.main_arg2) = m ((c.tc : Thread Cert.VProjIdeal.nD Cert.VProjIdeal.τ).loc Cert.VProjIdeal.main_arg2)
      ∧ r.2.mem ((c.tc : Thread Cert.VProjIdeal.nD Cert.VProjIdeal.τ).loc Cert.VProjIdeal.main_arg3) = m ((c.tc : Thread Cert.VProjIdeal.nD Cert.VProjIdeal.τ).loc Cert.VProjIdeal.main_arg3)
      ∧ r.2.mem ((c.tc : Thread Cert.VProjIdeal.nD Cert.VProjIdeal.τ).loc Cert.VProjIdeal.main_arg4) = m ((c.tc : Thread Cert.VProjIdeal.nD Cert.VProjIdeal.τ).loc Cert.VProjIdeal.main_arg4)
      ∧ r.2.mem ((c.tc : Thread Cert.VProjIdeal.nD Cert.VProjIdeal.τ).loc Cert.VProjIdeal.main_arg5) = m ((c.tc : Thread Cert.VProjIdeal.nD Cert.VProjIdeal.τ).loc Cert.VProjIdeal.main_arg5)
      ∧ r.2.mem ((c.tc : Thread Cert.VProjIdeal.nD Cert.VProjIdeal.τ).loc Cert.VProjIdeal.main_arg6) = m ((c.tc : Thread Cert.VProjIdeal.nD Cert.VProjIdeal.τ).loc Cert.VProjIdeal.main_arg6))
      ∧ r.2.sem = fun _ => 0)

def quiescent_VReferenceIdeal [hVReferenceIdeal : Cert.VReferenceIdeal.Facts] [hPre_slots_in_range : Cert.Pre_slots_in_range.Facts] : Prop :=
  ∀ (m : (ℓ : Loc Cert.VReferenceIdeal.nD Cert.VReferenceIdeal.τ Cert.VReferenceIdeal.sig) → Buf (Elt Ideal) ℓ) (g : Dev Cert.VReferenceIdeal.nD → PrngReg), Pre_VReferenceIdeal m →
    θ_run (Cert.VReferenceIdeal.defs (F := Ideal)) (onTc (τ := Cert.VReferenceIdeal.τ) (Cert.VReferenceIdeal.main (F := Ideal))) ⟨m, fun _ => 0, g⟩ (fun r => (∀ c : Dev Cert.VReferenceIdeal.nD,
      r.2.mem ((c.tc : Thread Cert.VReferenceIdeal.nD Cert.VReferenceIdeal.τ).loc Cert.VReferenceIdeal.main_arg0) = m ((c.tc : Thread Cert.VReferenceIdeal.nD Cert.VReferenceIdeal.τ).loc Cert.VReferenceIdeal.main_arg0)
      ∧ r.2.mem ((c.tc : Thread Cert.VReferenceIdeal.nD Cert.VReferenceIdeal.τ).loc Cert.VReferenceIdeal.main_arg1) = m ((c.tc : Thread Cert.VReferenceIdeal.nD Cert.VReferenceIdeal.τ).loc Cert.VReferenceIdeal.main_arg1)
      ∧ r.2.mem ((c.tc : Thread Cert.VReferenceIdeal.nD Cert.VReferenceIdeal.τ).loc Cert.VReferenceIdeal.main_arg2) = m ((c.tc : Thread Cert.VReferenceIdeal.nD Cert.VReferenceIdeal.τ).loc Cert.VReferenceIdeal.main_arg2)
      ∧ r.2.mem ((c.tc : Thread Cert.VReferenceIdeal.nD Cert.VReferenceIdeal.τ).loc Cert.VReferenceIdeal.main_arg3) = m ((c.tc : Thread Cert.VReferenceIdeal.nD Cert.VReferenceIdeal.τ).loc Cert.VReferenceIdeal.main_arg3)
      ∧ r.2.mem ((c.tc : Thread Cert.VReferenceIdeal.nD Cert.VReferenceIdeal.τ).loc Cert.VReferenceIdeal.main_arg4) = m ((c.tc : Thread Cert.VReferenceIdeal.nD Cert.VReferenceIdeal.τ).loc Cert.VReferenceIdeal.main_arg4)
      ∧ r.2.mem ((c.tc : Thread Cert.VReferenceIdeal.nD Cert.VReferenceIdeal.τ).loc Cert.VReferenceIdeal.main_arg5) = m ((c.tc : Thread Cert.VReferenceIdeal.nD Cert.VReferenceIdeal.τ).loc Cert.VReferenceIdeal.main_arg5)
      ∧ r.2.mem ((c.tc : Thread Cert.VReferenceIdeal.nD Cert.VReferenceIdeal.τ).loc Cert.VReferenceIdeal.main_arg6) = m ((c.tc : Thread Cert.VReferenceIdeal.nD Cert.VReferenceIdeal.τ).loc Cert.VReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3_0) = v0 c
          ∧ r.2.mem ((c.tc : Thread Cert.ReferenceIdeal.nD Cert.ReferenceIdeal.τ).loc Cert.ReferenceIdeal.main_v3_1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Norm_NormIdeal : Prop :=
  True

def algebraic_NormIdeal_NormReferenceIdeal [hNormIdeal : Cert.NormIdeal.Facts] [hNormReferenceIdeal : Cert.NormReferenceIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormReferenceIdeal.nD Cert.NormReferenceIdeal.τ Cert.NormReferenceIdeal.sig) → Buf (Elt Ideal) ℓ) (g' : Dev Cert.NormReferenceIdeal.nD → PrngReg), Pre_NormIdeal m →
    (∀ c : Dev Cert.NormIdeal.nD,
      m' ((c.tc : Thread Cert.NormReferenceIdeal.nD Cert.NormReferenceIdeal.τ).loc Cert.NormReferenceIdeal.main_arg0) = m ((c.tc : Thread Cert.NormIdeal.nD Cert.NormIdeal.τ).loc Cert.NormIdeal.main_arg0)
      ∧ m' ((c.tc : Thread Cert.NormReferenceIdeal.nD Cert.NormReferenceIdeal.τ).loc Cert.NormReferenceIdeal.main_arg1) = m ((c.tc : Thread Cert.NormIdeal.nD Cert.NormIdeal.τ).loc Cert.NormIdeal.main_arg1)) →
    ∃ (v0 : (c : Dev Cert.NormIdeal.nD) → Buf (Elt Ideal) ((c.tc : Thread Cert.NormIdeal.nD Cert.NormIdeal.τ).loc Cert.NormIdeal.main_v2_0)) (v1 : (c : Dev Cert.NormIdeal.nD) → Buf (Elt Ideal) ((c.tc : Thread Cert.NormIdeal.nD Cert.NormIdeal.τ).loc Cert.NormIdeal.main_v2_1)) (v2 : (c : Dev Cert.NormIdeal.nD) → Buf (Elt Ideal) ((c.tc : Thread Cert.NormIdeal.nD Cert.NormIdeal.τ).loc Cert.NormIdeal.main_v2_2)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v2_0) = v0 c
          ∧ r.2.mem ((c.tc : Thread Cert.NormIdeal.nD Cert.NormIdeal.τ).loc Cert.NormIdeal.main_v2_1) = v1 c
          ∧ r.2.mem ((c.tc : Thread Cert.NormIdeal.nD Cert.NormIdeal.τ).loc Cert.NormIdeal.main_v2_2) = v2 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ θ_run (Cert.NormReferenceIdeal.defs (F := Ideal)) (onTc (τ := Cert.NormReferenceIdeal.τ) (Cert.NormReferenceIdeal.main (F := Ideal))) ⟨m', fun _ => 0, g'⟩ (fun r => ∀ c : Dev Cert.NormReferenceIdeal.nD,
          r.2.mem ((c.tc : Thread Cert.NormReferenceIdeal.nD Cert.NormReferenceIdeal.τ).loc Cert.NormReferenceIdeal.main_v2_0) = v0 c
          ∧ r.2.mem ((c.tc : Thread Cert.NormReferenceIdeal.nD Cert.NormReferenceIdeal.τ).loc Cert.NormReferenceIdeal.main_v2_1) = v1 c
          ∧ r.2.mem ((c.tc : Thread Cert.NormReferenceIdeal.nD Cert.NormReferenceIdeal.τ).loc Cert.NormReferenceIdeal.main_v2_2) = v2 c
          ∧ r.2.mem ((c.tc : Thread Cert.NormReferenceIdeal.nD Cert.NormReferenceIdeal.τ).loc Cert.NormReferenceIdeal.main_arg0) = m' ((c.tc : Thread Cert.NormReferenceIdeal.nD Cert.NormReferenceIdeal.τ).loc Cert.NormReferenceIdeal.main_arg0)
          ∧ r.2.mem ((c.tc : Thread Cert.NormReferenceIdeal.nD Cert.NormReferenceIdeal.τ).loc Cert.NormReferenceIdeal.main_arg1) = m' ((c.tc : Thread Cert.NormReferenceIdeal.nD Cert.NormReferenceIdeal.τ).loc Cert.NormReferenceIdeal.main_arg1))

def preserves_KProj_KProjIdeal : Prop :=
  True

def algebraic_KProjIdeal_KReferenceIdeal [hKProjIdeal : Cert.KProjIdeal.Facts] [hKReferenceIdeal : Cert.KReferenceIdeal.Facts] [hPre_slots_in_range : Cert.Pre_slots_in_range.Facts] : Prop :=
  ∀ (m : (ℓ : Loc Cert.KProjIdeal.nD Cert.KProjIdeal.τ Cert.KProjIdeal.sig) → Buf (Elt Ideal) ℓ) (g : Dev Cert.KProjIdeal.nD → PrngReg)
    (m' : (ℓ : Loc Cert.KReferenceIdeal.nD Cert.KReferenceIdeal.τ Cert.KReferenceIdeal.sig) → Buf (Elt Ideal) ℓ) (g' : Dev Cert.KReferenceIdeal.nD → PrngReg), Pre_KProjIdeal m →
    (∀ c : Dev Cert.KProjIdeal.nD,
      m' ((c.tc : Thread Cert.KReferenceIdeal.nD Cert.KReferenceIdeal.τ).loc Cert.KReferenceIdeal.main_arg0) = m ((c.tc : Thread Cert.KProjIdeal.nD Cert.KProjIdeal.τ).loc Cert.KProjIdeal.main_arg0)
      ∧ m' ((c.tc : Thread Cert.KReferenceIdeal.nD Cert.KReferenceIdeal.τ).loc Cert.KReferenceIdeal.main_arg1) = m ((c.tc : Thread Cert.KProjIdeal.nD Cert.KProjIdeal.τ).loc Cert.KProjIdeal.main_arg1)
      ∧ m' ((c.tc : Thread Cert.KReferenceIdeal.nD Cert.KReferenceIdeal.τ).loc Cert.KReferenceIdeal.main_arg2) = m ((c.tc : Thread Cert.KProjIdeal.nD Cert.KProjIdeal.τ).loc Cert.KProjIdeal.main_arg2)
      ∧ m' ((c.tc : Thread Cert.KReferenceIdeal.nD Cert.KReferenceIdeal.τ).loc Cert.KReferenceIdeal.main_arg3) = m ((c.tc : Thread Cert.KProjIdeal.nD Cert.KProjIdeal.τ).loc Cert.KProjIdeal.main_arg3)
      ∧ m' ((c.tc : Thread Cert.KReferenceIdeal.nD Cert.KReferenceIdeal.τ).loc Cert.KReferenceIdeal.main_arg4) = m ((c.tc : Thread Cert.KProjIdeal.nD Cert.KProjIdeal.τ).loc Cert.KProjIdeal.main_arg4)
      ∧ m' ((c.tc : Thread Cert.KReferenceIdeal.nD Cert.KReferenceIdeal.τ).loc Cert.KReferenceIdeal.main_arg5) = m ((c.tc : Thread Cert.KProjIdeal.nD Cert.KProjIdeal.τ).loc Cert.KProjIdeal.main_arg5)
      ∧ m' ((c.tc : Thread Cert.KReferenceIdeal.nD Cert.KReferenceIdeal.τ).loc Cert.KReferenceIdeal.main_arg6) = m ((c.tc : Thread Cert.KProjIdeal.nD Cert.KProjIdeal.τ).loc Cert.KProjIdeal.main_arg6)) →
    ∃ (v0 : (c : Dev Cert.KProjIdeal.nD) → Buf (Elt Ideal) ((c.tc : Thread Cert.KProjIdeal.nD Cert.KProjIdeal.τ).loc Cert.KProjIdeal.main_v16_0)) (v1 : (c : Dev Cert.KProjIdeal.nD) → Buf (Elt Ideal) ((c.tc : Thread Cert.KProjIdeal.nD Cert.KProjIdeal.τ).loc Cert.KProjIdeal.main_v16_1)),
      θ_run (Cert.KProjIdeal.defs (F := Ideal)) (onTc (τ := Cert.KProjIdeal.τ) (Cert.KProjIdeal.main (F := Ideal))) ⟨m, fun _ => 0, g⟩ (fun r => ∀ c : Dev Cert.KProjIdeal.nD,
          r.2.mem ((c.tc : Thread Cert.KProjIdeal.nD Cert.KProjIdeal.τ).loc Cert.KProjIdeal.main_v16_0) = v0 c
          ∧ r.2.mem ((c.tc : Thread Cert.KProjIdeal.nD Cert.KProjIdeal.τ).loc Cert.KProjIdeal.main_v16_1) = v1 c
          ∧ r.2.mem ((c.tc : Thread Cert.KProjIdeal.nD Cert.KProjIdeal.τ).loc Cert.KProjIdeal.main_arg0) = m ((c.tc : Thread Cert.KProjIdeal.nD Cert.KProjIdeal.τ).loc Cert.KProjIdeal.main_arg0)
          ∧ r.2.mem ((c.tc : Thread Cert.KProjIdeal.nD Cert.KProjIdeal.τ).loc Cert.KProjIdeal.main_arg1) = m ((c.tc : Thread Cert.KProjIdeal.nD Cert.KProjIdeal.τ).loc Cert.KProjIdeal.main_arg1)
          ∧ r.2.mem ((c.tc : Thread Cert.KProjIdeal.nD Cert.KProjIdeal.τ).loc Cert.KProjIdeal.main_arg2) = m ((c.tc : Thread Cert.KProjIdeal.nD Cert.KProjIdeal.τ).loc Cert.KProjIdeal.main_arg2)
          ∧ r.2.mem ((c.tc : Thread Cert.KProjIdeal.nD Cert.KProjIdeal.τ).loc Cert.KProjIdeal.main_arg3) = m ((c.tc : Thread Cert.KProjIdeal.nD Cert.KProjIdeal.τ).loc Cert.KProjIdeal.main_arg3)
          ∧ r.2.mem ((c.tc : Thread Cert.KProjIdeal.nD Cert.KProjIdeal.τ).loc Cert.KProjIdeal.main_arg4) = m ((c.tc : Thread Cert.KProjIdeal.nD Cert.KProjIdeal.τ).loc Cert.KProjIdeal.main_arg4)
          ∧ r.2.mem ((c.tc : Thread Cert.KProjIdeal.nD Cert.KProjIdeal.τ).loc Cert.KProjIdeal.main_arg5) = m ((c.tc : Thread Cert.KProjIdeal.nD Cert.KProjIdeal.τ).loc Cert.KProjIdeal.main_arg5)
          ∧ r.2.mem ((c.tc : Thread Cert.KProjIdeal.nD Cert.KProjIdeal.τ).loc Cert.KProjIdeal.main_arg6) = m ((c.tc : Thread Cert.KProjIdeal.nD Cert.KProjIdeal.τ).loc Cert.KProjIdeal.main_arg6))
      ∧ θ_run (Cert.KReferenceIdeal.defs (F := Ideal)) (onTc (τ := Cert.KReferenceIdeal.τ) (Cert.KReferenceIdeal.main (F := Ideal))) ⟨m', fun _ => 0, g'⟩ (fun r => ∀ c : Dev Cert.KReferenceIdeal.nD,
          r.2.mem ((c.tc : Thread Cert.KReferenceIdeal.nD Cert.KReferenceIdeal.τ).loc Cert.KReferenceIdeal.main_v12) = v0 c
          ∧ r.2.mem ((c.tc : Thread Cert.KReferenceIdeal.nD Cert.KReferenceIdeal.τ).loc Cert.KReferenceIdeal.main_v20) = v1 c
          ∧ r.2.mem ((c.tc : Thread Cert.KReferenceIdeal.nD Cert.KReferenceIdeal.τ).loc Cert.KReferenceIdeal.main_arg0) = m' ((c.tc : Thread Cert.KReferenceIdeal.nD Cert.KReferenceIdeal.τ).loc Cert.KReferenceIdeal.main_arg0)
          ∧ r.2.mem ((c.tc : Thread Cert.KReferenceIdeal.nD Cert.KReferenceIdeal.τ).loc Cert.KReferenceIdeal.main_arg1) = m' ((c.tc : Thread Cert.KReferenceIdeal.nD Cert.KReferenceIdeal.τ).loc Cert.KReferenceIdeal.main_arg1)
          ∧ r.2.mem ((c.tc : Thread Cert.KReferenceIdeal.nD Cert.KReferenceIdeal.τ).loc Cert.KReferenceIdeal.main_arg2) = m' ((c.tc : Thread Cert.KReferenceIdeal.nD Cert.KReferenceIdeal.τ).loc Cert.KReferenceIdeal.main_arg2)
          ∧ r.2.mem ((c.tc : Thread Cert.KReferenceIdeal.nD Cert.KReferenceIdeal.τ).loc Cert.KReferenceIdeal.main_arg3) = m' ((c.tc : Thread Cert.KReferenceIdeal.nD Cert.KReferenceIdeal.τ).loc Cert.KReferenceIdeal.main_arg3)
          ∧ r.2.mem ((c.tc : Thread Cert.KReferenceIdeal.nD Cert.KReferenceIdeal.τ).loc Cert.KReferenceIdeal.main_arg4) = m' ((c.tc : Thread Cert.KReferenceIdeal.nD Cert.KReferenceIdeal.τ).loc Cert.KReferenceIdeal.main_arg4)
          ∧ r.2.mem ((c.tc : Thread Cert.KReferenceIdeal.nD Cert.KReferenceIdeal.τ).loc Cert.KReferenceIdeal.main_arg5) = m' ((c.tc : Thread Cert.KReferenceIdeal.nD Cert.KReferenceIdeal.τ).loc Cert.KReferenceIdeal.main_arg5)
          ∧ r.2.mem ((c.tc : Thread Cert.KReferenceIdeal.nD Cert.KReferenceIdeal.τ).loc Cert.KReferenceIdeal.main_arg6) = m' ((c.tc : Thread Cert.KReferenceIdeal.nD Cert.KReferenceIdeal.τ).loc Cert.KReferenceIdeal.main_arg6))

def preserves_VProj_VProjIdeal : Prop :=
  True

def algebraic_VProjIdeal_VReferenceIdeal [hVProjIdeal : Cert.VProjIdeal.Facts] [hVReferenceIdeal : Cert.VReferenceIdeal.Facts] [hPre_slots_in_range : Cert.Pre_slots_in_range.Facts] : Prop :=
  ∀ (m : (ℓ : Loc Cert.VProjIdeal.nD Cert.VProjIdeal.τ Cert.VProjIdeal.sig) → Buf (Elt Ideal) ℓ) (g : Dev Cert.VProjIdeal.nD → PrngReg)
    (m' : (ℓ : Loc Cert.VReferenceIdeal.nD Cert.VReferenceIdeal.τ Cert.VReferenceIdeal.sig) → Buf (Elt Ideal) ℓ) (g' : Dev Cert.VReferenceIdeal.nD → PrngReg), Pre_VProjIdeal m →
    (∀ c : Dev Cert.VProjIdeal.nD,
      m' ((c.tc : Thread Cert.VReferenceIdeal.nD Cert.VReferenceIdeal.τ).loc Cert.VReferenceIdeal.main_arg0) = m ((c.tc : Thread Cert.VProjIdeal.nD Cert.VProjIdeal.τ).loc Cert.VProjIdeal.main_arg0)
      ∧ m' ((c.tc : Thread Cert.VReferenceIdeal.nD Cert.VReferenceIdeal.τ).loc Cert.VReferenceIdeal.main_arg1) = m ((c.tc : Thread Cert.VProjIdeal.nD Cert.VProjIdeal.τ).loc Cert.VProjIdeal.main_arg1)
      ∧ m' ((c.tc : Thread Cert.VReferenceIdeal.nD Cert.VReferenceIdeal.τ).loc Cert.VReferenceIdeal.main_arg2) = m ((c.tc : Thread Cert.VProjIdeal.nD Cert.VProjIdeal.τ).loc Cert.VProjIdeal.main_arg2)
      ∧ m' ((c.tc : Thread Cert.VReferenceIdeal.nD Cert.VReferenceIdeal.τ).loc Cert.VReferenceIdeal.main_arg3) = m ((c.tc : Thread Cert.VProjIdeal.nD Cert.VProjIdeal.τ).loc Cert.VProjIdeal.main_arg3)
      ∧ m' ((c.tc : Thread Cert.VReferenceIdeal.nD Cert.VReferenceIdeal.τ).loc Cert.VReferenceIdeal.main_arg4) = m ((c.tc : Thread Cert.VProjIdeal.nD Cert.VProjIdeal.τ).loc Cert.VProjIdeal.main_arg4)
      ∧ m' ((c.tc : Thread Cert.VReferenceIdeal.nD Cert.VReferenceIdeal.τ).loc Cert.VReferenceIdeal.main_arg5) = m ((c.tc : Thread Cert.VProjIdeal.nD Cert.VProjIdeal.τ).loc Cert.VProjIdeal.main_arg5)
      ∧ m' ((c.tc : Thread Cert.VReferenceIdeal.nD Cert.VReferenceIdeal.τ).loc Cert.VReferenceIdeal.main_arg6) = m ((c.tc : Thread Cert.VProjIdeal.nD Cert.VProjIdeal.τ).loc Cert.VProjIdeal.main_arg6)) →
    ∃ (v0 : (c : Dev Cert.VProjIdeal.nD) → Buf (Elt Ideal) ((c.tc : Thread Cert.VProjIdeal.nD Cert.VProjIdeal.τ).loc Cert.VProjIdeal.main_v16_0)) (v1 : (c : Dev Cert.VProjIdeal.nD) → Buf (Elt Ideal) ((c.tc : Thread Cert.VProjIdeal.nD Cert.VProjIdeal.τ).loc Cert.VProjIdeal.main_v16_1)),
      θ_run (Cert.VProjIdeal.defs (F := Ideal)) (onTc (τ := Cert.VProjIdeal.τ) (Cert.VProjIdeal.main (F := Ideal))) ⟨m, fun _ => 0, g⟩ (fun r => ∀ c : Dev Cert.VProjIdeal.nD,
          r.2.mem ((c.tc : Thread Cert.VProjIdeal.nD Cert.VProjIdeal.τ).loc Cert.VProjIdeal.main_v16_0) = v0 c
          ∧ r.2.mem ((c.tc : Thread Cert.VProjIdeal.nD Cert.VProjIdeal.τ).loc Cert.VProjIdeal.main_v16_1) = v1 c
          ∧ r.2.mem ((c.tc : Thread Cert.VProjIdeal.nD Cert.VProjIdeal.τ).loc Cert.VProjIdeal.main_arg0) = m ((c.tc : Thread Cert.VProjIdeal.nD Cert.VProjIdeal.τ).loc Cert.VProjIdeal.main_arg0)
          ∧ r.2.mem ((c.tc : Thread Cert.VProjIdeal.nD Cert.VProjIdeal.τ).loc Cert.VProjIdeal.main_arg1) = m ((c.tc : Thread Cert.VProjIdeal.nD Cert.VProjIdeal.τ).loc Cert.VProjIdeal.main_arg1)
          ∧ r.2.mem ((c.tc : Thread Cert.VProjIdeal.nD Cert.VProjIdeal.τ).loc Cert.VProjIdeal.main_arg2) = m ((c.tc : Thread Cert.VProjIdeal.nD Cert.VProjIdeal.τ).loc Cert.VProjIdeal.main_arg2)
          ∧ r.2.mem ((c.tc : Thread Cert.VProjIdeal.nD Cert.VProjIdeal.τ).loc Cert.VProjIdeal.main_arg3) = m ((c.tc : Thread Cert.VProjIdeal.nD Cert.VProjIdeal.τ).loc Cert.VProjIdeal.main_arg3)
          ∧ r.2.mem ((c.tc : Thread Cert.VProjIdeal.nD Cert.VProjIdeal.τ).loc Cert.VProjIdeal.main_arg4) = m ((c.tc : Thread Cert.VProjIdeal.nD Cert.VProjIdeal.τ).loc Cert.VProjIdeal.main_arg4)
          ∧ r.2.mem ((c.tc : Thread Cert.VProjIdeal.nD Cert.VProjIdeal.τ).loc Cert.VProjIdeal.main_arg5) = m ((c.tc : Thread Cert.VProjIdeal.nD Cert.VProjIdeal.τ).loc Cert.VProjIdeal.main_arg5)
          ∧ r.2.mem ((c.tc : Thread Cert.VProjIdeal.nD Cert.VProjIdeal.τ).loc Cert.VProjIdeal.main_arg6) = m ((c.tc : Thread Cert.VProjIdeal.nD Cert.VProjIdeal.τ).loc Cert.VProjIdeal.main_arg6))
      ∧ θ_run (Cert.VReferenceIdeal.defs (F := Ideal)) (onTc (τ := Cert.VReferenceIdeal.τ) (Cert.VReferenceIdeal.main (F := Ideal))) ⟨m', fun _ => 0, g'⟩ (fun r => ∀ c : Dev Cert.VReferenceIdeal.nD,
          r.2.mem ((c.tc : Thread Cert.VReferenceIdeal.nD Cert.VReferenceIdeal.τ).loc Cert.VReferenceIdeal.main_v12) = v0 c
          ∧ r.2.mem ((c.tc : Thread Cert.VReferenceIdeal.nD Cert.VReferenceIdeal.τ).loc Cert.VReferenceIdeal.main_v20) = v1 c
          ∧ r.2.mem ((c.tc : Thread Cert.VReferenceIdeal.nD Cert.VReferenceIdeal.τ).loc Cert.VReferenceIdeal.main_arg0) = m' ((c.tc : Thread Cert.VReferenceIdeal.nD Cert.VReferenceIdeal.τ).loc Cert.VReferenceIdeal.main_arg0)
          ∧ r.2.mem ((c.tc : Thread Cert.VReferenceIdeal.nD Cert.VReferenceIdeal.τ).loc Cert.VReferenceIdeal.main_arg1) = m' ((c.tc : Thread Cert.VReferenceIdeal.nD Cert.VReferenceIdeal.τ).loc Cert.VReferenceIdeal.main_arg1)
          ∧ r.2.mem ((c.tc : Thread Cert.VReferenceIdeal.nD Cert.VReferenceIdeal.τ).loc Cert.VReferenceIdeal.main_arg2) = m' ((c.tc : Thread Cert.VReferenceIdeal.nD Cert.VReferenceIdeal.τ).loc Cert.VReferenceIdeal.main_arg2)
          ∧ r.2.mem ((c.tc : Thread Cert.VReferenceIdeal.nD Cert.VReferenceIdeal.τ).loc Cert.VReferenceIdeal.main_arg3) = m' ((c.tc : Thread Cert.VReferenceIdeal.nD Cert.VReferenceIdeal.τ).loc Cert.VReferenceIdeal.main_arg3)
          ∧ r.2.mem ((c.tc : Thread Cert.VReferenceIdeal.nD Cert.VReferenceIdeal.τ).loc Cert.VReferenceIdeal.main_arg4) = m' ((c.tc : Thread Cert.VReferenceIdeal.nD Cert.VReferenceIdeal.τ).loc Cert.VReferenceIdeal.main_arg4)
          ∧ r.2.mem ((c.tc : Thread Cert.VReferenceIdeal.nD Cert.VReferenceIdeal.τ).loc Cert.VReferenceIdeal.main_arg5) = m' ((c.tc : Thread Cert.VReferenceIdeal.nD Cert.VReferenceIdeal.τ).loc Cert.VReferenceIdeal.main_arg5)
          ∧ r.2.mem ((c.tc : Thread Cert.VReferenceIdeal.nD Cert.VReferenceIdeal.τ).loc Cert.VReferenceIdeal.main_arg6) = m' ((c.tc : Thread Cert.VReferenceIdeal.nD Cert.VReferenceIdeal.τ).loc Cert.VReferenceIdeal.main_arg6))

def Claim : Prop :=
  ∃ (hKernel : Cert.Kernel.Facts) (hKernelIdeal : Cert.KernelIdeal.Facts) (hReferenceIdeal : Cert.ReferenceIdeal.Facts) (hNorm : Cert.Norm.Facts) (hNormIdeal : Cert.NormIdeal.Facts) (hNormReferenceIdeal : Cert.NormReferenceIdeal.Facts) (hKProj : Cert.KProj.Facts) (hKProjIdeal : Cert.KProjIdeal.Facts) (hKReferenceIdeal : Cert.KReferenceIdeal.Facts) (hVProj : Cert.VProj.Facts) (hVProjIdeal : Cert.VProjIdeal.Facts) (hVReferenceIdeal : Cert.VReferenceIdeal.Facts) (hPre_slots_in_range : Cert.Pre_slots_in_range.Facts),
    quiescent_Kernel (hKernel := hKernel)
    ∧ quiescent_KernelIdeal (hKernelIdeal := hKernelIdeal)
    ∧ quiescent_ReferenceIdeal (hReferenceIdeal := hReferenceIdeal)
    ∧ quiescent_Norm (hNorm := hNorm)
    ∧ quiescent_NormIdeal (hNormIdeal := hNormIdeal)
    ∧ quiescent_NormReferenceIdeal (hNormReferenceIdeal := hNormReferenceIdeal)
    ∧ quiescent_KProj (hKProj := hKProj) (hPre_slots_in_range := hPre_slots_in_range)
    ∧ quiescent_KProjIdeal (hKProjIdeal := hKProjIdeal) (hPre_slots_in_range := hPre_slots_in_range)
    ∧ quiescent_KReferenceIdeal (hKReferenceIdeal := hKReferenceIdeal) (hPre_slots_in_range := hPre_slots_in_range)
    ∧ quiescent_VProj (hVProj := hVProj) (hPre_slots_in_range := hPre_slots_in_range)
    ∧ quiescent_VProjIdeal (hVProjIdeal := hVProjIdeal) (hPre_slots_in_range := hPre_slots_in_range)
    ∧ quiescent_VReferenceIdeal (hVReferenceIdeal := hVReferenceIdeal) (hPre_slots_in_range := hPre_slots_in_range)
    ∧ preserves_Kernel_KernelIdeal
    ∧ algebraic_KernelIdeal_ReferenceIdeal (hKernelIdeal := hKernelIdeal) (hReferenceIdeal := hReferenceIdeal)
    ∧ preserves_Norm_NormIdeal
    ∧ algebraic_NormIdeal_NormReferenceIdeal (hNormIdeal := hNormIdeal) (hNormReferenceIdeal := hNormReferenceIdeal)
    ∧ preserves_KProj_KProjIdeal
    ∧ algebraic_KProjIdeal_KReferenceIdeal (hKProjIdeal := hKProjIdeal) (hKReferenceIdeal := hKReferenceIdeal) (hPre_slots_in_range := hPre_slots_in_range)
    ∧ preserves_VProj_VProjIdeal
    ∧ algebraic_VProjIdeal_VReferenceIdeal (hVProjIdeal := hVProjIdeal) (hVReferenceIdeal := hVReferenceIdeal) (hPre_slots_in_range := hPre_slots_in_range)
-- ==== Pre_slots_in_range.lean ====
abbrev S3x640 : Shape := ⟨2, ![3, 640]⟩
abbrev S3x640x6144 : Shape := ⟨3, ![3, 640, 6144]⟩
abbrev S3x640x128 : Shape := ⟨3, ![3, 640, 128]⟩
abbrev S6144x10240 : Shape := ⟨2, ![6144, 10240]⟩
abbrev S1x10240 : Shape := ⟨2, ![1, 10240]⟩
abbrev S2400x8x160 : Shape := ⟨3, ![2400, 8, 160]⟩
abbrev S2400x8 : Shape := ⟨2, ![2400, 8]⟩
abbrev S_ : Shape := ⟨0, ![]⟩

class Facts : Prop where
  bcast_S_S3x640 : S_.BroadcastsInDim S3x640 (![] : Fin 0 → Fin S3x640.rank)

variable [Facts]

def fn {F : FTy → Type} [FloatOps F] (main_arg0 : IVec S3x640 32) (main_arg1 : FVec F S3x640x6144 .fp8e4m3) (main_arg2 : FVec F S3x640x128 .f32) (main_arg3 : FVec F S6144x10240 .fp8e4m3) (main_arg4 : FVec F S1x10240 .f32) (main_arg5 : FVec F S2400x8x160 .fp8e4m3) (main_arg6 : FVec F S2400x8 .f32) : IVec S3x640 1 :=
  let main_c : IVec S_ 32 := constantI S_ 32 0#32
  let main_v0 : IVec S3x640 32 := broadcastInDim S3x640 ![] bcast_S_S3x640 main_c
  let main_v1 : IVec S3x640 1 := cmpi .sge main_arg0 main_v0
  let main_c_0 : IVec S_ 32 := constantI S_ 32 2400#32
  let main_v2 : IVec S3x640 32 := broadcastInDim S3x640 ![] bcast_S_S3x640 main_c_0
  let main_v3 : IVec S3x640 1 := cmpi .slt main_arg0 main_v2
  let main_v4 : IVec S3x640 1 := andi main_v1 main_v3
  main_v4
-- ==== Kernel.lean ====
abbrev S3x640x6144 : Shape := ⟨3, ![3, 640, 6144]⟩
abbrev S3x640x128 : Shape := ⟨3, ![3, 640, 128]⟩
abbrev S6144x10240 : Shape := ⟨2, ![6144, 10240]⟩
abbrev S1x10240 : Shape := ⟨2, ![1, 10240]⟩
abbrev S3x48x160x640 : Shape := ⟨4, ![3, 48, 160, 640]⟩
abbrev S3x48x640 : Shape := ⟨3, ![3, 48, 640]⟩
abbrev S1x640x6144 : Shape := ⟨3, ![1, 640, 6144]⟩
abbrev S1x640x128 : Shape := ⟨3, ![1, 640, 128]⟩
abbrev S6144x1280 : Shape := ⟨2, ![6144, 1280]⟩
abbrev S1x1280 : Shape := ⟨2, ![1, 1280]⟩
abbrev S1x8x160x640 : Shape := ⟨4, ![1, 8, 160, 640]⟩
abbrev S1x8x640 : Shape := ⟨3, ![1, 8, 640]⟩
abbrev S640x1280 : Shape := ⟨2, ![640, 1280]⟩
abbrev S640x6144 : Shape := ⟨2, ![640, 6144]⟩
abbrev S640x128 : Shape := ⟨2, ![640, 128]⟩
abbrev S640x1 : Shape := ⟨2, ![640, 1]⟩
abbrev S128x128 : Shape := ⟨2, ![128, 128]⟩
abbrev S1280x128 : Shape := ⟨2, ![1280, 128]⟩
abbrev S8x160x128 : Shape := ⟨3, ![8, 160, 128]⟩
abbrev S8x128 : Shape := ⟨2, ![8, 128]⟩
abbrev S8x1x128 : Shape := ⟨3, ![8, 1, 128]⟩
abbrev S1x8x160x128 : Shape := ⟨4, ![1, 8, 160, 128]⟩
abbrev S1x8x128 : Shape := ⟨3, ![1, 8, 128]⟩

abbrev nBuf : Space → Nat
  | .hbm => 6
  | .vmem => 13
  | .smem => 0
  | _ => 0

abbrev bufTy : (tb : Table) → Fin (tcTables nBuf tb) → BufTy
  | .hbm, ⟨0, _⟩ => ⟨S3x640x6144, .fp8e4m3⟩
  | .hbm, ⟨1, _⟩ => ⟨S3x640x128, .f32⟩
  | .hbm, ⟨2, _⟩ => ⟨S6144x10240, .fp8e4m3⟩
  | .hbm, ⟨3, _⟩ => ⟨S1x10240, .f32⟩
  | .hbm, ⟨4, _⟩ => ⟨S3x48x160x640, .fp8e4m3⟩
  | .hbm, ⟨5, _⟩ => ⟨S3x48x640, .f32⟩
  | .local _ .vmem, ⟨0, _⟩ => ⟨S1x640x6144, .fp8e4m3⟩
  | .local _ .vmem, ⟨1, _⟩ => ⟨S1x640x6144, .fp8e4m3⟩
  | .local _ .vmem, ⟨2, _⟩ => ⟨S1x640x128, .f32⟩
  | .local _ .vmem, ⟨3, _⟩ => ⟨S1x640x128, .f32⟩
  | .local _ .vmem, ⟨4, _⟩ => ⟨S6144x1280, .fp8e4m3⟩
  | .local _ .vmem, ⟨5, _⟩ => ⟨S6144x1280, .fp8e4m3⟩
  | .local _ .vmem, ⟨6, _⟩ => ⟨S1x1280, .f32⟩
  | .local _ .vmem, ⟨7, _⟩ => ⟨S1x1280, .f32⟩
  | .local _ .vmem, ⟨8, _⟩ => ⟨S1x8x160x640, .fp8e4m3⟩
  | .local _ .vmem, ⟨9, _⟩ => ⟨S1x8x160x640, .fp8e4m3⟩
  | .local _ .vmem, ⟨10, _⟩ => ⟨S1x8x640, .f32⟩
  | .local _ .vmem, ⟨11, _⟩ => ⟨S1x8x640, .f32⟩
  | .local _ .vmem, ⟨12, _⟩ => ⟨S640x1280, .f32⟩
  | _, _ => ⟨S3x640x6144, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![6, 3], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S1x640x6144 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x640x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S6144x1280 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1280 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x8x160x640 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x8x640 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceIdeal.lean ====
abbrev S3x640x6144 : Shape := ⟨3, ![3, 640, 6144]⟩
abbrev S3x640x128 : Shape := ⟨3, ![3, 640, 128]⟩
abbrev S6144x10240 : Shape := ⟨2, ![6144, 10240]⟩
abbrev S1x10240 : Shape := ⟨2, ![1, 10240]⟩
abbrev S1920x6144 : Shape := ⟨2, ![1920, 6144]⟩
abbrev S3x640x1 : Shape := ⟨3, ![3, 640, 1]⟩
abbrev S1920x1 : Shape := ⟨2, ![1920, 1]⟩
abbrev S3x48x160x640 : Shape := ⟨4, ![3, 48, 160, 640]⟩
abbrev S3x48x640 : Shape := ⟨3, ![3, 48, 640]⟩
abbrev S6144x7680 : Shape := ⟨2, ![6144, 7680]⟩
abbrev S1920x7680 : Shape := ⟨2, ![1920, 7680]⟩
abbrev S1x7680 : Shape := ⟨2, ![1, 7680]⟩
abbrev S3x640x48x160 : Shape := ⟨4, ![3, 640, 48, 160]⟩
abbrev S3x640x48 : Shape := ⟨3, ![3, 640, 48]⟩
abbrev S3x640x48x1 : Shape := ⟨4, ![3, 640, 48, 1]⟩

abbrev nBuf : Space → Nat
  | .hbm => 9
  | .vmem => 6
  | .smem => 0
  | _ => 0

abbrev bufTy : (tb : Table) → Fin (tcTables nBuf tb) → BufTy
  | .hbm, ⟨0, _⟩ => ⟨S3x640x6144, .fp8e4m3⟩
  | .hbm, ⟨1, _⟩ => ⟨S3x640x128, .f32⟩
  | .hbm, ⟨2, _⟩ => ⟨S6144x10240, .fp8e4m3⟩
  | .hbm, ⟨3, _⟩ => ⟨S1x10240, .f32⟩
  | .hbm, ⟨4, _⟩ => ⟨S1920x6144, .fp8e4m3⟩
  | .hbm, ⟨5, _⟩ => ⟨S3x640x1, .f32⟩
  | .hbm, ⟨6, _⟩ => ⟨S1920x1, .f32⟩
  | .hbm, ⟨7, _⟩ => ⟨S3x48x160x640, .fp8e4m3⟩
  | .hbm, ⟨8, _⟩ => ⟨S3x48x640, .f32⟩
  | .local _ .vmem, ⟨0, _⟩ => ⟨S1920x6144, .fp8e4m3⟩
  | .local _ .vmem, ⟨1, _⟩ => ⟨S1920x1, .f32⟩
  | .local _ .vmem, ⟨2, _⟩ => ⟨S6144x10240, .fp8e4m3⟩
  | .local _ .vmem, ⟨3, _⟩ => ⟨S1x10240, .f32⟩
  | .local _ .vmem, ⟨4, _⟩ => ⟨S3x48x160x640, .fp8e4m3⟩
  | .local _ .vmem, ⟨5, _⟩ => ⟨S3x48x640, .f32⟩
  | _, _ => ⟨S3x640x6144, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S1920x6144 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1920x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S6144x10240 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x10240 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S3x48x160x640 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S3x48x640 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Norm.lean ====
abbrev S3x640x6144 : Shape := ⟨3, ![3, 640, 6144]⟩
abbrev S6144 : Shape := ⟨1, ![6144]⟩
abbrev S1920x6144 : Shape := ⟨2, ![1920, 6144]⟩
abbrev S1x6144 : Shape := ⟨2, ![1, 6144]⟩
abbrev S15x1x128 : Shape := ⟨3, ![15, 1, 128]⟩
abbrev S1920x128 : Shape := ⟨2, ![1920, 128]⟩
abbrev S128x6144 : Shape := ⟨2, ![128, 6144]⟩
abbrev S1x1x128 : Shape := ⟨3, ![1, 1, 128]⟩
abbrev S128x128 : Shape := ⟨2, ![128, 128]⟩
abbrev S128 : Shape := ⟨1, ![128]⟩
abbrev S128x1 : Shape := ⟨2, ![128, 1]⟩
abbrev S1x128 : Shape := ⟨2, ![1, 128]⟩

abbrev nBuf : Space → Nat
  | .hbm => 7
  | .vmem => 9
  | .smem => 0
  | _ => 0

abbrev bufTy : (tb : Table) → Fin (tcTables nBuf tb) → BufTy
  | .hbm, ⟨0, _⟩ => ⟨S3x640x6144, .bf16⟩
  | .hbm, ⟨1, _⟩ => ⟨S6144, .f32⟩
  | .hbm, ⟨2, _⟩ => ⟨S1920x6144, .bf16⟩
  | .hbm, ⟨3, _⟩ => ⟨S1x6144, .f32⟩
  | .hbm, ⟨4, _⟩ => ⟨S1920x6144, .fp8e4m3⟩
  | .hbm, ⟨5, _⟩ => ⟨S15x1x128, .f32⟩
  | .hbm, ⟨6, _⟩ => ⟨S1920x128, .f32⟩
  | .local _ .vmem, ⟨0, _⟩ => ⟨S128x6144, .bf16⟩
  | .local _ .vmem, ⟨1, _⟩ => ⟨S128x6144, .bf16⟩
  | .local _ .vmem, ⟨2, _⟩ => ⟨S1x6144, .f32⟩
  | .local _ .vmem, ⟨3, _⟩ => ⟨S128x6144, .fp8e4m3⟩
  | .local _ .vmem, ⟨4, _⟩ => ⟨S128x6144, .fp8e4m3⟩
  | .local _ .vmem, ⟨5, _⟩ => ⟨S1x1x128, .f32⟩
  | .local _ .vmem, ⟨6, _⟩ => ⟨S1x1x128, .f32⟩
  | .local _ .vmem, ⟨7, _⟩ => ⟨S128x128, .f32⟩
  | .local _ .vmem, ⟨8, _⟩ => ⟨S128x128, .f32⟩
  | _, _ => ⟨S3x640x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v2_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![15], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x6144 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x6144 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x6144 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== NormReferenceIdeal.lean ====
abbrev S3x640x6144 : Shape := ⟨3, ![3, 640, 6144]⟩
abbrev S6144 : Shape := ⟨1, ![6144]⟩
abbrev S1920x6144 : Shape := ⟨2, ![1920, 6144]⟩
abbrev S1x6144 : Shape := ⟨2, ![1, 6144]⟩
abbrev S15x1x128 : Shape := ⟨3, ![15, 1, 128]⟩
abbrev S1920x128 : Shape := ⟨2, ![1920, 128]⟩
abbrev S1920 : Shape := ⟨1, ![1920]⟩
abbrev S1920x1 : Shape := ⟨2, ![1920, 1]⟩

abbrev nBuf : Space → Nat
  | .hbm => 7
  | .vmem => 5
  | .smem => 0
  | _ => 0

abbrev bufTy : (tb : Table) → Fin (tcTables nBuf tb) → BufTy
  | .hbm, ⟨0, _⟩ => ⟨S3x640x6144, .bf16⟩
  | .hbm, ⟨1, _⟩ => ⟨S6144, .f32⟩
  | .hbm, ⟨2, _⟩ => ⟨S1920x6144, .bf16⟩
  | .hbm, ⟨3, _⟩ => ⟨S1x6144, .f32⟩
  | .hbm, ⟨4, _⟩ => ⟨S1920x6144, .fp8e4m3⟩
  | .hbm, ⟨5, _⟩ => ⟨S15x1x128, .f32⟩
  | .hbm, ⟨6, _⟩ => ⟨S1920x128, .f32⟩
  | .local _ .vmem, ⟨0, _⟩ => ⟨S1920x6144, .bf16⟩
  | .local _ .vmem, ⟨1, _⟩ => ⟨S1x6144, .f32⟩
  | .local _ .vmem, ⟨2, _⟩ => ⟨S1920x6144, .fp8e4m3⟩
  | .local _ .vmem, ⟨3, _⟩ => ⟨S15x1x128, .f32⟩
  | .local _ .vmem, ⟨4, _⟩ => ⟨S1920x128, .f32⟩
  | _, _ => ⟨S3x640x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v2_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S1920x6144 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x6144 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1920x6144 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S15x1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1920x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== KProj.lean ====
abbrev S3x640 : Shape := ⟨2, ![3, 640]⟩
abbrev S3x640x6144 : Shape := ⟨3, ![3, 640, 6144]⟩
abbrev S3x640x128 : Shape := ⟨3, ![3, 640, 128]⟩
abbrev S6144x10240 : Shape := ⟨2, ![6144, 10240]⟩
abbrev S1x10240 : Shape := ⟨2, ![1, 10240]⟩
abbrev S2400x8x160 : Shape := ⟨3, ![2400, 8, 160]⟩
abbrev S2400x8 : Shape := ⟨2, ![2400, 8]⟩
abbrev S_ : Shape := ⟨0, ![]⟩
abbrev S1x2400 : Shape := ⟨2, ![1, 2400]⟩
abbrev S1920 : Shape := ⟨1, ![1920]⟩
abbrev S1920x1 : Shape := ⟨2, ![1920, 1]⟩
abbrev S1920x2 : Shape := ⟨2, ![1920, 2]⟩
abbrev S8x160x2400 : Shape := ⟨3, ![8, 160, 2400]⟩
abbrev S8x2400 : Shape := ⟨2, ![8, 2400]⟩
abbrev S1x640x6144 : Shape := ⟨3, ![1, 640, 6144]⟩
abbrev S1x640x128 : Shape := ⟨3, ![1, 640, 128]⟩
abbrev S6144x1280 : Shape := ⟨2, ![6144, 1280]⟩
abbrev S1x1280 : Shape := ⟨2, ![1, 1280]⟩
abbrev S6440x128 : Shape := ⟨2, ![6440, 128]⟩
abbrev S24360x128 : Shape := ⟨2, ![24360, 128]⟩
abbrev S640x6144 : Shape := ⟨2, ![640, 6144]⟩
abbrev S640x1280 : Shape := ⟨2, ![640, 1280]⟩
abbrev S640x128 : Shape := ⟨2, ![640, 128]⟩
abbrev S640x1 : Shape := ⟨2, ![640, 1]⟩
abbrev S1x1 : Shape := ⟨2, ![1, 1]⟩
abbrev S8x128 : Shape := ⟨2, ![8, 128]⟩
abbrev S2x128 : Shape := ⟨2, ![2, 128]⟩
abbrev S128x128 : Shape := ⟨2, ![128, 128]⟩
abbrev S1280x128 : Shape := ⟨2, ![1280, 128]⟩
abbrev S8x160x128 : Shape := ⟨3, ![8, 160, 128]⟩
abbrev S8x1x128 : Shape := ⟨3, ![8, 1, 128]⟩
abbrev S1x128 : Shape := ⟨2, ![1, 128]⟩
abbrev S1x1x128 : Shape := ⟨3, ![1, 1, 128]⟩
abbrev S1x96 : Shape := ⟨2, ![1, 96]⟩
abbrev S8x160x96 : Shape := ⟨3, ![8, 160, 96]⟩
abbrev S1x1x96 : Shape := ⟨3, ![1, 1, 96]⟩
abbrev S8x96 : Shape := ⟨2, ![8, 96]⟩

abbrev nBuf : Space → Nat
  | .hbm => 30
  | .vmem => 13
  | .smem => 1
  | _ => 0

abbrev bufTy : (tb : Table) → Fin (tcTables nBuf tb) → BufTy
  | .hbm, ⟨0, _⟩ => ⟨S3x640, .i32⟩
  | .hbm, ⟨1, _⟩ => ⟨S3x640x6144, .fp8e4m3⟩
  | .hbm, ⟨2, _⟩ => ⟨S3x640x128, .f32⟩
  | .hbm, ⟨3, _⟩ => ⟨S6144x10240, .fp8e4m3⟩
  | .hbm, ⟨4, _⟩ => ⟨S1x10240, .f32⟩
  | .hbm, ⟨5, _⟩ => ⟨S2400x8x160, .fp8e4m3⟩
  | .hbm, ⟨6, _⟩ => ⟨S2400x8, .f32⟩
  | .hbm, ⟨7, _⟩ => ⟨S_, .i32⟩
  | .hbm, ⟨8, _⟩ => ⟨S1x2400, .i32⟩
  | .hbm, ⟨9, _⟩ => ⟨S1920, .i32⟩
  | .hbm, ⟨10, _⟩ => ⟨S_, .i32⟩
  | .hbm, ⟨11, _⟩ => ⟨S1920, .i32⟩
  | .hbm, ⟨12, _⟩ => ⟨S1920, .i1⟩
  | .hbm, ⟨13, _⟩ => ⟨S_, .i32⟩
  | .hbm, ⟨14, _⟩ => ⟨S1920, .i32⟩
  | .hbm, ⟨15, _⟩ => ⟨S1920, .i32⟩
  | .hbm, ⟨16, _⟩ => ⟨S1920, .i32⟩
  | .hbm, ⟨17, _⟩ => ⟨S_, .i32⟩
  | .hbm, ⟨18, _⟩ => ⟨S1920, .i32⟩
  | .hbm, ⟨19, _⟩ => ⟨S1920, .i32⟩
  | .hbm, ⟨20, _⟩ => ⟨S1920x1, .i32⟩
  | .hbm, ⟨21, _⟩ => ⟨S1920x1, .i32⟩
  | .hbm, ⟨22, _⟩ => ⟨S1920x2, .i32⟩
  | .hbm, ⟨23, _⟩ => ⟨S_, .i32⟩
  | .hbm, ⟨24, _⟩ => ⟨S1920, .i32⟩
  | .hbm, ⟨25, _⟩ => ⟨S1x2400, .i32⟩
  | .hbm, ⟨26, _⟩ => ⟨S8x160x2400, .fp8e4m3⟩
  | .hbm, ⟨27, _⟩ => ⟨S8x2400, .f32⟩
  | .hbm, ⟨28, _⟩ => ⟨S8x160x2400, .fp8e4m3⟩
  | .hbm, ⟨29, _⟩ => ⟨S8x2400, .f32⟩
  | .local _ .vmem, ⟨0, _⟩ => ⟨S1x640x6144, .fp8e4m3⟩
  | .local _ .vmem, ⟨1, _⟩ => ⟨S1x640x6144, .fp8e4m3⟩
  | .local _ .vmem, ⟨2, _⟩ => ⟨S1x640x128, .f32⟩
  | .local _ .vmem, ⟨3, _⟩ => ⟨S1x640x128, .f32⟩
  | .local _ .vmem, ⟨4, _⟩ => ⟨S6144x1280, .fp8e4m3⟩
  | .local _ .vmem, ⟨5, _⟩ => ⟨S1x1280, .f32⟩
  | .local _ .vmem, ⟨6, _⟩ => ⟨S1x2400, .i32⟩
  | .local _ .vmem, ⟨7, _⟩ => ⟨S8x160x2400, .fp8e4m3⟩
  | .local _ .vmem, ⟨8, _⟩ => ⟨S8x2400, .f32⟩
  | .local _ .vmem, ⟨9, _⟩ => ⟨S8x160x2400, .fp8e4m3⟩
  | .local _ .vmem, ⟨10, _⟩ => ⟨S8x2400, .f32⟩
  | .local _ .vmem, ⟨11, _⟩ => ⟨S6440x128, .f32⟩
  | .local _ .vmem, ⟨12, _⟩ => ⟨S24360x128, .f32⟩
  | .local _ .smem, ⟨0, _⟩ => ⟨S3x640, .i32⟩
  | _, _ => ⟨S3x640, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .smem, ⟨0, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_c_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_c_2 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_c_3 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16_0 : Ref sig .tc := ⟨.hbm, 28, rfl⟩
abbrev main_v16_1 : Ref sig .tc := ⟨.hbm, 29, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_scratch0 : Ref sig .tc := ⟨.vmem, 11, rfl⟩
abbrev cc0_scratch1 : Ref sig .tc := ⟨.vmem, 12, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11

abbrev nD : Nat := 1
abbrev τ : Topo := Topo.v7x

variable {F : FTy → Type} [FloatOps F]

abbrev grid0 : Pipeline.Grid := ⟨1, ![3], ![false]⟩

@[reducible] def k0_t1_loop : Scf.Loop 32 :=
  let c0_i32_21 : BitVec 32 := 0#32
  let c640_i32 : BitVec 32 := 640#32
  let v55 : BitVec 32 := Scalar.addi c0_i32_21 c640_i32
  let c1_i32 : BitVec 32 := 1#32
  ⟨c0_i32_21, v55, c1_i32⟩
def k0_off1 (i : grid0.Coords) (k0_t1 : Fin k0_t1_loop.trips) : Fin 2 → Nat :=
  let arg0 : BitVec 32 := BitVec.ofNat 32 (i 0).val
  let v61 : Index := Scalar.indexCast arg0
  let c0_i32_25 : BitVec 32 := 0#32
  let c0_i32_21 : BitVec 32 := 0#32
  let c1_i32 : BitVec 32 := 1#32
  let arg13 : BitVec 32 := Scf.iv c0_i32_21 c1_i32 k0_t1
  let c1_i32_24 : BitVec 32 := 1#32
  let v59 : BitVec 32 := Scalar.muli arg13 c1_i32_24
  let v60 : BitVec 32 := Scalar.addi c0_i32_25 v59
  let v62 : Index := Scalar.indexCast v60
  ![v61.toNat, v62.toNat]
def k0_off2 (k0_t1 : Fin k0_t1_loop.trips) : Fin 2 → Nat :=
  let c0_i32_25 : BitVec 32 := 0#32
  let c0_i32_21 : BitVec 32 := 0#32
  let c1_i32 : BitVec 32 := 1#32
  let arg13 : BitVec 32 := Scf.iv c0_i32_21 c1_i32 k0_t1
  let c1_i32_24 : BitVec 32 := 1#32
  let v59 : BitVec 32 := Scalar.muli arg13 c1_i32_24
  let v60 : BitVec 32 := Scalar.addi c0_i32_25 v59
  let v64 : Index := Scalar.indexCast v60
  let c0_26 : Index := 0#32
  ![v64.toNat, 0]
def k0_off3 (v63 : BitVec 32) : Fin 2 → Nat :=
  let v66 : Index := Scalar.indexCast v63
  let c0_27 : Index := 0#32
  ![v66.toNat, 0]

def k0_off4 (k0_t1 : Fin k0_t1_loop.trips) : Fin 2 → Nat :=
  let c0_i32_25 : BitVec 32 := 0#32
  let c0_i32_21 : BitVec 32 := 0#32
  let c1_i32 : BitVec 32 := 1#32
  let arg13 : BitVec 32 := Scf.iv c0_i32_21 c1_i32 k0_t1
  let c1_i32_24 : BitVec 32 := 1#32
  let v59 : BitVec 32 := Scalar.muli arg13 c1_i32_24
  let v60 : BitVec 32 := Scalar.addi c0_i32_25 v59
  let c5152_i32 : BitVec 32 := 5152#32
  let v70 : BitVec 32 := Scalar.addi v60 c5152_i32
  let v71 : Index := Scalar.indexCast v70
  let c0_28 : Index := 0#32
  ![v71.toNat, 0]
def k0_off5 (v63 : BitVec 32) : Fin 2 → Nat :=
  let c19488_i32 : BitVec 32 := 19488#32
  let v73 : BitVec 32 := Scalar.addi v63 c19488_i32
  let v74 : Index := Scalar.indexCast v73
  let c0_29 : Index := 0#32
  ![v74.toNat, 0]

def k0_chk1 (v63 : BitVec 32) : Prop :=
  (∀ a, S8x128.size a = 0 ∨ (k0_off3 v63) a + (![2436, 1] : Fin 2 → Nat) a * (S8x128.size a - 1) < S24360x128.size a) ∧
  (∀ a, S2x128.size a = 0 ∨ (k0_off5 v63) a + (![2436, 1] : Fin 2 → Nat) a * (S2x128.size a - 1) < S24360x128.size a)
theorem k0_off3_inb : ∀ (v63 : BitVec 32) (k0_hw1 : k0_chk1 v63), ∀ a, S8x128.size a = 0 ∨ (k0_off3 v63) a + (![2436, 1] : Fin 2 → Nat) a * (S8x128.size a - 1) < S24360x128.size a := fun v63 k0_hw1 => k0_hw1.1
theorem k0_off5_inb : ∀ (v63 : BitVec 32) (k0_hw1 : k0_chk1 v63), ∀ a, S2x128.size a = 0 ∨ (k0_off5 v63) a + (![2436, 1] : Fin 2 → Nat) a * (S2x128.size a - 1) < S24360x128.size a := fun v63 k0_hw1 => k0_hw1.2

def k0_cond2 (i : grid0.Coords) : BitVec 1 :=
  let arg0 : BitVec 32 := BitVec.ofNat 32 (i 0).val
  let c2_i32 : BitVec 32 := 2#32
  let v56 : BitVec 1 := Scalar.cmpi .eq arg0 c2_i32
  let v57 : BitVec 32 := Scalar.extui v56
  let c0_i32_23 : BitVec 32 := 0#32
  let v58 : BitVec 1 := Scalar.cmpi .ne v57 c0_i32_23
  v58

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c6_i32 : BitVec 32 := 6#32
  let c0_i32_0 : BitVec 32 := 0#32
  ![c0_i32.toNat, c6_i32.toNat]

def cc0_transform_4 (i : grid0.Coords) : Fin 2 → Nat :=
  let arg0 : BitVec 32 := BitVec.ofNat 32 (i 0).val
  let c0_i32 : BitVec 32 := 0#32
  let c6_i32 : BitVec 32 := 6#32
  let c0_i32_0 : BitVec 32 := 0#32
  ![c0_i32.toNat, c6_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S3x640 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x640x6144 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x640x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S6144x1280 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1280 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2400 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x160x2400 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x2400 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x160x2400 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S8x2400 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== KReferenceIdeal.lean ====
abbrev S3x640 : Shape := ⟨2, ![3, 640]⟩
abbrev S3x640x6144 : Shape := ⟨3, ![3, 640, 6144]⟩
abbrev S3x640x128 : Shape := ⟨3, ![3, 640, 128]⟩
abbrev S6144x10240 : Shape := ⟨2, ![6144, 10240]⟩
abbrev S1x10240 : Shape := ⟨2, ![1, 10240]⟩
abbrev S2400x8x160 : Shape := ⟨3, ![2400, 8, 160]⟩
abbrev S2400x8 : Shape := ⟨2, ![2400, 8]⟩
abbrev S1920x6144 : Shape := ⟨2, ![1920, 6144]⟩
abbrev S3x640x1 : Shape := ⟨3, ![3, 640, 1]⟩
abbrev S1920x1 : Shape := ⟨2, ![1920, 1]⟩
abbrev S1920x8x160 : Shape := ⟨3, ![1920, 8, 160]⟩
abbrev S1920x8 : Shape := ⟨2, ![1920, 8]⟩
abbrev S6144x1280 : Shape := ⟨2, ![6144, 1280]⟩
abbrev S1920x1280 : Shape := ⟨2, ![1920, 1280]⟩
abbrev S1x1280 : Shape := ⟨2, ![1, 1280]⟩
abbrev S1920x8x1 : Shape := ⟨3, ![1920, 8, 1]⟩
abbrev S1920 : Shape := ⟨1, ![1920]⟩
abbrev S_ : Shape := ⟨0, ![]⟩
abbrev S8x160x2400 : Shape := ⟨3, ![8, 160, 2400]⟩
abbrev S8x2400 : Shape := ⟨2, ![8, 2400]⟩

abbrev nBuf : Space → Nat
  | .hbm => 33
  | .vmem => 6
  | .smem => 0
  | _ => 0

abbrev bufTy : (tb : Table) → Fin (tcTables nBuf tb) → BufTy
  | .hbm, ⟨0, _⟩ => ⟨S3x640, .i32⟩
  | .hbm, ⟨1, _⟩ => ⟨S3x640x6144, .fp8e4m3⟩
  | .hbm, ⟨2, _⟩ => ⟨S3x640x128, .f32⟩
  | .hbm, ⟨3, _⟩ => ⟨S6144x10240, .fp8e4m3⟩
  | .hbm, ⟨4, _⟩ => ⟨S1x10240, .f32⟩
  | .hbm, ⟨5, _⟩ => ⟨S2400x8x160, .fp8e4m3⟩
  | .hbm, ⟨6, _⟩ => ⟨S2400x8, .f32⟩
  | .hbm, ⟨7, _⟩ => ⟨S1920x6144, .fp8e4m3⟩
  | .hbm, ⟨8, _⟩ => ⟨S3x640x1, .f32⟩
  | .hbm, ⟨9, _⟩ => ⟨S1920x1, .f32⟩
  | .hbm, ⟨10, _⟩ => ⟨S1920x8x160, .fp8e4m3⟩
  | .hbm, ⟨11, _⟩ => ⟨S1920x8, .f32⟩
  | .hbm, ⟨12, _⟩ => ⟨S1920, .i32⟩
  | .hbm, ⟨13, _⟩ => ⟨S_, .i32⟩
  | .hbm, ⟨14, _⟩ => ⟨S1920, .i32⟩
  | .hbm, ⟨15, _⟩ => ⟨S1920, .i1⟩
  | .hbm, ⟨16, _⟩ => ⟨S_, .i32⟩
  | .hbm, ⟨17, _⟩ => ⟨S1920, .i32⟩
  | .hbm, ⟨18, _⟩ => ⟨S1920, .i32⟩
  | .hbm, ⟨19, _⟩ => ⟨S1920, .i32⟩
  | .hbm, ⟨20, _⟩ => ⟨S1920x1, .i32⟩
  | .hbm, ⟨21, _⟩ => ⟨S2400x8x160, .fp8e4m3⟩
  | .hbm, ⟨22, _⟩ => ⟨S8x160x2400, .fp8e4m3⟩
  | .hbm, ⟨23, _⟩ => ⟨S_, .i32⟩
  | .hbm, ⟨24, _⟩ => ⟨S1920, .i32⟩
  | .hbm, ⟨25, _⟩ => ⟨S1920, .i1⟩
  | .hbm, ⟨26, _⟩ => ⟨S_, .i32⟩
  | .hbm, ⟨27, _⟩ => ⟨S1920, .i32⟩
  | .hbm, ⟨28, _⟩ => ⟨S1920, .i32⟩
  | .hbm, ⟨29, _⟩ => ⟨S1920, .i32⟩
  | .hbm, ⟨30, _⟩ => ⟨S1920x1, .i32⟩
  | .hbm, ⟨31, _⟩ => ⟨S2400x8, .f32⟩
  | .hbm, ⟨32, _⟩ => ⟨S8x2400, .f32⟩
  | .local _ .vmem, ⟨0, _⟩ => ⟨S1920x6144, .fp8e4m3⟩
  | .local _ .vmem, ⟨1, _⟩ => ⟨S1920x1, .f32⟩
  | .local _ .vmem, ⟨2, _⟩ => ⟨S6144x10240, .fp8e4m3⟩
  | .local _ .vmem, ⟨3, _⟩ => ⟨S1x10240, .f32⟩
  | .local _ .vmem, ⟨4, _⟩ => ⟨S1920x8x160, .fp8e4m3⟩
  | .local _ .vmem, ⟨5, _⟩ => ⟨S1920x8, .f32⟩
  | _, _ => ⟨S3x640, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev main_v4 : Ref sig .tc := ⟨.hbm, 12, rfl⟩
abbrev main_c : Ref sig .tc := ⟨.hbm, 13, rfl⟩
abbrev main_v5 : Ref sig .tc := ⟨.hbm, 14, rfl⟩
abbrev main_v6 : Ref sig .tc := ⟨.hbm, 15, rfl⟩
abbrev main_c_0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_c_1 : Ref sig .tc := ⟨.hbm, 23, rfl⟩
abbrev main_v13 : Ref sig .tc := ⟨.hbm, 24, rfl⟩
abbrev main_v14 : Ref sig .tc := ⟨.hbm, 25, rfl⟩
abbrev main_c_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S1920x6144 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1920x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S6144x10240 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x10240 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1920x8x160 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1920x8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== VProj.lean ====
abbrev S3x640 : Shape := ⟨2, ![3, 640]⟩
abbrev S3x640x6144 : Shape := ⟨3, ![3, 640, 6144]⟩
abbrev S3x640x128 : Shape := ⟨3, ![3, 640, 128]⟩
abbrev S6144x10240 : Shape := ⟨2, ![6144, 10240]⟩
abbrev S1x10240 : Shape := ⟨2, ![1, 10240]⟩
abbrev S2400x8x160 : Shape := ⟨3, ![2400, 8, 160]⟩
abbrev S2400x8 : Shape := ⟨2, ![2400, 8]⟩
abbrev S_ : Shape := ⟨0, ![]⟩
abbrev S1x2400 : Shape := ⟨2, ![1, 2400]⟩
abbrev S1920 : Shape := ⟨1, ![1920]⟩
abbrev S1920x1 : Shape := ⟨2, ![1920, 1]⟩
abbrev S1920x2 : Shape := ⟨2, ![1920, 2]⟩
abbrev S8x160x2400 : Shape := ⟨3, ![8, 160, 2400]⟩
abbrev S8x2400 : Shape := ⟨2, ![8, 2400]⟩
abbrev S1x640x6144 : Shape := ⟨3, ![1, 640, 6144]⟩
abbrev S1x640x128 : Shape := ⟨3, ![1, 640, 128]⟩
abbrev S6144x1280 : Shape := ⟨2, ![6144, 1280]⟩
abbrev S1x1280 : Shape := ⟨2, ![1, 1280]⟩
abbrev S6440x128 : Shape := ⟨2, ![6440, 128]⟩
abbrev S24360x128 : Shape := ⟨2, ![24360, 128]⟩
abbrev S640x6144 : Shape := ⟨2, ![640, 6144]⟩
abbrev S640x1280 : Shape := ⟨2, ![640, 1280]⟩
abbrev S640x128 : Shape := ⟨2, ![640, 128]⟩
abbrev S640x1 : Shape := ⟨2, ![640, 1]⟩
abbrev S1x1 : Shape := ⟨2, ![1, 1]⟩
abbrev S8x128 : Shape := ⟨2, ![8, 128]⟩
abbrev S2x128 : Shape := ⟨2, ![2, 128]⟩
abbrev S128x128 : Shape := ⟨2, ![128, 128]⟩
abbrev S1280x128 : Shape := ⟨2, ![1280, 128]⟩
abbrev S8x160x128 : Shape := ⟨3, ![8, 160, 128]⟩
abbrev S8x1x128 : Shape := ⟨3, ![8, 1, 128]⟩
abbrev S1x128 : Shape := ⟨2, ![1, 128]⟩
abbrev S1x1x128 : Shape := ⟨3, ![1, 1, 128]⟩
abbrev S1x96 : Shape := ⟨2, ![1, 96]⟩
abbrev S8x160x96 : Shape := ⟨3, ![8, 160, 96]⟩
abbrev S1x1x96 : Shape := ⟨3, ![1, 1, 96]⟩
abbrev S8x96 : Shape := ⟨2, ![8, 96]⟩

abbrev nBuf : Space → Nat
  | .hbm => 30
  | .vmem => 13
  | .smem => 1
  | _ => 0

abbrev bufTy : (tb : Table) → Fin (tcTables nBuf tb) → BufTy
  | .hbm, ⟨0, _⟩ => ⟨S3x640, .i32⟩
  | .hbm, ⟨1, _⟩ => ⟨S3x640x6144, .fp8e4m3⟩
  | .hbm, ⟨2, _⟩ => ⟨S3x640x128, .f32⟩
  | .hbm, ⟨3, _⟩ => ⟨S6144x10240, .fp8e4m3⟩
  | .hbm, ⟨4, _⟩ => ⟨S1x10240, .f32⟩
  | .hbm, ⟨5, _⟩ => ⟨S2400x8x160, .fp8e4m3⟩
  | .hbm, ⟨6, _⟩ => ⟨S2400x8, .f32⟩
  | .hbm, ⟨7, _⟩ => ⟨S_, .i32⟩
  | .hbm, ⟨8, _⟩ => ⟨S1x2400, .i32⟩
  | .hbm, ⟨9, _⟩ => ⟨S1920, .i32⟩
  | .hbm, ⟨10, _⟩ => ⟨S_, .i32⟩
  | .hbm, ⟨11, _⟩ => ⟨S1920, .i32⟩
  | .hbm, ⟨12, _⟩ => ⟨S1920, .i1⟩
  | .hbm, ⟨13, _⟩ => ⟨S_, .i32⟩
  | .hbm, ⟨14, _⟩ => ⟨S1920, .i32⟩
  | .hbm, ⟨15, _⟩ => ⟨S1920, .i32⟩
  | .hbm, ⟨16, _⟩ => ⟨S1920, .i32⟩
  | .hbm, ⟨17, _⟩ => ⟨S_, .i32⟩
  | .hbm, ⟨18, _⟩ => ⟨S1920, .i32⟩
  | .hbm, ⟨19, _⟩ => ⟨S1920, .i32⟩
  | .hbm, ⟨20, _⟩ => ⟨S1920x1, .i32⟩
  | .hbm, ⟨21, _⟩ => ⟨S1920x1, .i32⟩
  | .hbm, ⟨22, _⟩ => ⟨S1920x2, .i32⟩
  | .hbm, ⟨23, _⟩ => ⟨S_, .i32⟩
  | .hbm, ⟨24, _⟩ => ⟨S1920, .i32⟩
  | .hbm, ⟨25, _⟩ => ⟨S1x2400, .i32⟩
  | .hbm, ⟨26, _⟩ => ⟨S8x160x2400, .fp8e4m3⟩
  | .hbm, ⟨27, _⟩ => ⟨S8x2400, .f32⟩
  | .hbm, ⟨28, _⟩ => ⟨S8x160x2400, .fp8e4m3⟩
  | .hbm, ⟨29, _⟩ => ⟨S8x2400, .f32⟩
  | .local _ .vmem, ⟨0, _⟩ => ⟨S1x640x6144, .fp8e4m3⟩
  | .local _ .vmem, ⟨1, _⟩ => ⟨S1x640x6144, .fp8e4m3⟩
  | .local _ .vmem, ⟨2, _⟩ => ⟨S1x640x128, .f32⟩
  | .local _ .vmem, ⟨3, _⟩ => ⟨S1x640x128, .f32⟩
  | .local _ .vmem, ⟨4, _⟩ => ⟨S6144x1280, .fp8e4m3⟩
  | .local _ .vmem, ⟨5, _⟩ => ⟨S1x1280, .f32⟩
  | .local _ .vmem, ⟨6, _⟩ => ⟨S1x2400, .i32⟩
  | .local _ .vmem, ⟨7, _⟩ => ⟨S8x160x2400, .fp8e4m3⟩
  | .local _ .vmem, ⟨8, _⟩ => ⟨S8x2400, .f32⟩
  | .local _ .vmem, ⟨9, _⟩ => ⟨S8x160x2400, .fp8e4m3⟩
  | .local _ .vmem, ⟨10, _⟩ => ⟨S8x2400, .f32⟩
  | .local _ .vmem, ⟨11, _⟩ => ⟨S6440x128, .f32⟩
  | .local _ .vmem, ⟨12, _⟩ => ⟨S24360x128, .f32⟩
  | .local _ .smem, ⟨0, _⟩ => ⟨S3x640, .i32⟩
  | _, _ => ⟨S3x640, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .smem, ⟨0, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_c_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_c_2 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_c_3 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16_0 : Ref sig .tc := ⟨.hbm, 28, rfl⟩
abbrev main_v16_1 : Ref sig .tc := ⟨.hbm, 29, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_scratch0 : Ref sig .tc := ⟨.vmem, 11, rfl⟩
abbrev cc0_scratch1 : Ref sig .tc := ⟨.vmem, 12, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11

abbrev nD : Nat := 1
abbrev τ : Topo := Topo.v7x

variable {F : FTy → Type} [FloatOps F]

abbrev grid0 : Pipeline.Grid := ⟨1, ![3], ![false]⟩

@[reducible] def k0_t1_loop : Scf.Loop 32 :=
  let c0_i32_21 : BitVec 32 := 0#32
  let c640_i32 : BitVec 32 := 640#32
  let v55 : BitVec 32 := Scalar.addi c0_i32_21 c640_i32
  let c1_i32 : BitVec 32 := 1#32
  ⟨c0_i32_21, v55, c1_i32⟩
def k0_off1 (i : grid0.Coords) (k0_t1 : Fin k0_t1_loop.trips) : Fin 2 → Nat :=
  let arg0 : BitVec 32 := BitVec.ofNat 32 (i 0).val
  let v61 : Index := Scalar.indexCast arg0
  let c0_i32_25 : BitVec 32 := 0#32
  let c0_i32_21 : BitVec 32 := 0#32
  let c1_i32 : BitVec 32 := 1#32
  let arg13 : BitVec 32 := Scf.iv c0_i32_21 c1_i32 k0_t1
  let c1_i32_24 : BitVec 32 := 1#32
  let v59 : BitVec 32 := Scalar.muli arg13 c1_i32_24
  let v60 : BitVec 32 := Scalar.addi c0_i32_25 v59
  let v62 : Index := Scalar.indexCast v60
  ![v61.toNat, v62.toNat]
def k0_off2 (k0_t1 : Fin k0_t1_loop.trips) : Fin 2 → Nat :=
  let c0_i32_25 : BitVec 32 := 0#32
  let c0_i32_21 : BitVec 32 := 0#32
  let c1_i32 : BitVec 32 := 1#32
  let arg13 : BitVec 32 := Scf.iv c0_i32_21 c1_i32 k0_t1
  let c1_i32_24 : BitVec 32 := 1#32
  let v59 : BitVec 32 := Scalar.muli arg13 c1_i32_24
  let v60 : BitVec 32 := Scalar.addi c0_i32_25 v59
  let v64 : Index := Scalar.indexCast v60
  let c0_26 : Index := 0#32
  ![v64.toNat, 0]
def k0_off3 (v63 : BitVec 32) : Fin 2 → Nat :=
  let v66 : Index := Scalar.indexCast v63
  let c0_27 : Index := 0#32
  ![v66.toNat, 0]

def k0_off4 (k0_t1 : Fin k0_t1_loop.trips) : Fin 2 → Nat :=
  let c0_i32_25 : BitVec 32 := 0#32
  let c0_i32_21 : BitVec 32 := 0#32
  let c1_i32 : BitVec 32 := 1#32
  let arg13 : BitVec 32 := Scf.iv c0_i32_21 c1_i32 k0_t1
  let c1_i32_24 : BitVec 32 := 1#32
  let v59 : BitVec 32 := Scalar.muli arg13 c1_i32_24
  let v60 : BitVec 32 := Scalar.addi c0_i32_25 v59
  let c5152_i32 : BitVec 32 := 5152#32
  let v70 : BitVec 32 := Scalar.addi v60 c5152_i32
  let v71 : Index := Scalar.indexCast v70
  let c0_28 : Index := 0#32
  ![v71.toNat, 0]
def k0_off5 (v63 : BitVec 32) : Fin 2 → Nat :=
  let c19488_i32 : BitVec 32 := 19488#32
  let v73 : BitVec 32 := Scalar.addi v63 c19488_i32
  let v74 : Index := Scalar.indexCast v73
  let c0_29 : Index := 0#32
  ![v74.toNat, 0]

def k0_chk1 (v63 : BitVec 32) : Prop :=
  (∀ a, S8x128.size a = 0 ∨ (k0_off3 v63) a + (![2436, 1] : Fin 2 → Nat) a * (S8x128.size a - 1) < S24360x128.size a) ∧
  (∀ a, S2x128.size a = 0 ∨ (k0_off5 v63) a + (![2436, 1] : Fin 2 → Nat) a * (S2x128.size a - 1) < S24360x128.size a)
theorem k0_off3_inb : ∀ (v63 : BitVec 32) (k0_hw1 : k0_chk1 v63), ∀ a, S8x128.size a = 0 ∨ (k0_off3 v63) a + (![2436, 1] : Fin 2 → Nat) a * (S8x128.size a - 1) < S24360x128.size a := fun v63 k0_hw1 => k0_hw1.1
theorem k0_off5_inb : ∀ (v63 : BitVec 32) (k0_hw1 : k0_chk1 v63), ∀ a, S2x128.size a = 0 ∨ (k0_off5 v63) a + (![2436, 1] : Fin 2 → Nat) a * (S2x128.size a - 1) < S24360x128.size a := fun v63 k0_hw1 => k0_hw1.2

def k0_cond2 (i : grid0.Coords) : BitVec 1 :=
  let arg0 : BitVec 32 := BitVec.ofNat 32 (i 0).val
  let c2_i32 : BitVec 32 := 2#32
  let v56 : BitVec 1 := Scalar.cmpi .eq arg0 c2_i32
  let v57 : BitVec 32 := Scalar.extui v56
  let c0_i32_23 : BitVec 32 := 0#32
  let v58 : BitVec 1 := Scalar.cmpi .ne v57 c0_i32_23
  v58

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c7_i32 : BitVec 32 := 7#32
  let c0_i32_0 : BitVec 32 := 0#32
  ![c0_i32.toNat, c7_i32.toNat]

def cc0_transform_4 (i : grid0.Coords) : Fin 2 → Nat :=
  let arg0 : BitVec 32 := BitVec.ofNat 32 (i 0).val
  let c0_i32 : BitVec 32 := 0#32
  let c7_i32 : BitVec 32 := 7#32
  let c0_i32_0 : BitVec 32 := 0#32
  ![c0_i32.toNat, c7_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S3x640 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x640x6144 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x640x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S6144x1280 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1280 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2400 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x160x2400 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x2400 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x160x2400 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S8x2400 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== VReferenceIdeal.lean ====
abbrev S3x640 : Shape := ⟨2, ![3, 640]⟩
abbrev S3x640x6144 : Shape := ⟨3, ![3, 640, 6144]⟩
abbrev S3x640x128 : Shape := ⟨3, ![3, 640, 128]⟩
abbrev S6144x10240 : Shape := ⟨2, ![6144, 10240]⟩
abbrev S1x10240 : Shape := ⟨2, ![1, 10240]⟩
abbrev S2400x8x160 : Shape := ⟨3, ![2400, 8, 160]⟩
abbrev S2400x8 : Shape := ⟨2, ![2400, 8]⟩
abbrev S1920x6144 : Shape := ⟨2, ![1920, 6144]⟩
abbrev S3x640x1 : Shape := ⟨3, ![3, 640, 1]⟩
abbrev S1920x1 : Shape := ⟨2, ![1920, 1]⟩
abbrev S1920x8x160 : Shape := ⟨3, ![1920, 8, 160]⟩
abbrev S1920x8 : Shape := ⟨2, ![1920, 8]⟩
abbrev S6144x1280 : Shape := ⟨2, ![6144, 1280]⟩
abbrev S1920x1280 : Shape := ⟨2, ![1920, 1280]⟩
abbrev S1x1280 : Shape := ⟨2, ![1, 1280]⟩
abbrev S1920x8x1 : Shape := ⟨3, ![1920, 8, 1]⟩
abbrev S1920 : Shape := ⟨1, ![1920]⟩
abbrev S_ : Shape := ⟨0, ![]⟩
abbrev S8x160x2400 : Shape := ⟨3, ![8, 160, 2400]⟩
abbrev S8x2400 : Shape := ⟨2, ![8, 2400]⟩

abbrev nBuf : Space → Nat
  | .hbm => 33
  | .vmem => 6
  | .smem => 0
  | _ => 0

abbrev bufTy : (tb : Table) → Fin (tcTables nBuf tb) → BufTy
  | .hbm, ⟨0, _⟩ => ⟨S3x640, .i32⟩
  | .hbm, ⟨1, _⟩ => ⟨S3x640x6144, .fp8e4m3⟩
  | .hbm, ⟨2, _⟩ => ⟨S3x640x128, .f32⟩
  | .hbm, ⟨3, _⟩ => ⟨S6144x10240, .fp8e4m3⟩
  | .hbm, ⟨4, _⟩ => ⟨S1x10240, .f32⟩
  | .hbm, ⟨5, _⟩ => ⟨S2400x8x160, .fp8e4m3⟩
  | .hbm, ⟨6, _⟩ => ⟨S2400x8, .f32⟩
  | .hbm, ⟨7, _⟩ => ⟨S1920x6144, .fp8e4m3⟩
  | .hbm, ⟨8, _⟩ => ⟨S3x640x1, .f32⟩
  | .hbm, ⟨9, _⟩ => ⟨S1920x1, .f32⟩
  | .hbm, ⟨10, _⟩ => ⟨S1920x8x160, .fp8e4m3⟩
  | .hbm, ⟨11, _⟩ => ⟨S1920x8, .f32⟩
  | .hbm, ⟨12, _⟩ => ⟨S1920, .i32⟩
  | .hbm, ⟨13, _⟩ => ⟨S_, .i32⟩
  | .hbm, ⟨14, _⟩ => ⟨S1920, .i32⟩
  | .hbm, ⟨15, _⟩ => ⟨S1920, .i1⟩
  | .hbm, ⟨16, _⟩ => ⟨S_, .i32⟩
  | .hbm, ⟨17, _⟩ => ⟨S1920, .i32⟩
  | .hbm, ⟨18, _⟩ => ⟨S1920, .i32⟩
  | .hbm, ⟨19, _⟩ => ⟨S1920, .i32⟩
  | .hbm, ⟨20, _⟩ => ⟨S1920x1, .i32⟩
  | .hbm, ⟨21, _⟩ => ⟨S2400x8x160, .fp8e4m3⟩
  | .hbm, ⟨22, _⟩ => ⟨S8x160x2400, .fp8e4m3⟩
  | .hbm, ⟨23, _⟩ => ⟨S_, .i32⟩
  | .hbm, ⟨24, _⟩ => ⟨S1920, .i32⟩
  | .hbm, ⟨25, _⟩ => ⟨S1920, .i1⟩
  | .hbm, ⟨26, _⟩ => ⟨S_, .i32⟩
  | .hbm, ⟨27, _⟩ => ⟨S1920, .i32⟩
  | .hbm, ⟨28, _⟩ => ⟨S1920, .i32⟩
  | .hbm, ⟨29, _⟩ => ⟨S1920, .i32⟩
  | .hbm, ⟨30, _⟩ => ⟨S1920x1, .i32⟩
  | .hbm, ⟨31, _⟩ => ⟨S2400x8, .f32⟩
  | .hbm, ⟨32, _⟩ => ⟨S8x2400, .f32⟩
  | .local _ .vmem, ⟨0, _⟩ => ⟨S1920x6144, .fp8e4m3⟩
  | .local _ .vmem, ⟨1, _⟩ => ⟨S1920x1, .f32⟩
  | .local _ .vmem, ⟨2, _⟩ => ⟨S6144x10240, .fp8e4m3⟩
  | .local _ .vmem, ⟨3, _⟩ => ⟨S1x10240, .f32⟩
  | .local _ .vmem, ⟨4, _⟩ => ⟨S1920x8x160, .fp8e4m3⟩
  | .local _ .vmem, ⟨5, _⟩ => ⟨S1920x8, .f32⟩
  | _, _ => ⟨S3x640, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev main_v4 : Ref sig .tc := ⟨.hbm, 12, rfl⟩
abbrev main_c : Ref sig .tc := ⟨.hbm, 13, rfl⟩
abbrev main_v5 : Ref sig .tc := ⟨.hbm, 14, rfl⟩
abbrev main_v6 : Ref sig .tc := ⟨.hbm, 15, rfl⟩
abbrev main_c_0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_c_1 : Ref sig .tc := ⟨.hbm, 23, rfl⟩
abbrev main_v13 : Ref sig .tc := ⟨.hbm, 24, rfl⟩
abbrev main_v14 : Ref sig .tc := ⟨.hbm, 25, rfl⟩
abbrev main_c_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S1920x6144 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1920x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S6144x10240 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x10240 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1920x8x160 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1920x8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Scale.lean ====
/-
  The power-of-two scale, one number at a time.

  The kernel finds the exponent field of `s = (largest magnitude) / 448` by eight comparisons with powers of two
  (`climb`), turns it into an exponent `e` (`expo`) and builds `2 ^ e` and `2 ^ (-e)` from `e`'s bits (`powUp`,
  `powDown`).  The reference states `e` as `floor (log s / log 2) + 1` (`refExpo`) and takes `exp2`.  Here the two are
  shown equal at every extended real `s`.
-/
module

public import Idealize.ShloMosaic.PureOps.Ideal

public section

noncomputable section

namespace Cert.Scale

open Idealize.ShloMosaic

/-- One comparison of the search: keep `e + bit` when the test accepts it. -/
@[expose] def rung (p : BitVec 32 → BitVec 1) (bit e : BitVec 32) : BitVec 32 :=
  Scalar.select (p (IntOp.addi e bit)) (IntOp.addi e bit) e

/-- The eight comparisons, from the highest bit of the exponent field down. -/
@[expose] def climb (p : BitVec 32 → BitVec 1) : BitVec 32 :=
  rung p 1#32 (rung p 2#32 (rung p 4#32 (rung p 8#32 (rung p 16#32 (rung p 32#32 (rung p 64#32 (rung p 128#32 0#32)))))))

/-- The test: is `s` at least the float whose exponent field is `c`? -/
@[expose] def atLeast (s : EReal) (c : BitVec 32) : BitVec 1 :=
  Ideal.cmp .oge s (Ideal.ofBits .f32 (IntOp.shli .vector c 23#32))

/-- The exponent field the kernel finds for `s`, `255` from `2 ^ 126` on. -/
@[expose] def field (s : EReal) : BitVec 32 :=
  Scalar.select (Ideal.cmp .oge s (Ideal.ofBits .f32 0x7E800000#32)) 255#32 (climb (atLeast s))

/-- The exponent of the scale: the field less its bias and one, `0` at either end of the range. -/
@[expose] def expo (s : EReal) : BitVec 32 :=
  Scalar.select (IntOp.ori (IntOp.cmpi .eq (field s) 0#32) (IntOp.cmpi .eq (field s) 255#32)) 0#32
    (IntOp.subi (field s) 126#32)

/-- The kernel's scale: the float with exponent `expo s`. -/
@[expose] def powUp (s : EReal) : EReal := Ideal.ofBits .f32 (IntOp.shli .vector (IntOp.addi (expo s) 127#32) 23#32)

/-- The kernel's inverse scale: the float with exponent `- expo s`. -/
@[expose] def powDown (s : EReal) : EReal := Ideal.ofBits .f32 (IntOp.shli .vector (IntOp.subi 127#32 (expo s)) 23#32)

/-- The reference's exponent. -/
@[expose] def refExpo (s : EReal) : EReal :=
  Scalar.select
    (IntOp.andi (Ideal.cmp .oge s (Ideal.ofBits .f32 0x00800000#32)) (Ideal.cmp .olt s (Ideal.ofBits .f32 0x7E800000#32)))
    (Ideal.liftRound Int.floor (Ideal.div (Ideal.log s) (Ideal.log (Ideal.ofBits .f32 0x40000000#32)))
      + Ideal.ofBits .f32 0x3F800000#32)
    (Ideal.ofBits .f32 0x00000000#32)

/-! ## The search finds the largest accepted number -/

/-- One comparison, when the test accepts exactly the numbers up to `n`. -/
theorem rung_val (n : ℕ) (p : BitVec 32 → BitVec 1)
    (hp : ∀ k < 256, 0 < k → p (BitVec.ofNat 32 k) = BitVec.ofBool (decide (k ≤ n))) (d a b : ℕ) (h0 : 0 < d) (h : a + d < 256)
    (hb : b = if a + d ≤ n then a + d else a) : rung p (BitVec.ofNat 32 d) (BitVec.ofNat 32 a) = BitVec.ofNat 32 b := by
  have hadd : IntOp.addi (BitVec.ofNat 32 a) (BitVec.ofNat 32 d) = BitVec.ofNat 32 (a + d) := by
    simp [IntOp.addi, BitVec.ofNat_add]
  unfold rung Scalar.select
  rw [hadd, hp _ h (by omega), hb]
  by_cases hc : a + d ≤ n <;> simp [hc]

/-- So the eight comparisons find `n`. -/
theorem climb_val (n : ℕ) (hn : n < 256) (p : BitVec 32 → BitVec 1)
    (hp : ∀ k < 256, 0 < k → p (BitVec.ofNat 32 k) = BitVec.ofBool (decide (k ≤ n))) : climb p = BitVec.ofNat 32 n := by
  unfold climb
  rw [rung_val n p hp 128 0 (n / 128 * 128) (by omega) (by omega) (by split <;> omega),
    rung_val n p hp 64 _ (n / 64 * 64) (by omega) (by omega) (by split <;> omega),
    rung_val n p hp 32 _ (n / 32 * 32) (by omega) (by omega) (by split <;> omega),
    rung_val n p hp 16 _ (n / 16 * 16) (by omega) (by omega) (by split <;> omega),
    rung_val n p hp 8 _ (n / 8 * 8) (by omega) (by omega) (by split <;> omega),
    rung_val n p hp 4 _ (n / 4 * 4) (by omega) (by omega) (by split <;> omega),
    rung_val n p hp 2 _ (n / 2 * 2) (by omega) (by omega) (by split <;> omega),
    rung_val n p hp 1 _ n (by omega) (by omega) (by split <;> omega)]

/-! ## The floats with an empty fraction -/

/-- Shifting an exponent field into place: its exponent bits are the field, fraction and sign are empty. -/
theorem fields : ∀ k : Fin 256,
    ((IntOp.shli .vector (BitVec.ofNat 32 k.val) 23#32).extractLsb' 31 1 == 1#1) = false
    ∧ ((IntOp.shli .vector (BitVec.ofNat 32 k.val) 23#32).extractLsb' 23 8).toNat = k.val
    ∧ ((IntOp.shli .vector (BitVec.ofNat 32 k.val) 23#32).extractLsb' 0 23).toNat = 0 := by
  decide +kernel

/-- The float whose exponent field is `k`: nothing for `0`, infinity for `255`, a power of two between. -/
theorem ofBits_field (k : ℕ) (hk : k < 256) :
    Ideal.ofBits .f32 (IntOp.shli .vector (BitVec.ofNat 32 k) 23#32)
      = if k = 255 then (⊤ : EReal) else if k = 0 then 0 else (((2 : ℝ) ^ ((k : ℤ) - 127) : ℝ) : EReal) := by
  obtain ⟨h1, h2, h3⟩ := fields ⟨k, hk⟩
  simp only at h1 h2 h3
  show Ideal.ieee 8 23 _ = _
  unfold Ideal.ieee
  simp only [h2, h3, Nat.reduceAdd, h1]
  split
  · simp_all
  · split
    · simp_all
    · rename_i a b
      rw [if_neg (by decide : ¬ (false = true)), if_neg (show ¬ k = 255 from by simpa using a)]
      refine congrArg (fun x : ℝ => (x : EReal)) ?_
      have h23 : ((k : ℤ) - (2 ^ (8 - 1) - 1) - ((23 : ℕ) : ℤ)) = ((k : ℤ) - 127) - 23 := by norm_num
      rw [h23, zpow_sub₀ (by norm_num : (2 : ℝ) ≠ 0)]
      norm_num
      ring

/-- A real `r` with `2 ^ n ≤ r < 2 ^ (n + 1)`: the floor of its logarithm to base two is `n`. -/
theorem floor_log (n : ℤ) (r : ℝ) (h1 : (2 : ℝ) ^ n ≤ r) (h2 : r < (2 : ℝ) ^ (n + 1)) :
    ⌊Real.log r / Real.log 2⌋ = n := by
  have hl2 : 0 < Real.log 2 := Real.log_pos (by norm_num)
  have hr : 0 < r := lt_of_lt_of_le (zpow_pos (by norm_num) n) h1
  rw [Int.floor_eq_iff]
  constructor
  · rw [le_div_iff₀ hl2, ← Real.log_zpow]
    exact Real.log_le_log (zpow_pos (by norm_num) n) h1
  · rw [div_lt_iff₀ hl2]
    have := Real.log_lt_log hr h2
    rw [Real.log_zpow] at this
    push_cast at this
    exact this

theorem c126 : (0x7E800000#32 : BitVec 32) = IntOp.shli .vector (BitVec.ofNat 32 253) 23#32 := by decide +kernel

theorem c_126 : (0x00800000#32 : BitVec 32) = IntOp.shli .vector (BitVec.ofNat 32 1) 23#32 := by decide +kernel

theorem hi_val : Ideal.ofBits .f32 0x7E800000#32 = (((2 : ℝ) ^ (126 : ℤ) : ℝ) : EReal) := by
  rw [c126, ofBits_field 253 (by omega), if_neg (by omega), if_neg (by omega)]; norm_num

theorem lo_val : Ideal.ofBits .f32 0x00800000#32 = (((2 : ℝ) ^ (-126 : ℤ) : ℝ) : EReal) := by
  rw [c_126, ofBits_field 1 (by omega), if_neg (by omega), if_neg (by omega)]; norm_num

theorem zero_val : Ideal.ofBits .f32 0x00000000#32 = (0 : EReal) := by
  simp [Ideal.ofBits, Ideal.ieee, -EReal.coe_mul]

theorem one_val : Ideal.ofBits .f32 0x3F800000#32 = ((1 : ℝ) : EReal) := by
  simp [Ideal.ofBits, Ideal.ieee, -EReal.coe_mul]; norm_num

theorem two_val : Ideal.ofBits .f32 0x40000000#32 = ((2 : ℝ) : EReal) := by
  simp [Ideal.ofBits, Ideal.ieee, -EReal.coe_mul]; norm_num

/-- Every power-of-two threshold the search tests. -/
theorem atLeast_val (s : EReal) (k : ℕ) (h0 : 0 < k) (h1 : k < 255) :
    atLeast s (BitVec.ofNat 32 k) = BitVec.ofBool (decide ((((2 : ℝ) ^ ((k : ℤ) - 127) : ℝ) : EReal) ≤ s)) := by
  unfold atLeast
  rw [ofBits_field k (by omega), if_neg (by omega), if_neg (by omega)]
  rfl

/-- The infinite threshold. -/
theorem atLeast_top (s : EReal) : atLeast s (BitVec.ofNat 32 255) = BitVec.ofBool (decide ((⊤ : EReal) ≤ s)) := by
  unfold atLeast
  rw [ofBits_field 255 (by omega), if_pos rfl]
  rfl

/-- Below the normal range or from `2 ^ 126` on, the exponent is `0`. -/
theorem expo_out (s : EReal)
    (h : s < (((2 : ℝ) ^ (-126 : ℤ) : ℝ) : EReal) ∨ (((2 : ℝ) ^ (126 : ℤ) : ℝ) : EReal) ≤ s) : expo s = 0#32 := by
  by_cases hs : (((2 : ℝ) ^ (126 : ℤ) : ℝ) : EReal) ≤ s
  · have : field s = 255#32 := by
      unfold field Ideal.cmp; rw [hi_val]; simp only [decide_eq_true hs]; rfl
    unfold expo; rw [this]; decide
  · have hlt := h.resolve_right hs
    have hf : field s = 0#32 := by
      have hc : climb (atLeast s) = BitVec.ofNat 32 0 := by
        refine climb_val 0 (by omega) _ fun k hk h0 => ?_
        have hno : ∀ x : EReal, (((2 : ℝ) ^ (-126 : ℤ) : ℝ) : EReal) ≤ x → ¬ x ≤ s :=
          fun x hx hxs => absurd (lt_of_le_of_lt (hx.trans hxs) hlt) (lt_irrefl _)
        by_cases h255 : k = 255
        · subst h255; rw [atLeast_top, decide_eq_false (hno _ le_top)]; rfl
        · rw [atLeast_val s k h0 (by omega), decide_eq_false (hno _ _), decide_eq_false (by omega)]
          exact EReal.coe_le_coe_iff.2 (zpow_le_zpow_right₀ (by norm_num) (by omega))
      unfold field Ideal.cmp; rw [hi_val, hc]; simp only [decide_eq_false hs]; rfl
    unfold expo; rw [hf]; decide

/-- Between them, at a real in `[2 ^ n, 2 ^ (n + 1))`, the exponent is `n + 1`. -/
theorem expo_in (n : ℤ) (h1 : -126 ≤ n) (h2 : n ≤ 125) (r : ℝ) (hr1 : (2 : ℝ) ^ n ≤ r) (hr2 : r < (2 : ℝ) ^ (n + 1)) :
    expo (r : EReal) = IntOp.subi (BitVec.ofNat 32 (n + 127).toNat) 126#32 := by
  have hN1 : 1 ≤ (n + 127).toNat := by omega
  have hN2 : (n + 127).toNat ≤ 252 := by omega
  have hNn : (((n + 127).toNat : ℕ) : ℤ) = n + 127 := by omega
  have hc : climb (atLeast (r : EReal)) = BitVec.ofNat 32 (n + 127).toNat := by
    refine climb_val _ (by omega) _ fun k hk h0 => ?_
    by_cases h255 : k = 255
    · subst h255; rw [atLeast_top, decide_eq_false (by simp), decide_eq_false (by omega)]
    · rw [atLeast_val _ k h0 (by omega)]
      by_cases hkn : k ≤ (n + 127).toNat
      · rw [decide_eq_true hkn, decide_eq_true]
        exact EReal.coe_le_coe_iff.2 ((zpow_le_zpow_right₀ (by norm_num) (by omega)).trans hr1)
      · rw [decide_eq_false hkn, decide_eq_false]
        intro hle
        have := EReal.coe_le_coe_iff.1 hle
        exact absurd (hr2.trans_le ((zpow_le_zpow_right₀ (by norm_num) (by omega)).trans this)) (lt_irrefl _)
  have hhi : ¬ (((2 : ℝ) ^ (126 : ℤ) : ℝ) : EReal) ≤ (r : EReal) := fun hle =>
    absurd (hr2.trans_le ((zpow_le_zpow_right₀ (by norm_num) (by omega)).trans (EReal.coe_le_coe_iff.1 hle))) (lt_irrefl _)
  have hf : field (r : EReal) = BitVec.ofNat 32 (n + 127).toNat := by
    unfold field Ideal.cmp; rw [hi_val, hc]; simp only [decide_eq_false hhi]; rfl
  have hcmp : ∀ N : Fin 256, 1 ≤ N.val → N.val ≤ 252 →
      IntOp.ori (IntOp.cmpi .eq (BitVec.ofNat 32 N.val) 0#32) (IntOp.cmpi .eq (BitVec.ofNat 32 N.val) 255#32) = 0#1 := by
    decide +kernel
  unfold expo
  rw [hf, hcmp ⟨(n + 127).toNat, by omega⟩ hN1 hN2]
  simp [Scalar.select]

/-- The two floats built from the exponent, at a field `N`. -/
theorem ends : ∀ N : Fin 256, 1 ≤ N.val → N.val ≤ 252 →
    IntOp.addi (IntOp.subi (BitVec.ofNat 32 N.val) 126#32) 127#32 = BitVec.ofNat 32 (N.val + 1)
    ∧ IntOp.subi 127#32 (IntOp.subi (BitVec.ofNat 32 N.val) 126#32) = BitVec.ofNat 32 (253 - N.val) := by
  decide +kernel

/-- The reference's exponent outside the range. -/
theorem refExpo_out (s : EReal)
    (h : s < (((2 : ℝ) ^ (-126 : ℤ) : ℝ) : EReal) ∨ (((2 : ℝ) ^ (126 : ℤ) : ℝ) : EReal) ≤ s) : refExpo s = 0 := by
  have : IntOp.andi (Ideal.cmp .oge s (Ideal.ofBits .f32 0x00800000#32))
      (Ideal.cmp .olt s (Ideal.ofBits .f32 0x7E800000#32)) = 0#1 := by
    rw [lo_val, hi_val]
    rcases h with h | h
    · simp only [Ideal.cmp, decide_eq_false (not_le.2 h)]; exact BitVec.zero_and
    · simp only [Ideal.cmp, decide_eq_false (not_lt.2 h)]; exact BitVec.and_zero
  unfold refExpo
  rw [this, zero_val]
  simp [Scalar.select]

/-- The reference's exponent inside it. -/
theorem refExpo_in (n : ℤ) (h1 : -126 ≤ n) (h2 : n ≤ 125) (r : ℝ) (hr1 : (2 : ℝ) ^ n ≤ r) (hr2 : r < (2 : ℝ) ^ (n + 1)) :
    refExpo (r : EReal) = (((n + 1 : ℤ) : ℝ) : EReal) := by
  have hr : 0 < r := lt_of_lt_of_le (zpow_pos (by norm_num) n) hr1
  have hl2 : Real.log 2 ≠ 0 := (Real.log_pos (by norm_num)).ne'
  have hlo : (((2 : ℝ) ^ (-126 : ℤ) : ℝ) : EReal) ≤ (r : EReal) :=
    EReal.coe_le_coe_iff.2 ((zpow_le_zpow_right₀ (by norm_num) h1).trans hr1)
  have hhi : (r : EReal) < (((2 : ℝ) ^ (126 : ℤ) : ℝ) : EReal) :=
    EReal.coe_lt_coe_iff.2 (hr2.trans_le (zpow_le_zpow_right₀ (by norm_num) (by omega)))
  have hsel : IntOp.andi (Ideal.cmp .oge (r : EReal) (Ideal.ofBits .f32 0x00800000#32))
      (Ideal.cmp .olt (r : EReal) (Ideal.ofBits .f32 0x7E800000#32)) = 1#1 := by
    rw [lo_val, hi_val]; simp only [Ideal.cmp, decide_eq_true hlo, decide_eq_true hhi]; decide
  have hdiv : Ideal.div (Ideal.log (r : EReal)) (Ideal.log (Ideal.ofBits .f32 0x40000000#32))
      = ((Real.log r / Real.log 2 : ℝ) : EReal) := by
    rw [two_val]
    show Ideal.div (if r ≤ 0 then ⊥ else (Real.log r : EReal)) (if (2 : ℝ) ≤ 0 then ⊥ else (Real.log 2 : EReal)) = _
    rw [if_neg (not_le.2 hr), if_neg (by norm_num)]
    unfold Ideal.div
    rw [if_neg (by exact_mod_cast hl2), ← EReal.coe_inv, ← EReal.coe_mul, div_eq_mul_inv]
  unfold refExpo
  rw [hsel, hdiv, one_val]
  show ((⌊Real.log r / Real.log 2⌋ : ℝ) : EReal) + ((1 : ℝ) : EReal) = _
  rw [floor_log n r hr1 hr2, ← EReal.coe_add]
  push_cast; rfl

/-- `exp2` at an integer. -/
theorem exp2_int (k : ℤ) : Ideal.exp2 (((k : ℤ) : ℝ) : EReal) = (((2 : ℝ) ^ k : ℝ) : EReal) := by
  show ((Real.rpow 2 (k : ℝ) : ℝ) : EReal) = _
  rw [show Real.rpow 2 (k : ℝ) = (2 : ℝ) ^ (k : ℝ) from rfl, Real.rpow_intCast]

/-- Every extended real is outside the range, or a real in one binade of it. -/
theorem cases (s : EReal) :
    (s < (((2 : ℝ) ^ (-126 : ℤ) : ℝ) : EReal) ∨ (((2 : ℝ) ^ (126 : ℤ) : ℝ) : EReal) ≤ s)
    ∨ ∃ n : ℤ, -126 ≤ n ∧ n ≤ 125 ∧ ∃ r : ℝ, s = (r : EReal) ∧ (2 : ℝ) ^ n ≤ r ∧ r < (2 : ℝ) ^ (n + 1) := by
  by_cases h : s < (((2 : ℝ) ^ (-126 : ℤ) : ℝ) : EReal) ∨ (((2 : ℝ) ^ (126 : ℤ) : ℝ) : EReal) ≤ s
  · exact .inl h
  · rw [not_or, not_lt, not_le] at h
    obtain ⟨hlo, hhi⟩ := h
    right
    lift s to ℝ using ⟨fun e => by simp [e] at hhi, fun e => by simp [e] at hlo⟩
    have hlo' := EReal.coe_le_coe_iff.1 hlo
    have hhi' := EReal.coe_lt_coe_iff.1 hhi
    obtain ⟨n, hn1, hn2⟩ := exists_mem_Ico_zpow (lt_of_lt_of_le (zpow_pos (by norm_num) _) hlo') (by norm_num : (1 : ℝ) < 2)
    refine ⟨n, ?_, ?_, s, rfl, hn1, hn2⟩
    · have := (zpow_lt_zpow_iff_right₀ (by norm_num : (1 : ℝ) < 2)).1 (hlo'.trans_lt hn2); omega
    · have := (zpow_lt_zpow_iff_right₀ (by norm_num : (1 : ℝ) < 2)).1 (hn1.trans_lt hhi'); omega

/-- THE SCALE: the kernel's float with exponent `e` is the reference's `exp2 e`. -/
theorem powUp_eq (s : EReal) : powUp s = Ideal.exp2 (refExpo s) := by
  rcases cases s with h | ⟨n, h1, h2, r, rfl, hr1, hr2⟩
  · unfold powUp
    rw [expo_out s h, refExpo_out s h, show IntOp.addi 0#32 127#32 = BitVec.ofNat 32 127 from rfl,
      ofBits_field 127 (by omega), if_neg (by omega), if_neg (by omega)]
    simpa using (exp2_int 0).symm
  · unfold powUp
    rw [expo_in n h1 h2 r hr1 hr2, refExpo_in n h1 h2 r hr1 hr2, exp2_int,
      (ends ⟨(n + 127).toNat, by omega⟩ (by show 1 ≤ (n + 127).toNat; omega) (by show (n + 127).toNat ≤ 252; omega)).1,
      ofBits_field _ (by show (n + 127).toNat + 1 < 256; omega), if_neg (by show ¬ (n + 127).toNat + 1 = 255; omega),
      if_neg (by omega)]
    congr 2
    show (((n + 127).toNat + 1 : ℕ) : ℤ) - 127 = n + 1
    omega

/-- THE INVERSE SCALE: the kernel's float with exponent `-e` is the reference's `exp2 (0 - e)`. -/
theorem powDown_eq (s : EReal) : powDown s = Ideal.exp2 (Ideal.ofBits .f32 0x00000000#32 - refExpo s) := by
  rw [zero_val]
  rcases cases s with h | ⟨n, h1, h2, r, rfl, hr1, hr2⟩
  · unfold powDown
    rw [expo_out s h, refExpo_out s h, show IntOp.subi 127#32 0#32 = BitVec.ofNat 32 127 from rfl,
      ofBits_field 127 (by omega), if_neg (by omega), if_neg (by omega)]
    simpa using (exp2_int 0).symm
  · unfold powDown
    rw [expo_in n h1 h2 r hr1 hr2, refExpo_in n h1 h2 r hr1 hr2, zero_sub, ← EReal.coe_neg, ← Int.cast_neg, exp2_int,
      (ends ⟨(n + 127).toNat, by omega⟩ (by show 1 ≤ (n + 127).toNat; omega) (by show (n + 127).toNat ≤ 252; omega)).2,
      ofBits_field _ (by show 253 - (n + 127).toNat < 256; omega), if_neg (by show ¬ 253 - (n + 127).toNat = 255; omega),
      if_neg (by show ¬ 253 - (n + 127).toNat = 0; omega)]
    congr 2
    show ((253 - (n + 127).toNat : ℕ) : ℤ) - 127 = -(n + 1)
    omega

end Cert.Scale
-- ==== Proof.Spec.lean ====
/-
  What the projection computes, over the extended reals, as plain formulas of the four arguments: the codes `x` and row
  scales `xs` of the normalised tokens, the weights `w` and their column scales `ws`.

  `proj` is one entry of the scaled product; a head's vector of 160 entries is quantised by `code` (the entry times
  `2 ^ (-e)`, clipped to the range of the 8-bit format) and `scale` (`2 ^ e`), `e` the exponent of its largest magnitude
  over 448.  `qCodes` and `qScale` are the two result arrays.
-/
module

public import proofs.«01_k».proof.Proof.Scale
public import Idealize.ShloMosaic.Lib.Pointwise

@[expose] public section

noncomputable section

namespace Cert.Spec

open Idealize.ShloMosaic

/-- Entry `n` of the projected token `(b, r)`. -/
def proj (x : (⟨3, ![3, 640, 6144]⟩ : Shape).Idx → EReal) (xs : (⟨3, ![3, 640, 128]⟩ : Shape).Idx → EReal)
    (w : (⟨2, ![6144, 10240]⟩ : Shape).Idx → EReal) (ws : (⟨2, ![1, 10240]⟩ : Shape).Idx → EReal)
    (b : Fin 3) (r : Fin 640) (n : Fin 10240) : EReal :=
  (∑ k : Fin 6144, x (ix3 b r k) * w (ix2 k n)) * xs (ix3 b r 0) * ws (ix2 0 n)

/-- The largest magnitude of a vector (a head's, a token's), over 448. -/
def top {n : ℕ} (f : Fin n → EReal) : EReal :=
  Finset.fold max (Ideal.ofBits .f32 0xFF800000#32) (fun d => max (f d) (-f d)) Finset.univ * Ideal.ofBits .f32 0x3B124925#32

/-- The scale of a vector. -/
def scale {n : ℕ} (f : Fin n → EReal) : EReal := Ideal.exp2 (Scale.refExpo (top f))

/-- The code of its entry `d`. -/
def code {n : ℕ} (f : Fin n → EReal) (d : Fin n) : EReal :=
  min (Ideal.ofBits .f32 0x43E00000#32) (max (Ideal.ofBits .f32 0xC3E00000#32)
    (f d * Ideal.exp2 (Ideal.ofBits .f32 0x00000000#32 - Scale.refExpo (top f))))

/-- Column `160 h + d`: entry `d` of query head `h`. -/
def col (h : Fin 48) (d : Fin 160) : Fin 10240 := ⟨160 * h.val + d.val, by omega⟩

/-- The codes, heads before tokens. -/
def qCodes (x : (⟨3, ![3, 640, 6144]⟩ : Shape).Idx → EReal) (xs : (⟨3, ![3, 640, 128]⟩ : Shape).Idx → EReal)
    (w : (⟨2, ![6144, 10240]⟩ : Shape).Idx → EReal) (ws : (⟨2, ![1, 10240]⟩ : Shape).Idx → EReal) :
    (⟨4, ![3, 48, 160, 640]⟩ : Shape).Idx → EReal :=
  fun j => code (n := 160) (fun d => proj x xs w ws (j 0) (j 3) (col (j 1) d)) (j 2)

/-- The scales. -/
def qScale (x : (⟨3, ![3, 640, 6144]⟩ : Shape).Idx → EReal) (xs : (⟨3, ![3, 640, 128]⟩ : Shape).Idx → EReal)
    (w : (⟨2, ![6144, 10240]⟩ : Shape).Idx → EReal) (ws : (⟨2, ![1, 10240]⟩ : Shape).Idx → EReal) :
    (⟨3, ![3, 48, 640]⟩ : Shape).Idx → EReal :=
  fun j => scale (n := 160) (fun d => proj x xs w ws (j 0) (j 2) (col (j 1) d))

/-- A token's vector `x` normalised by its root mean square and scaled by `g`, at entry `d`. -/
def norm (x g : Fin 6144 → EReal) (d : Fin 6144) : EReal :=
  x d * Ideal.rsqrt (Ideal.div (∑ k, x k * x k) (Ideal.ofBits .f32 0x45C00000#32) + Ideal.ofBits .f32 0x358637BD#32) * g d

/-- Token `n` of the flattened batch, normalised. -/
def token (x : (⟨3, ![3, 640, 6144]⟩ : Shape).Idx → EReal) (g : (⟨1, ![6144]⟩ : Shape).Idx → EReal) (n : Fin 1920) : Fin 6144 → EReal :=
  norm (fun k => x (ix3 ⟨n.val / 640, by omega⟩ ⟨n.val % 640, by omega⟩ k)) (fun k => g (ix1 k))

/-- The codes of the tokens. -/
def xCodes (x : (⟨3, ![3, 640, 6144]⟩ : Shape).Idx → EReal) (g : (⟨1, ![6144]⟩ : Shape).Idx → EReal) :
    (⟨2, ![1920, 6144]⟩ : Shape).Idx → EReal :=
  fun j => code (n := 6144) (token x g (j 0)) (j 1)

/-- The scales of the tokens, 128 to a row. -/
def xScale (x : (⟨3, ![3, 640, 6144]⟩ : Shape).Idx → EReal) (g : (⟨1, ![6144]⟩ : Shape).Idx → EReal) :
    (⟨3, ![15, 1, 128]⟩ : Shape).Idx → EReal :=
  fun j => scale (token x g ⟨128 * (j 0).val + (j 2).val, by
    have h0 : (j 0).val < 15 := (j 0).isLt
    have h2 : (j 2).val < 128 := (j 2).isLt
    omega⟩)

/-- The scales of the tokens, each repeated in 128 lanes. -/
def xLanes (x : (⟨3, ![3, 640, 6144]⟩ : Shape).Idx → EReal) (g : (⟨1, ![6144]⟩ : Shape).Idx → EReal) :
    (⟨2, ![1920, 128]⟩ : Shape).Idx → EReal :=
  fun j => scale (token x g (j 0))

end Cert.Spec
-- ==== Proof.Ladder.lean ====
/-
  The exponent search on a whole vector, for any shape: the two powers of two it gives, entry by entry.
-/
module

public import proofs.«01_k».proof.Proof.Scale
public import Idealize.ShloMosaic.Lib.Pointwise

@[expose] public section

noncomputable section

namespace Cert.Ladder

open Idealize.ShloMosaic

variable {s : Shape}

/-- One comparison of the exponent search. -/
def rung (v : FVec Ideal s .f32) (bit : BitVec 32) (e : IVec s 32) : IVec s 32 :=
  select (cmpf .oge v (bitcastToFloat .f32 (shli (addi e (broadcast s bit)) (broadcast s 23#32)))) (addi e (broadcast s bit)) e

/-- The exponent search. -/
def climb (v : FVec Ideal s .f32) : IVec s 32 :=
  rung v 1#32 (rung v 2#32 (rung v 4#32 (rung v 8#32 (rung v 16#32 (rung v 32#32 (rung v 64#32 (rung v 128#32 (broadcast s 0#32))))))))

/-- The exponent field. -/
def field (v : FVec Ideal s .f32) : IVec s 32 :=
  select (cmpf .oge v (broadcast s (Scalar.ofBits .f32 0x7E800000#32 : Ideal .f32))) (broadcast s 255#32) (climb v)

/-- The exponent of the scale. -/
def expo (v : FVec Ideal s .f32) : IVec s 32 :=
  select (ori (cmpi .eq (field v) (broadcast s 0#32)) (cmpi .eq (field v) (broadcast s 255#32))) (broadcast s 0#32)
    (subi (field v) (broadcast s 126#32))

/-- The scales. -/
def up (v : FVec Ideal s .f32) : FVec Ideal s .f32 :=
  bitcastToFloat .f32 (shli (addi (expo v) (broadcast s 127#32)) (broadcast s 23#32))

/-- The inverse scales. -/
def down (v : FVec Ideal s .f32) : FVec Ideal s .f32 :=
  bitcastToFloat .f32 (shli (subi (broadcast s 127#32) (expo v)) (broadcast s 23#32))

/-- One comparison, entry by entry. -/
theorem rung_at (v : FVec Ideal s .f32) (bit : BitVec 32) (e : IVec s 32) (i : s.Idx) :
    rung v bit e i = Scale.rung (Scale.atLeast (v i)) bit (e i) := rfl

/-- The search, entry by entry. -/
theorem climb_at (v : FVec Ideal s .f32) (i : s.Idx) : climb v i = Scale.climb (Scale.atLeast (v i)) := by
  unfold climb Scale.climb
  simp only [rung_at]
  rfl

/-- The field, entry by entry. -/
theorem field_at (v : FVec Ideal s .f32) (i : s.Idx) : field v i = Scale.field (v i) := by
  unfold Scale.field
  rw [← climb_at]
  rfl

/-- The exponent, entry by entry. -/
theorem expo_at (v : FVec Ideal s .f32) (i : s.Idx) : expo v i = Scale.expo (v i) := by
  unfold Scale.expo
  rw [← field_at]
  rfl

/-- A scale is two to the exponent. -/
theorem up_at (v : FVec Ideal s .f32) (i : s.Idx) : up v i = Ideal.exp2 (Scale.refExpo (v i)) := by
  rw [← Scale.powUp_eq]
  unfold Scale.powUp
  rw [← expo_at]
  rfl

/-- An inverse scale is two to minus the exponent. -/
theorem down_at (v : FVec Ideal s .f32) (i : s.Idx) :
    down v i = Ideal.exp2 (Ideal.ofBits .f32 0x00000000#32 - Scale.refExpo (v i)) := by
  rw [← Scale.powDown_eq]
  unfold Scale.powDown
  rw [← expo_at]
  rfl

end Cert.Ladder
-- ==== Proof.Tile.lean ====
/-
  One tile of 128 tokens: the projected rows `y`, read as ten square pieces, each turned over, put one under the other
  and cut into eight heads; each head's vector scaled and clipped.
-/
module

public import proofs.«01_k».proof.Proof.Gen.KernelIdeal.Skeleton
public import proofs.«01_k».proof.Proof.Spec
public import proofs.«01_k».proof.Proof.Ladder
public import Idealize.ShloMosaic.Lib.Pipeline.Value

public section

set_option maxRecDepth 16384

noncomputable section

namespace Cert.KernelIdeal.Tile

open Cert.KernelIdeal Cert.KernelIdeal.Gen Idealize.ShloMosaic

/-- The largest magnitudes over 448. -/
@[expose] def tops (w : FVec Ideal S8x160x128 .f32) : FVec Ideal S8x128 .f32 :=
  mulf (multiReduction .maximumf [1] S8x128 (absf w) 0xFF800000#32 reduces_S8x160x128_S8x128 (.inl rfl) rfl)
    (broadcast S8x128 (Scalar.ofBits .f32 0x3B124925#32))

/-- The codes of a tile. -/
@[expose] def codes (w : FVec Ideal S8x160x128 .f32) : FVec Ideal S1x8x160x128 .fp8e4m3 :=
  shapeCast S1x8x160x128
    (truncf .fp8e4m3
      (minimumf (broadcast S8x160x128 (Scalar.ofBits .f32 0x43E00000#32))
        (maximumf (broadcast S8x160x128 (Scalar.ofBits .f32 0xC3E00000#32))
          (mulf w (broadcastTo S8x160x128 (shapeCast S8x1x128 (Ladder.down (tops w)) shapeCasts_S8x128_S8x1x128)
            broadcasts_S8x1x128_S8x160x128))))
      bitsLt_fp8e4m3_f32)
    shapeCasts_S8x160x128_S1x8x160x128

/-- The scales of a tile. -/
@[expose] def scales (w : FVec Ideal S8x160x128 .f32) : FVec Ideal S1x8x128 .f32 :=
  shapeCast S1x8x128 (Ladder.up (tops w)) shapeCasts_S8x128_S1x8x128

theorem pieces_inb (t : Fin 5) (c : Fin 10) : ∀ a, (![128 * t.val, 128 * c.val] : Fin 2 → ℕ) a + S128x128.size a ≤ S640x1280.size a
  | ⟨0, _⟩ => by show 128 * t.val + 128 ≤ 640; omega
  | ⟨1, _⟩ => by show 128 * c.val + 128 ≤ 1280; omega

/-- Square piece `c` of tile `t`. -/
@[expose] def piece (y : Vec Ideal S640x1280 .f32) (t : Fin 5) (c : Fin 10) : Vec Ideal S128x128 .f32 :=
  View.ld y (Rect.unit (s := S640x1280) ![128 * t.val, 128 * c.val] S128x128.size (pieces_inb t c))

/-- Ten square pieces stack to 1280 rows. -/
theorem column_fits (f : Fin 10 → Vec Ideal S128x128 .f32) :
    Shape.Concatenates ((List.ofFn fun c : Fin 10 => (⟨S128x128, f c⟩ : (s : Shape) × (s.Idx → Ideal .f32))).map (·.1)) S1280x128 0 :=
  concatenates_S128x128_S128x128_S128x128_S128x128_S128x128_S128x128_S128x128_S128x128_S128x128_S128x128_S1280x128_d0

/-- The ten pieces, one under the other. -/
@[expose] def column (f : Fin 10 → Vec Ideal S128x128 .f32) : FVec Ideal S1280x128 .f32 :=
  concatenate S1280x128 0 (List.ofFn fun c : Fin 10 => (⟨S128x128, f c⟩ : (s : Shape) × (s.Idx → Ideal .f32))) (column_fits f)

/-- A tile: ten pieces turned over and stacked. -/
@[expose] def stack (f : Fin 10 → Vec Ideal S128x128 .f32) : FVec Ideal S8x160x128 .f32 :=
  shapeCast S8x160x128 (column fun c => transpose S128x128 [1, 0] (f c) transposes_S128x128_p1_0_S128x128)
    shapeCasts_S1280x128_S8x160x128

/-! ## Read at an index -/

theorem tops_at (w : FVec Ideal S8x160x128 .f32) (h : Fin 8) (r : Fin 128) :
    tops w (ix2 h r) = Spec.top fun d => w (ix3 h d r) := by
  unfold Spec.top
  pointwise [tops]
  rfl

theorem codes_at (w : FVec Ideal S8x160x128 .f32) (u : Fin 1) (h : Fin 8) (d : Fin 160) (r : Fin 128) :
    codes w (ix4 u h d r) = Spec.code (fun d => w (ix3 h d r)) d := by
  unfold Spec.code
  rw [← tops_at, ← Ladder.down_at]
  generalize hg : Ladder.down (tops w) = g
  unfold codes
  rw [hg]
  pointwise

theorem scales_at (w : FVec Ideal S8x160x128 .f32) (u : Fin 1) (h : Fin 8) (r : Fin 128) :
    scales w (ix3 u h r) = Spec.scale (fun d => w (ix3 h d r)) := by
  unfold Spec.scale
  rw [← tops_at, ← Ladder.up_at]
  generalize hg : Ladder.up (tops w) = g
  unfold scales
  rw [hg]
  pointwise

/-- Entry `n` of the stack is entry `n % 128` of piece `n / 128`. -/
theorem column_at (f : Fin 10 → Vec Ideal S128x128 .f32) (n : Fin 1280) (r : Fin 128) :
    column f (ix2 n r) = f (⟨n.val / 128, by omega⟩ : Fin 10) (ix2 (⟨n.val % 128, by omega⟩ : Fin 128) r) :=
  concatenate_ofFn_apply (s₁ := S128x128) (t := S1280x128) 0 f (column_fits f) rfl 128 rfl _
    (⟨n.val / 128, by omega⟩ : Fin 10) rfl (ix2 (⟨n.val % 128, by omega⟩ : Fin 128) r) rfl
    (fun b hb => by fin_cases b <;> first | exact absurd rfl hb | rfl)

/-- Cut into heads: entry `d` of head `h` is entry `160 h + d` of the stack. -/
theorem heads_at (g : FVec Ideal S1280x128 .f32) (h : Fin 8) (d : Fin 160) (r : Fin 128) :
    shapeCast S8x160x128 g shapeCasts_S1280x128_S8x160x128 (ix3 h d r)
      = g (ix2 (⟨160 * h.val + d.val, by omega⟩ : Fin 1280) r) := by
  pointwise
  congr 2; apply Fin.ext; simp only; omega

theorem stack_at (y : Vec Ideal S640x1280 .f32) (t : Fin 5) (h : Fin 8) (d : Fin 160) (r : Fin 128) :
    stack (piece y t) (ix3 h d r) = y (ix2 (⟨128 * t.val + r.val, by omega⟩ : Fin 640) (⟨160 * h.val + d.val, by omega⟩ : Fin 1280)) := by
  unfold stack
  rw [heads_at, column_at]
  unfold piece
  pointwise
  congr 2; apply Fin.ext; simp only; omega

end Cert.KernelIdeal.Tile
-- ==== Proof.Block.lean ====
/-
  What one grid point writes: its five tiles, each at its own 128 tokens of the block, are one function of the projected
  rows `y`.
-/
module

public import proofs.«01_k».proof.Proof.Gen.KernelIdeal.Value
public import proofs.«01_k».proof.Proof.Tile

public section

set_option maxRecDepth 16384

noncomputable section

namespace Cert.KernelIdeal.Block

open Cert.KernelIdeal Cert.KernelIdeal.Gen Idealize.ShloMosaic Idealize.ShloMosaic.TcCoe Idealize.ShloMosaic.Tactic

variable (m : (ℓ : Loc nD τ sig) → Buf (Elt Ideal) ℓ)

/-- The codes of a block of eight heads, as a function of its projected rows. -/
@[expose] def codes (y : Vec Ideal S640x1280 .f32) : Vec Ideal S1x8x160x640 .fp8e4m3 :=
  fun j => Spec.code (n := 160) (fun d => y (ix2 (j 3) (⟨160 * (j 1).val + d.val, by have := (j 1).isLt; have := d.isLt; change (j 1).val < 8 at *; omega⟩ : Fin 1280))) (j 2)

/-- The scales of a block of eight heads. -/
@[expose] def scales (y : Vec Ideal S640x1280 .f32) : Vec Ideal S1x8x640 .f32 :=
  fun j => Spec.scale (n := 160) (fun d => y (ix2 (j 2) (⟨160 * (j 1).val + d.val, by have := (j 1).isLt; have := d.isLt; change (j 1).val < 8 at *; omega⟩ : Fin 1280)))

/-- Loads of whole blocks. -/
theorem ld_x (X : Vec Ideal S1x640x6144 .fp8e4m3) (inb) :
    View.ld X (Rect.unit (s := S1x640x6144) ![0, 0, 0] ![1, 640, 6144] inb) = X :=
  View.ld_unit_zero (S := S1x640x6144) (by funext a; fin_cases a <;> rfl) inb X

theorem ld_w (X : Vec Ideal S6144x1280 .fp8e4m3) (inb) :
    View.ld X (Rect.unit (s := S6144x1280) ![0, 0] ![6144, 1280] inb) = X :=
  View.ld_unit_zero (S := S6144x1280) (by funext a; fin_cases a <;> rfl) inb X

theorem ld_xs (X : Vec Ideal S1x640x128 .f32) (inb) :
    View.ld X (Rect.unit (s := S1x640x128) ![0, 0, 0] ![1, 640, 128] inb) = X :=
  View.ld_unit_zero (S := S1x640x128) (by funext a; fin_cases a <;> rfl) inb X

theorem ld_ws (X : Vec Ideal S1x1280 .f32) (inb) :
    View.ld X (Rect.unit (s := S1x1280) ![0, 0] ![1, 1280] inb) = X :=
  View.ld_unit_zero (S := S1x1280) (by funext a; fin_cases a <;> rfl) inb X

/-- A load of part of what one whole store left reads the stored vector there. -/
theorem readCov_part (v : View sig .tc .vmem S640x1280 .f32) (inb) (y : Vec Ideal S640x1280 .f32) (B : LoadRect S640x1280) :
    v.readCov [(⟨Rect.unit (s := S640x1280) ![0, 0] ![640, 1280] inb, y⟩ : View.Piece (Elt Ideal) S640x1280 .f32)] B = fun j => y (B.idx j) := by
  have h0 : (![0, 0] : Fin S640x1280.rank → ℕ) = fun _ => 0 := by funext a; fin_cases a <;> rfl
  have hc := View.canon_unit_zero (Val := Elt Ideal) (e := .f32) (S := S640x1280) h0 inb y
  rw [View.readCov_eq_canon]
  · exact funext fun j => congrFun hc (B.idx j)
  · intro j
    refine ⟨_, List.mem_singleton_self _, ?_⟩
    exact View.mem_set_unit_zero (S := S640x1280) h0 inb (B.idx j)

theorem codes_inb (t : Fin 5) :
    ∀ a, (![0, 0, 0, 128 * t.val] : Fin 4 → ℕ) a + S1x8x160x128.size a ≤ S1x8x160x640.size a
  | ⟨0, _⟩ => by show 0 + 1 ≤ 1; omega
  | ⟨1, _⟩ => by show 0 + 8 ≤ 8; omega
  | ⟨2, _⟩ => by show 0 + 160 ≤ 160; omega
  | ⟨3, _⟩ => by show 128 * t.val + 128 ≤ 640; omega

theorem scales_inb (t : Fin 5) : ∀ a, (![0, 0, 128 * t.val] : Fin 3 → ℕ) a + S1x8x128.size a ≤ S1x8x640.size a
  | ⟨0, _⟩ => by show 0 + 1 ≤ 1; omega
  | ⟨1, _⟩ => by show 0 + 8 ≤ 8; omega
  | ⟨2, _⟩ => by show 128 * t.val + 128 ≤ 640; omega

/-- Tile `t`'s codes are the block's at its 128 tokens. -/
theorem codes_tile (y : Vec Ideal S640x1280 .f32) (t : Fin 5) (x : S1x8x160x128.Idx) :
    Tile.codes (Tile.stack (Tile.piece y t)) x
      = codes y ((Rect.unit (s := S1x8x160x640) ![0, 0, 0, 128 * t.val] S1x8x160x128.size (codes_inb t)).emb x) := by
  idx_vars x
  have e : (Rect.unit (s := S1x8x160x640) ![0, 0, 0, 128 * t.val] S1x8x160x128.size (codes_inb t)).emb (ix4 x0 x1 x2 x3)
      = ix4 x0 x1 x2 (⟨128 * t.val + x3.val, by omega⟩ : Fin 640) := by
    funext a; apply Fin.ext
    match a with
    | ⟨0, _⟩ => show 0 + 1 * x0.val = x0.val; omega
    | ⟨1, _⟩ => show 0 + 1 * x1.val = x1.val; omega
    | ⟨2, _⟩ => show 0 + 1 * x2.val = x2.val; omega
    | ⟨3, _⟩ => show 128 * t.val + 1 * x3.val = 128 * t.val + x3.val; omega
  rw [Tile.codes_at, e]
  unfold codes
  exact congrArg (fun f => Spec.code f x2) (funext fun d => Tile.stack_at y t x1 d x3)

/-- Tile `t`'s scales are the block's at its 128 tokens. -/
theorem scales_tile (y : Vec Ideal S640x1280 .f32) (t : Fin 5) (x : S1x8x128.Idx) :
    Tile.scales (Tile.stack (Tile.piece y t)) x
      = scales y ((Rect.unit (s := S1x8x640) ![0, 0, 128 * t.val] S1x8x128.size (scales_inb t)).emb x) := by
  idx_vars x
  have e : (Rect.unit (s := S1x8x640) ![0, 0, 128 * t.val] S1x8x128.size (scales_inb t)).emb (ix3 x0 x1 x2)
      = ix3 x0 x1 (⟨128 * t.val + x2.val, by omega⟩ : Fin 640) := by
    funext a; apply Fin.ext
    match a with
    | ⟨0, _⟩ => show 0 + 1 * x0.val = x0.val; omega
    | ⟨1, _⟩ => show 0 + 1 * x1.val = x1.val; omega
    | ⟨2, _⟩ => show 128 * t.val + 1 * x2.val = 128 * t.val + x2.val; omega
  rw [Tile.scales_at, e]
  unfold scales
  exact congrArg Spec.scale (funext fun d => Tile.stack_at y t x1 d x2)

/-- The projected rows of a grid point, from its four input blocks. -/
@[expose] def rows (c : Dev nD) (t : Fin cfg0.N) : Vec Ideal S640x1280 .f32 :=
  k0_pay3 (iblk m c 0 t) (iblk m c 2 t) (iblk m c 1 t) (iblk m c 3 t)

set_option maxHeartbeats 4000000 in
/-- What a point leaves in the scales' block. -/
theorem out5 (c : Dev nD) (t : Fin cfg0.N) :
    (outsAt0 m c t).2 = scales (rows m c t) := by
  unfold outsAt0 out0_A_5
  dsimp only
  rw [View.read_writes_eq_canon _ _ _ (cover0_A_5 _ _ _ _ _ _ _ _ _ _ _ _ _ _ _ _ _ _ _ _)]
  funext j
  refine View.canon_apply_of_pieces (scales (rows m c t)) _ ?_ j (cover0_A_5 _ _ _ _ _ _ _ _ _ _ _ _ _ _ _ _ _ _ _ _ j)
  unfold kernelRun0_A
  dsimp only
  sl_unfold_words
  simp only [View.readAt_eq_ld, (hs0_0 t).read_unread, (hs0_1 t).read_unread, (hs0_2 t).read_unread, (hs0_3 t).read_unread]
  simp only [ld_x, ld_w, ld_xs, ld_ws]
  simp only [readCov_part]
  rw [← rows]
  generalize rows m c t = y
  intro pc hpc
  rcases List.mem_cons.mp hpc with rfl | hpc
  · exact fun x => scales_tile y 4 x
  rcases List.mem_cons.mp hpc with rfl | hpc
  · exact fun x => scales_tile y 3 x
  rcases List.mem_cons.mp hpc with rfl | hpc
  · exact fun x => scales_tile y 2 x
  rcases List.mem_cons.mp hpc with rfl | hpc
  · exact fun x => scales_tile y 1 x
  rcases List.mem_cons.mp hpc with rfl | hpc
  · exact fun x => scales_tile y 0 x
  nomatch hpc

set_option maxHeartbeats 4000000 in
/-- What a point leaves in the codes' block. -/
theorem out4 (c : Dev nD) (t : Fin cfg0.N) :
    (outsAt0 m c t).1 = codes (rows m c t) := by
  unfold outsAt0 out0_A_4
  dsimp only
  rw [View.read_writes_eq_canon _ _ _ (cover0_A_4 _ _ _ _ _ _ _ _ _ _ _ _ _ _ _ _ _ _ _ _)]
  funext j
  refine View.canon_apply_of_pieces (codes (rows m c t)) _ ?_ j (cover0_A_4 _ _ _ _ _ _ _ _ _ _ _ _ _ _ _ _ _ _ _ _ j)
  unfold kernelRun0_A
  dsimp only
  sl_unfold_words
  simp only [View.readAt_eq_ld, (hs0_0 t).read_unread, (hs0_1 t).read_unread, (hs0_2 t).read_unread, (hs0_3 t).read_unread]
  simp only [ld_x, ld_w, ld_xs, ld_ws]
  simp only [readCov_part]
  rw [← rows]
  generalize rows m c t = y
  intro pc hpc
  rcases List.mem_cons.mp hpc with rfl | hpc
  · exact fun x => codes_tile y 4 x
  rcases List.mem_cons.mp hpc with rfl | hpc
  · exact fun x => codes_tile y 3 x
  rcases List.mem_cons.mp hpc with rfl | hpc
  · exact fun x => codes_tile y 2 x
  rcases List.mem_cons.mp hpc with rfl | hpc
  · exact fun x => codes_tile y 1 x
  rcases List.mem_cons.mp hpc with rfl | hpc
  · exact fun x => codes_tile y 0 x
  nomatch hpc

end Cert.KernelIdeal.Block
-- ==== Proof.Arr.lean ====
/-
  The two arrays the call returns: every block is the specification's.
-/
module

public import proofs.«01_k».proof.Proof.Block
public import Idealize.ShloMosaic.Lib.Pipeline.ValueKit

public section

set_option maxRecDepth 16384

noncomputable section

namespace Cert.KernelIdeal.Arr

open Cert.KernelIdeal Cert.KernelIdeal.Gen Idealize.ShloMosaic Idealize.ShloMosaic.TcCoe Idealize.ShloMosaic.Tactic

variable (m : (ℓ : Loc nD τ sig) → Buf (Elt Ideal) ℓ)

/-- The codes as the specification has them, of the call's arguments. -/
@[expose] def G4 (c : Dev nD) : S3x48x160x640.Idx → EReal :=
  Spec.qCodes (m ((c : Thread nD τ).loc main_arg0)) (m ((c : Thread nD τ).loc main_arg1)) (m ((c : Thread nD τ).loc main_arg2)) (m ((c : Thread nD τ).loc main_arg3))

/-- The scales. -/
@[expose] def G5 (c : Dev nD) : S3x48x640.Idx → EReal :=
  Spec.qScale (m ((c : Thread nD τ).loc main_arg0)) (m ((c : Thread nD τ).loc main_arg1)) (m ((c : Thread nD τ).loc main_arg2)) (m ((c : Thread nD τ).loc main_arg3))

/-- Where the windows stand at a grid point. -/
theorem idx : ∀ t : Fin cfg0.N, ∃ j : Fin 6, ∃ b : Fin 3,
    win0_0.index t = ![b.val, 0, 0] ∧ win0_1.index t = ![b.val, 0, 0] ∧ win0_2.index t = ![0, j.val] ∧ win0_3.index t = ![0, j.val]
    ∧ win0_4.index t = ![b.val, j.val, 0, 0] ∧ win0_5.index t = ![b.val, j.val, 0] :=
  (by decide +kernel : ∀ t : Fin grid0.N, ∃ j : Fin 6, ∃ b : Fin 3,
    win0_0.index t = ![b.val, 0, 0] ∧ win0_1.index t = ![b.val, 0, 0] ∧ win0_2.index t = ![0, j.val] ∧ win0_3.index t = ![0, j.val]
    ∧ win0_4.index t = ![b.val, j.val, 0, 0] ∧ win0_5.index t = ![b.val, j.val, 0])

/-- The projected rows at a grid point are the specification's entries. -/
theorem rows_at (c : Dev nD) (t : Fin cfg0.N) (j : Fin 6) (b : Fin 3)
    (h0 : win0_0.index t = ![b.val, 0, 0]) (h1 : win0_1.index t = ![b.val, 0, 0]) (h2 : win0_2.index t = ![0, j.val])
    (h3 : win0_3.index t = ![0, j.val]) (r : Fin 640) (n : Fin 1280) :
    Block.rows m c t (ix2 r n)
      = Spec.proj (m ((c : Thread nD τ).loc main_arg0)) (m ((c : Thread nD τ).loc main_arg1)) (m ((c : Thread nD τ).loc main_arg2)) (m ((c : Thread nD τ).loc main_arg3))
        b r ⟨1280 * j.val + n.val, by omega⟩ := by
  unfold Block.rows Spec.proj
  pointwise [k0_pay3]
  blk_point [iblk, V, h0, h1, h2, h3]

/-- A head's vector at a grid point is the specification's: head `h` of block `j` is head `8 j + h`. -/
theorem head_at (c : Dev nD) (t : Fin cfg0.N) (j : Fin 6) (b : Fin 3)
    (h0 : win0_0.index t = ![b.val, 0, 0]) (h1 : win0_1.index t = ![b.val, 0, 0]) (h2 : win0_2.index t = ![0, j.val])
    (h3 : win0_3.index t = ![0, j.val]) (r : Fin 640) (h : Fin 8) (d : Fin 160) :
    Block.rows m c t (ix2 r (⟨160 * h.val + d.val, by omega⟩ : Fin 1280))
      = Spec.proj (m ((c : Thread nD τ).loc main_arg0)) (m ((c : Thread nD τ).loc main_arg1)) (m ((c : Thread nD τ).loc main_arg2)) (m ((c : Thread nD τ).loc main_arg3))
        b r (Spec.col ⟨8 * j.val + h.val, by omega⟩ d) := by
  rw [rows_at m c t j b h0 h1 h2 h3]
  congr 1
  apply Fin.ext
  show 1280 * j.val + (160 * h.val + d.val) = 160 * (8 * j.val + h.val) + d.val
  omega

/-- The codes' array. -/
theorem arr4 (c : Dev nD) : (dats m 0 c).arrAt 4 cfg0.N = G4 m c := by
  refine (dats m 0 c).arrAt_eq_of_covers 4 _ (by decide +kernel) fun t hf y => ?_
  blk_simp
  rw [after0_4, Block.out4]
  obtain ⟨j, b, h0, h1, h2, h3, h4, -⟩ := idx t
  change S1x8x160x640.Idx at y
  idx_vars y
  have e : (win0_4.blk t).view.emb (ix4 y0 y1 y2 y3) = ix4 b (⟨8 * j.val + y1.val, by omega⟩ : Fin 48) y2 y3 := by
    blk_ext [h4]
  rw [e]
  show Spec.code (fun d => Block.rows m c t (ix2 y3 (⟨160 * y1.val + d.val, by omega⟩ : Fin 1280))) y2
    = Spec.code (fun d => Spec.proj _ _ _ _ b y3 (Spec.col (⟨8 * j.val + y1.val, by omega⟩ : Fin 48) d)) y2
  exact congrArg (fun f => Spec.code f y2) (funext fun d => head_at m c t j b h0 h1 h2 h3 y3 y1 d)

/-- The scales' array. -/
theorem arr5 (c : Dev nD) : (dats m 0 c).arrAt 5 cfg0.N = G5 m c := by
  refine (dats m 0 c).arrAt_eq_of_covers 5 _ (by decide +kernel) fun t hf y => ?_
  blk_simp
  rw [after0_5, Block.out5]
  obtain ⟨j, b, h0, h1, h2, h3, -, h5⟩ := idx t
  change S1x8x640.Idx at y
  idx_vars y
  have e : (win0_5.blk t).view.emb (ix3 y0 y1 y2) = ix3 b (⟨8 * j.val + y1.val, by omega⟩ : Fin 48) y2 := by
    blk_ext [h5]
  rw [e]
  show Spec.scale (fun d => Block.rows m c t (ix2 y2 (⟨160 * y1.val + d.val, by omega⟩ : Fin 1280)))
    = Spec.scale (fun d => Spec.proj _ _ _ _ b y2 (Spec.col (⟨8 * j.val + y1.val, by omega⟩ : Fin 48) d))
  exact congrArg (fun f => Spec.scale f) (funext fun d => head_at m c t j b h0 h1 h2 h3 y2 y1 d)

end Cert.KernelIdeal.Arr
-- ==== Proof.RefRows.lean ====
/-
  What the reference's body computes at an index, of the blocks it loads: the projected entry, the exponent of a
  head's scale, and with them the codes and the scales of the specification.
-/
module

public import proofs.«01_k».proof.Proof.Spec
public import proofs.«01_k».proof.Proof.Gen.ReferenceIdeal.Value
public import Idealize.ShloMosaic.Lib.Pipeline.ValueKit

public section

set_option maxRecDepth 16384

noncomputable section

namespace Cert.ReferenceIdeal.Rows

open Cert.ReferenceIdeal Cert.ReferenceIdeal.Gen Idealize.ShloMosaic Idealize.ShloMosaic.TcCoe Idealize.ShloMosaic.Tactic

/-- Reading the flat product by token and head: row `640 b + r`, column `160 h + d`. -/
theorem heads_at (v : FVec Ideal S1920x7680 .f32) (b : Fin 3) (r : Fin 640) (h : Fin 48) (d : Fin 160) :
    shapeCast S3x640x48x160 v shapeCasts_S1920x7680_S3x640x48x160 (ix4 b r h d)
      = v (ix2 (⟨b.val * 640 + r.val, by omega⟩ : Fin 1920) (⟨h.val * 160 + d.val, by omega⟩ : Fin 7680)) := by
  pointwise

/-- The largest magnitude of a head's vector. -/
theorem amax_at (v : FVec Ideal S3x640x48x160 .f32) (b : Fin 3) (r : Fin 640) (h : Fin 48) :
    multiReduction .maximumf [3] S3x640x48 (absf v) 0xFF800000#32 reduces_S3x640x48x160_S3x640x48 (.inl rfl) rfl (ix3 b r h)
      = Finset.fold max (Ideal.ofBits .f32 0xFF800000#32) (fun d => max (v (ix4 b r h d)) (-(v (ix4 b r h d)))) Finset.univ := by
  pointwise
  rfl

/-- The same maxima with the reduced axis kept. -/
theorem keep_at (v : FVec Ideal S3x640x48 .f32) (b : Fin 3) (r : Fin 640) (h : Fin 48) :
    shapeCast S3x640x48x1 v shapeCasts_S3x640x48_S3x640x48x1 (ix4 b r h 0) = v (ix3 b r h) := by
  pointwise

variable (v0 : Vec Ideal S1920x6144 .fp8e4m3) (v2 : Vec Ideal S6144x7680 .fp8e4m3) (v4 : Vec Ideal S1920x1 .f32)
  (v8 : Vec Ideal S1x7680 .f32)

/-- An entry of the projection. -/
theorem proj_at (b : Fin 3) (r : Fin 640) (h : Fin 48) (d : Fin 160) :
    k0_pay3 v0 v2 v4 v8 (ix4 b r h d)
      = (∑ k : Fin 6144, (v0 (ix2 (⟨b.val * 640 + r.val, by omega⟩ : Fin 1920) k) : EReal) * v2 (ix2 k (⟨h.val * 160 + d.val, by omega⟩ : Fin 7680)))
        * v4 (ix2 (⟨b.val * 640 + r.val, by omega⟩ : Fin 1920) 0) * v8 (ix2 0 (⟨h.val * 160 + d.val, by omega⟩ : Fin 7680)) := by
  unfold k0_pay3
  rw [heads_at]
  pointwise

/-- The exponents, of the reduced maxima as a vector. -/
def expos (s : FVec Ideal S3x640x48x1 .f32) : FVec Ideal S3x640x48x1 .f32 :=
  select (andi (cmpf .oge s (broadcast S3x640x48x1 (Scalar.ofBits .f32 0x00800000#32))) (cmpf .olt s (broadcast S3x640x48x1 (Scalar.ofBits .f32 0x7E800000#32))))
    (addf (floor (divf (log s) (broadcast S3x640x48x1 (Scalar.log (Scalar.ofBits .f32 0x40000000#32))))) (broadcast S3x640x48x1 (Scalar.ofBits .f32 0x3F800000#32)))
    (broadcast S3x640x48x1 (Scalar.ofBits .f32 0x00000000#32))

/-- They are the specification's, entry by entry. -/
theorem expos_at (s : FVec Ideal S3x640x48x1 .f32) (j : S3x640x48x1.Idx) : expos s j = Scale.refExpo (s j) := by
  rfl

/-- The body's exponents are these. -/
theorem pay4_eq : k0_pay4 v0 v2 v4 v8 = expos (mulf (shapeCast S3x640x48x1 (multiReduction .maximumf [3] S3x640x48 (absf (k0_pay3 v0 v2 v4 v8)) 0xFF800000#32 reduces_S3x640x48x160_S3x640x48 (.inl rfl) rfl) shapeCasts_S3x640x48_S3x640x48x1) (broadcast S3x640x48x1 (Scalar.ofBits .f32 0x3B124925#32))) := by
  unfold k0_pay4 expos
  with_reducible rfl

/-- A product with a constant, entry by entry. -/
theorem times_at (z : FVec Ideal S3x640x48x1 .f32) (w : BitVec 32) (j : S3x640x48x1.Idx) :
    mulf z (broadcast S3x640x48x1 (Scalar.ofBits .f32 w)) j = (z j * Ideal.ofBits .f32 w : EReal) := by
  rfl

/-- The exponent of a head's scale. -/
theorem expo_at (b : Fin 3) (r : Fin 640) (h : Fin 48) :
    k0_pay4 v0 v2 v4 v8 (ix4 b r h 0) = Scale.refExpo (Spec.top fun d => k0_pay3 v0 v2 v4 v8 (ix4 b r h d)) := by
  rw [pay4_eq, expos_at, times_at, keep_at, amax_at]
  unfold Spec.top
  with_reducible rfl

/-- Where the result's entry `(b, h, d, r)` reads the product. -/
theorem ix4_0_at (b : Fin 3) (h : Fin 48) (d : Fin 160) (r : Fin 640) : Value.ix4_0 (ix4 b h d r) = ix4 b r h d := by
  funext a; fin_cases a <;> rfl

/-- Where it reads the exponents. -/
theorem ix4_1_at (b : Fin 3) (h : Fin 48) (d : Fin 160) (r : Fin 640) : Value.ix4_1 (ix4 b h d r) = ix4 b r h 0 := by
  funext a; fin_cases a <;> rfl

/-- Where the scale `(b, h, r)` reads the exponents. -/
theorem ix5_0_at (b : Fin 3) (h : Fin 48) (r : Fin 640) : Value.ix5_0 (ix3 b h r) = ix4 b r h 0 := by
  funext a; fin_cases a <;> rfl

/-- A head's code. -/
theorem code_at (b : Fin 3) (h : Fin 48) (d : Fin 160) (r : Fin 640) :
    (View.canon [⟨r0_4, k0_pay1 (k0_pay6 v0 v2 v4 v8)⟩] : Vec Ideal S3x48x160x640 .fp8e4m3) (ix4 b h d r) = Spec.code (fun d => k0_pay3 v0 v2 v4 v8 (ix4 b r h d)) d := by
  have k := expo_at v0 v2 v4 v8 b r h
  refine (Value.canon4_eq v0 v2 v4 v8 (ix4 b h d r)).trans ?_
  unfold Value.E4 Spec.code
  rw [← k, ix4_0_at, ix4_1_at]
  generalize k0_pay4 v0 v2 v4 v8 = e
  generalize k0_pay3 v0 v2 v4 v8 = y
  rfl

/-- A head's scale. -/
theorem scale_at (b : Fin 3) (h : Fin 48) (r : Fin 640) :
    (View.canon [⟨r0_5, k0_pay2 (k0_pay5 v0 v2 v4 v8)⟩] : Vec Ideal S3x48x640 .f32) (ix3 b h r) = Spec.scale (fun d => k0_pay3 v0 v2 v4 v8 (ix4 b r h d)) := by
  have k := expo_at v0 v2 v4 v8 b r h
  refine (Value.canon5_eq v0 v2 v4 v8 (ix3 b h r)).trans ?_
  unfold Value.E5 Spec.scale
  rw [← k, ix5_0_at]
  generalize k0_pay4 v0 v2 v4 v8 = e
  rfl

end Cert.ReferenceIdeal.Rows
-- ==== Proof.RefArr.lean ====
/-
  The two arrays the reference returns are the specification's.
-/
module

public import proofs.«01_k».proof.Proof.RefRows

public section

set_option maxRecDepth 16384

noncomputable section

namespace Cert.ReferenceIdeal.Arr

open Cert.ReferenceIdeal Cert.ReferenceIdeal.Gen Idealize.ShloMosaic Idealize.ShloMosaic.TcCoe Idealize.ShloMosaic.Tactic

variable (m : (ℓ : Loc nD τ sig) → Buf (Elt Ideal) ℓ)

/-- The codes as the specification has them, of the arguments. -/
@[expose] def G4 (c : Dev nD) : S3x48x160x640.Idx → EReal :=
  Spec.qCodes (m ((c : Thread nD τ).loc main_arg0)) (m ((c : Thread nD τ).loc main_arg1)) (m ((c : Thread nD τ).loc main_arg2)) (m ((c : Thread nD τ).loc main_arg3))

/-- The scales. -/
@[expose] def G5 (c : Dev nD) : S3x48x640.Idx → EReal :=
  Spec.qScale (m ((c : Thread nD τ).loc main_arg0)) (m ((c : Thread nD τ).loc main_arg1)) (m ((c : Thread nD τ).loc main_arg2)) (m ((c : Thread nD τ).loc main_arg3))

/-- The only point's windows stand at the origin. -/
theorem idx : ∀ t : Fin cfg0.N, win0_0.index t = ![0, 0] ∧ win0_1.index t = ![0, 0] ∧ win0_2.index t = ![0, 0] ∧ win0_3.index t = ![0, 0]
    ∧ win0_4.index t = ![0, 0, 0, 0] ∧ win0_5.index t = ![0, 0, 0] :=
  (by decide +kernel : ∀ t : Fin grid0.N, win0_0.index t = ![0, 0] ∧ win0_1.index t = ![0, 0] ∧ win0_2.index t = ![0, 0] ∧ win0_3.index t = ![0, 0]
    ∧ win0_4.index t = ![0, 0, 0, 0] ∧ win0_5.index t = ![0, 0, 0])

/-- The body loads the tokens' codes whole. -/
theorem whole_x (x : S1920x6144.Idx) : r0_0.idx x = x := by
  funext a
  apply Fin.ext
  fin_cases a
  · show 0 + 1 * (x 0).val = (x 0).val; omega
  · show 0 + 1 * (x 1).val = (x 1).val; omega

/-- And their scales. -/
theorem whole_xs (x : S1920x1.Idx) : r0_2.idx x = x := by
  funext a
  apply Fin.ext
  fin_cases a
  · show 0 + 1 * (x 0).val = (x 0).val; omega
  · show 0 + 1 * (x 1).val = (x 1).val; omega

/-- An entry of the projection is the specification's. -/
theorem proj_at (c : Dev nD) (t : Fin cfg0.N) (b : Fin 3) (r : Fin 640) (h : Fin 48) (d : Fin 160) :
    k0_pay3 (View.ld (iblk m c 0 t) r0_0) (View.ld (iblk m c 2 t) r0_1) (View.ld (iblk m c 1 t) r0_2) (View.ld (iblk m c 3 t) r0_3) (ix4 b r h d)
      = Spec.proj (m ((c : Thread nD τ).loc main_arg0)) (m ((c : Thread nD τ).loc main_arg1)) (m ((c : Thread nD τ).loc main_arg2)) (m ((c : Thread nD τ).loc main_arg3))
        b r (Spec.col h d) := by
  obtain ⟨h0, h1, h2, h3, -, -⟩ := idx t
  rw [Rows.proj_at]
  unfold Spec.proj Spec.col
  blk_point [iblk, V, h0, h1, h2, h3]
  · show V m c main_v0 ((win0_0.blk t).view.emb (r0_0.idx (ix2 (⟨b.val * 640 + r.val, by omega⟩ : Fin 1920) k))) = _
    rw [whole_x]
    have e : (win0_0.blk t).view.emb ((ix2 (⟨b.val * 640 + r.val, by omega⟩ : Fin 1920) k)) = ix2 (⟨b.val * 640 + r.val, by omega⟩ : Fin 1920) k := by
      blk_ext [h0]
    rw [e]
    entry_read
    pointwise
    blk_ext
  · show V m c main_v2 ((win0_1.blk t).view.emb (r0_2.idx (ix2 (⟨b.val * 640 + r.val, by omega⟩ : Fin 1920) 0))) = _
    rw [whole_xs]
    have e : (win0_1.blk t).view.emb ((ix2 (⟨b.val * 640 + r.val, by omega⟩ : Fin 1920) 0)) = ix2 (⟨b.val * 640 + r.val, by omega⟩ : Fin 1920) 0 := by
      blk_ext [h1]
    rw [e]
    entry_read
    pointwise
    blk_ext

/-- The codes' array. -/
theorem arr4 (c : Dev nD) : (dats m 0 c).arrAt 4 cfg0.N = G4 m c := by
  refine (dats m 0 c).arrAt_eq_of_covers 4 _ (by decide +kernel) fun t hf y => ?_
  blk_simp
  rw [after0_4]
  obtain ⟨-, -, -, -, h4, -⟩ := idx t
  change S3x48x160x640.Idx at y
  idx_vars y
  have e : (win0_4.blk t).view.emb (ix4 y0 y1 y2 y3) = ix4 y0 y1 y2 y3 := by
    blk_ext [h4]
  rw [e]
  refine (Rows.code_at _ _ _ _ y0 y1 y2 y3).trans ?_
  exact congrArg (fun f => Spec.code f y2) (funext fun d => proj_at m c t y0 y3 y1 d)

/-- The scales' array. -/
theorem arr5 (c : Dev nD) : (dats m 0 c).arrAt 5 cfg0.N = G5 m c := by
  refine (dats m 0 c).arrAt_eq_of_covers 5 _ (by decide +kernel) fun t hf y => ?_
  blk_simp
  rw [after0_5]
  obtain ⟨-, -, -, -, -, h5⟩ := idx t
  change S3x48x640.Idx at y
  idx_vars y
  have e : (win0_5.blk t).view.emb (ix3 y0 y1 y2) = ix3 y0 y1 y2 := by
    blk_ext [h5]
  rw [e]
  refine (Rows.scale_at _ _ _ _ y0 y1 y2).trans ?_
  exact congrArg (fun f => Spec.scale f) (funext fun d => proj_at m c t y0 y2 y1 d)

end Cert.ReferenceIdeal.Arr
-- ==== Proof.NormBlock.lean ====
/-
  What the normalisation leaves in its three blocks, of the tokens and the gains it loads: the codes, the scales and the
  scales again in every lane.
-/
module

public import proofs.«01_k».proof.Proof.Spec
public import proofs.«01_k».proof.Proof.Ladder
public import proofs.«01_k».proof.Proof.Gen.NormIdeal.Frame
public import Idealize.ShloMosaic.Lib.Pipeline.ValueKit

public section

set_option maxRecDepth 16384

noncomputable section

namespace Cert.NormIdeal.Block

open Cert.NormIdeal Cert.NormIdeal.Gen Idealize.ShloMosaic Idealize.ShloMosaic.TcCoe Idealize.ShloMosaic.Tactic

/-- The sum of squares of a row. -/
theorem squares_at (v : FVec Ideal S128x6144 .f32) (r : Fin 128) :
    multiReduction .add [1] S128 (mulf v v) 0x00000000#32 reduces_S128x6144_S128 (.inl rfl) rfl (ix1 r)
      = ∑ k : Fin 6144, v (ix2 r k) * v (ix2 r k) := by
  pointwise

/-- The largest magnitude of a row. -/
theorem amax_at (v : FVec Ideal S128x6144 .f32) (r : Fin 128) :
    multiReduction .maximumf [1] S128 (absf v) 0xFF800000#32 reduces_S128x6144_S128 (.inl rfl) rfl (ix1 r)
      = Finset.fold max (Ideal.ofBits .f32 0xFF800000#32) (fun d => max (v (ix2 r d)) (-(v (ix2 r d)))) Finset.univ := by
  pointwise
  rfl

/-- A column of row values. -/
theorem keep_at (v : FVec Ideal S128 .f32) (r : Fin 128) :
    shapeCast S128x1 v shapeCasts_S128_S128x1 (ix2 r 0) = v (ix1 r) := by
  pointwise

/-- A column over all lanes. -/
theorem lanes_at (v : FVec Ideal S128x1 .f32) (r l : Fin 128) :
    broadcastTo S128x128 (shapeCast S128x1 v shapeCasts_S128x1_S128x1) broadcasts_S128x1_S128x128 (ix2 r l) = v (ix2 r 0) := by
  pointwise

/-- A column over all entries of the rows. -/
theorem wide_at (v : FVec Ideal S128x1 .f32) (r : Fin 128) (d : Fin 6144) :
    broadcastTo S128x6144 v broadcasts_S128x1_S128x6144 (ix2 r d) = v (ix2 r 0) := by
  pointwise

/-- The gains over all rows. -/
theorem gain_at (v : FVec Ideal S1x6144 .f32) (r : Fin 128) (d : Fin 6144) :
    broadcastTo S128x6144 (shapeCast S1x6144 v shapeCasts_S1x6144_S1x6144) broadcasts_S1x6144_S128x6144 (ix2 r d) = v (ix2 0 d) := by
  pointwise

variable (x : Vec Ideal S128x6144 .bf16) (g : Vec Ideal S1x6144 .f32)

/-- A normalised entry. -/
theorem norm_at (r : Fin 128) (d : Fin 6144) :
    k0_pay5 x g (ix2 r d) = Spec.norm (fun k => x (ix2 r k)) (fun k => g (ix2 0 k)) d := by
  unfold k0_pay5 Spec.norm
  pointwise

/-- The largest magnitude of a token over 448, in every lane. -/
theorem top_at (r l : Fin 128) : k0_pay6 x g (ix2 r l) = Spec.top fun d => k0_pay5 x g (ix2 r d) := by
  unfold k0_pay6
  generalize k0_pay5 x g = y
  show broadcastTo S128x128 _ _ (ix2 r l) * Ideal.ofBits .f32 0x3B124925#32 = _
  rw [lanes_at, keep_at, amax_at]
  unfold Spec.top
  with_reducible rfl

/-- The exponents are the search's. -/
theorem expos_eq : k0_pay1 (k0_pay17 x g) (k0_pay18 x g) (k0_pay19 x g) = Ladder.expo (k0_pay13 x g) := by
  unfold k0_pay17 k0_pay18 k0_pay19 k0_pay14 k0_pay15 k0_pay16 k0_pay13
  unfold k0_pay12 k0_pay11 k0_pay10 k0_pay9 k0_pay8 k0_pay7
  generalize k0_pay6 (View.ld x r0_0) (View.ld g r0_1) = s
  unfold k0_pay1 Ladder.expo Ladder.field Ladder.climb Ladder.rung
  with_reducible rfl

/-- The scales in every lane. -/
theorem ups_eq : k0_pay2 (F := Ideal) (k0_pay17 x g) (k0_pay18 x g) (k0_pay19 x g) = Ladder.up (k0_pay13 x g) := by
  unfold k0_pay2 Ladder.up
  rw [expos_eq]

/-- The tokens are loaded whole. -/
theorem whole_x (y : S128x6144.Idx) : r0_0.idx y = y := by
  funext a
  apply Fin.ext
  fin_cases a
  · show 0 + 1 * (y 0).val = (y 0).val; omega
  · show 0 + 1 * (y 1).val = (y 1).val; omega

/-- So are the gains. -/
theorem whole_g (y : S1x6144.Idx) : r0_1.idx y = y := by
  funext a
  apply Fin.ext
  fin_cases a
  · show 0 + 1 * (y 0).val = (y 0).val; omega
  · show 0 + 1 * (y 1).val = (y 1).val; omega

/-- The scales are stored whole. -/
theorem whole_lanes (y : S128x128.Idx) : r0_2.idx y = y := by
  funext a
  apply Fin.ext
  fin_cases a
  · show 0 + 1 * (y 0).val = (y 0).val; omega
  · show 0 + 1 * (y 1).val = (y 1).val; omega

/-- And once more as a row. -/
theorem whole_row (y : S1x1x128.Idx) : r0_3.idx y = y := by
  funext a
  apply Fin.ext
  fin_cases a
  · show 0 + 1 * (y 0).val = (y 0).val; omega
  · show 0 + 1 * (y 1).val = (y 1).val; omega
  · show 0 + 1 * (y 2).val = (y 2).val; omega

theorem ld_x : View.ld x r0_0 = x := funext fun y => congrArg x (whole_x y)

theorem ld_g : View.ld g r0_1 = g := funext fun y => congrArg g (whole_g y)

/-- The codes' block is what is stored. -/
theorem canon_2 (p : Vec Ideal S128x6144 .fp8e4m3) (y : S128x6144.Idx) : (View.canon [⟨r0_0, p⟩] : Vec Ideal S128x6144 .fp8e4m3) y = p y := by
  refine View.canon_apply_of_pieces p _ ?_ y (cover0_2 p y)
  intro pc hpc
  rcases List.mem_cons.mp hpc with rfl | hpc
  · exact fun y => congrArg p (whole_x y).symm
  nomatch hpc

/-- So is the rows' block. -/
theorem canon_3 (p : Vec Ideal S1x1x128 .f32) (y : S1x1x128.Idx) : (View.canon [⟨r0_3, p⟩] : Vec Ideal S1x1x128 .f32) y = p y := by
  refine View.canon_apply_of_pieces p _ ?_ y (cover0_3 p y)
  intro pc hpc
  rcases List.mem_cons.mp hpc with rfl | hpc
  · exact fun y => congrArg p (whole_row y).symm
  nomatch hpc

/-- And the lanes' block. -/
theorem canon_4 (p : Vec Ideal S128x128 .f32) (y : S128x128.Idx) : (View.canon [⟨r0_2, p⟩] : Vec Ideal S128x128 .f32) y = p y := by
  refine View.canon_apply_of_pieces p _ ?_ y (cover0_4 p y)
  intro pc hpc
  rcases List.mem_cons.mp hpc with rfl | hpc
  · exact fun y => congrArg p (whole_lanes y).symm
  nomatch hpc

/-- The largest magnitude of token `r`, over 448, in every lane. -/
theorem tops_at (r l : Fin 128) :
    k0_pay13 x g (ix2 r l) = Spec.top (Spec.norm (fun k => x (ix2 r k)) fun k => g (ix2 0 k)) := by
  unfold k0_pay13
  rw [ld_x, ld_g, top_at]
  exact congrArg (fun f => Spec.top f) (funext fun d => norm_at x g r d)

/-- The codes. -/
theorem codes_at (r : Fin 128) (d : Fin 6144) :
    out0_2 x g (ix2 r d) = Spec.code (Spec.norm (fun k => x (ix2 r k)) fun k => g (ix2 0 k)) d := by
  unfold out0_2
  refine (canon_2 _ _).trans ?_
  rw [ld_x, ld_g]
  unfold k0_pay3
  rw [expos_eq]
  have e : ∀ s : FVec Ideal S128x128 .f32, bitcastToFloat .f32 (shli (subi (broadcast S128x128 127#32) (Ladder.expo s)) (broadcast S128x128 23#32)) = Ladder.down s := fun s => rfl
  rw [e]
  unfold Spec.code
  rw [← tops_at x g r 0, ← Ladder.down_at, ← norm_at]
  generalize Ladder.down (k0_pay13 x g) = dn
  generalize k0_pay5 x g = y
  pointwise

/-- The scales in every lane. -/
theorem lanes (r l : Fin 128) :
    out0_4 x g (ix2 r l) = Spec.scale (Spec.norm (fun k => x (ix2 r k)) fun k => g (ix2 0 k)) := by
  unfold out0_4
  refine (canon_4 _ _).trans ?_
  rw [ups_eq, Ladder.up_at, tops_at]
  rfl

/-- The scales as a row. -/
theorem row (r : Fin 128) :
    out0_3 x g (ix3 0 0 r) = Spec.scale (Spec.norm (fun k => x (ix2 r k)) fun k => g (ix2 0 k)) := by
  unfold out0_3
  refine (canon_3 _ _).trans ?_
  unfold k0_pay4 Spec.scale
  rw [ups_eq, ← tops_at x g r 0, ← Ladder.up_at]
  generalize Ladder.up (k0_pay13 x g) = u
  pointwise

end Cert.NormIdeal.Block
-- ==== Proof.NormArr.lean ====
/-
  The three arrays the normalisation returns: every block is the specification's.
-/
module

public import proofs.«01_k».proof.Proof.NormBlock

public section

set_option maxRecDepth 16384

noncomputable section

namespace Cert.NormIdeal.Arr

open Cert.NormIdeal Cert.NormIdeal.Gen Idealize.ShloMosaic Idealize.ShloMosaic.TcCoe Idealize.ShloMosaic.Tactic Idealize.SL.Sem

variable (m : (ℓ : Loc nD τ sig) → Buf (Elt Ideal) ℓ)

/-- The codes as the specification has them, of the call's arguments. -/
@[expose] def G2 (c : Dev nD) : S1920x6144.Idx → EReal :=
  Spec.xCodes (m ((c : Thread nD τ).loc main_arg0)) (m ((c : Thread nD τ).loc main_arg1))

/-- The scales as rows. -/
@[expose] def G3 (c : Dev nD) : S15x1x128.Idx → EReal :=
  Spec.xScale (m ((c : Thread nD τ).loc main_arg0)) (m ((c : Thread nD τ).loc main_arg1))

/-- The scales in every lane. -/
@[expose] def G4 (c : Dev nD) : S1920x128.Idx → EReal :=
  Spec.xLanes (m ((c : Thread nD τ).loc main_arg0)) (m ((c : Thread nD τ).loc main_arg1))

/-- Where the windows stand at a grid point. -/
theorem idx : ∀ t : Fin cfg0.N, ∃ b : Fin 15,
    win0_0.index t = ![b.val, 0] ∧ win0_1.index t = ![0, 0] ∧ win0_2.index t = ![b.val, 0]
    ∧ win0_3.index t = ![b.val, 0, 0] ∧ win0_4.index t = ![b.val, 0] :=
  (by decide +kernel : ∀ t : Fin grid0.N, ∃ b : Fin 15,
    win0_0.index t = ![b.val, 0] ∧ win0_1.index t = ![0, 0] ∧ win0_2.index t = ![b.val, 0]
    ∧ win0_3.index t = ![b.val, 0, 0] ∧ win0_4.index t = ![b.val, 0])

/-- A loaded token. -/
theorem token_at (c : Dev nD) (t : Fin cfg0.N) (b : Fin 15) (h0 : win0_0.index t = ![b.val, 0]) (r : Fin 128) (k : Fin 6144) :
    iblk m c 0 t (ix2 r k)
      = m ((c : Thread nD τ).loc main_arg0) (ix3 (⟨(128 * b.val + r.val) / 640, by omega⟩ : Fin 3) (⟨(128 * b.val + r.val) % 640, by omega⟩ : Fin 640) k) := by
  show V m c main_v0 ((win0_0.blk t).view.emb (ix2 r k)) = _
  have e : (win0_0.blk t).view.emb (ix2 r k) = ix2 (⟨128 * b.val + r.val, by omega⟩ : Fin 1920) k := by
    blk_ext [h0]
  rw [e]
  entry_read
  pointwise

/-- A loaded gain. -/
theorem gain_at (c : Dev nD) (t : Fin cfg0.N) (h1 : win0_1.index t = ![0, 0]) (k : Fin 6144) :
    iblk m c 1 t (ix2 0 k) = m ((c : Thread nD τ).loc main_arg1) (ix1 k) := by
  show V m c main_v1 ((win0_1.blk t).view.emb (ix2 0 k)) = _
  have e : (win0_1.blk t).view.emb (ix2 0 k) = ix2 0 k := by
    blk_ext [h1]
  rw [e]
  entry_read
  pointwise

/-- A normalised token at a grid point is the specification's. -/
theorem norm_at (c : Dev nD) (t : Fin cfg0.N) (b : Fin 15) (h0 : win0_0.index t = ![b.val, 0]) (h1 : win0_1.index t = ![0, 0]) (r : Fin 128) :
    Spec.norm (fun k => iblk m c 0 t (ix2 r k)) (fun k => iblk m c 1 t (ix2 0 k))
      = Spec.token (m ((c : Thread nD τ).loc main_arg0)) (m ((c : Thread nD τ).loc main_arg1)) ⟨128 * b.val + r.val, by omega⟩ := by
  unfold Spec.token
  exact congrArg₂ Spec.norm (funext fun k => token_at m c t b h0 r k) (funext fun k => gain_at m c t h1 k)

/-- The codes' array. -/
theorem arr2 (c : Dev nD) : (dats m 0 c).arrAt 2 cfg0.N = G2 m c := by
  refine (dats m 0 c).arrAt_eq_of_covers 2 _ (by decide +kernel) fun t hf y => ?_
  blk_simp
  rw [after0_2]
  obtain ⟨b, h0, h1, h2, -, -⟩ := idx t
  change S128x6144.Idx at y
  idx_vars y
  have e : (win0_2.blk t).view.emb (ix2 y0 y1) = ix2 (⟨128 * b.val + y0.val, by omega⟩ : Fin 1920) y1 := by
    blk_ext [h2]
  rw [e]
  exact (Block.codes_at _ _ y0 y1).trans (congrArg (fun f => Spec.code f y1) (norm_at m c t b h0 h1 y0))

/-- The scales' array. -/
theorem arr3 (c : Dev nD) : (dats m 0 c).arrAt 3 cfg0.N = G3 m c := by
  refine (dats m 0 c).arrAt_eq_of_covers 3 _ (by decide +kernel) fun t hf y => ?_
  blk_simp
  rw [after0_3]
  obtain ⟨b, h0, h1, -, h3, -⟩ := idx t
  change S1x1x128.Idx at y
  idx_vars y
  obtain rfl : y0 = 0 := Subsingleton.elim _ _
  obtain rfl : y1 = 0 := Subsingleton.elim _ _
  have e : (win0_3.blk t).view.emb (ix3 0 0 y2) = ix3 b 0 y2 := by
    blk_ext [h3]
  rw [e]
  exact (Block.row _ _ y2).trans (congrArg (fun f => Spec.scale f) (norm_at m c t b h0 h1 y2))

/-- The array of the scales in every lane. -/
theorem arr4 (c : Dev nD) : (dats m 0 c).arrAt 4 cfg0.N = G4 m c := by
  refine (dats m 0 c).arrAt_eq_of_covers 4 _ (by decide +kernel) fun t hf y => ?_
  blk_simp
  rw [after0_4]
  obtain ⟨b, h0, h1, -, -, h4⟩ := idx t
  change S128x128.Idx at y
  idx_vars y
  have e : (win0_4.blk t).view.emb (ix2 y0 y1) = ix2 (⟨128 * b.val + y0.val, by omega⟩ : Fin 1920) y1 := by
    blk_ext [h4]
  rw [e]
  exact (Block.lanes _ _ y0 y1).trans (congrArg (fun f => Spec.scale f) (norm_at m c t b h0 h1 y0))

/-- The call leaves the three arrays and keeps its arguments. -/
theorem run (ρ : Dev nD → PrngReg) : θ_run defs (onTc (τ := τ) (main (F := Ideal))) ⟨m, fun _ => 0, ρ⟩ fun r => ∀ c : Dev nD,
    r.2.mem ((c : Thread nD τ).loc main_v2_0) = G2 m c
    ∧ r.2.mem ((c : Thread nD τ).loc main_v2_1) = G3 m c
    ∧ r.2.mem ((c : Thread nD τ).loc main_v2_2) = G4 m c
    ∧ r.2.mem ((c : Thread nD τ).loc main_arg0) = m ((c : Thread nD τ).loc main_arg0)
    ∧ r.2.mem ((c : Thread nD τ).loc main_arg1) = m ((c : Thread nD τ).loc main_arg1) :=
  (θ_run defs _ _).mono (fun _ h c => ⟨((h c).1 2).trans (arr2 m c), ((h c).1 3).trans (arr3 m c), ((h c).1 4).trans (arr4 m c),
    ((h c).2 main_arg0 (Pipeline.mem_restRefs_of main_arg0 (by decide) (by decide))).trans (V_main_arg0 m c),
    ((h c).2 main_arg1 (Pipeline.mem_restRefs_of main_arg1 (by decide) (by decide))).trans (V_main_arg1 m c)⟩)
    (run_main m ρ)

end Cert.NormIdeal.Arr
-- ==== Proof.NormRef.lean ====
/-
  The three arrays the normalisation's reference returns are the specification's.
-/
module

public import proofs.«01_k».proof.Proof.Spec
public import proofs.«01_k».proof.Proof.Gen.NormReferenceIdeal.Frame
public import Idealize.ShloMosaic.Lib.Pipeline.ValueKit

public section

set_option maxRecDepth 16384

noncomputable section

namespace Cert.NormReferenceIdeal.Arr

open Cert.NormReferenceIdeal Cert.NormReferenceIdeal.Gen Idealize.ShloMosaic Idealize.ShloMosaic.TcCoe Idealize.ShloMosaic.Tactic Idealize.SL.Sem

/-- The largest magnitude of a row. -/
theorem amax_at (v : FVec Ideal S1920x6144 .f32) (r : Fin 1920) :
    multiReduction .maximumf [1] S1920 (absf v) 0xFF800000#32 reduces_S1920x6144_S1920 (.inl rfl) rfl (ix1 r)
      = Finset.fold max (Ideal.ofBits .f32 0xFF800000#32) (fun d => max (v (ix2 r d)) (-(v (ix2 r d)))) Finset.univ := by
  pointwise
  rfl

/-- A column of row values. -/
theorem keep_at (v : FVec Ideal S1920 .f32) (r : Fin 1920) :
    shapeCast S1920x1 v shapeCasts_S1920_S1920x1 (ix2 r 0) = v (ix1 r) := by
  pointwise

/-- The exponents, of the reduced maxima as a vector. -/
def expos (s : FVec Ideal S1920x1 .f32) : FVec Ideal S1920x1 .f32 :=
  select (andi (cmpf .oge s (broadcast S1920x1 (Scalar.ofBits .f32 0x00800000#32))) (cmpf .olt s (broadcast S1920x1 (Scalar.ofBits .f32 0x7E800000#32))))
    (addf (floor (divf (log s) (broadcast S1920x1 (Scalar.log (Scalar.ofBits .f32 0x40000000#32))))) (broadcast S1920x1 (Scalar.ofBits .f32 0x3F800000#32)))
    (broadcast S1920x1 (Scalar.ofBits .f32 0x00000000#32))

/-- They are the specification's, entry by entry. -/
theorem expos_at (s : FVec Ideal S1920x1 .f32) (j : S1920x1.Idx) : expos s j = Scale.refExpo (s j) := by
  rfl

/-- A product with a constant, entry by entry. -/
theorem times_at (z : FVec Ideal S1920x1 .f32) (w : BitVec 32) (j : S1920x1.Idx) :
    mulf z (broadcast S1920x1 (Scalar.ofBits .f32 w)) j = (z j * Ideal.ofBits .f32 w : EReal) := by
  rfl

variable (x : Vec Ideal S1920x6144 .bf16) (g : Vec Ideal S1x6144 .f32)

/-- A normalised entry. -/
theorem norm_at (r : Fin 1920) (d : Fin 6144) :
    k0_pay4 x g (ix2 r d) = Spec.norm (fun k => x (ix2 r k)) (fun k => g (ix2 0 k)) d := by
  unfold k0_pay4 Spec.norm
  pointwise

/-- The body's exponents. -/
theorem pay5_eq : k0_pay5 x g = expos (mulf (shapeCast S1920x1 (multiReduction .maximumf [1] S1920 (absf (k0_pay4 x g)) 0xFF800000#32 reduces_S1920x6144_S1920 (.inl rfl) rfl) shapeCasts_S1920_S1920x1) (broadcast S1920x1 (Scalar.ofBits .f32 0x3B124925#32))) := by
  unfold k0_pay5 expos
  with_reducible rfl

/-- The exponent of a token's scale. -/
theorem expo_at (r : Fin 1920) :
    k0_pay5 x g (ix2 r 0) = Scale.refExpo (Spec.top (Spec.norm (fun k => x (ix2 r k)) (fun k => g (ix2 0 k)))) := by
  rw [pay5_eq, expos_at, times_at, keep_at, amax_at]
  rw [← show (fun d => k0_pay4 x g (ix2 r d)) = Spec.norm (fun k => x (ix2 r k)) (fun k => g (ix2 0 k)) from funext fun d => norm_at x g r d]
  unfold Spec.top
  with_reducible rfl

/-- The tokens are loaded whole. -/
theorem whole_x (y : S1920x6144.Idx) : r0_0.idx y = y := by
  funext a
  apply Fin.ext
  fin_cases a
  · show 0 + 1 * (y 0).val = (y 0).val; omega
  · show 0 + 1 * (y 1).val = (y 1).val; omega

/-- So are the gains. -/
theorem whole_g (y : S1x6144.Idx) : r0_1.idx y = y := by
  funext a
  apply Fin.ext
  fin_cases a
  · show 0 + 1 * (y 0).val = (y 0).val; omega
  · show 0 + 1 * (y 1).val = (y 1).val; omega

theorem ld_x : View.ld x r0_0 = x := funext fun y => congrArg x (whole_x y)

theorem ld_g : View.ld g r0_1 = g := funext fun y => congrArg g (whole_g y)

/-- The scales are stored whole in their rows. -/
theorem whole_row (y : S15x1x128.Idx) : r0_2.idx y = y := by
  funext a
  apply Fin.ext
  fin_cases a
  · show 0 + 1 * (y 0).val = (y 0).val; omega
  · show 0 + 1 * (y 1).val = (y 1).val; omega
  · show 0 + 1 * (y 2).val = (y 2).val; omega

/-- And in their lanes. -/
theorem whole_lanes (y : S1920x128.Idx) : r0_3.idx y = y := by
  funext a
  apply Fin.ext
  fin_cases a
  · show 0 + 1 * (y 0).val = (y 0).val; omega
  · show 0 + 1 * (y 1).val = (y 1).val; omega

/-- The codes' block is what is stored. -/
theorem canon_2 (p : Vec Ideal S1920x6144 .fp8e4m3) (y : S1920x6144.Idx) : (View.canon [⟨r0_0, p⟩] : Vec Ideal S1920x6144 .fp8e4m3) y = p y := by
  refine View.canon_apply_of_pieces p _ ?_ y (cover0_2 p y)
  intro pc hpc
  rcases List.mem_cons.mp hpc with rfl | hpc
  · exact fun y => congrArg p (whole_x y).symm
  nomatch hpc

/-- So is the rows' block. -/
theorem canon_3 (p : Vec Ideal S15x1x128 .f32) (y : S15x1x128.Idx) : (View.canon [⟨r0_2, p⟩] : Vec Ideal S15x1x128 .f32) y = p y := by
  refine View.canon_apply_of_pieces p _ ?_ y (cover0_3 p y)
  intro pc hpc
  rcases List.mem_cons.mp hpc with rfl | hpc
  · exact fun y => congrArg p (whole_row y).symm
  nomatch hpc

/-- And the lanes' block. -/
theorem canon_4 (p : Vec Ideal S1920x128 .f32) (y : S1920x128.Idx) : (View.canon [⟨r0_3, p⟩] : Vec Ideal S1920x128 .f32) y = p y := by
  refine View.canon_apply_of_pieces p _ ?_ y (cover0_4 p y)
  intro pc hpc
  rcases List.mem_cons.mp hpc with rfl | hpc
  · exact fun y => congrArg p (whole_lanes y).symm
  nomatch hpc

/-- The arithmetic of a code: scaled down, clipped, cast. -/
theorem clip_at (e : FVec Ideal S1920x1 .f32) (y : FVec Ideal S1920x6144 .f32) (r : Fin 1920) (d : Fin 6144) :
    k0_pay1 (mulf y (broadcastTo S1920x6144 (exp2 (subf (broadcast S1920x1 (Scalar.ofBits .f32 0x00000000#32)) e)) broadcasts_S1920x1_S1920x6144))
        (Scalar.ofBits .f32 0x43E00000#32) k0_pay8 (ix2 r d)
      = (min (Ideal.ofBits .f32 0x43E00000#32) (max (Ideal.ofBits .f32 0xC3E00000#32)
          (y (ix2 r d) * Ideal.exp2 (Ideal.ofBits .f32 0x00000000#32 - e (ix2 r 0)))) : EReal) := by
  unfold k0_pay1 k0_pay8
  pointwise
  rfl

/-- The entries the code's arithmetic is applied to. -/
theorem pay7_eq : k0_pay7 x g = mulf (k0_pay4 x g) (broadcastTo S1920x6144 (exp2 (subf (broadcast S1920x1 (Scalar.ofBits .f32 0x00000000#32)) (k0_pay5 x g))) broadcasts_S1920x1_S1920x6144) := by
  unfold k0_pay7
  with_reducible rfl

/-- A column of scales laid out in rows of 128. -/
theorem rows_of (e : FVec Ideal S1920x1 .f32) (t : Fin 15) (r : Fin 128) :
    k0_pay2 e (ix3 t 0 r) = e (ix2 (⟨128 * t.val + r.val, by omega⟩ : Fin 1920) 0) := by
  unfold k0_pay2
  pointwise
  refine congrArg e ?_
  blk_ext

/-- A column of scales repeated in every lane. -/
theorem lanes_of (e : FVec Ideal S1920x1 .f32) (r : Fin 1920) (l : Fin 128) :
    k0_pay3 e (ix2 r l) = e (ix2 r 0) := by
  unfold k0_pay3
  pointwise

/-- A power of two, entry by entry. -/
theorem exp2_at (e : FVec Ideal S1920x1 .f32) (j : S1920x1.Idx) : exp2 e j = (Ideal.exp2 (e j) : EReal) := by
  rfl

/-- The scale of a token. -/
theorem scale_at (r : Fin 1920) :
    k0_pay6 x g (ix2 r 0) = Spec.scale (Spec.norm (fun k => x (ix2 r k)) fun k => g (ix2 0 k)) := by
  unfold k0_pay6 Spec.scale
  rw [exp2_at, expo_at x g r]

/-- A code. -/
theorem code_at (r : Fin 1920) (d : Fin 6144) :
    out0_2 x g (ix2 r d) = Spec.code (Spec.norm (fun k => x (ix2 r k)) fun k => g (ix2 0 k)) d := by
  unfold out0_2
  refine (canon_2 _ _).trans ?_
  rw [ld_x, ld_g, pay7_eq]
  refine (clip_at _ _ r d).trans ?_
  rw [expo_at x g r, norm_at x g r d]
  unfold Spec.code
  with_reducible rfl

/-- A scale, in a row of 128. -/
theorem row_at (t : Fin 15) (r : Fin 128) :
    out0_3 x g (ix3 t 0 r) = Spec.scale (Spec.norm (fun k => x (ix2 ⟨128 * t.val + r.val, by omega⟩ k)) fun k => g (ix2 0 k)) := by
  unfold out0_3
  refine (canon_3 _ _).trans ?_
  unfold k0_pay9
  rw [ld_x, ld_g]
  exact (rows_of _ t r).trans (scale_at x g _)

/-- A scale, in its lanes. -/
theorem lane_at (r : Fin 1920) (l : Fin 128) :
    out0_4 x g (ix2 r l) = Spec.scale (Spec.norm (fun k => x (ix2 r k)) fun k => g (ix2 0 k)) := by
  unfold out0_4
  refine (canon_4 _ _).trans ?_
  unfold k0_pay9
  rw [ld_x, ld_g]
  exact (lanes_of _ r l).trans (scale_at x g r)

/-! ## The arrays -/

variable (m : (ℓ : Loc nD τ sig) → Buf (Elt Ideal) ℓ)

/-- The codes as the specification has them, of the call's arguments. -/
@[expose] def G2 (c : Dev nD) : S1920x6144.Idx → EReal :=
  Spec.xCodes (m ((c : Thread nD τ).loc main_arg0)) (m ((c : Thread nD τ).loc main_arg1))

/-- The scales as rows. -/
@[expose] def G3 (c : Dev nD) : S15x1x128.Idx → EReal :=
  Spec.xScale (m ((c : Thread nD τ).loc main_arg0)) (m ((c : Thread nD τ).loc main_arg1))

/-- The scales in every lane. -/
@[expose] def G4 (c : Dev nD) : S1920x128.Idx → EReal :=
  Spec.xLanes (m ((c : Thread nD τ).loc main_arg0)) (m ((c : Thread nD τ).loc main_arg1))

/-- The only point's windows stand at the origin. -/
theorem idx : ∀ t : Fin cfg0.N, win0_0.index t = ![0, 0] ∧ win0_1.index t = ![0, 0] ∧ win0_2.index t = ![0, 0]
    ∧ win0_3.index t = ![0, 0, 0] ∧ win0_4.index t = ![0, 0] :=
  (by decide +kernel : ∀ t : Fin grid0.N, win0_0.index t = ![0, 0] ∧ win0_1.index t = ![0, 0] ∧ win0_2.index t = ![0, 0]
    ∧ win0_3.index t = ![0, 0, 0] ∧ win0_4.index t = ![0, 0])

/-- A loaded token. -/
theorem token_at (c : Dev nD) (t : Fin cfg0.N) (h0 : win0_0.index t = ![0, 0]) (r : Fin 1920) (k : Fin 6144) :
    iblk m c 0 t (ix2 r k)
      = m ((c : Thread nD τ).loc main_arg0) (ix3 (⟨r.val / 640, by omega⟩ : Fin 3) (⟨r.val % 640, by omega⟩ : Fin 640) k) := by
  show V m c main_v0 ((win0_0.blk t).view.emb (ix2 r k)) = _
  have e : (win0_0.blk t).view.emb (ix2 r k) = ix2 r k := by
    blk_ext [h0]
  rw [e]
  entry_read
  pointwise

/-- A loaded gain. -/
theorem gain_at (c : Dev nD) (t : Fin cfg0.N) (h1 : win0_1.index t = ![0, 0]) (k : Fin 6144) :
    iblk m c 1 t (ix2 0 k) = m ((c : Thread nD τ).loc main_arg1) (ix1 k) := by
  show V m c main_v1 ((win0_1.blk t).view.emb (ix2 0 k)) = _
  have e : (win0_1.blk t).view.emb (ix2 0 k) = ix2 0 k := by
    blk_ext [h1]
  rw [e]
  entry_read
  pointwise

/-- A normalised token at a grid point is the specification's. -/
theorem norms_at (c : Dev nD) (t : Fin cfg0.N) (h0 : win0_0.index t = ![0, 0]) (h1 : win0_1.index t = ![0, 0]) (r : Fin 1920) :
    Spec.norm (fun k => iblk m c 0 t (ix2 r k)) (fun k => iblk m c 1 t (ix2 0 k))
      = Spec.token (m ((c : Thread nD τ).loc main_arg0)) (m ((c : Thread nD τ).loc main_arg1)) r := by
  unfold Spec.token
  exact congrArg₂ Spec.norm (funext fun k => token_at m c t h0 r k) (funext fun k => gain_at m c t h1 k)

/-- The codes' array. -/
theorem arr2 (c : Dev nD) : (dats m 0 c).arrAt 2 cfg0.N = G2 m c := by
  refine (dats m 0 c).arrAt_eq_of_covers 2 _ (by decide +kernel) fun t hf y => ?_
  blk_simp
  rw [after0_2]
  obtain ⟨h0, h1, h2, -, -⟩ := idx t
  change S1920x6144.Idx at y
  idx_vars y
  have e : (win0_2.blk t).view.emb (ix2 y0 y1) = ix2 y0 y1 := by
    blk_ext [h2]
  rw [e]
  exact (code_at _ _ y0 y1).trans (congrArg (fun f => Spec.code f y1) (norms_at m c t h0 h1 y0))

/-- The scales' array. -/
theorem arr3 (c : Dev nD) : (dats m 0 c).arrAt 3 cfg0.N = G3 m c := by
  refine (dats m 0 c).arrAt_eq_of_covers 3 _ (by decide +kernel) fun t hf y => ?_
  blk_simp
  rw [after0_3]
  obtain ⟨h0, h1, -, h3, -⟩ := idx t
  change S15x1x128.Idx at y
  idx_vars y
  obtain rfl : y1 = 0 := Subsingleton.elim _ _
  have e : (win0_3.blk t).view.emb (ix3 y0 0 y2) = ix3 y0 0 y2 := by
    blk_ext [h3]
  rw [e]
  exact (row_at _ _ y0 y2).trans (congrArg (fun f => Spec.scale f) (norms_at m c t h0 h1 _))

/-- The array of the scales in every lane. -/
theorem arr4 (c : Dev nD) : (dats m 0 c).arrAt 4 cfg0.N = G4 m c := by
  refine (dats m 0 c).arrAt_eq_of_covers 4 _ (by decide +kernel) fun t hf y => ?_
  blk_simp
  rw [after0_4]
  obtain ⟨h0, h1, -, -, h4⟩ := idx t
  change S1920x128.Idx at y
  idx_vars y
  have e : (win0_4.blk t).view.emb (ix2 y0 y1) = ix2 y0 y1 := by
    blk_ext [h4]
  rw [e]
  exact (lane_at _ _ y0 y1).trans (congrArg (fun f => Spec.scale f) (norms_at m c t h0 h1 y0))

/-- The reference leaves the three arrays and keeps its arguments. -/
theorem run (ρ : Dev nD → PrngReg) : θ_run defs (onTc (τ := τ) (main (F := Ideal))) ⟨m, fun _ => 0, ρ⟩ fun r => ∀ c : Dev nD,
    r.2.mem ((c : Thread nD τ).loc main_v2_0) = G2 m c
    ∧ r.2.mem ((c : Thread nD τ).loc main_v2_1) = G3 m c
    ∧ r.2.mem ((c : Thread nD τ).loc main_v2_2) = G4 m c
    ∧ r.2.mem ((c : Thread nD τ).loc main_arg0) = m ((c : Thread nD τ).loc main_arg0)
    ∧ r.2.mem ((c : Thread nD τ).loc main_arg1) = m ((c : Thread nD τ).loc main_arg1) :=
  (θ_run defs _ _).mono (fun _ h c => ⟨((h c).1 2).trans (arr2 m c), ((h c).1 3).trans (arr3 m c), ((h c).1 4).trans (arr4 m c),
    ((h c).2 main_arg0 (Pipeline.mem_restRefs_of main_arg0 (by decide) (by decide))).trans (V_main_arg0 m c),
    ((h c).2 main_arg1 (Pipeline.mem_restRefs_of main_arg1 (by decide) (by decide))).trans (V_main_arg1 m c)⟩)
    (run_main m ρ)

end Cert.NormReferenceIdeal.Arr
-- ==== Proof.KLoop.lean ====
/-
  The loop of the key projection that moves each token's row, in ten chunks of 128, to the place of the token's slot: what one
  trip stores, and the loop by an invariant.
-/
module

public import proofs.«01_k».proof.Proof.Gen.KProjIdeal.Frame
public import proofs.«01_k».proof.Proof.Gen.KProjIdeal.Skeleton
public import Idealize.ShloMosaic.Lib.Exec
public import Idealize.ShloMosaic.Lib.Tactic
public import Idealize.ShloMosaic.Lib.Pipeline.Kit

@[expose] public section

set_option maxRecDepth 16384
set_option maxHeartbeats 4000000

noncomputable section

namespace Cert.KProjIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

/-- The slot that trip `k` of point `i` reads from the slots' buffer. -/
def word (i : grid0.Coords) (arg1 : Memref sig .tc .smem S3x640 .i32) (X1 : BufTy.Contents (Elt F) arg1.view.ty) (k : Fin k0_t1_loop.trips) : BitVec 32 :=
  View.readAt (Elt F) arg1.view (Rect.unit (s := S3x640) (k0_off1 i k) S1x1.size (k0_off1_inb i k)).toLoadRect X1
    (Shape.Idx.first (numel1_S1x1.symm ▸ Nat.one_pos))

/-- Trip `k`'s two stores into the gathered rows, the last first: chunks 8 and 9 of the token's row, then chunks 0 to 7,
    each read off the staged rows `X11`. -/
def rowPieces (i : grid0.Coords) (arg1 : Memref sig .tc .smem S3x640 .i32) (arg11 : Memref sig .tc .vmem S6440x128 .f32)
    (X1 : BufTy.Contents (Elt F) arg1.view.ty) (X11 : BufTy.Contents (Elt F) arg11.view.ty) (hw : ∀ k, k0_chk1 (word (F := F) i arg1 X1 k))
    (k : Fin k0_t1_loop.trips) : List (View.Piece (Elt F) S24360x128 .f32) :=
  [⟨⟨(⟨k0_off5 (word (F := F) i arg1 X1 k), S2x128.size, ![2436, 1], (k0_off5_inb _ (hw k))⟩ : LoadRect S24360x128), spos_2436_1⟩,
      k0_pay8 (View.readAt (Elt F) arg11.view (⟨k0_off4 k, S2x128.size, ![644, 1], (k0_off4_inb k)⟩ : LoadRect S6440x128) X11)⟩,
   ⟨⟨(⟨k0_off3 (word (F := F) i arg1 X1 k), S8x128.size, ![2436, 1], (k0_off3_inb _ (hw k))⟩ : LoadRect S24360x128), spos_2436_1⟩,
      k0_pay7 (View.readAt (Elt F) arg11.view (⟨k0_off2 k, S8x128.size, ![644, 1], (k0_off2_inb k)⟩ : LoadRect S6440x128) X11)⟩]

/-- The stores of the trips before `k`, the last first. -/
def rowsList (i : grid0.Coords) (arg1 : Memref sig .tc .smem S3x640 .i32) (arg11 : Memref sig .tc .vmem S6440x128 .f32)
    (X1 : BufTy.Contents (Elt F) arg1.view.ty) (X11 : BufTy.Contents (Elt F) arg11.view.ty) (hw : ∀ k, k0_chk1 (word (F := F) i arg1 X1 k)) :
    ℕ → List (View.Piece (Elt F) S24360x128 .f32)
  | 0 => []
  | k + 1 => if h : k < k0_t1_loop.trips then rowPieces i arg1 arg11 X1 X11 hw ⟨k, h⟩ ++ rowsList i arg1 arg11 X1 X11 hw k
      else rowsList i arg1 arg11 X1 X11 hw k

variable (𝒱 : Variants) (c : Dev nD) (bd : Option 𝒱.V) (i : grid0.Coords) (arg1 : Memref sig .tc .smem S3x640 .i32) (harg1 : arg1.IsWhole) (arg2 : Memref sig .tc .vmem S1x640x6144 .fp8e4m3) (harg2 : arg2.IsWhole) (arg3 : Memref sig .tc .vmem S1x640x128 .f32) (harg3 : arg3.IsWhole) (arg4 : Memref sig .tc .vmem S6144x1280 .fp8e4m3) (harg4 : arg4.IsWhole) (arg5 : Memref sig .tc .vmem S1x1280 .f32) (harg5 : arg5.IsWhole) (arg6 : Memref sig .tc .vmem S1x2400 .i32) (harg6 : arg6.IsWhole) (arg7 : Memref sig .tc .vmem S8x160x2400 .fp8e4m3) (harg7 : arg7.IsWhole) (arg8 : Memref sig .tc .vmem S8x2400 .f32) (harg8 : arg8.IsWhole) (arg9 : Memref sig .tc .vmem S8x160x2400 .fp8e4m3) (harg9 : arg9.IsWhole) (arg10 : Memref sig .tc .vmem S8x2400 .f32) (harg10 : arg10.IsWhole) (arg11 : Memref sig .tc .vmem S6440x128 .f32) (harg11 : arg11.IsWhole) (arg12 : Memref sig .tc .vmem S24360x128 .f32) (harg12 : arg12.IsWhole)

/-- What one trip touches: the slots and the staged rows at their contents, the gathered rows at any. -/
abbrev Trip (c : Dev nD) (arg1 : Memref sig .tc .smem S3x640 .i32) (arg11 : Memref sig .tc .vmem S6440x128 .f32) (arg12 : Memref sig .tc .vmem S24360x128 .f32)
    (X1 : BufTy.Contents (Elt F) arg1.view.ty) (X11 : BufTy.Contents (Elt F) arg11.view.ty) (f12 : BufTy.Contents (Elt F) arg12.view.ty) : sProp 𝕄G :=
  iprop((arg1.view.loc (c : Thread nD τ) ↦[arg1.view.set]{fullShare} X1) ∗ (arg11.view.loc (c : Thread nD τ) ↦[arg11.view.set]{fullShare} X11) ∗ (arg12.view.loc (c : Thread nD τ) ↦[arg12.view.set]{fullShare} f12))

/-- One trip: on slots in range it ends with its two stores written. -/
theorem trip_ok (X1 : BufTy.Contents (Elt F) arg1.view.ty) (X11 : BufTy.Contents (Elt F) arg11.view.ty) (hw : ∀ k, k0_chk1 (word (F := F) i arg1 X1 k))
    (k : Fin k0_t1_loop.trips) (E : Set ℕ) (f12 : BufTy.Contents (Elt F) arg12.view.ty) :
      Trip (F := F) c arg1 arg11 arg12 X1 X11 f12
      ⊢ wp frame (wpE (defs₀ (F := F)) 𝒱 (c : Thread nD τ) bd) E (k0_t1_body (F := F) i arg1 harg1 arg2 harg2 arg3 harg3 arg4 harg4 arg5 harg5 arg6 harg6 arg7 harg7 arg8 harg8 arg9 harg9 arg10 harg10 arg11 harg11 arg12 harg12 k PUnit.unit)
          (fun _ => Trip (F := F) c arg1 arg11 arg12 X1 X11 (arg12.view.writes (Elt F) f12 (rowPieces i arg1 arg11 X1 X11 hw k))) := by
  have hk : k.val < 640 := Nat.lt_of_lt_of_le k.isLt k0_t1_abs.2.1
  unfold k0_t1_body
  iintro ⟨H1, H11, H12⟩
  sl_exec (disch := exact hw k)
  sl_step
  isplitl [H1]; · iexact H1
  isplitl [H11]; · iexact H11
  iexact H12

theorem rowsList_succ (X1 : BufTy.Contents (Elt F) arg1.view.ty) (X11 : BufTy.Contents (Elt F) arg11.view.ty) (hw : ∀ k, k0_chk1 (word (F := F) i arg1 X1 k))
    (k : Fin k0_t1_loop.trips) :
    rowsList i arg1 arg11 X1 X11 hw (k.val + 1) = rowPieces i arg1 arg11 X1 X11 hw k ++ rowsList i arg1 arg11 X1 X11 hw k.val := by
  rw [rowsList.eq_2]; exact dif_pos k.isLt

/-- Before trip `k`: slots and staged rows untouched, the earlier trips' stores written over what the loop found. -/
abbrev rowsInv (X1 : BufTy.Contents (Elt F) arg1.view.ty) (X11 : BufTy.Contents (Elt F) arg11.view.ty) (G12 : BufTy.Contents (Elt F) arg12.view.ty)
    (hw : ∀ k, k0_chk1 (word (F := F) i arg1 X1 k)) (k : ℕ) (_u : PUnit) : sProp 𝕄G :=
  iprop((arg1.view.loc (c : Thread nD τ) ↦[arg1.view.set]{fullShare} X1) ∗ (arg11.view.loc (c : Thread nD τ) ↦[arg11.view.set]{fullShare} X11)
    ∗ (∃ f, (arg12.view.loc (c : Thread nD τ) ↦[arg12.view.set]{fullShare} f) ∗ ⌜f = arg12.view.writes (Elt F) G12 (rowsList i arg1 arg11 X1 X11 hw k)⌝))

set_option warn.classDefReducibility false in
/-- The loop over the tokens by that invariant. -/
@[sl_loop] def rowsLoop (E : Set ℕ) (X1 : BufTy.Contents (Elt F) arg1.view.ty) (X11 : BufTy.Contents (Elt F) arg11.view.ty) (G12 : BufTy.Contents (Elt F) arg12.view.ty)
    (hw : ∀ k, k0_chk1 (word (F := F) i arg1 X1 k)) :
    Idealize.ShloMosaic.LoopInv (M := MT nD τ sig Unit (Elt F) ℕ (UR sig nD τ) ℕ) Idealize.ShloMosaic.frame (wpE defs₀ 𝒱 (c : Thread nD τ) bd) E
      k0_t1_loop.lb k0_t1_loop.ub k0_t1_loop.st k0_t1_ok () (k0_t1_body (F := F) i arg1 harg1 arg2 harg2 arg3 harg3 arg4 harg4 arg5 harg5 arg6 harg6 arg7 harg7 arg8 harg8 arg9 harg9 arg10 harg10 arg11 harg11 arg12 harg12) where
  inv := rowsInv (F := F) c i arg1 arg11 arg12 X1 X11 G12 hw
  step k acc := by
    iintro ⟨H1, H11, ⟨%f12, H12, %h12⟩⟩
    iapply (wp_wand_r Idealize.ShloMosaic.frame (wpE (defs₀ (F := F)) 𝒱 (c : Thread nD τ) bd) E)
    isplitl [H1 H11 H12]
    · iapply (trip_ok (F := F) 𝒱 c bd i arg1 harg1 arg2 harg2 arg3 harg3 arg4 harg4 arg5 harg5 arg6 harg6 arg7 harg7 arg8 harg8 arg9 harg9 arg10 harg10 arg11 harg11 arg12 harg12 X1 X11 hw k E f12)
      isplitl [H1]; · iexact H1
      isplitl [H11]; · iexact H11
      iexact H12
    · iintro %_ ⟨H1, H11, H12⟩
      isplitl [H1]; · iexact H1
      isplitl [H11]; · iexact H11
      rw [rowsList_succ]
      iexists _; isplitl [H12]; · iexact H12
      ipureintro; rw [h12, ← View.writes_append]

end Cert.KProjIdeal.Gen

end
-- ==== Proof.KRuns.lean ====
/-
  The points of the key projection: which conditions hold where, which windows are idle where, and the names of the staging
  and scratch buffers.
-/
module

public import proofs.«01_k».proof.Proof.KLoop

@[expose] public section

set_option maxRecDepth 16384

noncomputable section

namespace Cert.KProjIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 3 = 0 :=
  (fun t => by
    have ht : t.val < 3 := Nat.lt_of_lt_of_eq t.isLt N_0
    have e0 : (grid0.coords t 0).val = t.val / 1 % 3 := Pipeline.Grid.coords_val t 0 (by decide) rfl
    simp only [cond0_0, e0]
    word_cmp
   : ∀ t : Fin grid0.N, cond0_0 (grid0.coords t) ↔ t.val % 3 = 0)

/-- The condition of the body's `scf.if` 1 (`k0_h2`), from the grid coordinates (the skeleton's scalar
    chain substituted). -/
abbrev cond0_1 (i : grid0.Coords) : Prop := k0_cond2 i = 1#1
/-- It holds at the last point only — by arithmetic of the point. -/
theorem hcond0_1 : ∀ t : Fin cfg0.N, cond0_1 (grid0.coords t) ↔ t.val % 3 = 2 :=
  (fun t => by
    have ht : t.val < 3 := Nat.lt_of_lt_of_eq t.isLt N_0
    have e0 : (grid0.coords t 0).val = t.val / 1 % 3 := Pipeline.Grid.coords_val t 0 (by decide) rfl
    simp only [cond0_1, k0_cond2, e0]
    word_cmp
   : ∀ t : Fin grid0.N, cond0_1 (grid0.coords t) ↔ t.val % 3 = 2)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-- Window 7 is never idle (an input). -/
theorem liveAt0_7 : ∀ t : Fin cfg0.N, cfg0.idle 7 (grid0.coords t) = false := fun _ => rfl
/-- At the points of case A the printed configuration (`Cfg.idle`) calls output 8 idle: the case stores nothing into it. -/
theorem idleAt0_8_A : ∀ t : Fin cfg0.N, cond0_0 (grid0.coords t) → ¬cond0_1 (grid0.coords t) → cfg0.idle 8 (grid0.coords t) = true := by decide +kernel
/-- At the points of case A the pipeline does not write output 8's block back. -/
theorem noFlush0_8_A : ∀ t : Fin cfg0.N, cond0_0 (grid0.coords t) → ¬cond0_1 (grid0.coords t) → (cfg0.win 8).flush t = false := by decide +kernel
/-- At the points of case B the printed configuration (`Cfg.idle`) calls output 8 idle: the case stores nothing into it. -/
theorem idleAt0_8_B : ∀ t : Fin cfg0.N, ¬cond0_0 (grid0.coords t) → ¬cond0_1 (grid0.coords t) → cfg0.idle 8 (grid0.coords t) = true := by decide +kernel
/-- At the points of case B the pipeline does not write output 8's block back. -/
theorem noFlush0_8_B : ∀ t : Fin cfg0.N, ¬cond0_0 (grid0.coords t) → ¬cond0_1 (grid0.coords t) → (cfg0.win 8).flush t = false := by decide +kernel
/-- At the points of case C the printed configuration (`Cfg.idle`) calls output 8 live: the case stores into it. -/
theorem liveAt0_8_C : ∀ t : Fin cfg0.N, ¬cond0_0 (grid0.coords t) → cond0_1 (grid0.coords t) → cfg0.idle 8 (grid0.coords t) = false := by decide +kernel
/-- At the points of case A the printed configuration (`Cfg.idle`) calls output 9 idle: the case stores nothing into it. -/
theorem idleAt0_9_A : ∀ t : Fin cfg0.N, cond0_0 (grid0.coords t) → ¬cond0_1 (grid0.coords t) → cfg0.idle 9 (grid0.coords t) = true := by decide +kernel
/-- At the points of case A the pipeline does not write output 9's block back. -/
theorem noFlush0_9_A : ∀ t : Fin cfg0.N, cond0_0 (grid0.coords t) → ¬cond0_1 (grid0.coords t) → (cfg0.win 9).flush t = false := by decide +kernel
/-- At the points of case B the printed configuration (`Cfg.idle`) calls output 9 idle: the case stores nothing into it. -/
theorem idleAt0_9_B : ∀ t : Fin cfg0.N, ¬cond0_0 (grid0.coords t) → ¬cond0_1 (grid0.coords t) → cfg0.idle 9 (grid0.coords t) = true := by decide +kernel
/-- At the points of case B the pipeline does not write output 9's block back. -/
theorem noFlush0_9_B : ∀ t : Fin cfg0.N, ¬cond0_0 (grid0.coords t) → ¬cond0_1 (grid0.coords t) → (cfg0.win 9).flush t = false := by decide +kernel
/-- At the points of case C the printed configuration (`Cfg.idle`) calls output 9 live: the case stores into it. -/
theorem liveAt0_9_C : ∀ t : Fin cfg0.N, ¬cond0_0 (grid0.coords t) → cond0_1 (grid0.coords t) → cfg0.idle 9 (grid0.coords t) = false := by decide +kernel

/-! ## The kernel body on any staging memrefs: a subtype the run finds -/

/-- One staging buffer of output window 8, through which its contents are stated (`View.read_writes_of_cover`: the
    choice does not matter). -/
abbrev VO0_8 : View sig .tc .vmem S8x160x2400 .fp8e4m3 := (Memref.whole cc0_stg8_0 : Memref sig .tc .vmem S8x160x2400 .fp8e4m3).view
/-- One staging buffer of output window 9, through which its contents are stated (`View.read_writes_of_cover`: the
    choice does not matter). -/
abbrev VO0_9 : View sig .tc .vmem S8x2400 .f32 := (Memref.whole cc0_stg9_0 : Memref sig .tc .vmem S8x2400 .f32).view
/-- Each window's current staging memref at point `t`, spelled as the pipeline passes it (`bodyAt0`), and its wholeness. -/
abbrev ms0_0 (t : Fin cfg0.N) : Memref sig .tc .smem S3x640 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x640x6144 .fp8e4m3 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x640x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S6144x1280 .fp8e4m3 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1280 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x2400 .i32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S8x160x2400 .fp8e4m3 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S8x2400 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S8x160x2400 .fp8e4m3 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S8x2400 .f32 := win0_9.stage (cfg0.slots t 9)
abbrev hs0_9 (t : Fin cfg0.N) : (ms0_9 t).IsWhole := hstage0_9 ((cfg0.slots t 9).cast nbuf0_9)
/-- The scratch operands: whole scoped buffers of the kernel's own, passed beside the windows. -/
abbrev scM0_0 : Memref sig .tc .vmem S6440x128 .f32 := Memref.whole cc0_scratch0
abbrev scM0_1 : Memref sig .tc .vmem S24360x128 .f32 := Memref.whole cc0_scratch1
/-- The scratch `arg11` the kernel carries between points, as a view: what it holds is stated through it. -/
abbrev VS0_0 : View sig .tc .vmem S6440x128 .f32 := scM0_0.view
/-- The scratch `arg12` the kernel carries between points, as a view: what it holds is stated through it. -/
abbrev VS0_1 : View sig .tc .vmem S24360x128 .f32 := scM0_1.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.KProjIdeal.Gen

end
-- ==== Proof.KRunA.lean ====
/-
  The body of the key projection at the first point.
-/
module

public import proofs.«01_k».proof.Proof.KRuns

@[expose] public section

set_option maxRecDepth 16384

noncomputable section

namespace Cert.KProjIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at the first point, on slots in range: run from any contents of the staged rows and any gathered rows, with
    the stores it leaves in each output and scratch buffer. -/
noncomputable def kernelRun0_A (c : Dev nD) (i : grid0.Coords) (arg1 : Memref sig .tc .smem S3x640 .i32) (harg1 : arg1.IsWhole) (arg2 : Memref sig .tc .vmem S1x640x6144 .fp8e4m3) (harg2 : arg2.IsWhole) (arg3 : Memref sig .tc .vmem S1x640x128 .f32) (harg3 : arg3.IsWhole) (arg4 : Memref sig .tc .vmem S6144x1280 .fp8e4m3) (harg4 : arg4.IsWhole) (arg5 : Memref sig .tc .vmem S1x1280 .f32) (harg5 : arg5.IsWhole) (arg6 : Memref sig .tc .vmem S1x2400 .i32) (harg6 : arg6.IsWhole) (arg7 : Memref sig .tc .vmem S8x160x2400 .fp8e4m3) (harg7 : arg7.IsWhole) (arg8 : Memref sig .tc .vmem S8x2400 .f32) (harg8 : arg8.IsWhole) (arg9 : Memref sig .tc .vmem S8x160x2400 .fp8e4m3) (harg9 : arg9.IsWhole) (arg10 : Memref sig .tc .vmem S8x2400 .f32) (harg10 : arg10.IsWhole) (arg11 : Memref sig .tc .vmem S6440x128 .f32) (harg11 : arg11.IsWhole) (arg12 : Memref sig .tc .vmem S24360x128 .f32) (harg12 : arg12.IsWhole) (hc0 : cond0_0 i) (hc1 : ¬cond0_1 i)
    (x0 : Vec F S3x640 .i32) (x1 : Vec F S1x640x6144 .fp8e4m3) (x2 : Vec F S1x640x128 .f32) (x3 : Vec F S6144x1280 .fp8e4m3) (x4 : Vec F S1x1280 .f32) (x5 : Vec F S1x2400 .i32) (x6 : Vec F S8x160x2400 .fp8e4m3) (x7 : Vec F S8x2400 .f32) (xs0 : Vec F S6440x128 .f32) (hw : ∀ k, k0_chk1 (word (F := F) i arg1 (harg1.unread x0) k)) :
    Σ' (L8 : List (View.Piece (Elt F) S8x160x2400 .fp8e4m3)), Σ' (L9 : List (View.Piece (Elt F) S8x2400 .f32)), Σ' (LS0 : List (View.Piece (Elt F) S6440x128 .f32)), { LS1 : List (View.Piece (Elt F) S24360x128 .f32) //
      ∀ (xi8 : Vec F S8x160x2400 .fp8e4m3) (xi9 : Vec F S8x2400 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare xi8 ∗ owns (c : Thread nD τ) arg10 fullShare xi9 ∗ owns (c : Thread nD τ) arg11 fullShare xs0 ∗ (∃ d, owns (c : Thread nD τ) arg12 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare xi8 ∗ owns (c : Thread nD τ) arg10 fullShare xi9 ∗ (arg11.view.loc (c : Thread nD τ) ↦[arg11.view.set]{fullShare} arg11.view.writes (Elt F) (harg11.unread xs0) LS0) ∗ (∃ f, arg12.view.loc (c : Thread nD τ) ↦[arg12.view.set]{fullShare} arg12.view.writes (Elt F) f LS1)) -∗ K ⟨⟩))
          ⊢ wp frame (wpE (defs₀ (F := F)) Variants.none c none) E (cc0_k_proj i arg1 harg1 arg2 harg2 arg3 harg3 arg4 harg4 arg5 harg5 arg6 harg6 arg7 harg7 arg8 harg8 arg9 harg9 arg10 harg10 arg11 harg11 arg12 harg12) K } := by
  refine ⟨[], [], ?_, ?_, fun xi8 xi9 E K => ?run⟩
  case run =>
    simp only [cc0_k_proj_eq_skeleton]; unfold cc0_k_proj_skel
    simp only [k0_part65_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%fs0, %hfs0, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg11.eq_unread hfs0; obtain rfl := harg9.eq_unread hf8; obtain rfl := harg10.eq_unread hf9
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [HS0]; · iexact HS0
    iexists _; iexact HS1

end Cert.KProjIdeal.Gen

end
-- ==== Proof.KRunB.lean ====
/-
  The body of the key projection at the second point.
-/
module

public import proofs.«01_k».proof.Proof.KRunA

@[expose] public section

set_option maxRecDepth 16384

noncomputable section

namespace Cert.KProjIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at the second point, on slots in range: run from any contents of the staged rows and the gathered rows, with
    the stores it leaves in each output and scratch buffer. -/
noncomputable def kernelRun0_B (c : Dev nD) (i : grid0.Coords) (arg1 : Memref sig .tc .smem S3x640 .i32) (harg1 : arg1.IsWhole) (arg2 : Memref sig .tc .vmem S1x640x6144 .fp8e4m3) (harg2 : arg2.IsWhole) (arg3 : Memref sig .tc .vmem S1x640x128 .f32) (harg3 : arg3.IsWhole) (arg4 : Memref sig .tc .vmem S6144x1280 .fp8e4m3) (harg4 : arg4.IsWhole) (arg5 : Memref sig .tc .vmem S1x1280 .f32) (harg5 : arg5.IsWhole) (arg6 : Memref sig .tc .vmem S1x2400 .i32) (harg6 : arg6.IsWhole) (arg7 : Memref sig .tc .vmem S8x160x2400 .fp8e4m3) (harg7 : arg7.IsWhole) (arg8 : Memref sig .tc .vmem S8x2400 .f32) (harg8 : arg8.IsWhole) (arg9 : Memref sig .tc .vmem S8x160x2400 .fp8e4m3) (harg9 : arg9.IsWhole) (arg10 : Memref sig .tc .vmem S8x2400 .f32) (harg10 : arg10.IsWhole) (arg11 : Memref sig .tc .vmem S6440x128 .f32) (harg11 : arg11.IsWhole) (arg12 : Memref sig .tc .vmem S24360x128 .f32) (harg12 : arg12.IsWhole) (hc0 : ¬cond0_0 i) (hc1 : ¬cond0_1 i)
    (x0 : Vec F S3x640 .i32) (x1 : Vec F S1x640x6144 .fp8e4m3) (x2 : Vec F S1x640x128 .f32) (x3 : Vec F S6144x1280 .fp8e4m3) (x4 : Vec F S1x1280 .f32) (x5 : Vec F S1x2400 .i32) (x6 : Vec F S8x160x2400 .fp8e4m3) (x7 : Vec F S8x2400 .f32) (xs0 : Vec F S6440x128 .f32) (hw : ∀ k, k0_chk1 (word (F := F) i arg1 (harg1.unread x0) k)) :
    Σ' (L8 : List (View.Piece (Elt F) S8x160x2400 .fp8e4m3)), Σ' (L9 : List (View.Piece (Elt F) S8x2400 .f32)), Σ' (LS0 : List (View.Piece (Elt F) S6440x128 .f32)), { LS1 : List (View.Piece (Elt F) S24360x128 .f32) //
      ∀ (xi8 : Vec F S8x160x2400 .fp8e4m3) (xi9 : Vec F S8x2400 .f32) (xs1 : Vec F S24360x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare xi8 ∗ owns (c : Thread nD τ) arg10 fullShare xi9 ∗ owns (c : Thread nD τ) arg11 fullShare xs0 ∗ owns (c : Thread nD τ) arg12 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare xi8 ∗ owns (c : Thread nD τ) arg10 fullShare xi9 ∗ (arg11.view.loc (c : Thread nD τ) ↦[arg11.view.set]{fullShare} arg11.view.writes (Elt F) (harg11.unread xs0) LS0) ∗ (arg12.view.loc (c : Thread nD τ) ↦[arg12.view.set]{fullShare} arg12.view.writes (Elt F) (harg12.unread xs1) LS1)) -∗ K ⟨⟩))
          ⊢ wp frame (wpE (defs₀ (F := F)) Variants.none c none) E (cc0_k_proj i arg1 harg1 arg2 harg2 arg3 harg3 arg4 harg4 arg5 harg5 arg6 harg6 arg7 harg7 arg8 harg8 arg9 harg9 arg10 harg10 arg11 harg11 arg12 harg12) K } := by
  refine ⟨[], [], ?_, ?_, fun xi8 xi9 xs1 E K => ?run⟩
  case run =>
    simp only [cc0_k_proj_eq_skeleton]; unfold cc0_k_proj_skel
    simp only [k0_part65_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hfs0; obtain rfl := harg12.eq_unread hfs1
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [HS0]; · iexact HS0
    iexact HS1

end Cert.KProjIdeal.Gen

end
-- ==== Proof.KRows.lean ====
/-
  The gathered rows as an array: a trip puts its token's row, in ten chunks of 128, at the token's slot, so after the loop
  every slot holds the row of the last token sent to it, and a slot no token is sent to keeps what it held.
-/
module

public import proofs.«01_k».proof.Proof.KLoop
public import Idealize.ShloMosaic.Lib.Pipeline.Value

@[expose] public section

set_option maxRecDepth 16384
set_option maxHeartbeats 1000000

noncomputable section

namespace Cert.KProjIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- Row `k`, chunk `c`, lane `l` of an array of 640 rows staged with 644 places per chunk. -/
abbrev stagedIx (k : Fin 640) (c : Fin 10) (l : Fin 128) : S6440x128.Idx := fun
  | ⟨0, _⟩ => (⟨644 * c.val + k.val, by have := c.isLt; have := k.isLt; omega⟩ : Fin 6440)
  | ⟨1, _⟩ => l

/-- Slot `s`, chunk `c`, lane `l` of the gathered rows, 2436 places per chunk. -/
abbrev gatherIx (s : Fin 2436) (c : Fin 10) (l : Fin 128) : S24360x128.Idx := fun
  | ⟨0, _⟩ => (⟨2436 * c.val + s.val, by have := c.isLt; have := s.isLt; omega⟩ : Fin 24360)
  | ⟨1, _⟩ => l

/-- A slot's word in range leaves room for the ten chunks. -/
theorem chk_lt (w : BitVec 32) (h : k0_chk1 w) : w.toNat < 2436 := by
  have h1 := h.1 (0 : Fin 2)
  have h2 := h.2 (0 : Fin 2)
  have e3 : k0_off3 w (0 : Fin 2) = w.toNat := rfl
  have e5 : k0_off5 w (0 : Fin 2) = (w.toNat + 19488) % 4294967296 := by
    show (w + 19488#32).toNat = _
    rw [BitVec.toNat_add]; rfl
  rw [e3] at h1; rw [e5] at h2
  have s8 : S8x128.size (0 : Fin 2) = 8 := rfl
  have s2 : S2x128.size (0 : Fin 2) = 2 := rfl
  have sg : S24360x128.size (0 : Fin 2) = 24360 := rfl
  have st : (![2436, 1] : Fin 2 → ℕ) (0 : Fin 2) = 2436 := rfl
  rw [s8, sg, st] at h1; rw [s2, sg, st] at h2
  have := w.isLt
  omega

/-- Where the last two chunks start. -/
theorem off5_val (w : BitVec 32) (h : w.toNat < 2436) : k0_off5 w (0 : Fin 2) = w.toNat + 19488 := by
  show (w + 19488#32).toNat = _
  rw [BitVec.toNat_add]
  show (w.toNat + 19488) % 4294967296 = _
  omega

theorem off5_one (w : BitVec 32) : k0_off5 w (1 : Fin 2) = 0 := rfl
theorem off3_zero (w : BitVec 32) : k0_off3 w (0 : Fin 2) = w.toNat := rfl
theorem off3_one (w : BitVec 32) : k0_off3 w (1 : Fin 2) = 0 := rfl

theorem trips_eq : k0_t1_loop.trips = 640 := by decide +kernel

theorem off2_val : ∀ k : Fin k0_t1_loop.trips, k0_off2 k (0 : Fin 2) = k.val ∧ k0_off2 k (1 : Fin 2) = 0 := by decide +kernel
theorem off4_val : ∀ k : Fin k0_t1_loop.trips, k0_off4 k (0 : Fin 2) = k.val + 5152 ∧ k0_off4 k (1 : Fin 2) = 0 := by decide +kernel

variable (i : grid0.Coords) (arg1 : Memref sig .tc .smem S3x640 .i32) (arg11 : Memref sig .tc .vmem S6440x128 .f32)
  (arg12 : Memref sig .tc .vmem S24360x128 .f32) (X1 : BufTy.Contents (Elt F) arg1.view.ty) (X11 : BufTy.Contents (Elt F) arg11.view.ty)
  (hw : ∀ k, k0_chk1 (word (F := F) i arg1 X1 k)) (G : BufTy.Contents (Elt F) arg12.view.ty)

/-- The rows are stored as they were read. -/
theorem pay8_eq (v : Vec F S2x128 .f32) : k0_pay8 v = v := shapeCast_self _ _
theorem pay7_eq (v : Vec F S8x128 .f32) : k0_pay7 v = v := shapeCast_self _ _

/-- A store through any rectangle, read at an index: the payload where the index is in the rectangle, else what was there. -/
theorem read_cons {s : Shape} {e : EltTy} (v : View sig .tc .vmem s e) (f : v.ty.Contents (Elt F)) (r : Rect s) (p : r.shape.Idx → Elt F e)
    (L : List (View.Piece (Elt F) s e)) (y : s.Idx) (h : ∀ x, r.emb x ≠ y) :
    v.read (Elt F) (v.writes (Elt F) f (⟨r, p⟩ :: L)) y = v.read (Elt F) (v.writes (Elt F) f L) y := by
  rw [View.writes_cons]
  refine View.read_slice_write_of_not_mem _ _ _ _ ?_
  rw [Finset.mem_map]
  rintro ⟨x, -, hx⟩
  exact h x hx

/-- One trip's two stores, at the trip's slot the token's row, elsewhere what was there: for any slot's word in range. -/
theorem pieces_read (w : BitVec 32) (hw' : k0_chk1 w) (k : Fin 640) (hk : k.val < k0_t1_loop.trips) (s : Fin 2436) (c : Fin 10) (l : Fin 128) :
    arg12.view.read (Elt F) (arg12.view.writes (Elt F) G
      [⟨⟨(⟨k0_off5 w, S2x128.size, ![2436, 1], (k0_off5_inb _ hw')⟩ : LoadRect S24360x128), spos_2436_1⟩,
        k0_pay8 (View.readAt (Elt F) arg11.view (⟨k0_off4 ⟨k.val, hk⟩, S2x128.size, ![644, 1], (k0_off4_inb ⟨k.val, hk⟩)⟩ : LoadRect S6440x128) X11)⟩,
       ⟨⟨(⟨k0_off3 w, S8x128.size, ![2436, 1], (k0_off3_inb _ hw')⟩ : LoadRect S24360x128), spos_2436_1⟩,
        k0_pay7 (View.readAt (Elt F) arg11.view (⟨k0_off2 ⟨k.val, hk⟩, S8x128.size, ![644, 1], (k0_off2_inb ⟨k.val, hk⟩)⟩ : LoadRect S6440x128) X11)⟩])
        (gatherIx s c l)
      = if w.toNat = s.val then arg11.view.read (Elt F) X11 (stagedIx k c l)
        else arg12.view.read (Elt F) G (gatherIx s c l) := by
  have hlt := chk_lt _ hw'
  have o5 := off5_val w hlt
  have o2 := (off2_val ⟨k.val, hk⟩).1
  have o2' := (off2_val ⟨k.val, hk⟩).2
  have o4 := (off4_val ⟨k.val, hk⟩).1
  have o4' := (off4_val ⟨k.val, hk⟩).2
  have hs := s.isLt
  have hc := c.isLt
  by_cases h : w.toNat = s.val
  · rw [if_pos h]
    by_cases h8 : 8 ≤ c.val
    · have hy : (⟨(⟨k0_off5 w, S2x128.size, ![2436, 1], (k0_off5_inb w hw')⟩ : LoadRect S24360x128), spos_2436_1⟩ : Rect S24360x128).emb
          (fun | ⟨0, _⟩ => (⟨c.val - 8, by omega⟩ : Fin 2) | ⟨1, _⟩ => l) = gatherIx s c l := by
        funext a; apply Fin.ext
        match a with
        | ⟨0, _⟩ => show k0_off5 w (0 : Fin 2) + 2436 * (c.val - 8) = 2436 * c.val + s.val; omega
        | ⟨1, _⟩ => show k0_off5 w (1 : Fin 2) + 1 * l.val = l.val; rw [off5_one]; omega
      rw [← hy, View.read_writes_cons_emb]
      refine (congrFun (pay8_eq _) _).trans ?_
      refine congrArg (arg11.view.read (Elt F) X11) ?_
      funext a; apply Fin.ext
      match a with
      | ⟨0, _⟩ => show k0_off4 ⟨k.val, hk⟩ (0 : Fin 2) + 644 * (c.val - 8) = 644 * c.val + k.val; rw [o4]; show k.val + 5152 + _ = _; omega
      | ⟨1, _⟩ => show k0_off4 ⟨k.val, hk⟩ (1 : Fin 2) + 1 * l.val = l.val; rw [o4']; omega
    · rw [read_cons]
      · have hy : (⟨(⟨k0_off3 w, S8x128.size, ![2436, 1], (k0_off3_inb w hw')⟩ : LoadRect S24360x128), spos_2436_1⟩ : Rect S24360x128).emb
            (fun | ⟨0, _⟩ => (⟨c.val, by omega⟩ : Fin 8) | ⟨1, _⟩ => l) = gatherIx s c l := by
          funext a; apply Fin.ext
          match a with
          | ⟨0, _⟩ => show w.toNat + 2436 * c.val = 2436 * c.val + s.val; omega
          | ⟨1, _⟩ => show k0_off3 w (1 : Fin 2) + 1 * l.val = l.val; rw [off3_one]; omega
        rw [← hy, View.read_writes_cons_emb]
        refine (congrFun (pay7_eq _) _).trans ?_
        refine congrArg (arg11.view.read (Elt F) X11) ?_
        funext a; apply Fin.ext
        match a with
        | ⟨0, _⟩ => show k0_off2 ⟨k.val, hk⟩ (0 : Fin 2) + 644 * c.val = 644 * c.val + k.val; rw [o2]; show k.val + _ = _; omega
        | ⟨1, _⟩ => show k0_off2 ⟨k.val, hk⟩ (1 : Fin 2) + 1 * l.val = l.val; rw [o2']; omega
      · intro x hx
        have h0 := congrArg (fun z : S24360x128.Idx => (z (0 : Fin 2)).val) hx
        have : k0_off5 w (0 : Fin 2) + 2436 * (x (0 : Fin 2)).val = 2436 * c.val + s.val := h0
        omega
  · rw [if_neg h, read_cons, read_cons]
    · rfl
    · intro x hx
      have h0 := congrArg (fun z : S24360x128.Idx => (z (0 : Fin 2)).val) hx
      have : w.toNat + 2436 * (x (0 : Fin 2)).val = 2436 * c.val + s.val := h0
      omega
    · intro x hx
      have h0 := congrArg (fun z : S24360x128.Idx => (z (0 : Fin 2)).val) hx
      have : k0_off5 w (0 : Fin 2) + 2436 * (x (0 : Fin 2)).val = 2436 * c.val + s.val := h0
      omega

/-- One trip's two stores, read at an index. -/
theorem trip_read (k : Fin 640) (hk : k.val < k0_t1_loop.trips) (s : Fin 2436) (c : Fin 10) (l : Fin 128) :
    arg12.view.read (Elt F) (arg12.view.writes (Elt F) G (rowPieces i arg1 arg11 X1 X11 hw ⟨k.val, hk⟩)) (gatherIx s c l)
      = if (word (F := F) i arg1 X1 ⟨k.val, hk⟩).toNat = s.val then arg11.view.read (Elt F) X11 (stagedIx k c l)
        else arg12.view.read (Elt F) G (gatherIx s c l) :=
  pieces_read arg11 arg12 X11 G (word (F := F) i arg1 X1 ⟨k.val, hk⟩) (hw ⟨k.val, hk⟩) k hk s c l

/-- `n` tokens moved one after another into an array of 2436 slots: token `k` goes to the slot whose number is `slot k`. -/
def place {α : Type} (slot : ℕ → ℕ) (y : ℕ → Fin 10 → Fin 128 → α) (R : Fin 2436 → Fin 10 → Fin 128 → α) : ℕ → Fin 2436 → Fin 10 → Fin 128 → α
  | 0 => R
  | k + 1 => fun s c l => if slot k = s.val then y k c l else place slot y R k s c l

/-- After `n` trips the gathered rows hold the first `n` tokens' rows placed one after another over what was there. -/
theorem rows_read (slot : ℕ → ℕ) (y : ℕ → Fin 10 → Fin 128 → Elt F .f32)
    (hslot : ∀ k : Fin k0_t1_loop.trips, (word (F := F) i arg1 X1 k).toNat = slot k.val)
    (hy : ∀ (k : Fin 640) c l, arg11.view.read (Elt F) X11 (stagedIx k c l) = y k.val c l) :
    ∀ (n : ℕ) (_ : n ≤ 640) (s : Fin 2436) (c : Fin 10) (l : Fin 128),
      arg12.view.read (Elt F) (arg12.view.writes (Elt F) G (rowsList i arg1 arg11 X1 X11 hw n)) (gatherIx s c l)
        = place slot y (fun s c l => arg12.view.read (Elt F) G (gatherIx s c l)) n s c l
  | 0, _, s, c, l => by rw [rowsList]; rfl
  | n + 1, hn, s, c, l => by
    have hlt : n < k0_t1_loop.trips := by rw [trips_eq]; omega
    have e := rowsList_succ (F := F) i arg1 arg11 X1 X11 hw ⟨n, hlt⟩
    have e' : rowsList i arg1 arg11 X1 X11 hw (n + 1) = rowPieces i arg1 arg11 X1 X11 hw ⟨n, hlt⟩ ++ rowsList i arg1 arg11 X1 X11 hw n := e
    rw [e', View.writes_append]
    have t := trip_read i arg1 arg11 arg12 X1 X11 hw (arg12.view.writes (Elt F) G (rowsList i arg1 arg11 X1 X11 hw n)) ⟨n, by omega⟩ hlt s c l
    refine t.trans ?_
    rw [hslot, hy, rows_read slot y hslot hy n (by omega) s c l]
    rfl

/-- The indices of the gathered rows are the slots' chunks' lanes. -/
theorem gather_surj (j : S24360x128.Idx) : ∃ s c l, j = gatherIx s c l := by
  have h := (j (0 : Fin 2)).isLt
  have h' : (j (0 : Fin 2)).val < 24360 := h
  refine ⟨⟨(j (0 : Fin 2)).val % 2436, Nat.mod_lt _ (by decide)⟩, ⟨(j (0 : Fin 2)).val / 2436, by omega⟩, j (1 : Fin 2), ?_⟩
  funext a; apply Fin.ext
  match a with
  | ⟨0, _⟩ => show (j (0 : Fin 2)).val = 2436 * ((j (0 : Fin 2)).val / 2436) + (j (0 : Fin 2)).val % 2436; omega
  | ⟨1, _⟩ => rfl

end Cert.KProjIdeal.Gen

end
-- ==== Proof.KStage.lean ====
/-
  The staged rows: a point stages its 640 projected rows, ten chunks of 128 columns one after another, 644 places per chunk.
-/
module

public import proofs.«01_k».proof.Proof.KRows
public import Idealize.ShloMosaic.Lib.WritesUnit

@[expose] public section

set_option maxRecDepth 16384
set_option maxHeartbeats 1000000

noncomputable section

namespace Cert.KProjIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The ten stores of a point's rows, the last first, from the four blocks it reads. -/
abbrev stagePieces (v3 : Vec F S1x640x6144 .fp8e4m3) (v5 : Vec F S6144x1280 .fp8e4m3) (v7 : Vec F S1x640x128 .f32) (v12 : Vec F S1x1280 .f32) :
    List (View.Piece (Elt F) S6440x128 .f32) :=
  [⟨Rect.unit (s := S6440x128) ![5796, 0] S640x128.size inb_S6440x128_S640x128_5796_0, k0_pay6 (k0_pay335 v3 v5 v7 v12)⟩,
   ⟨Rect.unit (s := S6440x128) ![5152, 0] S640x128.size inb_S6440x128_S640x128_5152_0, k0_pay5 (k0_pay335 v3 v5 v7 v12)⟩,
   ⟨Rect.unit (s := S6440x128) ![4508, 0] S640x128.size inb_S6440x128_S640x128_4508_0, k0_pay4 (k0_pay335 v3 v5 v7 v12)⟩,
   ⟨Rect.unit (s := S6440x128) ![3864, 0] S640x128.size inb_S6440x128_S640x128_3864_0, k0_pay3 (k0_pay335 v3 v5 v7 v12)⟩,
   ⟨Rect.unit (s := S6440x128) ![3220, 0] S640x128.size inb_S6440x128_S640x128_3220_0, k0_pay2 (k0_pay335 v3 v5 v7 v12)⟩,
   ⟨Rect.unit (s := S6440x128) ![2576, 0] S640x128.size inb_S6440x128_S640x128_2576_0, k0_pay1 (k0_pay340 v3 v5 v7 v12)⟩,
   ⟨Rect.unit (s := S6440x128) ![1932, 0] S640x128.size inb_S6440x128_S640x128_1932_0, k0_pay339 v3 v5 v7 v12⟩,
   ⟨Rect.unit (s := S6440x128) ![1288, 0] S640x128.size inb_S6440x128_S640x128_1288_0, k0_pay338 v3 v5 v7 v12⟩,
   ⟨Rect.unit (s := S6440x128) ![644, 0] S640x128.size inb_S6440x128_S640x128_644_0, k0_pay337 v3 v5 v7 v12⟩,
   ⟨Rect.unit (s := S6440x128) ![0, 0] S640x128.size inb_S6440x128_S640x128_0_0, k0_pay336 v3 v5 v7 v12⟩]

variable (arg2 : Memref sig .tc .vmem S1x640x6144 .fp8e4m3) (harg2 : arg2.IsWhole) (arg3 : Memref sig .tc .vmem S1x640x128 .f32) (harg3 : arg3.IsWhole) (arg4 : Memref sig .tc .vmem S6144x1280 .fp8e4m3) (harg4 : arg4.IsWhole) (arg5 : Memref sig .tc .vmem S1x1280 .f32) (harg5 : arg5.IsWhole)
  (x1 : Vec F S1x640x6144 .fp8e4m3) (x2 : Vec F S1x640x128 .f32) (x3 : Vec F S6144x1280 .fp8e4m3) (x4 : Vec F S1x1280 .f32)

/-- The same from the buffers the blocks lie in. -/
abbrev stageOf : List (View.Piece (Elt F) S6440x128 .f32) :=
  stagePieces
      (View.readAt (Elt F) arg2.view (Rect.unit (s := S1x640x6144) ![0, 0, 0] S1x640x6144.size inb_S1x640x6144_S1x640x6144_0_0_0).toLoadRect (harg2.unread x1))
      (View.readAt (Elt F) arg4.view (Rect.unit (s := S6144x1280) ![0, 0] S6144x1280.size inb_S6144x1280_S6144x1280_0_0).toLoadRect (harg4.unread x3))
      (View.readAt (Elt F) arg3.view (Rect.unit (s := S1x640x128) ![0, 0, 0] S1x640x128.size inb_S1x640x128_S1x640x128_0_0_0).toLoadRect (harg3.unread x2))
      (View.readAt (Elt F) arg5.view (Rect.unit (s := S1x1280) ![0, 0] S1x1280.size inb_S1x1280_S1x1280_0_0).toLoadRect (harg5.unread x4))

/-- Row `k`, chunk `c`, lane `l` of a point's projection. -/
abbrev rowIx (k : Fin 640) (c : Fin 10) (l : Fin 128) : S640x1280.Idx := fun
  | ⟨0, _⟩ => k
  | ⟨1, _⟩ => (⟨128 * c.val + l.val, by have := c.isLt; have := l.isLt; omega⟩ : Fin 1280)

/-- Row `k`, lane `l` of a chunk. -/
abbrev chunkIx (k : Fin 640) (l : Fin 128) : S640x128.Idx := fun
  | ⟨0, _⟩ => k
  | ⟨1, _⟩ => l

/-- A chunk cut out of the projection, at an index. -/
theorem cut_at (Y : FVec F S640x1280 .f32) (c : Fin 10) (off : Fin 2 → ℕ) (ho : off = ![0, 128 * c.val]) (h) (h') (k : Fin 640) (l : Fin 128) :
    shapeCast S640x128 (extractStridedSlice S640x128 off Y h) h' (chunkIx k l) = Y (rowIx k c l) := by
  subst ho
  rw [shapeCast_self]
  refine congrArg Y ?_
  funext a; apply Fin.ext
  match a with
  | ⟨0, _⟩ => show 0 + k.val = k.val; omega
  | ⟨1, _⟩ => rfl

/-- A piece of the staged rows, read in its chunk. -/
theorem stage_hit (v : View sig .tc .vmem S6440x128 .f32) (f : v.ty.Contents (Elt F)) (L) (off : Fin 2 → ℕ) (inb) (p : FVec F S640x128 .f32)
    (k : Fin 640) (c : Fin 10) (l : Fin 128) (ho : off = ![644 * c.val, 0]) :
    v.read (Elt F) (v.writes (Elt F) f ((⟨Rect.unit (s := S6440x128) off S640x128.size inb, p⟩ : View.Piece (Elt F) S6440x128 .f32) :: L)) (stagedIx k c l) = p (chunkIx k l) := by
  refine View.read_writes_cons_unit_of_mem v f inb p L _ (chunkIx k l) ho fun a => ?_
  match a with
  | ⟨0, _⟩ => rfl
  | ⟨1, _⟩ => show l.val = 0 + l.val; omega

/-- A piece of the staged rows, read in another chunk. -/
theorem stage_miss (v : View sig .tc .vmem S6440x128 .f32) (f : v.ty.Contents (Elt F)) (L) (off : Fin 2 → ℕ) (inb) (p : FVec F S640x128 .f32)
    (k : Fin 640) (c : Fin 10) (l : Fin 128) (d : ℕ) (ho : off = ![644 * d, 0]) (hd : d ≠ c.val) :
    v.read (Elt F) (v.writes (Elt F) f ((⟨Rect.unit (s := S6440x128) off S640x128.size inb, p⟩ : View.Piece (Elt F) S6440x128 .f32) :: L)) (stagedIx k c l)
      = v.read (Elt F) (v.writes (Elt F) f L) (stagedIx k c l) := by
  refine View.read_writes_cons_unit_of_not_mem v f inb p L _ ho (0 : Fin 2) ?_
  show 644 * c.val + k.val < 644 * d ∨ 644 * d + 640 ≤ 644 * c.val + k.val
  have := k.isLt
  omega

/-- Ten chunks stored one after another, read at an index: the chunk's own payload. -/
theorem stage_list (v : View sig .tc .vmem S6440x128 .f32) (f : v.ty.Contents (Elt F)) (p : Fin 10 → FVec F S640x128 .f32)
    (k : Fin 640) (c : Fin 10) (l : Fin 128) :
    v.read (Elt F) (v.writes (Elt F) f
      [⟨Rect.unit (s := S6440x128) ![5796, 0] S640x128.size inb_S6440x128_S640x128_5796_0, p 9⟩,
       ⟨Rect.unit (s := S6440x128) ![5152, 0] S640x128.size inb_S6440x128_S640x128_5152_0, p 8⟩,
       ⟨Rect.unit (s := S6440x128) ![4508, 0] S640x128.size inb_S6440x128_S640x128_4508_0, p 7⟩,
       ⟨Rect.unit (s := S6440x128) ![3864, 0] S640x128.size inb_S6440x128_S640x128_3864_0, p 6⟩,
       ⟨Rect.unit (s := S6440x128) ![3220, 0] S640x128.size inb_S6440x128_S640x128_3220_0, p 5⟩,
       ⟨Rect.unit (s := S6440x128) ![2576, 0] S640x128.size inb_S6440x128_S640x128_2576_0, p 4⟩,
       ⟨Rect.unit (s := S6440x128) ![1932, 0] S640x128.size inb_S6440x128_S640x128_1932_0, p 3⟩,
       ⟨Rect.unit (s := S6440x128) ![1288, 0] S640x128.size inb_S6440x128_S640x128_1288_0, p 2⟩,
       ⟨Rect.unit (s := S6440x128) ![644, 0] S640x128.size inb_S6440x128_S640x128_644_0, p 1⟩,
       ⟨Rect.unit (s := S6440x128) ![0, 0] S640x128.size inb_S6440x128_S640x128_0_0, p 0⟩]) (stagedIx k c l) = p c (chunkIx k l) := by
  match c with
  | ⟨0, _⟩ =>
    refine (stage_miss v f _ _ _ (p 9) k ⟨0, by decide⟩ l 9 rfl (by decide)).trans ?_
    refine (stage_miss v f _ _ _ (p 8) k ⟨0, by decide⟩ l 8 rfl (by decide)).trans ?_
    refine (stage_miss v f _ _ _ (p 7) k ⟨0, by decide⟩ l 7 rfl (by decide)).trans ?_
    refine (stage_miss v f _ _ _ (p 6) k ⟨0, by decide⟩ l 6 rfl (by decide)).trans ?_
    refine (stage_miss v f _ _ _ (p 5) k ⟨0, by decide⟩ l 5 rfl (by decide)).trans ?_
    refine (stage_miss v f _ _ _ (p 4) k ⟨0, by decide⟩ l 4 rfl (by decide)).trans ?_
    refine (stage_miss v f _ _ _ (p 3) k ⟨0, by decide⟩ l 3 rfl (by decide)).trans ?_
    refine (stage_miss v f _ _ _ (p 2) k ⟨0, by decide⟩ l 2 rfl (by decide)).trans ?_
    refine (stage_miss v f _ _ _ (p 1) k ⟨0, by decide⟩ l 1 rfl (by decide)).trans ?_
    exact stage_hit v f _ _ _ (p 0) k ⟨0, by decide⟩ l rfl
  | ⟨1, _⟩ =>
    refine (stage_miss v f _ _ _ (p 9) k ⟨1, by decide⟩ l 9 rfl (by decide)).trans ?_
    refine (stage_miss v f _ _ _ (p 8) k ⟨1, by decide⟩ l 8 rfl (by decide)).trans ?_
    refine (stage_miss v f _ _ _ (p 7) k ⟨1, by decide⟩ l 7 rfl (by decide)).trans ?_
    refine (stage_miss v f _ _ _ (p 6) k ⟨1, by decide⟩ l 6 rfl (by decide)).trans ?_
    refine (stage_miss v f _ _ _ (p 5) k ⟨1, by decide⟩ l 5 rfl (by decide)).trans ?_
    refine (stage_miss v f _ _ _ (p 4) k ⟨1, by decide⟩ l 4 rfl (by decide)).trans ?_
    refine (stage_miss v f _ _ _ (p 3) k ⟨1, by decide⟩ l 3 rfl (by decide)).trans ?_
    refine (stage_miss v f _ _ _ (p 2) k ⟨1, by decide⟩ l 2 rfl (by decide)).trans ?_
    exact stage_hit v f _ _ _ (p 1) k ⟨1, by decide⟩ l rfl
  | ⟨2, _⟩ =>
    refine (stage_miss v f _ _ _ (p 9) k ⟨2, by decide⟩ l 9 rfl (by decide)).trans ?_
    refine (stage_miss v f _ _ _ (p 8) k ⟨2, by decide⟩ l 8 rfl (by decide)).trans ?_
    refine (stage_miss v f _ _ _ (p 7) k ⟨2, by decide⟩ l 7 rfl (by decide)).trans ?_
    refine (stage_miss v f _ _ _ (p 6) k ⟨2, by decide⟩ l 6 rfl (by decide)).trans ?_
    refine (stage_miss v f _ _ _ (p 5) k ⟨2, by decide⟩ l 5 rfl (by decide)).trans ?_
    refine (stage_miss v f _ _ _ (p 4) k ⟨2, by decide⟩ l 4 rfl (by decide)).trans ?_
    refine (stage_miss v f _ _ _ (p 3) k ⟨2, by decide⟩ l 3 rfl (by decide)).trans ?_
    exact stage_hit v f _ _ _ (p 2) k ⟨2, by decide⟩ l rfl
  | ⟨3, _⟩ =>
    refine (stage_miss v f _ _ _ (p 9) k ⟨3, by decide⟩ l 9 rfl (by decide)).trans ?_
    refine (stage_miss v f _ _ _ (p 8) k ⟨3, by decide⟩ l 8 rfl (by decide)).trans ?_
    refine (stage_miss v f _ _ _ (p 7) k ⟨3, by decide⟩ l 7 rfl (by decide)).trans ?_
    refine (stage_miss v f _ _ _ (p 6) k ⟨3, by decide⟩ l 6 rfl (by decide)).trans ?_
    refine (stage_miss v f _ _ _ (p 5) k ⟨3, by decide⟩ l 5 rfl (by decide)).trans ?_
    refine (stage_miss v f _ _ _ (p 4) k ⟨3, by decide⟩ l 4 rfl (by decide)).trans ?_
    exact stage_hit v f _ _ _ (p 3) k ⟨3, by decide⟩ l rfl
  | ⟨4, _⟩ =>
    refine (stage_miss v f _ _ _ (p 9) k ⟨4, by decide⟩ l 9 rfl (by decide)).trans ?_
    refine (stage_miss v f _ _ _ (p 8) k ⟨4, by decide⟩ l 8 rfl (by decide)).trans ?_
    refine (stage_miss v f _ _ _ (p 7) k ⟨4, by decide⟩ l 7 rfl (by decide)).trans ?_
    refine (stage_miss v f _ _ _ (p 6) k ⟨4, by decide⟩ l 6 rfl (by decide)).trans ?_
    refine (stage_miss v f _ _ _ (p 5) k ⟨4, by decide⟩ l 5 rfl (by decide)).trans ?_
    exact stage_hit v f _ _ _ (p 4) k ⟨4, by decide⟩ l rfl
  | ⟨5, _⟩ =>
    refine (stage_miss v f _ _ _ (p 9) k ⟨5, by decide⟩ l 9 rfl (by decide)).trans ?_
    refine (stage_miss v f _ _ _ (p 8) k ⟨5, by decide⟩ l 8 rfl (by decide)).trans ?_
    refine (stage_miss v f _ _ _ (p 7) k ⟨5, by decide⟩ l 7 rfl (by decide)).trans ?_
    refine (stage_miss v f _ _ _ (p 6) k ⟨5, by decide⟩ l 6 rfl (by decide)).trans ?_
    exact stage_hit v f _ _ _ (p 5) k ⟨5, by decide⟩ l rfl
  | ⟨6, _⟩ =>
    refine (stage_miss v f _ _ _ (p 9) k ⟨6, by decide⟩ l 9 rfl (by decide)).trans ?_
    refine (stage_miss v f _ _ _ (p 8) k ⟨6, by decide⟩ l 8 rfl (by decide)).trans ?_
    refine (stage_miss v f _ _ _ (p 7) k ⟨6, by decide⟩ l 7 rfl (by decide)).trans ?_
    exact stage_hit v f _ _ _ (p 6) k ⟨6, by decide⟩ l rfl
  | ⟨7, _⟩ =>
    refine (stage_miss v f _ _ _ (p 9) k ⟨7, by decide⟩ l 9 rfl (by decide)).trans ?_
    refine (stage_miss v f _ _ _ (p 8) k ⟨7, by decide⟩ l 8 rfl (by decide)).trans ?_
    exact stage_hit v f _ _ _ (p 7) k ⟨7, by decide⟩ l rfl
  | ⟨8, _⟩ =>
    refine (stage_miss v f _ _ _ (p 9) k ⟨8, by decide⟩ l 9 rfl (by decide)).trans ?_
    exact stage_hit v f _ _ _ (p 8) k ⟨8, by decide⟩ l rfl
  | ⟨9, _⟩ =>
    exact stage_hit v f _ _ _ (p 9) k ⟨9, by decide⟩ l rfl

/-- The ten payloads by chunk. -/
def chunkOf (v3 : Vec F S1x640x6144 .fp8e4m3) (v5 : Vec F S6144x1280 .fp8e4m3) (v7 : Vec F S1x640x128 .f32) (v12 : Vec F S1x1280 .f32) : Fin 10 → FVec F S640x128 .f32
  | ⟨0, _⟩ => k0_pay336 v3 v5 v7 v12
  | ⟨1, _⟩ => k0_pay337 v3 v5 v7 v12
  | ⟨2, _⟩ => k0_pay338 v3 v5 v7 v12
  | ⟨3, _⟩ => k0_pay339 v3 v5 v7 v12
  | ⟨4, _⟩ => k0_pay1 (k0_pay340 v3 v5 v7 v12)
  | ⟨5, _⟩ => k0_pay2 (k0_pay335 v3 v5 v7 v12)
  | ⟨6, _⟩ => k0_pay3 (k0_pay335 v3 v5 v7 v12)
  | ⟨7, _⟩ => k0_pay4 (k0_pay335 v3 v5 v7 v12)
  | ⟨8, _⟩ => k0_pay5 (k0_pay335 v3 v5 v7 v12)
  | ⟨9, _⟩ => k0_pay6 (k0_pay335 v3 v5 v7 v12)

/-- Each payload is its chunk of the projection. -/
theorem chunkOf_at (v3 : Vec F S1x640x6144 .fp8e4m3) (v5 : Vec F S6144x1280 .fp8e4m3) (v7 : Vec F S1x640x128 .f32) (v12 : Vec F S1x1280 .f32) (k : Fin 640) (c : Fin 10) (l : Fin 128) :
    chunkOf v3 v5 v7 v12 c (chunkIx k l) = k0_pay335 v3 v5 v7 v12 (rowIx k c l) := by
  match c with
  | ⟨0, _⟩ => exact cut_at (k0_pay335 v3 v5 v7 v12) ⟨0, by decide⟩ ![0, 0] rfl slices_S640x1280_o0_0_S640x128 shapeCasts_S640x128_S640x128 k l
  | ⟨1, _⟩ => exact cut_at (k0_pay335 v3 v5 v7 v12) ⟨1, by decide⟩ ![0, 128] rfl slices_S640x1280_o0_128_S640x128 shapeCasts_S640x128_S640x128 k l
  | ⟨2, _⟩ => exact cut_at (k0_pay335 v3 v5 v7 v12) ⟨2, by decide⟩ ![0, 256] rfl slices_S640x1280_o0_256_S640x128 shapeCasts_S640x128_S640x128 k l
  | ⟨3, _⟩ => exact cut_at (k0_pay335 v3 v5 v7 v12) ⟨3, by decide⟩ ![0, 384] rfl slices_S640x1280_o0_384_S640x128 shapeCasts_S640x128_S640x128 k l
  | ⟨4, _⟩ => exact cut_at (k0_pay335 v3 v5 v7 v12) ⟨4, by decide⟩ ![0, 512] rfl slices_S640x1280_o0_512_S640x128 shapeCasts_S640x128_S640x128 k l
  | ⟨5, _⟩ => exact cut_at (k0_pay335 v3 v5 v7 v12) ⟨5, by decide⟩ ![0, 640] rfl slices_S640x1280_o0_640_S640x128 shapeCasts_S640x128_S640x128 k l
  | ⟨6, _⟩ => exact cut_at (k0_pay335 v3 v5 v7 v12) ⟨6, by decide⟩ ![0, 768] rfl slices_S640x1280_o0_768_S640x128 shapeCasts_S640x128_S640x128 k l
  | ⟨7, _⟩ => exact cut_at (k0_pay335 v3 v5 v7 v12) ⟨7, by decide⟩ ![0, 896] rfl slices_S640x1280_o0_896_S640x128 shapeCasts_S640x128_S640x128 k l
  | ⟨8, _⟩ => exact cut_at (k0_pay335 v3 v5 v7 v12) ⟨8, by decide⟩ ![0, 1024] rfl slices_S640x1280_o0_1024_S640x128 shapeCasts_S640x128_S640x128 k l
  | ⟨9, _⟩ => exact cut_at (k0_pay335 v3 v5 v7 v12) ⟨9, by decide⟩ ![0, 1152] rfl slices_S640x1280_o0_1152_S640x128 shapeCasts_S640x128_S640x128 k l

/-- After the ten stores the staged rows hold the projection. -/
theorem stage_read (v : View sig .tc .vmem S6440x128 .f32) (f : v.ty.Contents (Elt F))
    (v3 : Vec F S1x640x6144 .fp8e4m3) (v5 : Vec F S6144x1280 .fp8e4m3) (v7 : Vec F S1x640x128 .f32) (v12 : Vec F S1x1280 .f32)
    (k : Fin 640) (c : Fin 10) (l : Fin 128) :
    v.read (Elt F) (v.writes (Elt F) f (stagePieces v3 v5 v7 v12)) (stagedIx k c l) = k0_pay335 v3 v5 v7 v12 (rowIx k c l) :=
  (stage_list v f (chunkOf v3 v5 v7 v12) k c l).trans (chunkOf_at v3 v5 v7 v12 k c l)

/-- A block read whole is the block. -/
theorem read_whole {s : Shape} {e : EltTy} {sp : Space} (m : Memref sig .tc sp s e) (hm : m.IsWhole) (x : s.Idx → Elt F e) (off : Fin s.rank → ℕ) (inb) (ho : ∀ a, off a = 0) :
    View.readAt (Elt F) m.view (Rect.unit (s := s) off s.size inb).toLoadRect (hm.unread x) = x := by
  funext j
  rw [View.readAt_apply, hm.read_unread]
  refine congrArg x ?_
  funext a; apply Fin.ext
  show off a + 1 * (j a).val = (j a).val
  rw [ho]; omega

/-- After a point's ten stores the staged rows hold the projection of its blocks. -/
theorem stageOf_read (v : View sig .tc .vmem S6440x128 .f32) (f : v.ty.Contents (Elt F)) (k : Fin 640) (c : Fin 10) (l : Fin 128) :
    v.read (Elt F) (v.writes (Elt F) f (stageOf arg2 harg2 arg3 harg3 arg4 harg4 arg5 harg5 x1 x2 x3 x4)) (stagedIx k c l) = k0_pay335 x1 x3 x2 x4 (rowIx k c l) := by
  refine (stage_read v f _ _ _ _ k c l).trans ?_
  rw [read_whole arg2 harg2 x1 _ _ (by decide), read_whole arg4 harg4 x3 _ _ (by decide), read_whole arg3 harg3 x2 _ _ (by decide), read_whole arg5 harg5 x4 _ _ (by decide)]

end Cert.KProjIdeal.Gen

end
-- ==== Proof.KRunC.lean ====
/-
  The body of the key projection at the last point.
-/
module

public import proofs.«01_k».proof.Proof.KRunB
public import proofs.«01_k».proof.Proof.KStage

@[expose] public section

set_option maxRecDepth 16384

noncomputable section

namespace Cert.KProjIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option warn.classDefReducibility false in
/-- What the loop hands on where the gathered rows it leaves are known. -/
@[reducible] def rowsExit (𝒱 : Variants) (c : Dev nD) (bd : Option 𝒱.V) (i : grid0.Coords) (arg1 : Memref sig .tc .smem S3x640 .i32) (harg1 : arg1.IsWhole) (arg2 : Memref sig .tc .vmem S1x640x6144 .fp8e4m3) (harg2 : arg2.IsWhole) (arg3 : Memref sig .tc .vmem S1x640x128 .f32) (harg3 : arg3.IsWhole) (arg4 : Memref sig .tc .vmem S6144x1280 .fp8e4m3) (harg4 : arg4.IsWhole) (arg5 : Memref sig .tc .vmem S1x1280 .f32) (harg5 : arg5.IsWhole) (arg6 : Memref sig .tc .vmem S1x2400 .i32) (harg6 : arg6.IsWhole) (arg7 : Memref sig .tc .vmem S8x160x2400 .fp8e4m3) (harg7 : arg7.IsWhole) (arg8 : Memref sig .tc .vmem S8x2400 .f32) (harg8 : arg8.IsWhole) (arg9 : Memref sig .tc .vmem S8x160x2400 .fp8e4m3) (harg9 : arg9.IsWhole) (arg10 : Memref sig .tc .vmem S8x2400 .f32) (harg10 : arg10.IsWhole) (arg11 : Memref sig .tc .vmem S6440x128 .f32) (harg11 : arg11.IsWhole) (arg12 : Memref sig .tc .vmem S24360x128 .f32) (harg12 : arg12.IsWhole)
    (E : Set ℕ) (X1 : BufTy.Contents (Elt F) arg1.view.ty) (X11 : BufTy.Contents (Elt F) arg11.view.ty) (G12 : BufTy.Contents (Elt F) arg12.view.ty)
    (hw : ∀ k, k0_chk1 (word (F := F) i arg1 X1 k)) (R : Vec F S24360x128 .f32)
    (hR : arg12.view.writes (Elt F) G12 (rowsList i arg1 arg11 X1 X11 hw k0_t1_loop.trips) = harg12.unread R) :
    LoopExit (rowsLoop (F := F) 𝒱 c bd i arg1 harg1 arg2 harg2 arg3 harg3 arg4 harg4 arg5 harg5 arg6 harg6 arg7 harg7 arg8 harg8 arg9 harg9 arg10 harg10 arg11 harg11 arg12 harg12 E X1 X11 G12 hw) where
  post _ := iprop((arg1.view.loc (c : Thread nD τ) ↦[arg1.view.set]{fullShare} X1) ∗ (arg11.view.loc (c : Thread nD τ) ↦[arg11.view.set]{fullShare} X11)
    ∗ (arg12.view.loc (c : Thread nD τ) ↦[arg12.view.set]{fullShare} harg12.unread R))
  exit acc := by
    show rowsInv (F := F) c i arg1 arg11 arg12 X1 X11 G12 hw k0_t1_loop.trips acc ⊢ _
    iintro ⟨H1, H11, ⟨%f, H12, %hf⟩⟩
    subst hf
    rw [hR]
    isplitl [H1]; · iexact H1
    isplitl [H11]; · iexact H11
    iexact H12

set_option maxHeartbeats 8000000 in
/-- The body at the last point, on slots in range: run from any contents of the staged rows and the gathered rows, with
    the stores it leaves in each output and scratch buffer. -/
noncomputable def kernelRun0_C (c : Dev nD) (i : grid0.Coords) (arg1 : Memref sig .tc .smem S3x640 .i32) (harg1 : arg1.IsWhole) (arg2 : Memref sig .tc .vmem S1x640x6144 .fp8e4m3) (harg2 : arg2.IsWhole) (arg3 : Memref sig .tc .vmem S1x640x128 .f32) (harg3 : arg3.IsWhole) (arg4 : Memref sig .tc .vmem S6144x1280 .fp8e4m3) (harg4 : arg4.IsWhole) (arg5 : Memref sig .tc .vmem S1x1280 .f32) (harg5 : arg5.IsWhole) (arg6 : Memref sig .tc .vmem S1x2400 .i32) (harg6 : arg6.IsWhole) (arg7 : Memref sig .tc .vmem S8x160x2400 .fp8e4m3) (harg7 : arg7.IsWhole) (arg8 : Memref sig .tc .vmem S8x2400 .f32) (harg8 : arg8.IsWhole) (arg9 : Memref sig .tc .vmem S8x160x2400 .fp8e4m3) (harg9 : arg9.IsWhole) (arg10 : Memref sig .tc .vmem S8x2400 .f32) (harg10 : arg10.IsWhole) (arg11 : Memref sig .tc .vmem S6440x128 .f32) (harg11 : arg11.IsWhole) (arg12 : Memref sig .tc .vmem S24360x128 .f32) (harg12 : arg12.IsWhole) (hc0 : ¬cond0_0 i) (hc1 : cond0_1 i)
    (x0 : Vec F S3x640 .i32) (x1 : Vec F S1x640x6144 .fp8e4m3) (x2 : Vec F S1x640x128 .f32) (x3 : Vec F S6144x1280 .fp8e4m3) (x4 : Vec F S1x1280 .f32) (x5 : Vec F S1x2400 .i32) (x6 : Vec F S8x160x2400 .fp8e4m3) (x7 : Vec F S8x2400 .f32) (R : Vec F S24360x128 .f32) (hw : ∀ k, k0_chk1 (word (F := F) i arg1 (harg1.unread x0) k)) :
    Σ' (L8 : List (View.Piece (Elt F) S8x160x2400 .fp8e4m3)), { L9 : List (View.Piece (Elt F) S8x2400 .f32) //
      ∀ (xs0 : Vec F S6440x128 .f32) (xs1 : Vec F S24360x128 .f32)
        (hR : arg12.view.writes (Elt F) (harg12.unread xs1) (rowsList i arg1 arg11 (harg1.unread x0) (arg11.view.writes (Elt F) (harg11.unread xs0) (stageOf arg2 harg2 arg3 harg3 arg4 harg4 arg5 harg5 x1 x2 x3 x4)) hw k0_t1_loop.trips) = harg12.unread R)
        (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ owns (c : Thread nD τ) arg11 fullShare xs0 ∗ owns (c : Thread nD τ) arg12 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9) ∗ (∃ d, owns (c : Thread nD τ) arg11 fullShare d) ∗ owns (c : Thread nD τ) arg12 fullShare R) -∗ K ⟨⟩))
          ⊢ wp frame (wpE (defs₀ (F := F)) Variants.none c none) E (cc0_k_proj i arg1 harg1 arg2 harg2 arg3 harg3 arg4 harg4 arg5 harg5 arg6 harg6 arg7 harg7 arg8 harg8 arg9 harg9 arg10 harg10 arg11 harg11 arg12 harg12) K } := by
  refine ⟨?_, ?_, fun xs0 xs1 hR E K => ?run⟩
  case run =>
    simp only [cc0_k_proj_eq_skeleton]; unfold cc0_k_proj_skel
    simp only [k0_part65_eq_skeleton, k0_part64_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg11.eq_unread hfs0; obtain rfl := harg12.eq_unread hfs1
    letI X := rowsExit (F := F) Variants.none c none i arg1 harg1 arg2 harg2 arg3 harg3 arg4 harg4 arg5 harg5 arg6 harg6 arg7 harg7 arg8 harg8 arg9 harg9 arg10 harg10 arg11 harg11 arg12 harg12 E (harg1.unread x0) (arg11.view.writes (Elt F) (harg11.unread xs0) (stageOf arg2 harg2 arg3 harg3 arg4 harg4 arg5 harg5 x1 x2 x3 x4)) (harg12.unread xs1) hw R hR
    sl_exec (disch := first | sl_exact hc0 | sl_exact hc1)
    sl_step
    iapply Hk
    isplitl [HL0]
    · iexists _; isplitr; · ipureintro; exact harg1.read_unread _
      iexact HL0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]; · iexists _; iexact H8
    isplitl [H9]; · iexists _; iexact H9
    isplitl [HL1]
    · iexists (arg11.view.read (Elt F) (arg11.view.writes (Elt F) (harg11.unread xs0) (stageOf arg2 harg2 arg3 harg3 arg4 harg4 arg5 harg5 x1 x2 x3 x4))); iexists (arg11.view.writes (Elt F) (harg11.unread xs0) (stageOf arg2 harg2 arg3 harg3 arg4 harg4 arg5 harg5 x1 x2 x3 x4)); isplitr; · ipureintro; exact rfl
      iexact HL1
    iexists _; isplitr; · ipureintro; exact harg12.read_unread _
    iexact HL2

end Cert.KProjIdeal.Gen

end
-- ==== Proof.KPoint.lean ====
/-
  What one point does to the gathered rows, as a function of the blocks the point reads: each of its 640 tokens' rows goes to
  the token's slot, one after another.
-/
module

public import proofs.«01_k».proof.Proof.KStage

@[expose] public section

set_option maxRecDepth 16384
set_option maxHeartbeats 1000000

noncomputable section

namespace Cert.KProjIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- Row `b`, token `k` of the slots. -/
abbrev slotIx (b : Fin 3) (k : Fin 640) : S3x640.Idx := fun
  | ⟨0, _⟩ => b
  | ⟨1, _⟩ => k

/-- The slot number of token `k` of point `i`. -/
def slotNum (i : grid0.Coords) (x0 : Vec F S3x640 .i32) (k : ℕ) : ℕ :=
  if h : k < 640 then (x0 (slotIx (i 0) ⟨k, h⟩) : BitVec 32).toNat else 0

/-- The projected row of token `k` of a point, chunk `c`, lane `l`. -/
def rowNum (x1 : Vec F S1x640x6144 .fp8e4m3) (x2 : Vec F S1x640x128 .f32) (x3 : Vec F S6144x1280 .fp8e4m3) (x4 : Vec F S1x1280 .f32)
    (k : ℕ) (c : Fin 10) (l : Fin 128) : Elt F .f32 :=
  if h : k < 640 then k0_pay335 x1 x3 x2 x4 (rowIx ⟨k, h⟩ c l) else k0_pay335 x1 x3 x2 x4 (rowIx 0 c l)

/-- The gathered rows after a point that found them at `R`. -/
def gathered (i : grid0.Coords) (x0 : Vec F S3x640 .i32) (x1 : Vec F S1x640x6144 .fp8e4m3) (x2 : Vec F S1x640x128 .f32) (x3 : Vec F S6144x1280 .fp8e4m3) (x4 : Vec F S1x1280 .f32) (R : Vec F S24360x128 .f32) : Vec F S24360x128 .f32 := fun j =>
  place (slotNum i x0) (rowNum x1 x2 x3 x4) (fun s c l => R (gatherIx s c l)) 640
    ⟨(j (0 : Fin 2)).val % 2436, Nat.mod_lt _ (by decide)⟩
    ⟨(j (0 : Fin 2)).val / 2436, by have h : (j (0 : Fin 2)).val < 24360 := (j (0 : Fin 2)).isLt; omega⟩ (j (1 : Fin 2))

theorem gathered_at (i : grid0.Coords) (x0 : Vec F S3x640 .i32) (x1 : Vec F S1x640x6144 .fp8e4m3) (x2 : Vec F S1x640x128 .f32) (x3 : Vec F S6144x1280 .fp8e4m3) (x4 : Vec F S1x1280 .f32) (R : Vec F S24360x128 .f32) (s : Fin 2436) (c : Fin 10) (l : Fin 128) :
    gathered i x0 x1 x2 x3 x4 R (gatherIx s c l) = place (slotNum i x0) (rowNum x1 x2 x3 x4) (fun s c l => R (gatherIx s c l)) 640 s c l := by
  have hs := s.isLt
  have e1 : (⟨(2436 * c.val + s.val) % 2436, Nat.mod_lt _ (by decide)⟩ : Fin 2436) = s := Fin.ext (by show (2436 * c.val + s.val) % 2436 = s.val; omega)
  have e2 : ∀ h, (⟨(2436 * c.val + s.val) / 2436, h⟩ : Fin 10) = c := fun h => Fin.ext (by show (2436 * c.val + s.val) / 2436 = c.val; omega)
  show place (slotNum i x0) (rowNum x1 x2 x3 x4) (fun s c l => R (gatherIx s c l)) 640 ⟨(2436 * c.val + s.val) % 2436, _⟩ ⟨(2436 * c.val + s.val) / 2436, _⟩ l = _
  rw [e1, e2]

variable (i : grid0.Coords) (arg1 : Memref sig .tc .smem S3x640 .i32) (harg1 : arg1.IsWhole) (arg2 : Memref sig .tc .vmem S1x640x6144 .fp8e4m3) (harg2 : arg2.IsWhole) (arg3 : Memref sig .tc .vmem S1x640x128 .f32) (harg3 : arg3.IsWhole) (arg4 : Memref sig .tc .vmem S6144x1280 .fp8e4m3) (harg4 : arg4.IsWhole) (arg5 : Memref sig .tc .vmem S1x1280 .f32) (harg5 : arg5.IsWhole) (arg11 : Memref sig .tc .vmem S6440x128 .f32) (arg12 : Memref sig .tc .vmem S24360x128 .f32) (harg12 : arg12.IsWhole)
  (x0 : Vec F S3x640 .i32) (x1 : Vec F S1x640x6144 .fp8e4m3) (x2 : Vec F S1x640x128 .f32) (x3 : Vec F S6144x1280 .fp8e4m3) (x4 : Vec F S1x1280 .f32)

theorem off1_zero (k : Fin k0_t1_loop.trips) : k0_off1 i k (0 : Fin 2) = (i 0).val := by
  show (BitVec.ofNat 32 (i 0).val).toNat = _
  rw [BitVec.toNat_ofNat]
  have h : (i 0).val < 3 := (i 0).isLt
  omega

theorem off1_one (k : Fin k0_t1_loop.trips) : k0_off1 i k (1 : Fin 2) = k.val := (off2_val k).1

/-- The slot a trip reads is the token's. -/
theorem word_eq (k : Fin k0_t1_loop.trips) (hk : k.val < 640) :
    word (F := F) i arg1 (harg1.unread x0) k = x0 (slotIx (i 0) ⟨k.val, hk⟩) := by
  unfold word
  rw [View.readAt_apply, harg1.read_unread]
  refine congrArg x0 ?_
  funext a; apply Fin.ext
  match a with
  | ⟨0, _⟩ => show k0_off1 i k (0 : Fin 2) + 1 * 0 = (i 0).val; rw [off1_zero]; exact Nat.add_zero _
  | ⟨1, _⟩ => show k0_off1 i k (1 : Fin 2) + 1 * 0 = k.val; rw [off1_one]; exact Nat.add_zero _

/-- A slot below 2400 leaves room for its row's ten chunks. -/
theorem chk_of_lt (w : BitVec 32) (h : w.toNat < 2400) : k0_chk1 w := by
  have o5 := off5_val w (by omega)
  refine ⟨fun a => Or.inr ?_, fun a => Or.inr ?_⟩
  · match a with
    | ⟨0, _⟩ => show w.toNat + 2436 * 7 < 24360; omega
    | ⟨1, _⟩ => show 0 + 1 * 127 < 128; omega
  · match a with
    | ⟨0, _⟩ => show k0_off5 w (0 : Fin 2) + 2436 * 1 < 24360; omega
    | ⟨1, _⟩ => show 0 + 1 * 127 < 128; omega

/-- Slots below 2400 let every trip through. -/
theorem words_ok (h : ∀ b k, (x0 (slotIx b k) : BitVec 32).toNat < 2400) : ∀ k, k0_chk1 (word (F := F) i arg1 (harg1.unread x0) k) := fun k => by
  rw [word_eq i arg1 harg1 x0 k (lt_of_lt_of_eq k.isLt trips_eq)]
  exact chk_of_lt _ (h _ _)

/-- One point's loop over gathered rows read as `R`. -/
theorem point_rows (fs0 : BufTy.Contents (Elt F) arg11.view.ty) (f : BufTy.Contents (Elt F) arg12.view.ty) (R : Vec F S24360x128 .f32)
    (hf : arg12.view.read (Elt F) f = R) (hw : ∀ k, k0_chk1 (word (F := F) i arg1 (harg1.unread x0) k)) :
    arg12.view.read (Elt F) (arg12.view.writes (Elt F) f (rowsList i arg1 arg11 (harg1.unread x0)
      (arg11.view.writes (Elt F) fs0 (stageOf arg2 harg2 arg3 harg3 arg4 harg4 arg5 harg5 x1 x2 x3 x4)) hw k0_t1_loop.trips))
      = gathered i x0 x1 x2 x3 x4 R := by
  funext j
  obtain ⟨s, c, l, rfl⟩ := gather_surj j
  rw [gathered_at, trips_eq]
  refine (rows_read i arg1 arg11 arg12 (harg1.unread x0) _ hw f (slotNum i x0) (rowNum x1 x2 x3 x4) ?_ ?_ 640 le_rfl s c l).trans ?_
  · intro k
    have hk : k.val < 640 := lt_of_lt_of_eq k.isLt trips_eq
    rw [word_eq i arg1 harg1 x0 k hk, slotNum, dif_pos hk]
  · intro k c l
    rw [stageOf_read, rowNum, dif_pos k.isLt]
  · rw [hf]

/-- The same, as contents. -/
theorem point_contents (fs0 : BufTy.Contents (Elt F) arg11.view.ty) (R : Vec F S24360x128 .f32)
    (hw : ∀ k, k0_chk1 (word (F := F) i arg1 (harg1.unread x0) k)) :
    arg12.view.writes (Elt F) (harg12.unread R) (rowsList i arg1 arg11 (harg1.unread x0)
      (arg11.view.writes (Elt F) fs0 (stageOf arg2 harg2 arg3 harg3 arg4 harg4 arg5 harg5 x1 x2 x3 x4)) hw k0_t1_loop.trips)
      = harg12.unread (gathered i x0 x1 x2 x3 x4 R) :=
  harg12.eq_unread (point_rows i arg1 harg1 arg2 harg2 arg3 harg3 arg4 harg4 arg5 harg5 arg11 arg12 x0 x1 x2 x3 x4 fs0 _ R (harg12.read_unread _) hw)

/-- No rows yet. -/
def noRows : Vec F S24360x128 .f32 := k0_pay334

/-- A store of the whole array leaves the array stored. -/
theorem whole_write (f : BufTy.Contents (Elt F) arg12.view.ty) (inb) (p : (Rect.unit (s := S24360x128) ![0, 0] S24360x128.size inb).shape.Idx → Elt F .f32) :
    arg12.view.read (Elt F) (arg12.view.writes (Elt F) f [⟨Rect.unit (s := S24360x128) ![0, 0] S24360x128.size inb, p⟩]) = p := by
  funext j
  refine View.read_writes_cons_unit_of_mem _ _ inb p [] j j rfl fun a => ?_
  match a with
  | ⟨0, _⟩ => exact (Nat.zero_add _).symm
  | ⟨1, _⟩ => exact (Nat.zero_add _).symm

/-- The first point clears the gathered rows. -/
theorem cleared (f : BufTy.Contents (Elt F) arg12.view.ty) (inb) :
    arg12.view.read (Elt F) (arg12.view.writes (Elt F) f [⟨Rect.unit (s := S24360x128) ![0, 0] S24360x128.size inb, k0_pay334⟩]) = noRows :=
  whole_write arg12 f inb k0_pay334

end Cert.KProjIdeal.Gen

end
-- ==== Proof.KFrame.lean ====
/-
  The certificate of the key projection: it runs to the end from any memory whose slots are in range, leaves its arguments as
  they were, and leaves in its results what the last point makes of the gathered rows.
-/
module

public import proofs.«01_k».proof.Proof.KRunC
public import proofs.«01_k».proof.Proof.KPoint
public import Idealize.ShloMosaic.Lib.Claim
public import Idealize.ShloMosaic.Lib.Pointwise
public import Idealize.ShloMosaic.Lib.Pipeline.ValueKit

@[expose] public section

set_option maxRecDepth 16384

noncomputable section

namespace Cert.KProjIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first point's run leaves its rows placed over cleared ones. -/
theorem runA_rows (c : Dev nD) (i : grid0.Coords) (arg1 : Memref sig .tc .smem S3x640 .i32) (harg1 : arg1.IsWhole) (arg2 : Memref sig .tc .vmem S1x640x6144 .fp8e4m3) (harg2 : arg2.IsWhole) (arg3 : Memref sig .tc .vmem S1x640x128 .f32) (harg3 : arg3.IsWhole) (arg4 : Memref sig .tc .vmem S6144x1280 .fp8e4m3) (harg4 : arg4.IsWhole) (arg5 : Memref sig .tc .vmem S1x1280 .f32) (harg5 : arg5.IsWhole) (arg6 : Memref sig .tc .vmem S1x2400 .i32) (harg6 : arg6.IsWhole) (arg7 : Memref sig .tc .vmem S8x160x2400 .fp8e4m3) (harg7 : arg7.IsWhole) (arg8 : Memref sig .tc .vmem S8x2400 .f32) (harg8 : arg8.IsWhole) (arg9 : Memref sig .tc .vmem S8x160x2400 .fp8e4m3) (harg9 : arg9.IsWhole) (arg10 : Memref sig .tc .vmem S8x2400 .f32) (harg10 : arg10.IsWhole) (arg11 : Memref sig .tc .vmem S6440x128 .f32) (harg11 : arg11.IsWhole) (arg12 : Memref sig .tc .vmem S24360x128 .f32) (harg12 : arg12.IsWhole) (hc0 : cond0_0 i) (hc1 : ¬cond0_1 i)
    (x0 : Vec F S3x640 .i32) (x1 : Vec F S1x640x6144 .fp8e4m3) (x2 : Vec F S1x640x128 .f32) (x3 : Vec F S6144x1280 .fp8e4m3) (x4 : Vec F S1x1280 .f32) (x5 : Vec F S1x2400 .i32) (x6 : Vec F S8x160x2400 .fp8e4m3) (x7 : Vec F S8x2400 .f32) (xs0 : Vec F S6440x128 .f32) (hw : ∀ k, k0_chk1 (word (F := F) i arg1 (harg1.unread x0) k)) (f : BufTy.Contents (Elt F) arg12.view.ty) :
    arg12.view.read (Elt F) (arg12.view.writes (Elt F) f (kernelRun0_A c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 xs0 hw).2.2.2.1) = gathered i x0 x1 x2 x3 x4 noRows := by
  have e : (kernelRun0_A c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 xs0 hw).2.2.2.1
      = rowsList i arg1 arg11 (harg1.unread x0) (arg11.view.writes (Elt F) (harg11.unread xs0) (stageOf arg2 harg2 arg3 harg3 arg4 harg4 arg5 harg5 x1 x2 x3 x4)) hw k0_t1_loop.trips
        ++ [⟨Rect.unit (s := S24360x128) ![0, 0] S24360x128.size inb_S24360x128_S24360x128_0_0, k0_pay334⟩] := rfl
  rw [e, View.writes_append]
  exact point_rows i arg1 harg1 arg2 harg2 arg3 harg3 arg4 harg4 arg5 harg5 arg11 arg12 x0 x1 x2 x3 x4 _ _ noRows (cleared arg12 f _) hw

/-- The middle point's run leaves its rows placed over those it found. -/
theorem runB_rows (c : Dev nD) (i : grid0.Coords) (arg1 : Memref sig .tc .smem S3x640 .i32) (harg1 : arg1.IsWhole) (arg2 : Memref sig .tc .vmem S1x640x6144 .fp8e4m3) (harg2 : arg2.IsWhole) (arg3 : Memref sig .tc .vmem S1x640x128 .f32) (harg3 : arg3.IsWhole) (arg4 : Memref sig .tc .vmem S6144x1280 .fp8e4m3) (harg4 : arg4.IsWhole) (arg5 : Memref sig .tc .vmem S1x1280 .f32) (harg5 : arg5.IsWhole) (arg6 : Memref sig .tc .vmem S1x2400 .i32) (harg6 : arg6.IsWhole) (arg7 : Memref sig .tc .vmem S8x160x2400 .fp8e4m3) (harg7 : arg7.IsWhole) (arg8 : Memref sig .tc .vmem S8x2400 .f32) (harg8 : arg8.IsWhole) (arg9 : Memref sig .tc .vmem S8x160x2400 .fp8e4m3) (harg9 : arg9.IsWhole) (arg10 : Memref sig .tc .vmem S8x2400 .f32) (harg10 : arg10.IsWhole) (arg11 : Memref sig .tc .vmem S6440x128 .f32) (harg11 : arg11.IsWhole) (arg12 : Memref sig .tc .vmem S24360x128 .f32) (harg12 : arg12.IsWhole) (hc0 : ¬cond0_0 i) (hc1 : ¬cond0_1 i)
    (x0 : Vec F S3x640 .i32) (x1 : Vec F S1x640x6144 .fp8e4m3) (x2 : Vec F S1x640x128 .f32) (x3 : Vec F S6144x1280 .fp8e4m3) (x4 : Vec F S1x1280 .f32) (x5 : Vec F S1x2400 .i32) (x6 : Vec F S8x160x2400 .fp8e4m3) (x7 : Vec F S8x2400 .f32) (xs0 : Vec F S6440x128 .f32) (hw : ∀ k, k0_chk1 (word (F := F) i arg1 (harg1.unread x0) k)) (R : Vec F S24360x128 .f32) :
    arg12.view.read (Elt F) (arg12.view.writes (Elt F) (harg12.unread R) (kernelRun0_B c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 xs0 hw).2.2.2.1) = gathered i x0 x1 x2 x3 x4 R := by
  have e : (kernelRun0_B c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 xs0 hw).2.2.2.1
      = rowsList i arg1 arg11 (harg1.unread x0) (arg11.view.writes (Elt F) (harg11.unread xs0) (stageOf arg2 harg2 arg3 harg3 arg4 harg4 arg5 harg5 x1 x2 x3 x4)) hw k0_t1_loop.trips := rfl
  rw [e]
  exact point_rows i arg1 harg1 arg2 harg2 arg3 harg3 arg4 harg4 arg5 harg5 arg11 arg12 x0 x1 x2 x3 x4 _ _ R (harg12.read_unread R) hw

/-- The last point's stores into output 8 cover it. -/
theorem cover0_C_8 (c : Dev nD) (i : grid0.Coords) (arg1 : Memref sig .tc .smem S3x640 .i32) (harg1 : arg1.IsWhole) (arg2 : Memref sig .tc .vmem S1x640x6144 .fp8e4m3) (harg2 : arg2.IsWhole) (arg3 : Memref sig .tc .vmem S1x640x128 .f32) (harg3 : arg3.IsWhole) (arg4 : Memref sig .tc .vmem S6144x1280 .fp8e4m3) (harg4 : arg4.IsWhole) (arg5 : Memref sig .tc .vmem S1x1280 .f32) (harg5 : arg5.IsWhole) (arg6 : Memref sig .tc .vmem S1x2400 .i32) (harg6 : arg6.IsWhole) (arg7 : Memref sig .tc .vmem S8x160x2400 .fp8e4m3) (harg7 : arg7.IsWhole) (arg8 : Memref sig .tc .vmem S8x2400 .f32) (harg8 : arg8.IsWhole) (arg9 : Memref sig .tc .vmem S8x160x2400 .fp8e4m3) (harg9 : arg9.IsWhole) (arg10 : Memref sig .tc .vmem S8x2400 .f32) (harg10 : arg10.IsWhole) (arg11 : Memref sig .tc .vmem S6440x128 .f32) (harg11 : arg11.IsWhole) (arg12 : Memref sig .tc .vmem S24360x128 .f32) (harg12 : arg12.IsWhole) (hc0 : ¬cond0_0 i) (hc1 : cond0_1 i)
    (x0 : Vec F S3x640 .i32) (x1 : Vec F S1x640x6144 .fp8e4m3) (x2 : Vec F S1x640x128 .f32) (x3 : Vec F S6144x1280 .fp8e4m3) (x4 : Vec F S1x1280 .f32) (x5 : Vec F S1x2400 .i32) (x6 : Vec F S8x160x2400 .fp8e4m3) (x7 : Vec F S8x2400 .f32) (R : Vec F S24360x128 .f32) (hw : ∀ k, k0_chk1 (word (F := F) i arg1 (harg1.unread x0) k)) (y : S8x160x2400.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 R hw).1, y ∈ pc.1.set :=
  View.cover_of_tiledBy (kernelRun0_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 R hw).1 ![8, 160, 32] (by sl_kernel_rfl) y

/-- What the last point leaves in output 8. -/
def out0_C_8 (c : Dev nD) (i : grid0.Coords) (arg1 : Memref sig .tc .smem S3x640 .i32) (harg1 : arg1.IsWhole) (arg2 : Memref sig .tc .vmem S1x640x6144 .fp8e4m3) (harg2 : arg2.IsWhole) (arg3 : Memref sig .tc .vmem S1x640x128 .f32) (harg3 : arg3.IsWhole) (arg4 : Memref sig .tc .vmem S6144x1280 .fp8e4m3) (harg4 : arg4.IsWhole) (arg5 : Memref sig .tc .vmem S1x1280 .f32) (harg5 : arg5.IsWhole) (arg6 : Memref sig .tc .vmem S1x2400 .i32) (harg6 : arg6.IsWhole) (arg7 : Memref sig .tc .vmem S8x160x2400 .fp8e4m3) (harg7 : arg7.IsWhole) (arg8 : Memref sig .tc .vmem S8x2400 .f32) (harg8 : arg8.IsWhole) (arg9 : Memref sig .tc .vmem S8x160x2400 .fp8e4m3) (harg9 : arg9.IsWhole) (arg10 : Memref sig .tc .vmem S8x2400 .f32) (harg10 : arg10.IsWhole) (arg11 : Memref sig .tc .vmem S6440x128 .f32) (harg11 : arg11.IsWhole) (arg12 : Memref sig .tc .vmem S24360x128 .f32) (harg12 : arg12.IsWhole) (hc0 : ¬cond0_0 i) (hc1 : cond0_1 i)
    (x0 : Vec F S3x640 .i32) (x1 : Vec F S1x640x6144 .fp8e4m3) (x2 : Vec F S1x640x128 .f32) (x3 : Vec F S6144x1280 .fp8e4m3) (x4 : Vec F S1x1280 .f32) (x5 : Vec F S1x2400 .i32) (x6 : Vec F S8x160x2400 .fp8e4m3) (x7 : Vec F S8x2400 .f32) (R : Vec F S24360x128 .f32) (hw : ∀ k, k0_chk1 (word (F := F) i arg1 (harg1.unread x0) k)) : Vec F S8x160x2400 .fp8e4m3 :=
  VO0_8.read (Elt F) (VO0_8.writes (Elt F) VO0_8.junk (kernelRun0_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 R hw).1)

/-- The last point's stores into output 9 cover it. -/
theorem cover0_C_9 (c : Dev nD) (i : grid0.Coords) (arg1 : Memref sig .tc .smem S3x640 .i32) (harg1 : arg1.IsWhole) (arg2 : Memref sig .tc .vmem S1x640x6144 .fp8e4m3) (harg2 : arg2.IsWhole) (arg3 : Memref sig .tc .vmem S1x640x128 .f32) (harg3 : arg3.IsWhole) (arg4 : Memref sig .tc .vmem S6144x1280 .fp8e4m3) (harg4 : arg4.IsWhole) (arg5 : Memref sig .tc .vmem S1x1280 .f32) (harg5 : arg5.IsWhole) (arg6 : Memref sig .tc .vmem S1x2400 .i32) (harg6 : arg6.IsWhole) (arg7 : Memref sig .tc .vmem S8x160x2400 .fp8e4m3) (harg7 : arg7.IsWhole) (arg8 : Memref sig .tc .vmem S8x2400 .f32) (harg8 : arg8.IsWhole) (arg9 : Memref sig .tc .vmem S8x160x2400 .fp8e4m3) (harg9 : arg9.IsWhole) (arg10 : Memref sig .tc .vmem S8x2400 .f32) (harg10 : arg10.IsWhole) (arg11 : Memref sig .tc .vmem S6440x128 .f32) (harg11 : arg11.IsWhole) (arg12 : Memref sig .tc .vmem S24360x128 .f32) (harg12 : arg12.IsWhole) (hc0 : ¬cond0_0 i) (hc1 : cond0_1 i)
    (x0 : Vec F S3x640 .i32) (x1 : Vec F S1x640x6144 .fp8e4m3) (x2 : Vec F S1x640x128 .f32) (x3 : Vec F S6144x1280 .fp8e4m3) (x4 : Vec F S1x1280 .f32) (x5 : Vec F S1x2400 .i32) (x6 : Vec F S8x160x2400 .fp8e4m3) (x7 : Vec F S8x2400 .f32) (R : Vec F S24360x128 .f32) (hw : ∀ k, k0_chk1 (word (F := F) i arg1 (harg1.unread x0) k)) (y : S8x2400.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 R hw).2.1, y ∈ pc.1.set :=
  View.cover_of_tiledBy (kernelRun0_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 R hw).2.1 ![8, 32] (by sl_kernel_rfl) y

/-- What the last point leaves in output 9. -/
def out0_C_9 (c : Dev nD) (i : grid0.Coords) (arg1 : Memref sig .tc .smem S3x640 .i32) (harg1 : arg1.IsWhole) (arg2 : Memref sig .tc .vmem S1x640x6144 .fp8e4m3) (harg2 : arg2.IsWhole) (arg3 : Memref sig .tc .vmem S1x640x128 .f32) (harg3 : arg3.IsWhole) (arg4 : Memref sig .tc .vmem S6144x1280 .fp8e4m3) (harg4 : arg4.IsWhole) (arg5 : Memref sig .tc .vmem S1x1280 .f32) (harg5 : arg5.IsWhole) (arg6 : Memref sig .tc .vmem S1x2400 .i32) (harg6 : arg6.IsWhole) (arg7 : Memref sig .tc .vmem S8x160x2400 .fp8e4m3) (harg7 : arg7.IsWhole) (arg8 : Memref sig .tc .vmem S8x2400 .f32) (harg8 : arg8.IsWhole) (arg9 : Memref sig .tc .vmem S8x160x2400 .fp8e4m3) (harg9 : arg9.IsWhole) (arg10 : Memref sig .tc .vmem S8x2400 .f32) (harg10 : arg10.IsWhole) (arg11 : Memref sig .tc .vmem S6440x128 .f32) (harg11 : arg11.IsWhole) (arg12 : Memref sig .tc .vmem S24360x128 .f32) (harg12 : arg12.IsWhole) (hc0 : ¬cond0_0 i) (hc1 : cond0_1 i)
    (x0 : Vec F S3x640 .i32) (x1 : Vec F S1x640x6144 .fp8e4m3) (x2 : Vec F S1x640x128 .f32) (x3 : Vec F S6144x1280 .fp8e4m3) (x4 : Vec F S1x1280 .f32) (x5 : Vec F S1x2400 .i32) (x6 : Vec F S8x160x2400 .fp8e4m3) (x7 : Vec F S8x2400 .f32) (R : Vec F S24360x128 .f32) (hw : ∀ k, k0_chk1 (word (F := F) i arg1 (harg1.unread x0) k)) : Vec F S8x2400 .f32 :=
  VO0_9.read (Elt F) (VO0_9.writes (Elt F) VO0_9.junk (kernelRun0_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 R hw).2.1)

variable (m : (ℓ : Loc nD τ sig) → Buf (Elt F) ℓ)

/-- Every slot the memory holds is in range. -/
def SlotsOk : Prop := ∀ (c : Dev nD) (b : Fin 3) (k : Fin 640), (m ((c : Thread nD τ).loc main_arg0) (slotIx b k) : BitVec 32).toNat < 2400

/-- The slots' window is the whole array. -/
theorem slots_idx : ∀ t : Fin cfg0.N, win0_0.index t = ![0, 0] :=
  (by decide +kernel : ∀ t : Fin grid0.N, win0_0.index t = ![0, 0])

theorem iblk0_at (c : Dev nD) (t : Fin cfg0.N) (x : S3x640.Idx) : iblk m c 0 t x = m ((c : Thread nD τ).loc main_arg0) x := by
  have h := slots_idx t
  have e : (win0_0.blk t).view.emb x = x := by
    change S3x640.Idx at x
    idx_vars x
    blk_ext [h]
  refine Eq.trans (b := V m c main_arg0 ((win0_0.blk t).view.emb x)) rfl ?_
  rw [V_main_arg0]
  exact congrArg (m ((c : Thread nD τ).loc main_arg0)) e

theorem hwAt (hs : SlotsOk m) (c : Dev nD) (t : Fin cfg0.N) : ∀ k, k0_chk1 (word (F := F) (grid0.coords t) (ms0_0 t) ((hs0_0 t).unread (iblk m c 0 t)) k) :=
  words_ok (grid0.coords t) (ms0_0 t) (hs0_0 t) (iblk m c 0 t) fun b k => by rw [iblk0_at]; exact hs c b k

/-- The gathered rows after `n` points. -/
def rowsAt (c : Dev nD) : ℕ → Vec F S24360x128 .f32
  | 0 => noRows
  | n + 1 => if h : n < cfg0.N then
      gathered (grid0.coords ⟨n, h⟩) (iblk m c 0 ⟨n, h⟩) (iblk m c 1 ⟨n, h⟩) (iblk m c 2 ⟨n, h⟩) (iblk m c 3 ⟨n, h⟩) (iblk m c 4 ⟨n, h⟩) (rowsAt c n)
    else rowsAt c n

theorem rowsAt_succ (c : Dev nD) (t : Fin cfg0.N) :
    rowsAt m c (t.val + 1) = gathered (grid0.coords t) (iblk m c 0 t) (iblk m c 1 t) (iblk m c 2 t) (iblk m c 3 t) (iblk m c 4 t) (rowsAt m c t.val) := by
  rw [rowsAt, dif_pos t.isLt]

theorem rowsAt_first (c : Dev nD) (t : Fin cfg0.N) (hz : t.val = 0) :
    rowsAt m c (t.val + 1) = gathered (grid0.coords t) (iblk m c 0 t) (iblk m c 1 t) (iblk m c 2 t) (iblk m c 3 t) (iblk m c 4 t) noRows := by
  rw [rowsAt_succ, hz]; rfl

/-- What output 8 holds after point `t`: at the last point what its run leaves, before it nothing that is looked at. -/
def outAt8 (hs : SlotsOk m) (c : Dev nD) (t : Fin cfg0.N) : Vec F S8x160x2400 .fp8e4m3 :=
  if h : ¬cond0_0 (grid0.coords t) ∧ cond0_1 (grid0.coords t) then
    out0_C_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) h.1 h.2 (iblk m c 0 t) (iblk m c 1 t) (iblk m c 2 t) (iblk m c 3 t) (iblk m c 4 t) (iblk m c 5 t) (iblk m c 6 t) (iblk m c 7 t) (rowsAt m c (t.val + 1)) (hwAt m hs c t)
  else VO0_8.read (Elt F) VO0_8.junk

theorem outAt8_C (hs : SlotsOk m) (c : Dev nD) (t : Fin cfg0.N) (h0 : ¬cond0_0 (grid0.coords t)) (h1 : cond0_1 (grid0.coords t)) :
    outAt8 m hs c t = out0_C_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) h0 h1 (iblk m c 0 t) (iblk m c 1 t) (iblk m c 2 t) (iblk m c 3 t) (iblk m c 4 t) (iblk m c 5 t) (iblk m c 6 t) (iblk m c 7 t) (rowsAt m c (t.val + 1)) (hwAt m hs c t) := by
  unfold outAt8; exact dif_pos ⟨h0, h1⟩

/-- What output 9 holds after point `t`: at the last point what its run leaves, before it nothing that is looked at. -/
def outAt9 (hs : SlotsOk m) (c : Dev nD) (t : Fin cfg0.N) : Vec F S8x2400 .f32 :=
  if h : ¬cond0_0 (grid0.coords t) ∧ cond0_1 (grid0.coords t) then
    out0_C_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) h.1 h.2 (iblk m c 0 t) (iblk m c 1 t) (iblk m c 2 t) (iblk m c 3 t) (iblk m c 4 t) (iblk m c 5 t) (iblk m c 6 t) (iblk m c 7 t) (rowsAt m c (t.val + 1)) (hwAt m hs c t)
  else VO0_9.read (Elt F) VO0_9.junk

theorem outAt9_C (hs : SlotsOk m) (c : Dev nD) (t : Fin cfg0.N) (h0 : ¬cond0_0 (grid0.coords t)) (h1 : cond0_1 (grid0.coords t)) :
    outAt9 m hs c t = out0_C_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) h0 h1 (iblk m c 0 t) (iblk m c 1 t) (iblk m c 2 t) (iblk m c 3 t) (iblk m c 4 t) (iblk m c 5 t) (iblk m c 6 t) (iblk m c 7 t) (rowsAt m c (t.val + 1)) (hwAt m hs c t) := by
  unfold outAt9; exact dif_pos ⟨h0, h1⟩

/-- Between the points: the staged rows at anything, the gathered rows as the points before left them. -/
def PhiS (c : Dev nD) : (n : ℕ) → n ≤ cfg0.N → sProp 𝕄
  | 0, _ => Pipeline.ΦA spec0 c
  | n + 1, hn => iprop(iprop((∃ d, owns (c : Thread nD τ) scM0_0 fullShare d) ∗ owns (c : Thread nD τ) scM0_1 fullShare (rowsAt m c (n + 1))) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop((∃ d, owns (c : Thread nD τ) scM0_0 fullShare d) ∗ owns (c : Thread nD τ) scM0_1 fullShare (rowsAt m c (n + 1))) ∗ (∃ r, prngReg c r)) := rfl

theorem PhiS_pos (c : Dev nD) (n : ℕ) (h : n ≤ cfg0.N) (hz : n ≠ 0) :
    PhiS m c n h = iprop(iprop((∃ d, owns (c : Thread nD τ) scM0_0 fullShare d) ∗ owns (c : Thread nD τ) scM0_1 fullShare (rowsAt m c n)) ∗ (∃ r, prngReg c r)) := by
  cases n with
  | zero => exact absurd rfl hz
  | succ n => rfl

variable (hs : SlotsOk m) (ρ : Dev nD → PrngReg)

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => outAt8 m hs c t
    | ⟨9, _⟩ => outAt9 m hs c t
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m hs 0 c).A w = V m c (Pipeline.arrRef spec0 w) := by
  dsimp only [dats]

/-- The invariant at a point's start (the proof data at `t.castSucc`), restated at `t.val`. -/
theorem PhiS_castSucc (c : Dev nD) (t : Fin cfg0.N) :
    (dats m hs 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m hs 0 c).after 0 t = iblk m c 0 t := by dsimp only [dats]
theorem after0_1 (c : Dev nD) (t : Fin cfg0.N) : (dats m hs 0 c).after 1 t = iblk m c 1 t := by dsimp only [dats]
theorem after0_2 (c : Dev nD) (t : Fin cfg0.N) : (dats m hs 0 c).after 2 t = iblk m c 2 t := by dsimp only [dats]
theorem after0_3 (c : Dev nD) (t : Fin cfg0.N) : (dats m hs 0 c).after 3 t = iblk m c 3 t := by dsimp only [dats]
theorem after0_4 (c : Dev nD) (t : Fin cfg0.N) : (dats m hs 0 c).after 4 t = iblk m c 4 t := by dsimp only [dats]
theorem after0_5 (c : Dev nD) (t : Fin cfg0.N) : (dats m hs 0 c).after 5 t = iblk m c 5 t := by dsimp only [dats]
theorem after0_6 (c : Dev nD) (t : Fin cfg0.N) : (dats m hs 0 c).after 6 t = iblk m c 6 t := by dsimp only [dats]
theorem after0_7 (c : Dev nD) (t : Fin cfg0.N) : (dats m hs 0 c).after 7 t = iblk m c 7 t := by dsimp only [dats]
theorem after0_8 (c : Dev nD) (t : Fin cfg0.N) : (dats m hs 0 c).after 8 t = outAt8 m hs c t := by dsimp only [dats]
theorem after0_9 (c : Dev nD) (t : Fin cfg0.N) : (dats m hs 0 c).after 9 t = outAt9 m hs c t := by dsimp only [dats]

/-- Each input's current staging buffer holds its block at every point, fetched there or not (`beforeK_W_of`). -/
theorem before0_0 (c : Dev nD) (t : Fin cfg0.N) (d) : (dats m hs 0 c).before 0 t d = iblk m c 0 t :=
  before0_0_of m (dats m hs 0 c) (A_eq m hs c 0) (after0_0 m hs c) t d
theorem before0_1 (c : Dev nD) (t : Fin cfg0.N) (d) : (dats m hs 0 c).before 1 t d = iblk m c 1 t :=
  before0_1_of m (dats m hs 0 c) (A_eq m hs c 1) (after0_1 m hs c) t d
theorem before0_2 (c : Dev nD) (t : Fin cfg0.N) (d) : (dats m hs 0 c).before 2 t d = iblk m c 2 t :=
  before0_2_of m (dats m hs 0 c) (A_eq m hs c 2) (after0_2 m hs c) t d
theorem before0_3 (c : Dev nD) (t : Fin cfg0.N) (d) : (dats m hs 0 c).before 3 t d = iblk m c 3 t :=
  before0_3_of m (dats m hs 0 c) (A_eq m hs c 3) (after0_3 m hs c) t d
theorem before0_4 (c : Dev nD) (t : Fin cfg0.N) (d) : (dats m hs 0 c).before 4 t d = iblk m c 4 t :=
  before0_4_of m (dats m hs 0 c) (A_eq m hs c 4) (after0_4 m hs c) t d
theorem before0_5 (c : Dev nD) (t : Fin cfg0.N) (d) : (dats m hs 0 c).before 5 t d = iblk m c 5 t :=
  before0_5_of m (dats m hs 0 c) (A_eq m hs c 5) (after0_5 m hs c) t d
theorem before0_6 (c : Dev nD) (t : Fin cfg0.N) (d) : (dats m hs 0 c).before 6 t d = iblk m c 6 t :=
  before0_6_of m (dats m hs 0 c) (A_eq m hs c 6) (after0_6 m hs c) t d
theorem before0_7 (c : Dev nD) (t : Fin cfg0.N) (d) : (dats m hs 0 c).before 7 t d = iblk m c 7 t :=
  before0_7_of m (dats m hs 0 c) (A_eq m hs c 7) (after0_7 m hs c) t d

/-! ## The body obligation, at a generic point -/

/-- What the body is called with at point `t` (Lib/Pipeline.lean `BodyObligation`'s precondition, the windows one by one), -/
def bodyPre (c : Dev nD) (t : Fin cfg0.N) : sProp 𝕄 :=
  iprop((dats m hs 0 c).Φ t.castSucc ∗ (dats m hs 0 c).owesAt () t.castSucc
    ∗ (∃ d, owns (c : Thread nD τ) (ms0_0 t) fullShare ((dats m hs 0 c).before 0 t d))
    ∗ (∃ d, owns (c : Thread nD τ) (ms0_1 t) fullShare ((dats m hs 0 c).before 1 t d))
    ∗ (∃ d, owns (c : Thread nD τ) (ms0_2 t) fullShare ((dats m hs 0 c).before 2 t d))
    ∗ (∃ d, owns (c : Thread nD τ) (ms0_3 t) fullShare ((dats m hs 0 c).before 3 t d))
    ∗ (∃ d, owns (c : Thread nD τ) (ms0_4 t) fullShare ((dats m hs 0 c).before 4 t d))
    ∗ (∃ d, owns (c : Thread nD τ) (ms0_5 t) fullShare ((dats m hs 0 c).before 5 t d))
    ∗ (∃ d, owns (c : Thread nD τ) (ms0_6 t) fullShare ((dats m hs 0 c).before 6 t d))
    ∗ (∃ d, owns (c : Thread nD τ) (ms0_7 t) fullShare ((dats m hs 0 c).before 7 t d))
    ∗ (∃ d, owns (c : Thread nD τ) (ms0_8 t) fullShare ((dats m hs 0 c).before 8 t d))
    ∗ (∃ d, owns (c : Thread nD τ) (ms0_9 t) fullShare ((dats m hs 0 c).before 9 t d)))

/-- and what it returns. -/
def bodyPost (c : Dev nD) (t : Fin cfg0.N) : sProp 𝕄 :=
  iprop((dats m hs 0 c).Φ t.succ ∗ (dats m hs 0 c).owesAt () t.succ
    ∗ (dats m hs 0 c).leavesExact 0 t
    ∗ (dats m hs 0 c).leavesExact 1 t
    ∗ (dats m hs 0 c).leavesExact 2 t
    ∗ (dats m hs 0 c).leavesExact 3 t
    ∗ (dats m hs 0 c).leavesExact 4 t
    ∗ (dats m hs 0 c).leavesExact 5 t
    ∗ (dats m hs 0 c).leavesExact 6 t
    ∗ (dats m hs 0 c).leavesExact 7 t
    ∗ (dats m hs 0 c).leavesExact 8 t
    ∗ (dats m hs 0 c).leavesExact 9 t)

set_option maxHeartbeats 14400000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m hs c t ⊢ wp frame (wpE (defs₀ (F := F)) Variants.none c none) Set.univ (bodyAt0 t) (fun _ => bodyPost m hs c t) := by
  unfold bodyPre bodyPost bodyAt0
  simp only [before0_0, before0_1, before0_2, before0_3, before0_4, before0_5, before0_6, before0_7]
  rw [show (dats m hs 0 c).owesAt () t.succ = (dats m hs 0 c).owesAt () t.castSucc from rfl]
  rw [show (dats m hs 0 c).Φ t.succ = PhiS m c (t.val + 1) t.isLt from rfl, PhiS_succ]
  have hN : t.val < 3 := lt_of_lt_of_eq t.isLt (show cfg0.N = 3 from N_0)
  by_cases h0 : t.val % 3 = 0
  · by_cases h1 : t.val % 3 = 2
    · exfalso; omega
    · rw [show (dats m hs 0 c).leavesExact 0 t = owns (c : Thread nD τ) (ms0_0 t) fullShare ((dats m hs 0 c).after 0 t) from by
      unfold Dat.leavesExact; rw [liveAt0_0 t], after0_0]
      rw [show (dats m hs 0 c).leavesExact 1 t = owns (c : Thread nD τ) (ms0_1 t) fullShare ((dats m hs 0 c).after 1 t) from by
      unfold Dat.leavesExact; rw [liveAt0_1 t], after0_1]
      rw [show (dats m hs 0 c).leavesExact 2 t = owns (c : Thread nD τ) (ms0_2 t) fullShare ((dats m hs 0 c).after 2 t) from by
      unfold Dat.leavesExact; rw [liveAt0_2 t], after0_2]
      rw [show (dats m hs 0 c).leavesExact 3 t = owns (c : Thread nD τ) (ms0_3 t) fullShare ((dats m hs 0 c).after 3 t) from by
      unfold Dat.leavesExact; rw [liveAt0_3 t], after0_3]
      rw [show (dats m hs 0 c).leavesExact 4 t = owns (c : Thread nD τ) (ms0_4 t) fullShare ((dats m hs 0 c).after 4 t) from by
      unfold Dat.leavesExact; rw [liveAt0_4 t], after0_4]
      rw [show (dats m hs 0 c).leavesExact 5 t = owns (c : Thread nD τ) (ms0_5 t) fullShare ((dats m hs 0 c).after 5 t) from by
      unfold Dat.leavesExact; rw [liveAt0_5 t], after0_5]
      rw [show (dats m hs 0 c).leavesExact 6 t = owns (c : Thread nD τ) (ms0_6 t) fullShare ((dats m hs 0 c).after 6 t) from by
      unfold Dat.leavesExact; rw [liveAt0_6 t], after0_6]
      rw [show (dats m hs 0 c).leavesExact 7 t = owns (c : Thread nD τ) (ms0_7 t) fullShare ((dats m hs 0 c).after 7 t) from by
      unfold Dat.leavesExact; rw [liveAt0_7 t], after0_7]
      rw [Dat.leavesExact_idle (dats m hs 0 c) 8 t (idleAt0_8_A t ((hcond0_0 t).mpr h0) (fun h => h1 ((hcond0_1 t).mp h))) (noFlush0_8_A t ((hcond0_0 t).mpr h0) (fun h => h1 ((hcond0_1 t).mp h)))]
      rw [Dat.leavesExact_idle (dats m hs 0 c) 9 t (idleAt0_9_A t ((hcond0_0 t).mpr h0) (fun h => h1 ((hcond0_1 t).mp h))) (noFlush0_9_A t ((hcond0_0 t).mpr h0) (fun h => h1 ((hcond0_1 t).mp h)))]
      by_cases hz : t.val = 0
      · rw [PhiS_castSucc m hs c t, PhiS_zero m c _ _ hz, PhiA0_eq]
        iintro ⟨⟨⟨⟨%e0, HS0⟩, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
        iapply ((kernelRun0_A c (grid0.coords t) _ _ _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) e0 (hwAt m hs c t)).2.2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [HS0]; · iexact HS0
        isplitl [HS1]; · iexact HS1
        iintro ⟨H0, H1, H2, H3, H4, H5, H6, H7, H8, H9, HS0, ⟨%es1, HS1⟩⟩
        isplitl [HS0 HS1 Hg]
        · isplitl [HS0 HS1]
          · isplitl [HS0]
            · iexists _; unfold owns; iexists _; isplitr
              swap; · iexact HS0
              ipureintro; exact rfl
            unfold owns; iexists _; isplitr
            swap; · iexact HS1
            ipureintro
            exact (runA_rows c _ _ _ _ _ _ _ _ _ _ _ _ _ _ _ _ _ _ _ _ _ _ _ _ _ _ _ _ _ _ _ _ _ _ _ _ _ _).trans (rowsAt_first m c t hz).symm
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexists _; iexact H8
        iexists _; iexact H9
      · exfalso; have hN : t.val < 3 := lt_of_lt_of_eq t.isLt (show cfg0.N = 3 from N_0); omega
  · by_cases h1 : t.val % 3 = 2
    · rw [show (dats m hs 0 c).leavesExact 0 t = owns (c : Thread nD τ) (ms0_0 t) fullShare ((dats m hs 0 c).after 0 t) from by
      unfold Dat.leavesExact; rw [liveAt0_0 t], after0_0]
      rw [show (dats m hs 0 c).leavesExact 1 t = owns (c : Thread nD τ) (ms0_1 t) fullShare ((dats m hs 0 c).after 1 t) from by
      unfold Dat.leavesExact; rw [liveAt0_1 t], after0_1]
      rw [show (dats m hs 0 c).leavesExact 2 t = owns (c : Thread nD τ) (ms0_2 t) fullShare ((dats m hs 0 c).after 2 t) from by
      unfold Dat.leavesExact; rw [liveAt0_2 t], after0_2]
      rw [show (dats m hs 0 c).leavesExact 3 t = owns (c : Thread nD τ) (ms0_3 t) fullShare ((dats m hs 0 c).after 3 t) from by
      unfold Dat.leavesExact; rw [liveAt0_3 t], after0_3]
      rw [show (dats m hs 0 c).leavesExact 4 t = owns (c : Thread nD τ) (ms0_4 t) fullShare ((dats m hs 0 c).after 4 t) from by
      unfold Dat.leavesExact; rw [liveAt0_4 t], after0_4]
      rw [show (dats m hs 0 c).leavesExact 5 t = owns (c : Thread nD τ) (ms0_5 t) fullShare ((dats m hs 0 c).after 5 t) from by
      unfold Dat.leavesExact; rw [liveAt0_5 t], after0_5]
      rw [show (dats m hs 0 c).leavesExact 6 t = owns (c : Thread nD τ) (ms0_6 t) fullShare ((dats m hs 0 c).after 6 t) from by
      unfold Dat.leavesExact; rw [liveAt0_6 t], after0_6]
      rw [show (dats m hs 0 c).leavesExact 7 t = owns (c : Thread nD τ) (ms0_7 t) fullShare ((dats m hs 0 c).after 7 t) from by
      unfold Dat.leavesExact; rw [liveAt0_7 t], after0_7]
      rw [show (dats m hs 0 c).leavesExact 8 t = owns (c : Thread nD τ) (ms0_8 t) fullShare ((dats m hs 0 c).after 8 t) from by
      unfold Dat.leavesExact; rw [liveAt0_8_C t (fun h => h0 ((hcond0_0 t).mp h)) ((hcond0_1 t).mpr h1)], after0_8]
      rw [show (dats m hs 0 c).leavesExact 9 t = owns (c : Thread nD τ) (ms0_9 t) fullShare ((dats m hs 0 c).after 9 t) from by
      unfold Dat.leavesExact; rw [liveAt0_9_C t (fun h => h0 ((hcond0_0 t).mp h)) ((hcond0_1 t).mpr h1)], after0_9]
      by_cases hz : t.val = 0
      · exfalso; have hN : t.val < 3 := lt_of_lt_of_eq t.isLt (show cfg0.N = 3 from N_0); omega
      · rw [PhiS_castSucc m hs c t, PhiS_pos m c _ _ hz]
        iintro ⟨⟨⟨⟨%e0, HS0⟩, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
        iapply ((kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (rowsAt m c (t.val + 1)) (hwAt m hs c t)).2.2 e0 (rowsAt m c t.val) (by rw [rowsAt_succ]; exact point_contents (grid0.coords t) _ _ _ _ _ _ _ _ _ _ _ _ _ _ _ _ _ _ _ _ _) Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexists _; iexact H8
        isplitl [H9]; · iexists _; iexact H9
        isplitl [HS0]; · iexact HS0
        isplitl [HS1]; · iexact HS1
        iintro ⟨H0, H1, H2, H3, H4, H5, H6, H7, ⟨%e8, H8⟩, ⟨%e9, H9⟩, HS0, HS1⟩
        isplitl [HS0 HS1 Hg]
        · isplitl [HS0 HS1]
          · isplitl [HS0]; · iexact HS0
            iexact HS1
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]
        · unfold owns; iexists _; isplitr
          swap; · iexact H8
          ipureintro; rw [outAt8_C m hs c t (fun h => h0 ((hcond0_0 t).mp h)) ((hcond0_1 t).mpr h1)]; exact View.read_writes_of_cover _ _ _ _ _ (cover0_C_8 c _ _ _ _ _ _ _ _ _ _ _ _ _ _ _ _ _ _ _ _ _ _ _ _ _ _ _ _ _ _ _ _ _ _ _ _ _)
        unfold owns; iexists _; isplitr
        swap; · iexact H9
        ipureintro; rw [outAt9_C m hs c t (fun h => h0 ((hcond0_0 t).mp h)) ((hcond0_1 t).mpr h1)]; exact View.read_writes_of_cover _ _ _ _ _ (cover0_C_9 c _ _ _ _ _ _ _ _ _ _ _ _ _ _ _ _ _ _ _ _ _ _ _ _ _ _ _ _ _ _ _ _ _ _ _ _ _)
    · rw [show (dats m hs 0 c).leavesExact 0 t = owns (c : Thread nD τ) (ms0_0 t) fullShare ((dats m hs 0 c).after 0 t) from by
      unfold Dat.leavesExact; rw [liveAt0_0 t], after0_0]
      rw [show (dats m hs 0 c).leavesExact 1 t = owns (c : Thread nD τ) (ms0_1 t) fullShare ((dats m hs 0 c).after 1 t) from by
      unfold Dat.leavesExact; rw [liveAt0_1 t], after0_1]
      rw [show (dats m hs 0 c).leavesExact 2 t = owns (c : Thread nD τ) (ms0_2 t) fullShare ((dats m hs 0 c).after 2 t) from by
      unfold Dat.leavesExact; rw [liveAt0_2 t], after0_2]
      rw [show (dats m hs 0 c).leavesExact 3 t = owns (c : Thread nD τ) (ms0_3 t) fullShare ((dats m hs 0 c).after 3 t) from by
      unfold Dat.leavesExact; rw [liveAt0_3 t], after0_3]
      rw [show (dats m hs 0 c).leavesExact 4 t = owns (c : Thread nD τ) (ms0_4 t) fullShare ((dats m hs 0 c).after 4 t) from by
      unfold Dat.leavesExact; rw [liveAt0_4 t], after0_4]
      rw [show (dats m hs 0 c).leavesExact 5 t = owns (c : Thread nD τ) (ms0_5 t) fullShare ((dats m hs 0 c).after 5 t) from by
      unfold Dat.leavesExact; rw [liveAt0_5 t], after0_5]
      rw [show (dats m hs 0 c).leavesExact 6 t = owns (c : Thread nD τ) (ms0_6 t) fullShare ((dats m hs 0 c).after 6 t) from by
      unfold Dat.leavesExact; rw [liveAt0_6 t], after0_6]
      rw [show (dats m hs 0 c).leavesExact 7 t = owns (c : Thread nD τ) (ms0_7 t) fullShare ((dats m hs 0 c).after 7 t) from by
      unfold Dat.leavesExact; rw [liveAt0_7 t], after0_7]
      rw [Dat.leavesExact_idle (dats m hs 0 c) 8 t (idleAt0_8_B t (fun h => h0 ((hcond0_0 t).mp h)) (fun h => h1 ((hcond0_1 t).mp h))) (noFlush0_8_B t (fun h => h0 ((hcond0_0 t).mp h)) (fun h => h1 ((hcond0_1 t).mp h)))]
      rw [Dat.leavesExact_idle (dats m hs 0 c) 9 t (idleAt0_9_B t (fun h => h0 ((hcond0_0 t).mp h)) (fun h => h1 ((hcond0_1 t).mp h))) (noFlush0_9_B t (fun h => h0 ((hcond0_0 t).mp h)) (fun h => h1 ((hcond0_1 t).mp h)))]
      by_cases hz : t.val = 0
      · exfalso; have hN : t.val < 3 := lt_of_lt_of_eq t.isLt (show cfg0.N = 3 from N_0); omega
      · rw [PhiS_castSucc m hs c t, PhiS_pos m c _ _ hz]
        iintro ⟨⟨⟨⟨%e0, HS0⟩, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
        iapply ((kernelRun0_B c (grid0.coords t) _ _ _ _ _ _ _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) e0 (hwAt m hs c t)).2.2.2.2 _ _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [HS0]; · iexact HS0
        isplitl [HS1]; · iexact HS1
        iintro ⟨H0, H1, H2, H3, H4, H5, H6, H7, H8, H9, HS0, HS1⟩
        isplitl [HS0 HS1 Hg]
        · isplitl [HS0 HS1]
          · isplitl [HS0]
            · iexists _; unfold owns; iexists _; isplitr
              swap; · iexact HS0
              ipureintro; exact rfl
            unfold owns; iexists _; isplitr
            swap; · iexact HS1
            ipureintro
            exact (runB_rows c _ _ _ _ _ _ _ _ _ _ _ _ _ _ _ _ _ _ _ _ _ _ _ _ _ _ _ _ _ _ _ _ _ _ _ _ _ _).trans (rowsAt_succ m c t).symm
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexists _; iexact H8
        iexists _; iexact H9

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m hs 0 c) (defs₀ (F := F)) Variants.none () Set.univ := fun t => by
  rw [bigSep_W0, bigSep_W0, defs₀_row]
  exact triple_restated (sound_body m hs c t) rfl .rfl fun _ => .rfl

/-- What the launch hands the region (`ΦA`) is the invariant before the first point. -/
theorem hin (c : Dev nD) : Pipeline.ΦA spec0 c ⊢ (dats m hs 0 c).Φ 0 := by
  rw [show (dats m hs 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m hs 0 c).Φ t ⊢ Pipeline.ΦA spec0 c := by
  rw [show (dats m hs 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]; · iexact HS0
    iexists _; iexact HS1
  iexact Hg

/-- The same after the last point. -/
theorem hout (c : Dev nD) : (dats m hs 0 c).Φ (Fin.last cfg0.N) ⊢ Pipeline.ΦA spec0 c :=
  Phi_out m hs c _ (by rw [Fin.val_last]; have : cfg0.N = 3 := N_0; omega)

/-! ## The run and the frame -/

-- `θ_run_frame_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m hs) 0 (V m)) r ∧ r.2.sem = fun _ => 0) :=
  Pipeline.θ_run_frame_track (Q' := _) cfgs (dats m hs) (0 : Fin 1) launch0 defs₀ Variants.none m ρ main
    (hbody := fun c => (body_obligation m hs c).loose) (hshare := fun c => (dats m hs 0 c).share_full fun _ => rfl)
    (howed := fun _ _ => rfl) (V := V m) (hmain := hmain m Variants.none) (hA := A_eq m hs) (hin := hin m hs) (hout := hout m hs)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m hs) 0 (V m)) :=
  (θ_run defs _ _).mono (fun _ h => h.1) (run_main_quiescent m hs ρ)

include hs in
/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m hs) (A_eq m hs) (run_main m hs ρ)

include hs in
/-- It runs to the end, its arguments unchanged, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m hs ρ) ((θ_run defs _ _).mono (fun _ h => h.2) (run_main_quiescent m hs ρ))

end Cert.KProjIdeal.Gen

end
-- ==== Proof.KBits.lean ====
/-
  The key projection's frame at machine arithmetic. Its printed program and its idealisation's are one and the same text, so
  they are one program at every arithmetic, and the frame proved of the one is the frame of the other.
-/
module

public import proofs.«01_k».proof.Proof.Gen.KProj
public import proofs.«01_k».proof.Proof.KFrame
public import Idealize.ShloMosaic.Lib.Pipeline.Regions

@[expose] public section

set_option maxRecDepth 65536

noncomputable section

namespace Cert.KProj.Bits

open Idealize.ShloMosaic Idealize.ShloMosaic.TcCoe Idealize.SL.Sem

variable {F : FTy → Type} [FloatOps F]

/-- The two programs are the same. -/
theorem main_eq : (KProjIdeal.main (F := F)) = (KProj.main (F := F)) := by chain_rfl

/-- So are the bodies they call. -/
theorem defs_eq : (KProjIdeal.defs (F := F)) = (KProj.defs (F := F)) := by chain_rfl

/-- Every slot is one of the pool's. -/
def SlotsOk (m : (ℓ : Loc KProj.nD KProj.τ KProj.sig) → Buf (Elt F) ℓ) : Prop :=
  ∀ (c : Dev KProj.nD) (b : Fin 3) (k : Fin 640), (m ((c : Thread KProj.nD KProj.τ).loc KProj.main_arg0) (KProjIdeal.Gen.slotIx b k) : BitVec 32).toNat < 2400

/-- It runs to the end, its arguments unchanged, every counter at zero. -/
theorem frame (m : (ℓ : Loc KProj.nD KProj.τ KProj.sig) → Buf (Elt F) ℓ) (hs : SlotsOk m) (ρ : Dev KProj.nD → PrngReg) :
    θ_run (KProj.defs (F := F)) (onTc (τ := KProj.τ) (KProj.main (F := F))) ⟨m, fun _ => 0, ρ⟩ (fun r => (∀ c : Dev KProj.nD,
      r.2.mem ((c.tc : Thread KProj.nD KProj.τ).loc KProj.main_arg0) = m ((c.tc : Thread KProj.nD KProj.τ).loc KProj.main_arg0)
      ∧ r.2.mem ((c.tc : Thread KProj.nD KProj.τ).loc KProj.main_arg1) = m ((c.tc : Thread KProj.nD KProj.τ).loc KProj.main_arg1)
      ∧ r.2.mem ((c.tc : Thread KProj.nD KProj.τ).loc KProj.main_arg2) = m ((c.tc : Thread KProj.nD KProj.τ).loc KProj.main_arg2)
      ∧ r.2.mem ((c.tc : Thread KProj.nD KProj.τ).loc KProj.main_arg3) = m ((c.tc : Thread KProj.nD KProj.τ).loc KProj.main_arg3)
      ∧ r.2.mem ((c.tc : Thread KProj.nD KProj.τ).loc KProj.main_arg4) = m ((c.tc : Thread KProj.nD KProj.τ).loc KProj.main_arg4)
      ∧ r.2.mem ((c.tc : Thread KProj.nD KProj.τ).loc KProj.main_arg5) = m ((c.tc : Thread KProj.nD KProj.τ).loc KProj.main_arg5)
      ∧ r.2.mem ((c.tc : Thread KProj.nD KProj.τ).loc KProj.main_arg6) = m ((c.tc : Thread KProj.nD KProj.τ).loc KProj.main_arg6))
      ∧ r.2.sem = fun _ => 0) := by
  rw [← main_eq, ← defs_eq]
  exact KProjIdeal.Gen.frame m hs ρ

end Cert.KProj.Bits
-- ==== Proof.VLoop.lean ====
/-
  The loop of the value projection that moves each token's row, in ten chunks of 128, to the place of the token's slot: what one
  trip stores, and the loop by an invariant.
-/
module

public import proofs.«01_k».proof.Proof.Gen.VProjIdeal.Frame
public import proofs.«01_k».proof.Proof.Gen.VProjIdeal.Skeleton
public import Idealize.ShloMosaic.Lib.Exec
public import Idealize.ShloMosaic.Lib.Tactic
public import Idealize.ShloMosaic.Lib.Pipeline.Kit

@[expose] public section

set_option maxRecDepth 16384
set_option maxHeartbeats 4000000

noncomputable section

namespace Cert.VProjIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

/-- The slot that trip `k` of point `i` reads from the slots' buffer. -/
def word (i : grid0.Coords) (arg1 : Memref sig .tc .smem S3x640 .i32) (X1 : BufTy.Contents (Elt F) arg1.view.ty) (k : Fin k0_t1_loop.trips) : BitVec 32 :=
  View.readAt (Elt F) arg1.view (Rect.unit (s := S3x640) (k0_off1 i k) S1x1.size (k0_off1_inb i k)).toLoadRect X1
    (Shape.Idx.first (numel1_S1x1.symm ▸ Nat.one_pos))

/-- Trip `k`'s two stores into the gathered rows, the last first: chunks 8 and 9 of the token's row, then chunks 0 to 7,
    each read off the staged rows `X11`. -/
def rowPieces (i : grid0.Coords) (arg1 : Memref sig .tc .smem S3x640 .i32) (arg11 : Memref sig .tc .vmem S6440x128 .f32)
    (X1 : BufTy.Contents (Elt F) arg1.view.ty) (X11 : BufTy.Contents (Elt F) arg11.view.ty) (hw : ∀ k, k0_chk1 (word (F := F) i arg1 X1 k))
    (k : Fin k0_t1_loop.trips) : List (View.Piece (Elt F) S24360x128 .f32) :=
  [⟨⟨(⟨k0_off5 (word (F := F) i arg1 X1 k), S2x128.size, ![2436, 1], (k0_off5_inb _ (hw k))⟩ : LoadRect S24360x128), spos_2436_1⟩,
      k0_pay8 (View.readAt (Elt F) arg11.view (⟨k0_off4 k, S2x128.size, ![644, 1], (k0_off4_inb k)⟩ : LoadRect S6440x128) X11)⟩,
   ⟨⟨(⟨k0_off3 (word (F := F) i arg1 X1 k), S8x128.size, ![2436, 1], (k0_off3_inb _ (hw k))⟩ : LoadRect S24360x128), spos_2436_1⟩,
      k0_pay7 (View.readAt (Elt F) arg11.view (⟨k0_off2 k, S8x128.size, ![644, 1], (k0_off2_inb k)⟩ : LoadRect S6440x128) X11)⟩]

/-- The stores of the trips before `k`, the last first. -/
def rowsList (i : grid0.Coords) (arg1 : Memref sig .tc .smem S3x640 .i32) (arg11 : Memref sig .tc .vmem S6440x128 .f32)
    (X1 : BufTy.Contents (Elt F) arg1.view.ty) (X11 : BufTy.Contents (Elt F) arg11.view.ty) (hw : ∀ k, k0_chk1 (word (F := F) i arg1 X1 k)) :
    ℕ → List (View.Piece (Elt F) S24360x128 .f32)
  | 0 => []
  | k + 1 => if h : k < k0_t1_loop.trips then rowPieces i arg1 arg11 X1 X11 hw ⟨k, h⟩ ++ rowsList i arg1 arg11 X1 X11 hw k
      else rowsList i arg1 arg11 X1 X11 hw k

variable (𝒱 : Variants) (c : Dev nD) (bd : Option 𝒱.V) (i : grid0.Coords) (arg1 : Memref sig .tc .smem S3x640 .i32) (harg1 : arg1.IsWhole) (arg2 : Memref sig .tc .vmem S1x640x6144 .fp8e4m3) (harg2 : arg2.IsWhole) (arg3 : Memref sig .tc .vmem S1x640x128 .f32) (harg3 : arg3.IsWhole) (arg4 : Memref sig .tc .vmem S6144x1280 .fp8e4m3) (harg4 : arg4.IsWhole) (arg5 : Memref sig .tc .vmem S1x1280 .f32) (harg5 : arg5.IsWhole) (arg6 : Memref sig .tc .vmem S1x2400 .i32) (harg6 : arg6.IsWhole) (arg7 : Memref sig .tc .vmem S8x160x2400 .fp8e4m3) (harg7 : arg7.IsWhole) (arg8 : Memref sig .tc .vmem S8x2400 .f32) (harg8 : arg8.IsWhole) (arg9 : Memref sig .tc .vmem S8x160x2400 .fp8e4m3) (harg9 : arg9.IsWhole) (arg10 : Memref sig .tc .vmem S8x2400 .f32) (harg10 : arg10.IsWhole) (arg11 : Memref sig .tc .vmem S6440x128 .f32) (harg11 : arg11.IsWhole) (arg12 : Memref sig .tc .vmem S24360x128 .f32) (harg12 : arg12.IsWhole)

/-- What one trip touches: the slots and the staged rows at their contents, the gathered rows at any. -/
abbrev Trip (c : Dev nD) (arg1 : Memref sig .tc .smem S3x640 .i32) (arg11 : Memref sig .tc .vmem S6440x128 .f32) (arg12 : Memref sig .tc .vmem S24360x128 .f32)
    (X1 : BufTy.Contents (Elt F) arg1.view.ty) (X11 : BufTy.Contents (Elt F) arg11.view.ty) (f12 : BufTy.Contents (Elt F) arg12.view.ty) : sProp 𝕄G :=
  iprop((arg1.view.loc (c : Thread nD τ) ↦[arg1.view.set]{fullShare} X1) ∗ (arg11.view.loc (c : Thread nD τ) ↦[arg11.view.set]{fullShare} X11) ∗ (arg12.view.loc (c : Thread nD τ) ↦[arg12.view.set]{fullShare} f12))

/-- One trip: on slots in range it ends with its two stores written. -/
theorem trip_ok (X1 : BufTy.Contents (Elt F) arg1.view.ty) (X11 : BufTy.Contents (Elt F) arg11.view.ty) (hw : ∀ k, k0_chk1 (word (F := F) i arg1 X1 k))
    (k : Fin k0_t1_loop.trips) (E : Set ℕ) (f12 : BufTy.Contents (Elt F) arg12.view.ty) :
      Trip (F := F) c arg1 arg11 arg12 X1 X11 f12
      ⊢ wp frame (wpE (defs₀ (F := F)) 𝒱 (c : Thread nD τ) bd) E (k0_t1_body (F := F) i arg1 harg1 arg2 harg2 arg3 harg3 arg4 harg4 arg5 harg5 arg6 harg6 arg7 harg7 arg8 harg8 arg9 harg9 arg10 harg10 arg11 harg11 arg12 harg12 k PUnit.unit)
          (fun _ => Trip (F := F) c arg1 arg11 arg12 X1 X11 (arg12.view.writes (Elt F) f12 (rowPieces i arg1 arg11 X1 X11 hw k))) := by
  have hk : k.val < 640 := Nat.lt_of_lt_of_le k.isLt k0_t1_abs.2.1
  unfold k0_t1_body
  iintro ⟨H1, H11, H12⟩
  sl_exec (disch := exact hw k)
  sl_step
  isplitl [H1]; · iexact H1
  isplitl [H11]; · iexact H11
  iexact H12

theorem rowsList_succ (X1 : BufTy.Contents (Elt F) arg1.view.ty) (X11 : BufTy.Contents (Elt F) arg11.view.ty) (hw : ∀ k, k0_chk1 (word (F := F) i arg1 X1 k))
    (k : Fin k0_t1_loop.trips) :
    rowsList i arg1 arg11 X1 X11 hw (k.val + 1) = rowPieces i arg1 arg11 X1 X11 hw k ++ rowsList i arg1 arg11 X1 X11 hw k.val := by
  rw [rowsList.eq_2]; exact dif_pos k.isLt

/-- Before trip `k`: slots and staged rows untouched, the earlier trips' stores written over what the loop found. -/
abbrev rowsInv (X1 : BufTy.Contents (Elt F) arg1.view.ty) (X11 : BufTy.Contents (Elt F) arg11.view.ty) (G12 : BufTy.Contents (Elt F) arg12.view.ty)
    (hw : ∀ k, k0_chk1 (word (F := F) i arg1 X1 k)) (k : ℕ) (_u : PUnit) : sProp 𝕄G :=
  iprop((arg1.view.loc (c : Thread nD τ) ↦[arg1.view.set]{fullShare} X1) ∗ (arg11.view.loc (c : Thread nD τ) ↦[arg11.view.set]{fullShare} X11)
    ∗ (∃ f, (arg12.view.loc (c : Thread nD τ) ↦[arg12.view.set]{fullShare} f) ∗ ⌜f = arg12.view.writes (Elt F) G12 (rowsList i arg1 arg11 X1 X11 hw k)⌝))

set_option warn.classDefReducibility false in
/-- The loop over the tokens by that invariant. -/
@[sl_loop] def rowsLoop (E : Set ℕ) (X1 : BufTy.Contents (Elt F) arg1.view.ty) (X11 : BufTy.Contents (Elt F) arg11.view.ty) (G12 : BufTy.Contents (Elt F) arg12.view.ty)
    (hw : ∀ k, k0_chk1 (word (F := F) i arg1 X1 k)) :
    Idealize.ShloMosaic.LoopInv (M := MT nD τ sig Unit (Elt F) ℕ (UR sig nD τ) ℕ) Idealize.ShloMosaic.frame (wpE defs₀ 𝒱 (c : Thread nD τ) bd) E
      k0_t1_loop.lb k0_t1_loop.ub k0_t1_loop.st k0_t1_ok () (k0_t1_body (F := F) i arg1 harg1 arg2 harg2 arg3 harg3 arg4 harg4 arg5 harg5 arg6 harg6 arg7 harg7 arg8 harg8 arg9 harg9 arg10 harg10 arg11 harg11 arg12 harg12) where
  inv := rowsInv (F := F) c i arg1 arg11 arg12 X1 X11 G12 hw
  step k acc := by
    iintro ⟨H1, H11, ⟨%f12, H12, %h12⟩⟩
    iapply (wp_wand_r Idealize.ShloMosaic.frame (wpE (defs₀ (F := F)) 𝒱 (c : Thread nD τ) bd) E)
    isplitl [H1 H11 H12]
    · iapply (trip_ok (F := F) 𝒱 c bd i arg1 harg1 arg2 harg2 arg3 harg3 arg4 harg4 arg5 harg5 arg6 harg6 arg7 harg7 arg8 harg8 arg9 harg9 arg10 harg10 arg11 harg11 arg12 harg12 X1 X11 hw k E f12)
      isplitl [H1]; · iexact H1
      isplitl [H11]; · iexact H11
      iexact H12
    · iintro %_ ⟨H1, H11, H12⟩
      isplitl [H1]; · iexact H1
      isplitl [H11]; · iexact H11
      rw [rowsList_succ]
      iexists _; isplitl [H12]; · iexact H12
      ipureintro; rw [h12, ← View.writes_append]

end Cert.VProjIdeal.Gen

end
-- ==== Proof.VRuns.lean ====
/-
  The points of the value projection: which conditions hold where, which windows are idle where, and the names of the staging
  and scratch buffers.
-/
module

public import proofs.«01_k».proof.Proof.VLoop

@[expose] public section

set_option maxRecDepth 16384

noncomputable section

namespace Cert.VProjIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 3 = 0 :=
  (fun t => by
    have ht : t.val < 3 := Nat.lt_of_lt_of_eq t.isLt N_0
    have e0 : (grid0.coords t 0).val = t.val / 1 % 3 := Pipeline.Grid.coords_val t 0 (by decide) rfl
    simp only [cond0_0, e0]
    word_cmp
   : ∀ t : Fin grid0.N, cond0_0 (grid0.coords t) ↔ t.val % 3 = 0)

/-- The condition of the body's `scf.if` 1 (`k0_h2`), from the grid coordinates (the skeleton's scalar
    chain substituted). -/
abbrev cond0_1 (i : grid0.Coords) : Prop := k0_cond2 i = 1#1
/-- It holds at the last point only — by arithmetic of the point. -/
theorem hcond0_1 : ∀ t : Fin cfg0.N, cond0_1 (grid0.coords t) ↔ t.val % 3 = 2 :=
  (fun t => by
    have ht : t.val < 3 := Nat.lt_of_lt_of_eq t.isLt N_0
    have e0 : (grid0.coords t 0).val = t.val / 1 % 3 := Pipeline.Grid.coords_val t 0 (by decide) rfl
    simp only [cond0_1, k0_cond2, e0]
    word_cmp
   : ∀ t : Fin grid0.N, cond0_1 (grid0.coords t) ↔ t.val % 3 = 2)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-- Window 7 is never idle (an input). -/
theorem liveAt0_7 : ∀ t : Fin cfg0.N, cfg0.idle 7 (grid0.coords t) = false := fun _ => rfl
/-- At the points of case A the printed configuration (`Cfg.idle`) calls output 8 idle: the case stores nothing into it. -/
theorem idleAt0_8_A : ∀ t : Fin cfg0.N, cond0_0 (grid0.coords t) → ¬cond0_1 (grid0.coords t) → cfg0.idle 8 (grid0.coords t) = true := by decide +kernel
/-- At the points of case A the pipeline does not write output 8's block back. -/
theorem noFlush0_8_A : ∀ t : Fin cfg0.N, cond0_0 (grid0.coords t) → ¬cond0_1 (grid0.coords t) → (cfg0.win 8).flush t = false := by decide +kernel
/-- At the points of case B the printed configuration (`Cfg.idle`) calls output 8 idle: the case stores nothing into it. -/
theorem idleAt0_8_B : ∀ t : Fin cfg0.N, ¬cond0_0 (grid0.coords t) → ¬cond0_1 (grid0.coords t) → cfg0.idle 8 (grid0.coords t) = true := by decide +kernel
/-- At the points of case B the pipeline does not write output 8's block back. -/
theorem noFlush0_8_B : ∀ t : Fin cfg0.N, ¬cond0_0 (grid0.coords t) → ¬cond0_1 (grid0.coords t) → (cfg0.win 8).flush t = false := by decide +kernel
/-- At the points of case C the printed configuration (`Cfg.idle`) calls output 8 live: the case stores into it. -/
theorem liveAt0_8_C : ∀ t : Fin cfg0.N, ¬cond0_0 (grid0.coords t) → cond0_1 (grid0.coords t) → cfg0.idle 8 (grid0.coords t) = false := by decide +kernel
/-- At the points of case A the printed configuration (`Cfg.idle`) calls output 9 idle: the case stores nothing into it. -/
theorem idleAt0_9_A : ∀ t : Fin cfg0.N, cond0_0 (grid0.coords t) → ¬cond0_1 (grid0.coords t) → cfg0.idle 9 (grid0.coords t) = true := by decide +kernel
/-- At the points of case A the pipeline does not write output 9's block back. -/
theorem noFlush0_9_A : ∀ t : Fin cfg0.N, cond0_0 (grid0.coords t) → ¬cond0_1 (grid0.coords t) → (cfg0.win 9).flush t = false := by decide +kernel
/-- At the points of case B the printed configuration (`Cfg.idle`) calls output 9 idle: the case stores nothing into it. -/
theorem idleAt0_9_B : ∀ t : Fin cfg0.N, ¬cond0_0 (grid0.coords t) → ¬cond0_1 (grid0.coords t) → cfg0.idle 9 (grid0.coords t) = true := by decide +kernel
/-- At the points of case B the pipeline does not write output 9's block back. -/
theorem noFlush0_9_B : ∀ t : Fin cfg0.N, ¬cond0_0 (grid0.coords t) → ¬cond0_1 (grid0.coords t) → (cfg0.win 9).flush t = false := by decide +kernel
/-- At the points of case C the printed configuration (`Cfg.idle`) calls output 9 live: the case stores into it. -/
theorem liveAt0_9_C : ∀ t : Fin cfg0.N, ¬cond0_0 (grid0.coords t) → cond0_1 (grid0.coords t) → cfg0.idle 9 (grid0.coords t) = false := by decide +kernel

/-! ## The kernel body on any staging memrefs: a subtype the run finds -/

/-- One staging buffer of output window 8, through which its contents are stated (`View.read_writes_of_cover`: the
    choice does not matter). -/
abbrev VO0_8 : View sig .tc .vmem S8x160x2400 .fp8e4m3 := (Memref.whole cc0_stg8_0 : Memref sig .tc .vmem S8x160x2400 .fp8e4m3).view
/-- One staging buffer of output window 9, through which its contents are stated (`View.read_writes_of_cover`: the
    choice does not matter). -/
abbrev VO0_9 : View sig .tc .vmem S8x2400 .f32 := (Memref.whole cc0_stg9_0 : Memref sig .tc .vmem S8x2400 .f32).view
/-- Each window's current staging memref at point `t`, spelled as the pipeline passes it (`bodyAt0`), and its wholeness. -/
abbrev ms0_0 (t : Fin cfg0.N) : Memref sig .tc .smem S3x640 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x640x6144 .fp8e4m3 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x640x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S6144x1280 .fp8e4m3 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1280 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x2400 .i32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S8x160x2400 .fp8e4m3 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S8x2400 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S8x160x2400 .fp8e4m3 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S8x2400 .f32 := win0_9.stage (cfg0.slots t 9)
abbrev hs0_9 (t : Fin cfg0.N) : (ms0_9 t).IsWhole := hstage0_9 ((cfg0.slots t 9).cast nbuf0_9)
/-- The scratch operands: whole scoped buffers of the kernel's own, passed beside the windows. -/
abbrev scM0_0 : Memref sig .tc .vmem S6440x128 .f32 := Memref.whole cc0_scratch0
abbrev scM0_1 : Memref sig .tc .vmem S24360x128 .f32 := Memref.whole cc0_scratch1
/-- The scratch `arg11` the kernel carries between points, as a view: what it holds is stated through it. -/
abbrev VS0_0 : View sig .tc .vmem S6440x128 .f32 := scM0_0.view
/-- The scratch `arg12` the kernel carries between points, as a view: what it holds is stated through it. -/
abbrev VS0_1 : View sig .tc .vmem S24360x128 .f32 := scM0_1.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.VProjIdeal.Gen

end
-- ==== Proof.VRunA.lean ====
/-
  The body of the value projection at the first point.
-/
module

public import proofs.«01_k».proof.Proof.VRuns

@[expose] public section

set_option maxRecDepth 16384

noncomputable section

namespace Cert.VProjIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at the first point, on slots in range: run from any contents of the staged rows and any gathered rows, with
    the stores it leaves in each output and scratch buffer. -/
noncomputable def kernelRun0_A (c : Dev nD) (i : grid0.Coords) (arg1 : Memref sig .tc .smem S3x640 .i32) (harg1 : arg1.IsWhole) (arg2 : Memref sig .tc .vmem S1x640x6144 .fp8e4m3) (harg2 : arg2.IsWhole) (arg3 : Memref sig .tc .vmem S1x640x128 .f32) (harg3 : arg3.IsWhole) (arg4 : Memref sig .tc .vmem S6144x1280 .fp8e4m3) (harg4 : arg4.IsWhole) (arg5 : Memref sig .tc .vmem S1x1280 .f32) (harg5 : arg5.IsWhole) (arg6 : Memref sig .tc .vmem S1x2400 .i32) (harg6 : arg6.IsWhole) (arg7 : Memref sig .tc .vmem S8x160x2400 .fp8e4m3) (harg7 : arg7.IsWhole) (arg8 : Memref sig .tc .vmem S8x2400 .f32) (harg8 : arg8.IsWhole) (arg9 : Memref sig .tc .vmem S8x160x2400 .fp8e4m3) (harg9 : arg9.IsWhole) (arg10 : Memref sig .tc .vmem S8x2400 .f32) (harg10 : arg10.IsWhole) (arg11 : Memref sig .tc .vmem S6440x128 .f32) (harg11 : arg11.IsWhole) (arg12 : Memref sig .tc .vmem S24360x128 .f32) (harg12 : arg12.IsWhole) (hc0 : cond0_0 i) (hc1 : ¬cond0_1 i)
    (x0 : Vec F S3x640 .i32) (x1 : Vec F S1x640x6144 .fp8e4m3) (x2 : Vec F S1x640x128 .f32) (x3 : Vec F S6144x1280 .fp8e4m3) (x4 : Vec F S1x1280 .f32) (x5 : Vec F S1x2400 .i32) (x6 : Vec F S8x160x2400 .fp8e4m3) (x7 : Vec F S8x2400 .f32) (xs0 : Vec F S6440x128 .f32) (hw : ∀ k, k0_chk1 (word (F := F) i arg1 (harg1.unread x0) k)) :
    Σ' (L8 : List (View.Piece (Elt F) S8x160x2400 .fp8e4m3)), Σ' (L9 : List (View.Piece (Elt F) S8x2400 .f32)), Σ' (LS0 : List (View.Piece (Elt F) S6440x128 .f32)), { LS1 : List (View.Piece (Elt F) S24360x128 .f32) //
      ∀ (xi8 : Vec F S8x160x2400 .fp8e4m3) (xi9 : Vec F S8x2400 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare xi8 ∗ owns (c : Thread nD τ) arg10 fullShare xi9 ∗ owns (c : Thread nD τ) arg11 fullShare xs0 ∗ (∃ d, owns (c : Thread nD τ) arg12 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare xi8 ∗ owns (c : Thread nD τ) arg10 fullShare xi9 ∗ (arg11.view.loc (c : Thread nD τ) ↦[arg11.view.set]{fullShare} arg11.view.writes (Elt F) (harg11.unread xs0) LS0) ∗ (∃ f, arg12.view.loc (c : Thread nD τ) ↦[arg12.view.set]{fullShare} arg12.view.writes (Elt F) f LS1)) -∗ K ⟨⟩))
          ⊢ wp frame (wpE (defs₀ (F := F)) Variants.none c none) E (cc0_v_proj i arg1 harg1 arg2 harg2 arg3 harg3 arg4 harg4 arg5 harg5 arg6 harg6 arg7 harg7 arg8 harg8 arg9 harg9 arg10 harg10 arg11 harg11 arg12 harg12) K } := by
  refine ⟨[], [], ?_, ?_, fun xi8 xi9 E K => ?run⟩
  case run =>
    simp only [cc0_v_proj_eq_skeleton]; unfold cc0_v_proj_skel
    simp only [k0_part65_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%fs0, %hfs0, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg11.eq_unread hfs0; obtain rfl := harg9.eq_unread hf8; obtain rfl := harg10.eq_unread hf9
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [HS0]; · iexact HS0
    iexists _; iexact HS1

end Cert.VProjIdeal.Gen

end
-- ==== Proof.VRunB.lean ====
/-
  The body of the value projection at the second point.
-/
module

public import proofs.«01_k».proof.Proof.VRunA

@[expose] public section

set_option maxRecDepth 16384

noncomputable section

namespace Cert.VProjIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at the second point, on slots in range: run from any contents of the staged rows and the gathered rows, with
    the stores it leaves in each output and scratch buffer. -/
noncomputable def kernelRun0_B (c : Dev nD) (i : grid0.Coords) (arg1 : Memref sig .tc .smem S3x640 .i32) (harg1 : arg1.IsWhole) (arg2 : Memref sig .tc .vmem S1x640x6144 .fp8e4m3) (harg2 : arg2.IsWhole) (arg3 : Memref sig .tc .vmem S1x640x128 .f32) (harg3 : arg3.IsWhole) (arg4 : Memref sig .tc .vmem S6144x1280 .fp8e4m3) (harg4 : arg4.IsWhole) (arg5 : Memref sig .tc .vmem S1x1280 .f32) (harg5 : arg5.IsWhole) (arg6 : Memref sig .tc .vmem S1x2400 .i32) (harg6 : arg6.IsWhole) (arg7 : Memref sig .tc .vmem S8x160x2400 .fp8e4m3) (harg7 : arg7.IsWhole) (arg8 : Memref sig .tc .vmem S8x2400 .f32) (harg8 : arg8.IsWhole) (arg9 : Memref sig .tc .vmem S8x160x2400 .fp8e4m3) (harg9 : arg9.IsWhole) (arg10 : Memref sig .tc .vmem S8x2400 .f32) (harg10 : arg10.IsWhole) (arg11 : Memref sig .tc .vmem S6440x128 .f32) (harg11 : arg11.IsWhole) (arg12 : Memref sig .tc .vmem S24360x128 .f32) (harg12 : arg12.IsWhole) (hc0 : ¬cond0_0 i) (hc1 : ¬cond0_1 i)
    (x0 : Vec F S3x640 .i32) (x1 : Vec F S1x640x6144 .fp8e4m3) (x2 : Vec F S1x640x128 .f32) (x3 : Vec F S6144x1280 .fp8e4m3) (x4 : Vec F S1x1280 .f32) (x5 : Vec F S1x2400 .i32) (x6 : Vec F S8x160x2400 .fp8e4m3) (x7 : Vec F S8x2400 .f32) (xs0 : Vec F S6440x128 .f32) (hw : ∀ k, k0_chk1 (word (F := F) i arg1 (harg1.unread x0) k)) :
    Σ' (L8 : List (View.Piece (Elt F) S8x160x2400 .fp8e4m3)), Σ' (L9 : List (View.Piece (Elt F) S8x2400 .f32)), Σ' (LS0 : List (View.Piece (Elt F) S6440x128 .f32)), { LS1 : List (View.Piece (Elt F) S24360x128 .f32) //
      ∀ (xi8 : Vec F S8x160x2400 .fp8e4m3) (xi9 : Vec F S8x2400 .f32) (xs1 : Vec F S24360x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare xi8 ∗ owns (c : Thread nD τ) arg10 fullShare xi9 ∗ owns (c : Thread nD τ) arg11 fullShare xs0 ∗ owns (c : Thread nD τ) arg12 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare xi8 ∗ owns (c : Thread nD τ) arg10 fullShare xi9 ∗ (arg11.view.loc (c : Thread nD τ) ↦[arg11.view.set]{fullShare} arg11.view.writes (Elt F) (harg11.unread xs0) LS0) ∗ (arg12.view.loc (c : Thread nD τ) ↦[arg12.view.set]{fullShare} arg12.view.writes (Elt F) (harg12.unread xs1) LS1)) -∗ K ⟨⟩))
          ⊢ wp frame (wpE (defs₀ (F := F)) Variants.none c none) E (cc0_v_proj i arg1 harg1 arg2 harg2 arg3 harg3 arg4 harg4 arg5 harg5 arg6 harg6 arg7 harg7 arg8 harg8 arg9 harg9 arg10 harg10 arg11 harg11 arg12 harg12) K } := by
  refine ⟨[], [], ?_, ?_, fun xi8 xi9 xs1 E K => ?run⟩
  case run =>
    simp only [cc0_v_proj_eq_skeleton]; unfold cc0_v_proj_skel
    simp only [k0_part65_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hfs0; obtain rfl := harg12.eq_unread hfs1
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [HS0]; · iexact HS0
    iexact HS1

end Cert.VProjIdeal.Gen

end
-- ==== Proof.VRows.lean ====
/-
  The gathered rows as an array: a trip puts its token's row, in ten chunks of 128, at the token's slot, so after the loop
  every slot holds the row of the last token sent to it, and a slot no token is sent to keeps what it held.
-/
module

public import proofs.«01_k».proof.Proof.VLoop
public import Idealize.ShloMosaic.Lib.Pipeline.Value

@[expose] public section

set_option maxRecDepth 16384
set_option maxHeartbeats 1000000

noncomputable section

namespace Cert.VProjIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- Row `k`, chunk `c`, lane `l` of an array of 640 rows staged with 644 places per chunk. -/
abbrev stagedIx (k : Fin 640) (c : Fin 10) (l : Fin 128) : S6440x128.Idx := fun
  | ⟨0, _⟩ => (⟨644 * c.val + k.val, by have := c.isLt; have := k.isLt; omega⟩ : Fin 6440)
  | ⟨1, _⟩ => l

/-- Slot `s`, chunk `c`, lane `l` of the gathered rows, 2436 places per chunk. -/
abbrev gatherIx (s : Fin 2436) (c : Fin 10) (l : Fin 128) : S24360x128.Idx := fun
  | ⟨0, _⟩ => (⟨2436 * c.val + s.val, by have := c.isLt; have := s.isLt; omega⟩ : Fin 24360)
  | ⟨1, _⟩ => l

/-- A slot's word in range leaves room for the ten chunks. -/
theorem chk_lt (w : BitVec 32) (h : k0_chk1 w) : w.toNat < 2436 := by
  have h1 := h.1 (0 : Fin 2)
  have h2 := h.2 (0 : Fin 2)
  have e3 : k0_off3 w (0 : Fin 2) = w.toNat := rfl
  have e5 : k0_off5 w (0 : Fin 2) = (w.toNat + 19488) % 4294967296 := by
    show (w + 19488#32).toNat = _
    rw [BitVec.toNat_add]; rfl
  rw [e3] at h1; rw [e5] at h2
  have s8 : S8x128.size (0 : Fin 2) = 8 := rfl
  have s2 : S2x128.size (0 : Fin 2) = 2 := rfl
  have sg : S24360x128.size (0 : Fin 2) = 24360 := rfl
  have st : (![2436, 1] : Fin 2 → ℕ) (0 : Fin 2) = 2436 := rfl
  rw [s8, sg, st] at h1; rw [s2, sg, st] at h2
  have := w.isLt
  omega

/-- Where the last two chunks start. -/
theorem off5_val (w : BitVec 32) (h : w.toNat < 2436) : k0_off5 w (0 : Fin 2) = w.toNat + 19488 := by
  show (w + 19488#32).toNat = _
  rw [BitVec.toNat_add]
  show (w.toNat + 19488) % 4294967296 = _
  omega

theorem off5_one (w : BitVec 32) : k0_off5 w (1 : Fin 2) = 0 := rfl
theorem off3_zero (w : BitVec 32) : k0_off3 w (0 : Fin 2) = w.toNat := rfl
theorem off3_one (w : BitVec 32) : k0_off3 w (1 : Fin 2) = 0 := rfl

theorem trips_eq : k0_t1_loop.trips = 640 := by decide +kernel

theorem off2_val : ∀ k : Fin k0_t1_loop.trips, k0_off2 k (0 : Fin 2) = k.val ∧ k0_off2 k (1 : Fin 2) = 0 := by decide +kernel
theorem off4_val : ∀ k : Fin k0_t1_loop.trips, k0_off4 k (0 : Fin 2) = k.val + 5152 ∧ k0_off4 k (1 : Fin 2) = 0 := by decide +kernel

variable (i : grid0.Coords) (arg1 : Memref sig .tc .smem S3x640 .i32) (arg11 : Memref sig .tc .vmem S6440x128 .f32)
  (arg12 : Memref sig .tc .vmem S24360x128 .f32) (X1 : BufTy.Contents (Elt F) arg1.view.ty) (X11 : BufTy.Contents (Elt F) arg11.view.ty)
  (hw : ∀ k, k0_chk1 (word (F := F) i arg1 X1 k)) (G : BufTy.Contents (Elt F) arg12.view.ty)

/-- The rows are stored as they were read. -/
theorem pay8_eq (v : Vec F S2x128 .f32) : k0_pay8 v = v := shapeCast_self _ _
theorem pay7_eq (v : Vec F S8x128 .f32) : k0_pay7 v = v := shapeCast_self _ _

/-- A store through any rectangle, read at an index: the payload where the index is in the rectangle, else what was there. -/
theorem read_cons {s : Shape} {e : EltTy} (v : View sig .tc .vmem s e) (f : v.ty.Contents (Elt F)) (r : Rect s) (p : r.shape.Idx → Elt F e)
    (L : List (View.Piece (Elt F) s e)) (y : s.Idx) (h : ∀ x, r.emb x ≠ y) :
    v.read (Elt F) (v.writes (Elt F) f (⟨r, p⟩ :: L)) y = v.read (Elt F) (v.writes (Elt F) f L) y := by
  rw [View.writes_cons]
  refine View.read_slice_write_of_not_mem _ _ _ _ ?_
  rw [Finset.mem_map]
  rintro ⟨x, -, hx⟩
  exact h x hx

/-- One trip's two stores, at the trip's slot the token's row, elsewhere what was there: for any slot's word in range. -/
theorem pieces_read (w : BitVec 32) (hw' : k0_chk1 w) (k : Fin 640) (hk : k.val < k0_t1_loop.trips) (s : Fin 2436) (c : Fin 10) (l : Fin 128) :
    arg12.view.read (Elt F) (arg12.view.writes (Elt F) G
      [⟨⟨(⟨k0_off5 w, S2x128.size, ![2436, 1], (k0_off5_inb _ hw')⟩ : LoadRect S24360x128), spos_2436_1⟩,
        k0_pay8 (View.readAt (Elt F) arg11.view (⟨k0_off4 ⟨k.val, hk⟩, S2x128.size, ![644, 1], (k0_off4_inb ⟨k.val, hk⟩)⟩ : LoadRect S6440x128) X11)⟩,
       ⟨⟨(⟨k0_off3 w, S8x128.size, ![2436, 1], (k0_off3_inb _ hw')⟩ : LoadRect S24360x128), spos_2436_1⟩,
        k0_pay7 (View.readAt (Elt F) arg11.view (⟨k0_off2 ⟨k.val, hk⟩, S8x128.size, ![644, 1], (k0_off2_inb ⟨k.val, hk⟩)⟩ : LoadRect S6440x128) X11)⟩])
        (gatherIx s c l)
      = if w.toNat = s.val then arg11.view.read (Elt F) X11 (stagedIx k c l)
        else arg12.view.read (Elt F) G (gatherIx s c l) := by
  have hlt := chk_lt _ hw'
  have o5 := off5_val w hlt
  have o2 := (off2_val ⟨k.val, hk⟩).1
  have o2' := (off2_val ⟨k.val, hk⟩).2
  have o4 := (off4_val ⟨k.val, hk⟩).1
  have o4' := (off4_val ⟨k.val, hk⟩).2
  have hs := s.isLt
  have hc := c.isLt
  by_cases h : w.toNat = s.val
  · rw [if_pos h]
    by_cases h8 : 8 ≤ c.val
    · have hy : (⟨(⟨k0_off5 w, S2x128.size, ![2436, 1], (k0_off5_inb w hw')⟩ : LoadRect S24360x128), spos_2436_1⟩ : Rect S24360x128).emb
          (fun | ⟨0, _⟩ => (⟨c.val - 8, by omega⟩ : Fin 2) | ⟨1, _⟩ => l) = gatherIx s c l := by
        funext a; apply Fin.ext
        match a with
        | ⟨0, _⟩ => show k0_off5 w (0 : Fin 2) + 2436 * (c.val - 8) = 2436 * c.val + s.val; omega
        | ⟨1, _⟩ => show k0_off5 w (1 : Fin 2) + 1 * l.val = l.val; rw [off5_one]; omega
      rw [← hy, View.read_writes_cons_emb]
      refine (congrFun (pay8_eq _) _).trans ?_
      refine congrArg (arg11.view.read (Elt F) X11) ?_
      funext a; apply Fin.ext
      match a with
      | ⟨0, _⟩ => show k0_off4 ⟨k.val, hk⟩ (0 : Fin 2) + 644 * (c.val - 8) = 644 * c.val + k.val; rw [o4]; show k.val + 5152 + _ = _; omega
      | ⟨1, _⟩ => show k0_off4 ⟨k.val, hk⟩ (1 : Fin 2) + 1 * l.val = l.val; rw [o4']; omega
    · rw [read_cons]
      · have hy : (⟨(⟨k0_off3 w, S8x128.size, ![2436, 1], (k0_off3_inb w hw')⟩ : LoadRect S24360x128), spos_2436_1⟩ : Rect S24360x128).emb
            (fun | ⟨0, _⟩ => (⟨c.val, by omega⟩ : Fin 8) | ⟨1, _⟩ => l) = gatherIx s c l := by
          funext a; apply Fin.ext
          match a with
          | ⟨0, _⟩ => show w.toNat + 2436 * c.val = 2436 * c.val + s.val; omega
          | ⟨1, _⟩ => show k0_off3 w (1 : Fin 2) + 1 * l.val = l.val; rw [off3_one]; omega
        rw [← hy, View.read_writes_cons_emb]
        refine (congrFun (pay7_eq _) _).trans ?_
        refine congrArg (arg11.view.read (Elt F) X11) ?_
        funext a; apply Fin.ext
        match a with
        | ⟨0, _⟩ => show k0_off2 ⟨k.val, hk⟩ (0 : Fin 2) + 644 * c.val = 644 * c.val + k.val; rw [o2]; show k.val + _ = _; omega
        | ⟨1, _⟩ => show k0_off2 ⟨k.val, hk⟩ (1 : Fin 2) + 1 * l.val = l.val; rw [o2']; omega
      · intro x hx
        have h0 := congrArg (fun z : S24360x128.Idx => (z (0 : Fin 2)).val) hx
        have : k0_off5 w (0 : Fin 2) + 2436 * (x (0 : Fin 2)).val = 2436 * c.val + s.val := h0
        omega
  · rw [if_neg h, read_cons, read_cons]
    · rfl
    · intro x hx
      have h0 := congrArg (fun z : S24360x128.Idx => (z (0 : Fin 2)).val) hx
      have : w.toNat + 2436 * (x (0 : Fin 2)).val = 2436 * c.val + s.val := h0
      omega
    · intro x hx
      have h0 := congrArg (fun z : S24360x128.Idx => (z (0 : Fin 2)).val) hx
      have : k0_off5 w (0 : Fin 2) + 2436 * (x (0 : Fin 2)).val = 2436 * c.val + s.val := h0
      omega

/-- One trip's two stores, read at an index. -/
theorem trip_read (k : Fin 640) (hk : k.val < k0_t1_loop.trips) (s : Fin 2436) (c : Fin 10) (l : Fin 128) :
    arg12.view.read (Elt F) (arg12.view.writes (Elt F) G (rowPieces i arg1 arg11 X1 X11 hw ⟨k.val, hk⟩)) (gatherIx s c l)
      = if (word (F := F) i arg1 X1 ⟨k.val, hk⟩).toNat = s.val then arg11.view.read (Elt F) X11 (stagedIx k c l)
        else arg12.view.read (Elt F) G (gatherIx s c l) :=
  pieces_read arg11 arg12 X11 G (word (F := F) i arg1 X1 ⟨k.val, hk⟩) (hw ⟨k.val, hk⟩) k hk s c l

/-- `n` tokens moved one after another into an array of 2436 slots: token `k` goes to the slot whose number is `slot k`. -/
def place {α : Type} (slot : ℕ → ℕ) (y : ℕ → Fin 10 → Fin 128 → α) (R : Fin 2436 → Fin 10 → Fin 128 → α) : ℕ → Fin 2436 → Fin 10 → Fin 128 → α
  | 0 => R
  | k + 1 => fun s c l => if slot k = s.val then y k c l else place slot y R k s c l

/-- After `n` trips the gathered rows hold the first `n` tokens' rows placed one after another over what was there. -/
theorem rows_read (slot : ℕ → ℕ) (y : ℕ → Fin 10 → Fin 128 → Elt F .f32)
    (hslot : ∀ k : Fin k0_t1_loop.trips, (word (F := F) i arg1 X1 k).toNat = slot k.val)
    (hy : ∀ (k : Fin 640) c l, arg11.view.read (Elt F) X11 (stagedIx k c l) = y k.val c l) :
    ∀ (n : ℕ) (_ : n ≤ 640) (s : Fin 2436) (c : Fin 10) (l : Fin 128),
      arg12.view.read (Elt F) (arg12.view.writes (Elt F) G (rowsList i arg1 arg11 X1 X11 hw n)) (gatherIx s c l)
        = place slot y (fun s c l => arg12.view.read (Elt F) G (gatherIx s c l)) n s c l
  | 0, _, s, c, l => by rw [rowsList]; rfl
  | n + 1, hn, s, c, l => by
    have hlt : n < k0_t1_loop.trips := by rw [trips_eq]; omega
    have e := rowsList_succ (F := F) i arg1 arg11 X1 X11 hw ⟨n, hlt⟩
    have e' : rowsList i arg1 arg11 X1 X11 hw (n + 1) = rowPieces i arg1 arg11 X1 X11 hw ⟨n, hlt⟩ ++ rowsList i arg1 arg11 X1 X11 hw n := e
    rw [e', View.writes_append]
    have t := trip_read i arg1 arg11 arg12 X1 X11 hw (arg12.view.writes (Elt F) G (rowsList i arg1 arg11 X1 X11 hw n)) ⟨n, by omega⟩ hlt s c l
    refine t.trans ?_
    rw [hslot, hy, rows_read slot y hslot hy n (by omega) s c l]
    rfl

/-- The indices of the gathered rows are the slots' chunks' lanes. -/
theorem gather_surj (j : S24360x128.Idx) : ∃ s c l, j = gatherIx s c l := by
  have h := (j (0 : Fin 2)).isLt
  have h' : (j (0 : Fin 2)).val < 24360 := h
  refine ⟨⟨(j (0 : Fin 2)).val % 2436, Nat.mod_lt _ (by decide)⟩, ⟨(j (0 : Fin 2)).val / 2436, by omega⟩, j (1 : Fin 2), ?_⟩
  funext a; apply Fin.ext
  match a with
  | ⟨0, _⟩ => show (j (0 : Fin 2)).val = 2436 * ((j (0 : Fin 2)).val / 2436) + (j (0 : Fin 2)).val % 2436; omega
  | ⟨1, _⟩ => rfl

end Cert.VProjIdeal.Gen

end
-- ==== Proof.VStage.lean ====
/-
  The staged rows: a point stages its 640 projected rows, ten chunks of 128 columns one after another, 644 places per chunk.
-/
module

public import proofs.«01_k».proof.Proof.VRows
public import Idealize.ShloMosaic.Lib.WritesUnit

@[expose] public section

set_option maxRecDepth 16384
set_option maxHeartbeats 1000000

noncomputable section

namespace Cert.VProjIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The ten stores of a point's rows, the last first, from the four blocks it reads. -/
abbrev stagePieces (v3 : Vec F S1x640x6144 .fp8e4m3) (v5 : Vec F S6144x1280 .fp8e4m3) (v7 : Vec F S1x640x128 .f32) (v12 : Vec F S1x1280 .f32) :
    List (View.Piece (Elt F) S6440x128 .f32) :=
  [⟨Rect.unit (s := S6440x128) ![5796, 0] S640x128.size inb_S6440x128_S640x128_5796_0, k0_pay6 (k0_pay335 v3 v5 v7 v12)⟩,
   ⟨Rect.unit (s := S6440x128) ![5152, 0] S640x128.size inb_S6440x128_S640x128_5152_0, k0_pay5 (k0_pay335 v3 v5 v7 v12)⟩,
   ⟨Rect.unit (s := S6440x128) ![4508, 0] S640x128.size inb_S6440x128_S640x128_4508_0, k0_pay4 (k0_pay335 v3 v5 v7 v12)⟩,
   ⟨Rect.unit (s := S6440x128) ![3864, 0] S640x128.size inb_S6440x128_S640x128_3864_0, k0_pay3 (k0_pay335 v3 v5 v7 v12)⟩,
   ⟨Rect.unit (s := S6440x128) ![3220, 0] S640x128.size inb_S6440x128_S640x128_3220_0, k0_pay2 (k0_pay335 v3 v5 v7 v12)⟩,
   ⟨Rect.unit (s := S6440x128) ![2576, 0] S640x128.size inb_S6440x128_S640x128_2576_0, k0_pay1 (k0_pay340 v3 v5 v7 v12)⟩,
   ⟨Rect.unit (s := S6440x128) ![1932, 0] S640x128.size inb_S6440x128_S640x128_1932_0, k0_pay339 v3 v5 v7 v12⟩,
   ⟨Rect.unit (s := S6440x128) ![1288, 0] S640x128.size inb_S6440x128_S640x128_1288_0, k0_pay338 v3 v5 v7 v12⟩,
   ⟨Rect.unit (s := S6440x128) ![644, 0] S640x128.size inb_S6440x128_S640x128_644_0, k0_pay337 v3 v5 v7 v12⟩,
   ⟨Rect.unit (s := S6440x128) ![0, 0] S640x128.size inb_S6440x128_S640x128_0_0, k0_pay336 v3 v5 v7 v12⟩]

variable (arg2 : Memref sig .tc .vmem S1x640x6144 .fp8e4m3) (harg2 : arg2.IsWhole) (arg3 : Memref sig .tc .vmem S1x640x128 .f32) (harg3 : arg3.IsWhole) (arg4 : Memref sig .tc .vmem S6144x1280 .fp8e4m3) (harg4 : arg4.IsWhole) (arg5 : Memref sig .tc .vmem S1x1280 .f32) (harg5 : arg5.IsWhole)
  (x1 : Vec F S1x640x6144 .fp8e4m3) (x2 : Vec F S1x640x128 .f32) (x3 : Vec F S6144x1280 .fp8e4m3) (x4 : Vec F S1x1280 .f32)

/-- The same from the buffers the blocks lie in. -/
abbrev stageOf : List (View.Piece (Elt F) S6440x128 .f32) :=
  stagePieces
      (View.readAt (Elt F) arg2.view (Rect.unit (s := S1x640x6144) ![0, 0, 0] S1x640x6144.size inb_S1x640x6144_S1x640x6144_0_0_0).toLoadRect (harg2.unread x1))
      (View.readAt (Elt F) arg4.view (Rect.unit (s := S6144x1280) ![0, 0] S6144x1280.size inb_S6144x1280_S6144x1280_0_0).toLoadRect (harg4.unread x3))
      (View.readAt (Elt F) arg3.view (Rect.unit (s := S1x640x128) ![0, 0, 0] S1x640x128.size inb_S1x640x128_S1x640x128_0_0_0).toLoadRect (harg3.unread x2))
      (View.readAt (Elt F) arg5.view (Rect.unit (s := S1x1280) ![0, 0] S1x1280.size inb_S1x1280_S1x1280_0_0).toLoadRect (harg5.unread x4))

/-- Row `k`, chunk `c`, lane `l` of a point's projection. -/
abbrev rowIx (k : Fin 640) (c : Fin 10) (l : Fin 128) : S640x1280.Idx := fun
  | ⟨0, _⟩ => k
  | ⟨1, _⟩ => (⟨128 * c.val + l.val, by have := c.isLt; have := l.isLt; omega⟩ : Fin 1280)

/-- Row `k`, lane `l` of a chunk. -/
abbrev chunkIx (k : Fin 640) (l : Fin 128) : S640x128.Idx := fun
  | ⟨0, _⟩ => k
  | ⟨1, _⟩ => l

/-- A chunk cut out of the projection, at an index. -/
theorem cut_at (Y : FVec F S640x1280 .f32) (c : Fin 10) (off : Fin 2 → ℕ) (ho : off = ![0, 128 * c.val]) (h) (h') (k : Fin 640) (l : Fin 128) :
    shapeCast S640x128 (extractStridedSlice S640x128 off Y h) h' (chunkIx k l) = Y (rowIx k c l) := by
  subst ho
  rw [shapeCast_self]
  refine congrArg Y ?_
  funext a; apply Fin.ext
  match a with
  | ⟨0, _⟩ => show 0 + k.val = k.val; omega
  | ⟨1, _⟩ => rfl

/-- A piece of the staged rows, read in its chunk. -/
theorem stage_hit (v : View sig .tc .vmem S6440x128 .f32) (f : v.ty.Contents (Elt F)) (L) (off : Fin 2 → ℕ) (inb) (p : FVec F S640x128 .f32)
    (k : Fin 640) (c : Fin 10) (l : Fin 128) (ho : off = ![644 * c.val, 0]) :
    v.read (Elt F) (v.writes (Elt F) f ((⟨Rect.unit (s := S6440x128) off S640x128.size inb, p⟩ : View.Piece (Elt F) S6440x128 .f32) :: L)) (stagedIx k c l) = p (chunkIx k l) := by
  refine View.read_writes_cons_unit_of_mem v f inb p L _ (chunkIx k l) ho fun a => ?_
  match a with
  | ⟨0, _⟩ => rfl
  | ⟨1, _⟩ => show l.val = 0 + l.val; omega

/-- A piece of the staged rows, read in another chunk. -/
theorem stage_miss (v : View sig .tc .vmem S6440x128 .f32) (f : v.ty.Contents (Elt F)) (L) (off : Fin 2 → ℕ) (inb) (p : FVec F S640x128 .f32)
    (k : Fin 640) (c : Fin 10) (l : Fin 128) (d : ℕ) (ho : off = ![644 * d, 0]) (hd : d ≠ c.val) :
    v.read (Elt F) (v.writes (Elt F) f ((⟨Rect.unit (s := S6440x128) off S640x128.size inb, p⟩ : View.Piece (Elt F) S6440x128 .f32) :: L)) (stagedIx k c l)
      = v.read (Elt F) (v.writes (Elt F) f L) (stagedIx k c l) := by
  refine View.read_writes_cons_unit_of_not_mem v f inb p L _ ho (0 : Fin 2) ?_
  show 644 * c.val + k.val < 644 * d ∨ 644 * d + 640 ≤ 644 * c.val + k.val
  have := k.isLt
  omega

/-- Ten chunks stored one after another, read at an index: the chunk's own payload. -/
theorem stage_list (v : View sig .tc .vmem S6440x128 .f32) (f : v.ty.Contents (Elt F)) (p : Fin 10 → FVec F S640x128 .f32)
    (k : Fin 640) (c : Fin 10) (l : Fin 128) :
    v.read (Elt F) (v.writes (Elt F) f
      [⟨Rect.unit (s := S6440x128) ![5796, 0] S640x128.size inb_S6440x128_S640x128_5796_0, p 9⟩,
       ⟨Rect.unit (s := S6440x128) ![5152, 0] S640x128.size inb_S6440x128_S640x128_5152_0, p 8⟩,
       ⟨Rect.unit (s := S6440x128) ![4508, 0] S640x128.size inb_S6440x128_S640x128_4508_0, p 7⟩,
       ⟨Rect.unit (s := S6440x128) ![3864, 0] S640x128.size inb_S6440x128_S640x128_3864_0, p 6⟩,
       ⟨Rect.unit (s := S6440x128) ![3220, 0] S640x128.size inb_S6440x128_S640x128_3220_0, p 5⟩,
       ⟨Rect.unit (s := S6440x128) ![2576, 0] S640x128.size inb_S6440x128_S640x128_2576_0, p 4⟩,
       ⟨Rect.unit (s := S6440x128) ![1932, 0] S640x128.size inb_S6440x128_S640x128_1932_0, p 3⟩,
       ⟨Rect.unit (s := S6440x128) ![1288, 0] S640x128.size inb_S6440x128_S640x128_1288_0, p 2⟩,
       ⟨Rect.unit (s := S6440x128) ![644, 0] S640x128.size inb_S6440x128_S640x128_644_0, p 1⟩,
       ⟨Rect.unit (s := S6440x128) ![0, 0] S640x128.size inb_S6440x128_S640x128_0_0, p 0⟩]) (stagedIx k c l) = p c (chunkIx k l) := by
  match c with
  | ⟨0, _⟩ =>
    refine (stage_miss v f _ _ _ (p 9) k ⟨0, by decide⟩ l 9 rfl (by decide)).trans ?_
    refine (stage_miss v f _ _ _ (p 8) k ⟨0, by decide⟩ l 8 rfl (by decide)).trans ?_
    refine (stage_miss v f _ _ _ (p 7) k ⟨0, by decide⟩ l 7 rfl (by decide)).trans ?_
    refine (stage_miss v f _ _ _ (p 6) k ⟨0, by decide⟩ l 6 rfl (by decide)).trans ?_
    refine (stage_miss v f _ _ _ (p 5) k ⟨0, by decide⟩ l 5 rfl (by decide)).trans ?_
    refine (stage_miss v f _ _ _ (p 4) k ⟨0, by decide⟩ l 4 rfl (by decide)).trans ?_
    refine (stage_miss v f _ _ _ (p 3) k ⟨0, by decide⟩ l 3 rfl (by decide)).trans ?_
    refine (stage_miss v f _ _ _ (p 2) k ⟨0, by decide⟩ l 2 rfl (by decide)).trans ?_
    refine (stage_miss v f _ _ _ (p 1) k ⟨0, by decide⟩ l 1 rfl (by decide)).trans ?_
    exact stage_hit v f _ _ _ (p 0) k ⟨0, by decide⟩ l rfl
  | ⟨1, _⟩ =>
    refine (stage_miss v f _ _ _ (p 9) k ⟨1, by decide⟩ l 9 rfl (by decide)).trans ?_
    refine (stage_miss v f _ _ _ (p 8) k ⟨1, by decide⟩ l 8 rfl (by decide)).trans ?_
    refine (stage_miss v f _ _ _ (p 7) k ⟨1, by decide⟩ l 7 rfl (by decide)).trans ?_
    refine (stage_miss v f _ _ _ (p 6) k ⟨1, by decide⟩ l 6 rfl (by decide)).trans ?_
    refine (stage_miss v f _ _ _ (p 5) k ⟨1, by decide⟩ l 5 rfl (by decide)).trans ?_
    refine (stage_miss v f _ _ _ (p 4) k ⟨1, by decide⟩ l 4 rfl (by decide)).trans ?_
    refine (stage_miss v f _ _ _ (p 3) k ⟨1, by decide⟩ l 3 rfl (by decide)).trans ?_
    refine (stage_miss v f _ _ _ (p 2) k ⟨1, by decide⟩ l 2 rfl (by decide)).trans ?_
    exact stage_hit v f _ _ _ (p 1) k ⟨1, by decide⟩ l rfl
  | ⟨2, _⟩ =>
    refine (stage_miss v f _ _ _ (p 9) k ⟨2, by decide⟩ l 9 rfl (by decide)).trans ?_
    refine (stage_miss v f _ _ _ (p 8) k ⟨2, by decide⟩ l 8 rfl (by decide)).trans ?_
    refine (stage_miss v f _ _ _ (p 7) k ⟨2, by decide⟩ l 7 rfl (by decide)).trans ?_
    refine (stage_miss v f _ _ _ (p 6) k ⟨2, by decide⟩ l 6 rfl (by decide)).trans ?_
    refine (stage_miss v f _ _ _ (p 5) k ⟨2, by decide⟩ l 5 rfl (by decide)).trans ?_
    refine (stage_miss v f _ _ _ (p 4) k ⟨2, by decide⟩ l 4 rfl (by decide)).trans ?_
    refine (stage_miss v f _ _ _ (p 3) k ⟨2, by decide⟩ l 3 rfl (by decide)).trans ?_
    exact stage_hit v f _ _ _ (p 2) k ⟨2, by decide⟩ l rfl
  | ⟨3, _⟩ =>
    refine (stage_miss v f _ _ _ (p 9) k ⟨3, by decide⟩ l 9 rfl (by decide)).trans ?_
    refine (stage_miss v f _ _ _ (p 8) k ⟨3, by decide⟩ l 8 rfl (by decide)).trans ?_
    refine (stage_miss v f _ _ _ (p 7) k ⟨3, by decide⟩ l 7 rfl (by decide)).trans ?_
    refine (stage_miss v f _ _ _ (p 6) k ⟨3, by decide⟩ l 6 rfl (by decide)).trans ?_
    refine (stage_miss v f _ _ _ (p 5) k ⟨3, by decide⟩ l 5 rfl (by decide)).trans ?_
    refine (stage_miss v f _ _ _ (p 4) k ⟨3, by decide⟩ l 4 rfl (by decide)).trans ?_
    exact stage_hit v f _ _ _ (p 3) k ⟨3, by decide⟩ l rfl
  | ⟨4, _⟩ =>
    refine (stage_miss v f _ _ _ (p 9) k ⟨4, by decide⟩ l 9 rfl (by decide)).trans ?_
    refine (stage_miss v f _ _ _ (p 8) k ⟨4, by decide⟩ l 8 rfl (by decide)).trans ?_
    refine (stage_miss v f _ _ _ (p 7) k ⟨4, by decide⟩ l 7 rfl (by decide)).trans ?_
    refine (stage_miss v f _ _ _ (p 6) k ⟨4, by decide⟩ l 6 rfl (by decide)).trans ?_
    refine (stage_miss v f _ _ _ (p 5) k ⟨4, by decide⟩ l 5 rfl (by decide)).trans ?_
    exact stage_hit v f _ _ _ (p 4) k ⟨4, by decide⟩ l rfl
  | ⟨5, _⟩ =>
    refine (stage_miss v f _ _ _ (p 9) k ⟨5, by decide⟩ l 9 rfl (by decide)).trans ?_
    refine (stage_miss v f _ _ _ (p 8) k ⟨5, by decide⟩ l 8 rfl (by decide)).trans ?_
    refine (stage_miss v f _ _ _ (p 7) k ⟨5, by decide⟩ l 7 rfl (by decide)).trans ?_
    refine (stage_miss v f _ _ _ (p 6) k ⟨5, by decide⟩ l 6 rfl (by decide)).trans ?_
    exact stage_hit v f _ _ _ (p 5) k ⟨5, by decide⟩ l rfl
  | ⟨6, _⟩ =>
    refine (stage_miss v f _ _ _ (p 9) k ⟨6, by decide⟩ l 9 rfl (by decide)).trans ?_
    refine (stage_miss v f _ _ _ (p 8) k ⟨6, by decide⟩ l 8 rfl (by decide)).trans ?_
    refine (stage_miss v f _ _ _ (p 7) k ⟨6, by decide⟩ l 7 rfl (by decide)).trans ?_
    exact stage_hit v f _ _ _ (p 6) k ⟨6, by decide⟩ l rfl
  | ⟨7, _⟩ =>
    refine (stage_miss v f _ _ _ (p 9) k ⟨7, by decide⟩ l 9 rfl (by decide)).trans ?_
    refine (stage_miss v f _ _ _ (p 8) k ⟨7, by decide⟩ l 8 rfl (by decide)).trans ?_
    exact stage_hit v f _ _ _ (p 7) k ⟨7, by decide⟩ l rfl
  | ⟨8, _⟩ =>
    refine (stage_miss v f _ _ _ (p 9) k ⟨8, by decide⟩ l 9 rfl (by decide)).trans ?_
    exact stage_hit v f _ _ _ (p 8) k ⟨8, by decide⟩ l rfl
  | ⟨9, _⟩ =>
    exact stage_hit v f _ _ _ (p 9) k ⟨9, by decide⟩ l rfl

/-- The ten payloads by chunk. -/
def chunkOf (v3 : Vec F S1x640x6144 .fp8e4m3) (v5 : Vec F S6144x1280 .fp8e4m3) (v7 : Vec F S1x640x128 .f32) (v12 : Vec F S1x1280 .f32) : Fin 10 → FVec F S640x128 .f32
  | ⟨0, _⟩ => k0_pay336 v3 v5 v7 v12
  | ⟨1, _⟩ => k0_pay337 v3 v5 v7 v12
  | ⟨2, _⟩ => k0_pay338 v3 v5 v7 v12
  | ⟨3, _⟩ => k0_pay339 v3 v5 v7 v12
  | ⟨4, _⟩ => k0_pay1 (k0_pay340 v3 v5 v7 v12)
  | ⟨5, _⟩ => k0_pay2 (k0_pay335 v3 v5 v7 v12)
  | ⟨6, _⟩ => k0_pay3 (k0_pay335 v3 v5 v7 v12)
  | ⟨7, _⟩ => k0_pay4 (k0_pay335 v3 v5 v7 v12)
  | ⟨8, _⟩ => k0_pay5 (k0_pay335 v3 v5 v7 v12)
  | ⟨9, _⟩ => k0_pay6 (k0_pay335 v3 v5 v7 v12)

/-- Each payload is its chunk of the projection. -/
theorem chunkOf_at (v3 : Vec F S1x640x6144 .fp8e4m3) (v5 : Vec F S6144x1280 .fp8e4m3) (v7 : Vec F S1x640x128 .f32) (v12 : Vec F S1x1280 .f32) (k : Fin 640) (c : Fin 10) (l : Fin 128) :
    chunkOf v3 v5 v7 v12 c (chunkIx k l) = k0_pay335 v3 v5 v7 v12 (rowIx k c l) := by
  match c with
  | ⟨0, _⟩ => exact cut_at (k0_pay335 v3 v5 v7 v12) ⟨0, by decide⟩ ![0, 0] rfl slices_S640x1280_o0_0_S640x128 shapeCasts_S640x128_S640x128 k l
  | ⟨1, _⟩ => exact cut_at (k0_pay335 v3 v5 v7 v12) ⟨1, by decide⟩ ![0, 128] rfl slices_S640x1280_o0_128_S640x128 shapeCasts_S640x128_S640x128 k l
  | ⟨2, _⟩ => exact cut_at (k0_pay335 v3 v5 v7 v12) ⟨2, by decide⟩ ![0, 256] rfl slices_S640x1280_o0_256_S640x128 shapeCasts_S640x128_S640x128 k l
  | ⟨3, _⟩ => exact cut_at (k0_pay335 v3 v5 v7 v12) ⟨3, by decide⟩ ![0, 384] rfl slices_S640x1280_o0_384_S640x128 shapeCasts_S640x128_S640x128 k l
  | ⟨4, _⟩ => exact cut_at (k0_pay335 v3 v5 v7 v12) ⟨4, by decide⟩ ![0, 512] rfl slices_S640x1280_o0_512_S640x128 shapeCasts_S640x128_S640x128 k l
  | ⟨5, _⟩ => exact cut_at (k0_pay335 v3 v5 v7 v12) ⟨5, by decide⟩ ![0, 640] rfl slices_S640x1280_o0_640_S640x128 shapeCasts_S640x128_S640x128 k l
  | ⟨6, _⟩ => exact cut_at (k0_pay335 v3 v5 v7 v12) ⟨6, by decide⟩ ![0, 768] rfl slices_S640x1280_o0_768_S640x128 shapeCasts_S640x128_S640x128 k l
  | ⟨7, _⟩ => exact cut_at (k0_pay335 v3 v5 v7 v12) ⟨7, by decide⟩ ![0, 896] rfl slices_S640x1280_o0_896_S640x128 shapeCasts_S640x128_S640x128 k l
  | ⟨8, _⟩ => exact cut_at (k0_pay335 v3 v5 v7 v12) ⟨8, by decide⟩ ![0, 1024] rfl slices_S640x1280_o0_1024_S640x128 shapeCasts_S640x128_S640x128 k l
  | ⟨9, _⟩ => exact cut_at (k0_pay335 v3 v5 v7 v12) ⟨9, by decide⟩ ![0, 1152] rfl slices_S640x1280_o0_1152_S640x128 shapeCasts_S640x128_S640x128 k l

/-- After the ten stores the staged rows hold the projection. -/
theorem stage_read (v : View sig .tc .vmem S6440x128 .f32) (f : v.ty.Contents (Elt F))
    (v3 : Vec F S1x640x6144 .fp8e4m3) (v5 : Vec F S6144x1280 .fp8e4m3) (v7 : Vec F S1x640x128 .f32) (v12 : Vec F S1x1280 .f32)
    (k : Fin 640) (c : Fin 10) (l : Fin 128) :
    v.read (Elt F) (v.writes (Elt F) f (stagePieces v3 v5 v7 v12)) (stagedIx k c l) = k0_pay335 v3 v5 v7 v12 (rowIx k c l) :=
  (stage_list v f (chunkOf v3 v5 v7 v12) k c l).trans (chunkOf_at v3 v5 v7 v12 k c l)

/-- A block read whole is the block. -/
theorem read_whole {s : Shape} {e : EltTy} {sp : Space} (m : Memref sig .tc sp s e) (hm : m.IsWhole) (x : s.Idx → Elt F e) (off : Fin s.rank → ℕ) (inb) (ho : ∀ a, off a = 0) :
    View.readAt (Elt F) m.view (Rect.unit (s := s) off s.size inb).toLoadRect (hm.unread x) = x := by
  funext j
  rw [View.readAt_apply, hm.read_unread]
  refine congrArg x ?_
  funext a; apply Fin.ext
  show off a + 1 * (j a).val = (j a).val
  rw [ho]; omega

/-- After a point's ten stores the staged rows hold the projection of its blocks. -/
theorem stageOf_read (v : View sig .tc .vmem S6440x128 .f32) (f : v.ty.Contents (Elt F)) (k : Fin 640) (c : Fin 10) (l : Fin 128) :
    v.read (Elt F) (v.writes (Elt F) f (stageOf arg2 harg2 arg3 harg3 arg4 harg4 arg5 harg5 x1 x2 x3 x4)) (stagedIx k c l) = k0_pay335 x1 x3 x2 x4 (rowIx k c l) := by
  refine (stage_read v f _ _ _ _ k c l).trans ?_
  rw [read_whole arg2 harg2 x1 _ _ (by decide), read_whole arg4 harg4 x3 _ _ (by decide), read_whole arg3 harg3 x2 _ _ (by decide), read_whole arg5 harg5 x4 _ _ (by decide)]

end Cert.VProjIdeal.Gen

end
-- ==== Proof.VRunC.lean ====
/-
  The body of the value projection at the last point.
-/
module

public import proofs.«01_k».proof.Proof.VRunB
public import proofs.«01_k».proof.Proof.VStage

@[expose] public section

set_option maxRecDepth 16384

noncomputable section

namespace Cert.VProjIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option warn.classDefReducibility false in
/-- What the loop hands on where the gathered rows it leaves are known. -/
@[reducible] def rowsExit (𝒱 : Variants) (c : Dev nD) (bd : Option 𝒱.V) (i : grid0.Coords) (arg1 : Memref sig .tc .smem S3x640 .i32) (harg1 : arg1.IsWhole) (arg2 : Memref sig .tc .vmem S1x640x6144 .fp8e4m3) (harg2 : arg2.IsWhole) (arg3 : Memref sig .tc .vmem S1x640x128 .f32) (harg3 : arg3.IsWhole) (arg4 : Memref sig .tc .vmem S6144x1280 .fp8e4m3) (harg4 : arg4.IsWhole) (arg5 : Memref sig .tc .vmem S1x1280 .f32) (harg5 : arg5.IsWhole) (arg6 : Memref sig .tc .vmem S1x2400 .i32) (harg6 : arg6.IsWhole) (arg7 : Memref sig .tc .vmem S8x160x2400 .fp8e4m3) (harg7 : arg7.IsWhole) (arg8 : Memref sig .tc .vmem S8x2400 .f32) (harg8 : arg8.IsWhole) (arg9 : Memref sig .tc .vmem S8x160x2400 .fp8e4m3) (harg9 : arg9.IsWhole) (arg10 : Memref sig .tc .vmem S8x2400 .f32) (harg10 : arg10.IsWhole) (arg11 : Memref sig .tc .vmem S6440x128 .f32) (harg11 : arg11.IsWhole) (arg12 : Memref sig .tc .vmem S24360x128 .f32) (harg12 : arg12.IsWhole)
    (E : Set ℕ) (X1 : BufTy.Contents (Elt F) arg1.view.ty) (X11 : BufTy.Contents (Elt F) arg11.view.ty) (G12 : BufTy.Contents (Elt F) arg12.view.ty)
    (hw : ∀ k, k0_chk1 (word (F := F) i arg1 X1 k)) (R : Vec F S24360x128 .f32)
    (hR : arg12.view.writes (Elt F) G12 (rowsList i arg1 arg11 X1 X11 hw k0_t1_loop.trips) = harg12.unread R) :
    LoopExit (rowsLoop (F := F) 𝒱 c bd i arg1 harg1 arg2 harg2 arg3 harg3 arg4 harg4 arg5 harg5 arg6 harg6 arg7 harg7 arg8 harg8 arg9 harg9 arg10 harg10 arg11 harg11 arg12 harg12 E X1 X11 G12 hw) where
  post _ := iprop((arg1.view.loc (c : Thread nD τ) ↦[arg1.view.set]{fullShare} X1) ∗ (arg11.view.loc (c : Thread nD τ) ↦[arg11.view.set]{fullShare} X11)
    ∗ (arg12.view.loc (c : Thread nD τ) ↦[arg12.view.set]{fullShare} harg12.unread R))
  exit acc := by
    show rowsInv (F := F) c i arg1 arg11 arg12 X1 X11 G12 hw k0_t1_loop.trips acc ⊢ _
    iintro ⟨H1, H11, ⟨%f, H12, %hf⟩⟩
    subst hf
    rw [hR]
    isplitl [H1]; · iexact H1
    isplitl [H11]; · iexact H11
    iexact H12

set_option maxHeartbeats 8000000 in
/-- The body at the last point, on slots in range: run from any contents of the staged rows and the gathered rows, with
    the stores it leaves in each output and scratch buffer. -/
noncomputable def kernelRun0_C (c : Dev nD) (i : grid0.Coords) (arg1 : Memref sig .tc .smem S3x640 .i32) (harg1 : arg1.IsWhole) (arg2 : Memref sig .tc .vmem S1x640x6144 .fp8e4m3) (harg2 : arg2.IsWhole) (arg3 : Memref sig .tc .vmem S1x640x128 .f32) (harg3 : arg3.IsWhole) (arg4 : Memref sig .tc .vmem S6144x1280 .fp8e4m3) (harg4 : arg4.IsWhole) (arg5 : Memref sig .tc .vmem S1x1280 .f32) (harg5 : arg5.IsWhole) (arg6 : Memref sig .tc .vmem S1x2400 .i32) (harg6 : arg6.IsWhole) (arg7 : Memref sig .tc .vmem S8x160x2400 .fp8e4m3) (harg7 : arg7.IsWhole) (arg8 : Memref sig .tc .vmem S8x2400 .f32) (harg8 : arg8.IsWhole) (arg9 : Memref sig .tc .vmem S8x160x2400 .fp8e4m3) (harg9 : arg9.IsWhole) (arg10 : Memref sig .tc .vmem S8x2400 .f32) (harg10 : arg10.IsWhole) (arg11 : Memref sig .tc .vmem S6440x128 .f32) (harg11 : arg11.IsWhole) (arg12 : Memref sig .tc .vmem S24360x128 .f32) (harg12 : arg12.IsWhole) (hc0 : ¬cond0_0 i) (hc1 : cond0_1 i)
    (x0 : Vec F S3x640 .i32) (x1 : Vec F S1x640x6144 .fp8e4m3) (x2 : Vec F S1x640x128 .f32) (x3 : Vec F S6144x1280 .fp8e4m3) (x4 : Vec F S1x1280 .f32) (x5 : Vec F S1x2400 .i32) (x6 : Vec F S8x160x2400 .fp8e4m3) (x7 : Vec F S8x2400 .f32) (R : Vec F S24360x128 .f32) (hw : ∀ k, k0_chk1 (word (F := F) i arg1 (harg1.unread x0) k)) :
    Σ' (L8 : List (View.Piece (Elt F) S8x160x2400 .fp8e4m3)), { L9 : List (View.Piece (Elt F) S8x2400 .f32) //
      ∀ (xs0 : Vec F S6440x128 .f32) (xs1 : Vec F S24360x128 .f32)
        (hR : arg12.view.writes (Elt F) (harg12.unread xs1) (rowsList i arg1 arg11 (harg1.unread x0) (arg11.view.writes (Elt F) (harg11.unread xs0) (stageOf arg2 harg2 arg3 harg3 arg4 harg4 arg5 harg5 x1 x2 x3 x4)) hw k0_t1_loop.trips) = harg12.unread R)
        (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ owns (c : Thread nD τ) arg11 fullShare xs0 ∗ owns (c : Thread nD τ) arg12 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9) ∗ (∃ d, owns (c : Thread nD τ) arg11 fullShare d) ∗ owns (c : Thread nD τ) arg12 fullShare R) -∗ K ⟨⟩))
          ⊢ wp frame (wpE (defs₀ (F := F)) Variants.none c none) E (cc0_v_proj i arg1 harg1 arg2 harg2 arg3 harg3 arg4 harg4 arg5 harg5 arg6 harg6 arg7 harg7 arg8 harg8 arg9 harg9 arg10 harg10 arg11 harg11 arg12 harg12) K } := by
  refine ⟨?_, ?_, fun xs0 xs1 hR E K => ?run⟩
  case run =>
    simp only [cc0_v_proj_eq_skeleton]; unfold cc0_v_proj_skel
    simp only [k0_part65_eq_skeleton, k0_part64_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg11.eq_unread hfs0; obtain rfl := harg12.eq_unread hfs1
    letI X := rowsExit (F := F) Variants.none c none i arg1 harg1 arg2 harg2 arg3 harg3 arg4 harg4 arg5 harg5 arg6 harg6 arg7 harg7 arg8 harg8 arg9 harg9 arg10 harg10 arg11 harg11 arg12 harg12 E (harg1.unread x0) (arg11.view.writes (Elt F) (harg11.unread xs0) (stageOf arg2 harg2 arg3 harg3 arg4 harg4 arg5 harg5 x1 x2 x3 x4)) (harg12.unread xs1) hw R hR
    sl_exec (disch := first | sl_exact hc0 | sl_exact hc1)
    sl_step
    iapply Hk
    isplitl [HL0]
    · iexists _; isplitr; · ipureintro; exact harg1.read_unread _
      iexact HL0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]; · iexists _; iexact H8
    isplitl [H9]; · iexists _; iexact H9
    isplitl [HL1]
    · iexists (arg11.view.read (Elt F) (arg11.view.writes (Elt F) (harg11.unread xs0) (stageOf arg2 harg2 arg3 harg3 arg4 harg4 arg5 harg5 x1 x2 x3 x4))); iexists (arg11.view.writes (Elt F) (harg11.unread xs0) (stageOf arg2 harg2 arg3 harg3 arg4 harg4 arg5 harg5 x1 x2 x3 x4)); isplitr; · ipureintro; exact rfl
      iexact HL1
    iexists _; isplitr; · ipureintro; exact harg12.read_unread _
    iexact HL2

end Cert.VProjIdeal.Gen

end
-- ==== Proof.VPoint.lean ====
/-
  What one point does to the gathered rows, as a function of the blocks the point reads: each of its 640 tokens' rows goes to
  the token's slot, one after another.
-/
module

public import proofs.«01_k».proof.Proof.VStage

@[expose] public section

set_option maxRecDepth 16384
set_option maxHeartbeats 1000000

noncomputable section

namespace Cert.VProjIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- Row `b`, token `k` of the slots. -/
abbrev slotIx (b : Fin 3) (k : Fin 640) : S3x640.Idx := fun
  | ⟨0, _⟩ => b
  | ⟨1, _⟩ => k

/-- The slot number of token `k` of point `i`. -/
def slotNum (i : grid0.Coords) (x0 : Vec F S3x640 .i32) (k : ℕ) : ℕ :=
  if h : k < 640 then (x0 (slotIx (i 0) ⟨k, h⟩) : BitVec 32).toNat else 0

/-- The projected row of token `k` of a point, chunk `c`, lane `l`. -/
def rowNum (x1 : Vec F S1x640x6144 .fp8e4m3) (x2 : Vec F S1x640x128 .f32) (x3 : Vec F S6144x1280 .fp8e4m3) (x4 : Vec F S1x1280 .f32)
    (k : ℕ) (c : Fin 10) (l : Fin 128) : Elt F .f32 :=
  if h : k < 640 then k0_pay335 x1 x3 x2 x4 (rowIx ⟨k, h⟩ c l) else k0_pay335 x1 x3 x2 x4 (rowIx 0 c l)

/-- The gathered rows after a point that found them at `R`. -/
def gathered (i : grid0.Coords) (x0 : Vec F S3x640 .i32) (x1 : Vec F S1x640x6144 .fp8e4m3) (x2 : Vec F S1x640x128 .f32) (x3 : Vec F S6144x1280 .fp8e4m3) (x4 : Vec F S1x1280 .f32) (R : Vec F S24360x128 .f32) : Vec F S24360x128 .f32 := fun j =>
  place (slotNum i x0) (rowNum x1 x2 x3 x4) (fun s c l => R (gatherIx s c l)) 640
    ⟨(j (0 : Fin 2)).val % 2436, Nat.mod_lt _ (by decide)⟩
    ⟨(j (0 : Fin 2)).val / 2436, by have h : (j (0 : Fin 2)).val < 24360 := (j (0 : Fin 2)).isLt; omega⟩ (j (1 : Fin 2))

theorem gathered_at (i : grid0.Coords) (x0 : Vec F S3x640 .i32) (x1 : Vec F S1x640x6144 .fp8e4m3) (x2 : Vec F S1x640x128 .f32) (x3 : Vec F S6144x1280 .fp8e4m3) (x4 : Vec F S1x1280 .f32) (R : Vec F S24360x128 .f32) (s : Fin 2436) (c : Fin 10) (l : Fin 128) :
    gathered i x0 x1 x2 x3 x4 R (gatherIx s c l) = place (slotNum i x0) (rowNum x1 x2 x3 x4) (fun s c l => R (gatherIx s c l)) 640 s c l := by
  have hs := s.isLt
  have e1 : (⟨(2436 * c.val + s.val) % 2436, Nat.mod_lt _ (by decide)⟩ : Fin 2436) = s := Fin.ext (by show (2436 * c.val + s.val) % 2436 = s.val; omega)
  have e2 : ∀ h, (⟨(2436 * c.val + s.val) / 2436, h⟩ : Fin 10) = c := fun h => Fin.ext (by show (2436 * c.val + s.val) / 2436 = c.val; omega)
  show place (slotNum i x0) (rowNum x1 x2 x3 x4) (fun s c l => R (gatherIx s c l)) 640 ⟨(2436 * c.val + s.val) % 2436, _⟩ ⟨(2436 * c.val + s.val) / 2436, _⟩ l = _
  rw [e1, e2]

variable (i : grid0.Coords) (arg1 : Memref sig .tc .smem S3x640 .i32) (harg1 : arg1.IsWhole) (arg2 : Memref sig .tc .vmem S1x640x6144 .fp8e4m3) (harg2 : arg2.IsWhole) (arg3 : Memref sig .tc .vmem S1x640x128 .f32) (harg3 : arg3.IsWhole) (arg4 : Memref sig .tc .vmem S6144x1280 .fp8e4m3) (harg4 : arg4.IsWhole) (arg5 : Memref sig .tc .vmem S1x1280 .f32) (harg5 : arg5.IsWhole) (arg11 : Memref sig .tc .vmem S6440x128 .f32) (arg12 : Memref sig .tc .vmem S24360x128 .f32) (harg12 : arg12.IsWhole)
  (x0 : Vec F S3x640 .i32) (x1 : Vec F S1x640x6144 .fp8e4m3) (x2 : Vec F S1x640x128 .f32) (x3 : Vec F S6144x1280 .fp8e4m3) (x4 : Vec F S1x1280 .f32)

theorem off1_zero (k : Fin k0_t1_loop.trips) : k0_off1 i k (0 : Fin 2) = (i 0).val := by
  show (BitVec.ofNat 32 (i 0).val).toNat = _
  rw [BitVec.toNat_ofNat]
  have h : (i 0).val < 3 := (i 0).isLt
  omega

theorem off1_one (k : Fin k0_t1_loop.trips) : k0_off1 i k (1 : Fin 2) = k.val := (off2_val k).1

/-- The slot a trip reads is the token's. -/
theorem word_eq (k : Fin k0_t1_loop.trips) (hk : k.val < 640) :
    word (F := F) i arg1 (harg1.unread x0) k = x0 (slotIx (i 0) ⟨k.val, hk⟩) := by
  unfold word
  rw [View.readAt_apply, harg1.read_unread]
  refine congrArg x0 ?_
  funext a; apply Fin.ext
  match a with
  | ⟨0, _⟩ => show k0_off1 i k (0 : Fin 2) + 1 * 0 = (i 0).val; rw [off1_zero]; exact Nat.add_zero _
  | ⟨1, _⟩ => show k0_off1 i k (1 : Fin 2) + 1 * 0 = k.val; rw [off1_one]; exact Nat.add_zero _

/-- A slot below 2400 leaves room for its row's ten chunks. -/
theorem chk_of_lt (w : BitVec 32) (h : w.toNat < 2400) : k0_chk1 w := by
  have o5 := off5_val w (by omega)
  refine ⟨fun a => Or.inr ?_, fun a => Or.inr ?_⟩
  · match a with
    | ⟨0, _⟩ => show w.toNat + 2436 * 7 < 24360; omega
    | ⟨1, _⟩ => show 0 + 1 * 127 < 128; omega
  · match a with
    | ⟨0, _⟩ => show k0_off5 w (0 : Fin 2) + 2436 * 1 < 24360; omega
    | ⟨1, _⟩ => show 0 + 1 * 127 < 128; omega

/-- Slots below 2400 let every trip through. -/
theorem words_ok (h : ∀ b k, (x0 (slotIx b k) : BitVec 32).toNat < 2400) : ∀ k, k0_chk1 (word (F := F) i arg1 (harg1.unread x0) k) := fun k => by
  rw [word_eq i arg1 harg1 x0 k (lt_of_lt_of_eq k.isLt trips_eq)]
  exact chk_of_lt _ (h _ _)

/-- One point's loop over gathered rows read as `R`. -/
theorem point_rows (fs0 : BufTy.Contents (Elt F) arg11.view.ty) (f : BufTy.Contents (Elt F) arg12.view.ty) (R : Vec F S24360x128 .f32)
    (hf : arg12.view.read (Elt F) f = R) (hw : ∀ k, k0_chk1 (word (F := F) i arg1 (harg1.unread x0) k)) :
    arg12.view.read (Elt F) (arg12.view.writes (Elt F) f (rowsList i arg1 arg11 (harg1.unread x0)
      (arg11.view.writes (Elt F) fs0 (stageOf arg2 harg2 arg3 harg3 arg4 harg4 arg5 harg5 x1 x2 x3 x4)) hw k0_t1_loop.trips))
      = gathered i x0 x1 x2 x3 x4 R := by
  funext j
  obtain ⟨s, c, l, rfl⟩ := gather_surj j
  rw [gathered_at, trips_eq]
  refine (rows_read i arg1 arg11 arg12 (harg1.unread x0) _ hw f (slotNum i x0) (rowNum x1 x2 x3 x4) ?_ ?_ 640 le_rfl s c l).trans ?_
  · intro k
    have hk : k.val < 640 := lt_of_lt_of_eq k.isLt trips_eq
    rw [word_eq i arg1 harg1 x0 k hk, slotNum, dif_pos hk]
  · intro k c l
    rw [stageOf_read, rowNum, dif_pos k.isLt]
  · rw [hf]

/-- The same, as contents. -/
theorem point_contents (fs0 : BufTy.Contents (Elt F) arg11.view.ty) (R : Vec F S24360x128 .f32)
    (hw : ∀ k, k0_chk1 (word (F := F) i arg1 (harg1.unread x0) k)) :
    arg12.view.writes (Elt F) (harg12.unread R) (rowsList i arg1 arg11 (harg1.unread x0)
      (arg11.view.writes (Elt F) fs0 (stageOf arg2 harg2 arg3 harg3 arg4 harg4 arg5 harg5 x1 x2 x3 x4)) hw k0_t1_loop.trips)
      = harg12.unread (gathered i x0 x1 x2 x3 x4 R) :=
  harg12.eq_unread (point_rows i arg1 harg1 arg2 harg2 arg3 harg3 arg4 harg4 arg5 harg5 arg11 arg12 x0 x1 x2 x3 x4 fs0 _ R (harg12.read_unread _) hw)

/-- No rows yet. -/
def noRows : Vec F S24360x128 .f32 := k0_pay334

/-- A store of the whole array leaves the array stored. -/
theorem whole_write (f : BufTy.Contents (Elt F) arg12.view.ty) (inb) (p : (Rect.unit (s := S24360x128) ![0, 0] S24360x128.size inb).shape.Idx → Elt F .f32) :
    arg12.view.read (Elt F) (arg12.view.writes (Elt F) f [⟨Rect.unit (s := S24360x128) ![0, 0] S24360x128.size inb, p⟩]) = p := by
  funext j
  refine View.read_writes_cons_unit_of_mem _ _ inb p [] j j rfl fun a => ?_
  match a with
  | ⟨0, _⟩ => exact (Nat.zero_add _).symm
  | ⟨1, _⟩ => exact (Nat.zero_add _).symm

/-- The first point clears the gathered rows. -/
theorem cleared (f : BufTy.Contents (Elt F) arg12.view.ty) (inb) :
    arg12.view.read (Elt F) (arg12.view.writes (Elt F) f [⟨Rect.unit (s := S24360x128) ![0, 0] S24360x128.size inb, k0_pay334⟩]) = noRows :=
  whole_write arg12 f inb k0_pay334

end Cert.VProjIdeal.Gen

end
-- ==== Proof.VFrame.lean ====
/-
  The certificate of the value projection: it runs to the end from any memory whose slots are in range, leaves its arguments as
  they were, and leaves in its results what the last point makes of the gathered rows.
-/
module

public import proofs.«01_k».proof.Proof.VRunC
public import proofs.«01_k».proof.Proof.VPoint
public import Idealize.ShloMosaic.Lib.Claim
public import Idealize.ShloMosaic.Lib.Pointwise
public import Idealize.ShloMosaic.Lib.Pipeline.ValueKit

@[expose] public section

set_option maxRecDepth 16384

noncomputable section

namespace Cert.VProjIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first point's run leaves its rows placed over cleared ones. -/
theorem runA_rows (c : Dev nD) (i : grid0.Coords) (arg1 : Memref sig .tc .smem S3x640 .i32) (harg1 : arg1.IsWhole) (arg2 : Memref sig .tc .vmem S1x640x6144 .fp8e4m3) (harg2 : arg2.IsWhole) (arg3 : Memref sig .tc .vmem S1x640x128 .f32) (harg3 : arg3.IsWhole) (arg4 : Memref sig .tc .vmem S6144x1280 .fp8e4m3) (harg4 : arg4.IsWhole) (arg5 : Memref sig .tc .vmem S1x1280 .f32) (harg5 : arg5.IsWhole) (arg6 : Memref sig .tc .vmem S1x2400 .i32) (harg6 : arg6.IsWhole) (arg7 : Memref sig .tc .vmem S8x160x2400 .fp8e4m3) (harg7 : arg7.IsWhole) (arg8 : Memref sig .tc .vmem S8x2400 .f32) (harg8 : arg8.IsWhole) (arg9 : Memref sig .tc .vmem S8x160x2400 .fp8e4m3) (harg9 : arg9.IsWhole) (arg10 : Memref sig .tc .vmem S8x2400 .f32) (harg10 : arg10.IsWhole) (arg11 : Memref sig .tc .vmem S6440x128 .f32) (harg11 : arg11.IsWhole) (arg12 : Memref sig .tc .vmem S24360x128 .f32) (harg12 : arg12.IsWhole) (hc0 : cond0_0 i) (hc1 : ¬cond0_1 i)
    (x0 : Vec F S3x640 .i32) (x1 : Vec F S1x640x6144 .fp8e4m3) (x2 : Vec F S1x640x128 .f32) (x3 : Vec F S6144x1280 .fp8e4m3) (x4 : Vec F S1x1280 .f32) (x5 : Vec F S1x2400 .i32) (x6 : Vec F S8x160x2400 .fp8e4m3) (x7 : Vec F S8x2400 .f32) (xs0 : Vec F S6440x128 .f32) (hw : ∀ k, k0_chk1 (word (F := F) i arg1 (harg1.unread x0) k)) (f : BufTy.Contents (Elt F) arg12.view.ty) :
    arg12.view.read (Elt F) (arg12.view.writes (Elt F) f (kernelRun0_A c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 xs0 hw).2.2.2.1) = gathered i x0 x1 x2 x3 x4 noRows := by
  have e : (kernelRun0_A c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 xs0 hw).2.2.2.1
      = rowsList i arg1 arg11 (harg1.unread x0) (arg11.view.writes (Elt F) (harg11.unread xs0) (stageOf arg2 harg2 arg3 harg3 arg4 harg4 arg5 harg5 x1 x2 x3 x4)) hw k0_t1_loop.trips
        ++ [⟨Rect.unit (s := S24360x128) ![0, 0] S24360x128.size inb_S24360x128_S24360x128_0_0, k0_pay334⟩] := rfl
  rw [e, View.writes_append]
  exact point_rows i arg1 harg1 arg2 harg2 arg3 harg3 arg4 harg4 arg5 harg5 arg11 arg12 x0 x1 x2 x3 x4 _ _ noRows (cleared arg12 f _) hw

/-- The middle point's run leaves its rows placed over those it found. -/
theorem runB_rows (c : Dev nD) (i : grid0.Coords) (arg1 : Memref sig .tc .smem S3x640 .i32) (harg1 : arg1.IsWhole) (arg2 : Memref sig .tc .vmem S1x640x6144 .fp8e4m3) (harg2 : arg2.IsWhole) (arg3 : Memref sig .tc .vmem S1x640x128 .f32) (harg3 : arg3.IsWhole) (arg4 : Memref sig .tc .vmem S6144x1280 .fp8e4m3) (harg4 : arg4.IsWhole) (arg5 : Memref sig .tc .vmem S1x1280 .f32) (harg5 : arg5.IsWhole) (arg6 : Memref sig .tc .vmem S1x2400 .i32) (harg6 : arg6.IsWhole) (arg7 : Memref sig .tc .vmem S8x160x2400 .fp8e4m3) (harg7 : arg7.IsWhole) (arg8 : Memref sig .tc .vmem S8x2400 .f32) (harg8 : arg8.IsWhole) (arg9 : Memref sig .tc .vmem S8x160x2400 .fp8e4m3) (harg9 : arg9.IsWhole) (arg10 : Memref sig .tc .vmem S8x2400 .f32) (harg10 : arg10.IsWhole) (arg11 : Memref sig .tc .vmem S6440x128 .f32) (harg11 : arg11.IsWhole) (arg12 : Memref sig .tc .vmem S24360x128 .f32) (harg12 : arg12.IsWhole) (hc0 : ¬cond0_0 i) (hc1 : ¬cond0_1 i)
    (x0 : Vec F S3x640 .i32) (x1 : Vec F S1x640x6144 .fp8e4m3) (x2 : Vec F S1x640x128 .f32) (x3 : Vec F S6144x1280 .fp8e4m3) (x4 : Vec F S1x1280 .f32) (x5 : Vec F S1x2400 .i32) (x6 : Vec F S8x160x2400 .fp8e4m3) (x7 : Vec F S8x2400 .f32) (xs0 : Vec F S6440x128 .f32) (hw : ∀ k, k0_chk1 (word (F := F) i arg1 (harg1.unread x0) k)) (R : Vec F S24360x128 .f32) :
    arg12.view.read (Elt F) (arg12.view.writes (Elt F) (harg12.unread R) (kernelRun0_B c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 xs0 hw).2.2.2.1) = gathered i x0 x1 x2 x3 x4 R := by
  have e : (kernelRun0_B c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 xs0 hw).2.2.2.1
      = rowsList i arg1 arg11 (harg1.unread x0) (arg11.view.writes (Elt F) (harg11.unread xs0) (stageOf arg2 harg2 arg3 harg3 arg4 harg4 arg5 harg5 x1 x2 x3 x4)) hw k0_t1_loop.trips := rfl
  rw [e]
  exact point_rows i arg1 harg1 arg2 harg2 arg3 harg3 arg4 harg4 arg5 harg5 arg11 arg12 x0 x1 x2 x3 x4 _ _ R (harg12.read_unread R) hw

/-- The last point's stores into output 8 cover it. -/
theorem cover0_C_8 (c : Dev nD) (i : grid0.Coords) (arg1 : Memref sig .tc .smem S3x640 .i32) (harg1 : arg1.IsWhole) (arg2 : Memref sig .tc .vmem S1x640x6144 .fp8e4m3) (harg2 : arg2.IsWhole) (arg3 : Memref sig .tc .vmem S1x640x128 .f32) (harg3 : arg3.IsWhole) (arg4 : Memref sig .tc .vmem S6144x1280 .fp8e4m3) (harg4 : arg4.IsWhole) (arg5 : Memref sig .tc .vmem S1x1280 .f32) (harg5 : arg5.IsWhole) (arg6 : Memref sig .tc .vmem S1x2400 .i32) (harg6 : arg6.IsWhole) (arg7 : Memref sig .tc .vmem S8x160x2400 .fp8e4m3) (harg7 : arg7.IsWhole) (arg8 : Memref sig .tc .vmem S8x2400 .f32) (harg8 : arg8.IsWhole) (arg9 : Memref sig .tc .vmem S8x160x2400 .fp8e4m3) (harg9 : arg9.IsWhole) (arg10 : Memref sig .tc .vmem S8x2400 .f32) (harg10 : arg10.IsWhole) (arg11 : Memref sig .tc .vmem S6440x128 .f32) (harg11 : arg11.IsWhole) (arg12 : Memref sig .tc .vmem S24360x128 .f32) (harg12 : arg12.IsWhole) (hc0 : ¬cond0_0 i) (hc1 : cond0_1 i)
    (x0 : Vec F S3x640 .i32) (x1 : Vec F S1x640x6144 .fp8e4m3) (x2 : Vec F S1x640x128 .f32) (x3 : Vec F S6144x1280 .fp8e4m3) (x4 : Vec F S1x1280 .f32) (x5 : Vec F S1x2400 .i32) (x6 : Vec F S8x160x2400 .fp8e4m3) (x7 : Vec F S8x2400 .f32) (R : Vec F S24360x128 .f32) (hw : ∀ k, k0_chk1 (word (F := F) i arg1 (harg1.unread x0) k)) (y : S8x160x2400.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 R hw).1, y ∈ pc.1.set :=
  View.cover_of_tiledBy (kernelRun0_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 R hw).1 ![8, 160, 32] (by sl_kernel_rfl) y

/-- What the last point leaves in output 8. -/
def out0_C_8 (c : Dev nD) (i : grid0.Coords) (arg1 : Memref sig .tc .smem S3x640 .i32) (harg1 : arg1.IsWhole) (arg2 : Memref sig .tc .vmem S1x640x6144 .fp8e4m3) (harg2 : arg2.IsWhole) (arg3 : Memref sig .tc .vmem S1x640x128 .f32) (harg3 : arg3.IsWhole) (arg4 : Memref sig .tc .vmem S6144x1280 .fp8e4m3) (harg4 : arg4.IsWhole) (arg5 : Memref sig .tc .vmem S1x1280 .f32) (harg5 : arg5.IsWhole) (arg6 : Memref sig .tc .vmem S1x2400 .i32) (harg6 : arg6.IsWhole) (arg7 : Memref sig .tc .vmem S8x160x2400 .fp8e4m3) (harg7 : arg7.IsWhole) (arg8 : Memref sig .tc .vmem S8x2400 .f32) (harg8 : arg8.IsWhole) (arg9 : Memref sig .tc .vmem S8x160x2400 .fp8e4m3) (harg9 : arg9.IsWhole) (arg10 : Memref sig .tc .vmem S8x2400 .f32) (harg10 : arg10.IsWhole) (arg11 : Memref sig .tc .vmem S6440x128 .f32) (harg11 : arg11.IsWhole) (arg12 : Memref sig .tc .vmem S24360x128 .f32) (harg12 : arg12.IsWhole) (hc0 : ¬cond0_0 i) (hc1 : cond0_1 i)
    (x0 : Vec F S3x640 .i32) (x1 : Vec F S1x640x6144 .fp8e4m3) (x2 : Vec F S1x640x128 .f32) (x3 : Vec F S6144x1280 .fp8e4m3) (x4 : Vec F S1x1280 .f32) (x5 : Vec F S1x2400 .i32) (x6 : Vec F S8x160x2400 .fp8e4m3) (x7 : Vec F S8x2400 .f32) (R : Vec F S24360x128 .f32) (hw : ∀ k, k0_chk1 (word (F := F) i arg1 (harg1.unread x0) k)) : Vec F S8x160x2400 .fp8e4m3 :=
  VO0_8.read (Elt F) (VO0_8.writes (Elt F) VO0_8.junk (kernelRun0_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 R hw).1)

/-- The last point's stores into output 9 cover it. -/
theorem cover0_C_9 (c : Dev nD) (i : grid0.Coords) (arg1 : Memref sig .tc .smem S3x640 .i32) (harg1 : arg1.IsWhole) (arg2 : Memref sig .tc .vmem S1x640x6144 .fp8e4m3) (harg2 : arg2.IsWhole) (arg3 : Memref sig .tc .vmem S1x640x128 .f32) (harg3 : arg3.IsWhole) (arg4 : Memref sig .tc .vmem S6144x1280 .fp8e4m3) (harg4 : arg4.IsWhole) (arg5 : Memref sig .tc .vmem S1x1280 .f32) (harg5 : arg5.IsWhole) (arg6 : Memref sig .tc .vmem S1x2400 .i32) (harg6 : arg6.IsWhole) (arg7 : Memref sig .tc .vmem S8x160x2400 .fp8e4m3) (harg7 : arg7.IsWhole) (arg8 : Memref sig .tc .vmem S8x2400 .f32) (harg8 : arg8.IsWhole) (arg9 : Memref sig .tc .vmem S8x160x2400 .fp8e4m3) (harg9 : arg9.IsWhole) (arg10 : Memref sig .tc .vmem S8x2400 .f32) (harg10 : arg10.IsWhole) (arg11 : Memref sig .tc .vmem S6440x128 .f32) (harg11 : arg11.IsWhole) (arg12 : Memref sig .tc .vmem S24360x128 .f32) (harg12 : arg12.IsWhole) (hc0 : ¬cond0_0 i) (hc1 : cond0_1 i)
    (x0 : Vec F S3x640 .i32) (x1 : Vec F S1x640x6144 .fp8e4m3) (x2 : Vec F S1x640x128 .f32) (x3 : Vec F S6144x1280 .fp8e4m3) (x4 : Vec F S1x1280 .f32) (x5 : Vec F S1x2400 .i32) (x6 : Vec F S8x160x2400 .fp8e4m3) (x7 : Vec F S8x2400 .f32) (R : Vec F S24360x128 .f32) (hw : ∀ k, k0_chk1 (word (F := F) i arg1 (harg1.unread x0) k)) (y : S8x2400.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 R hw).2.1, y ∈ pc.1.set :=
  View.cover_of_tiledBy (kernelRun0_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 R hw).2.1 ![8, 32] (by sl_kernel_rfl) y

/-- What the last point leaves in output 9. -/
def out0_C_9 (c : Dev nD) (i : grid0.Coords) (arg1 : Memref sig .tc .smem S3x640 .i32) (harg1 : arg1.IsWhole) (arg2 : Memref sig .tc .vmem S1x640x6144 .fp8e4m3) (harg2 : arg2.IsWhole) (arg3 : Memref sig .tc .vmem S1x640x128 .f32) (harg3 : arg3.IsWhole) (arg4 : Memref sig .tc .vmem S6144x1280 .fp8e4m3) (harg4 : arg4.IsWhole) (arg5 : Memref sig .tc .vmem S1x1280 .f32) (harg5 : arg5.IsWhole) (arg6 : Memref sig .tc .vmem S1x2400 .i32) (harg6 : arg6.IsWhole) (arg7 : Memref sig .tc .vmem S8x160x2400 .fp8e4m3) (harg7 : arg7.IsWhole) (arg8 : Memref sig .tc .vmem S8x2400 .f32) (harg8 : arg8.IsWhole) (arg9 : Memref sig .tc .vmem S8x160x2400 .fp8e4m3) (harg9 : arg9.IsWhole) (arg10 : Memref sig .tc .vmem S8x2400 .f32) (harg10 : arg10.IsWhole) (arg11 : Memref sig .tc .vmem S6440x128 .f32) (harg11 : arg11.IsWhole) (arg12 : Memref sig .tc .vmem S24360x128 .f32) (harg12 : arg12.IsWhole) (hc0 : ¬cond0_0 i) (hc1 : cond0_1 i)
    (x0 : Vec F S3x640 .i32) (x1 : Vec F S1x640x6144 .fp8e4m3) (x2 : Vec F S1x640x128 .f32) (x3 : Vec F S6144x1280 .fp8e4m3) (x4 : Vec F S1x1280 .f32) (x5 : Vec F S1x2400 .i32) (x6 : Vec F S8x160x2400 .fp8e4m3) (x7 : Vec F S8x2400 .f32) (R : Vec F S24360x128 .f32) (hw : ∀ k, k0_chk1 (word (F := F) i arg1 (harg1.unread x0) k)) : Vec F S8x2400 .f32 :=
  VO0_9.read (Elt F) (VO0_9.writes (Elt F) VO0_9.junk (kernelRun0_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 R hw).2.1)

variable (m : (ℓ : Loc nD τ sig) → Buf (Elt F) ℓ)

/-- Every slot the memory holds is in range. -/
def SlotsOk : Prop := ∀ (c : Dev nD) (b : Fin 3) (k : Fin 640), (m ((c : Thread nD τ).loc main_arg0) (slotIx b k) : BitVec 32).toNat < 2400

/-- The slots' window is the whole array. -/
theorem slots_idx : ∀ t : Fin cfg0.N, win0_0.index t = ![0, 0] :=
  (by decide +kernel : ∀ t : Fin grid0.N, win0_0.index t = ![0, 0])

theorem iblk0_at (c : Dev nD) (t : Fin cfg0.N) (x : S3x640.Idx) : iblk m c 0 t x = m ((c : Thread nD τ).loc main_arg0) x := by
  have h := slots_idx t
  have e : (win0_0.blk t).view.emb x = x := by
    change S3x640.Idx at x
    idx_vars x
    blk_ext [h]
  refine Eq.trans (b := V m c main_arg0 ((win0_0.blk t).view.emb x)) rfl ?_
  rw [V_main_arg0]
  exact congrArg (m ((c : Thread nD τ).loc main_arg0)) e

theorem hwAt (hs : SlotsOk m) (c : Dev nD) (t : Fin cfg0.N) : ∀ k, k0_chk1 (word (F := F) (grid0.coords t) (ms0_0 t) ((hs0_0 t).unread (iblk m c 0 t)) k) :=
  words_ok (grid0.coords t) (ms0_0 t) (hs0_0 t) (iblk m c 0 t) fun b k => by rw [iblk0_at]; exact hs c b k

/-- The gathered rows after `n` points. -/
def rowsAt (c : Dev nD) : ℕ → Vec F S24360x128 .f32
  | 0 => noRows
  | n + 1 => if h : n < cfg0.N then
      gathered (grid0.coords ⟨n, h⟩) (iblk m c 0 ⟨n, h⟩) (iblk m c 1 ⟨n, h⟩) (iblk m c 2 ⟨n, h⟩) (iblk m c 3 ⟨n, h⟩) (iblk m c 4 ⟨n, h⟩) (rowsAt c n)
    else rowsAt c n

theorem rowsAt_succ (c : Dev nD) (t : Fin cfg0.N) :
    rowsAt m c (t.val + 1) = gathered (grid0.coords t) (iblk m c 0 t) (iblk m c 1 t) (iblk m c 2 t) (iblk m c 3 t) (iblk m c 4 t) (rowsAt m c t.val) := by
  rw [rowsAt, dif_pos t.isLt]

theorem rowsAt_first (c : Dev nD) (t : Fin cfg0.N) (hz : t.val = 0) :
    rowsAt m c (t.val + 1) = gathered (grid0.coords t) (iblk m c 0 t) (iblk m c 1 t) (iblk m c 2 t) (iblk m c 3 t) (iblk m c 4 t) noRows := by
  rw [rowsAt_succ, hz]; rfl

/-- What output 8 holds after point `t`: at the last point what its run leaves, before it nothing that is looked at. -/
def outAt8 (hs : SlotsOk m) (c : Dev nD) (t : Fin cfg0.N) : Vec F S8x160x2400 .fp8e4m3 :=
  if h : ¬cond0_0 (grid0.coords t) ∧ cond0_1 (grid0.coords t) then
    out0_C_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) h.1 h.2 (iblk m c 0 t) (iblk m c 1 t) (iblk m c 2 t) (iblk m c 3 t) (iblk m c 4 t) (iblk m c 5 t) (iblk m c 6 t) (iblk m c 7 t) (rowsAt m c (t.val + 1)) (hwAt m hs c t)
  else VO0_8.read (Elt F) VO0_8.junk

theorem outAt8_C (hs : SlotsOk m) (c : Dev nD) (t : Fin cfg0.N) (h0 : ¬cond0_0 (grid0.coords t)) (h1 : cond0_1 (grid0.coords t)) :
    outAt8 m hs c t = out0_C_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) h0 h1 (iblk m c 0 t) (iblk m c 1 t) (iblk m c 2 t) (iblk m c 3 t) (iblk m c 4 t) (iblk m c 5 t) (iblk m c 6 t) (iblk m c 7 t) (rowsAt m c (t.val + 1)) (hwAt m hs c t) := by
  unfold outAt8; exact dif_pos ⟨h0, h1⟩

/-- What output 9 holds after point `t`: at the last point what its run leaves, before it nothing that is looked at. -/
def outAt9 (hs : SlotsOk m) (c : Dev nD) (t : Fin cfg0.N) : Vec F S8x2400 .f32 :=
  if h : ¬cond0_0 (grid0.coords t) ∧ cond0_1 (grid0.coords t) then
    out0_C_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) h.1 h.2 (iblk m c 0 t) (iblk m c 1 t) (iblk m c 2 t) (iblk m c 3 t) (iblk m c 4 t) (iblk m c 5 t) (iblk m c 6 t) (iblk m c 7 t) (rowsAt m c (t.val + 1)) (hwAt m hs c t)
  else VO0_9.read (Elt F) VO0_9.junk

theorem outAt9_C (hs : SlotsOk m) (c : Dev nD) (t : Fin cfg0.N) (h0 : ¬cond0_0 (grid0.coords t)) (h1 : cond0_1 (grid0.coords t)) :
    outAt9 m hs c t = out0_C_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) h0 h1 (iblk m c 0 t) (iblk m c 1 t) (iblk m c 2 t) (iblk m c 3 t) (iblk m c 4 t) (iblk m c 5 t) (iblk m c 6 t) (iblk m c 7 t) (rowsAt m c (t.val + 1)) (hwAt m hs c t) := by
  unfold outAt9; exact dif_pos ⟨h0, h1⟩

/-- Between the points: the staged rows at anything, the gathered rows as the points before left them. -/
def PhiS (c : Dev nD) : (n : ℕ) → n ≤ cfg0.N → sProp 𝕄
  | 0, _ => Pipeline.ΦA spec0 c
  | n + 1, hn => iprop(iprop((∃ d, owns (c : Thread nD τ) scM0_0 fullShare d) ∗ owns (c : Thread nD τ) scM0_1 fullShare (rowsAt m c (n + 1))) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop((∃ d, owns (c : Thread nD τ) scM0_0 fullShare d) ∗ owns (c : Thread nD τ) scM0_1 fullShare (rowsAt m c (n + 1))) ∗ (∃ r, prngReg c r)) := rfl

theorem PhiS_pos (c : Dev nD) (n : ℕ) (h : n ≤ cfg0.N) (hz : n ≠ 0) :
    PhiS m c n h = iprop(iprop((∃ d, owns (c : Thread nD τ) scM0_0 fullShare d) ∗ owns (c : Thread nD τ) scM0_1 fullShare (rowsAt m c n)) ∗ (∃ r, prngReg c r)) := by
  cases n with
  | zero => exact absurd rfl hz
  | succ n => rfl

variable (hs : SlotsOk m) (ρ : Dev nD → PrngReg)

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => outAt8 m hs c t
    | ⟨9, _⟩ => outAt9 m hs c t
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m hs 0 c).A w = V m c (Pipeline.arrRef spec0 w) := by
  dsimp only [dats]

/-- The invariant at a point's start (the proof data at `t.castSucc`), restated at `t.val`. -/
theorem PhiS_castSucc (c : Dev nD) (t : Fin cfg0.N) :
    (dats m hs 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m hs 0 c).after 0 t = iblk m c 0 t := by dsimp only [dats]
theorem after0_1 (c : Dev nD) (t : Fin cfg0.N) : (dats m hs 0 c).after 1 t = iblk m c 1 t := by dsimp only [dats]
theorem after0_2 (c : Dev nD) (t : Fin cfg0.N) : (dats m hs 0 c).after 2 t = iblk m c 2 t := by dsimp only [dats]
theorem after0_3 (c : Dev nD) (t : Fin cfg0.N) : (dats m hs 0 c).after 3 t = iblk m c 3 t := by dsimp only [dats]
theorem after0_4 (c : Dev nD) (t : Fin cfg0.N) : (dats m hs 0 c).after 4 t = iblk m c 4 t := by dsimp only [dats]
theorem after0_5 (c : Dev nD) (t : Fin cfg0.N) : (dats m hs 0 c).after 5 t = iblk m c 5 t := by dsimp only [dats]
theorem after0_6 (c : Dev nD) (t : Fin cfg0.N) : (dats m hs 0 c).after 6 t = iblk m c 6 t := by dsimp only [dats]
theorem after0_7 (c : Dev nD) (t : Fin cfg0.N) : (dats m hs 0 c).after 7 t = iblk m c 7 t := by dsimp only [dats]
theorem after0_8 (c : Dev nD) (t : Fin cfg0.N) : (dats m hs 0 c).after 8 t = outAt8 m hs c t := by dsimp only [dats]
theorem after0_9 (c : Dev nD) (t : Fin cfg0.N) : (dats m hs 0 c).after 9 t = outAt9 m hs c t := by dsimp only [dats]

/-- Each input's current staging buffer holds its block at every point, fetched there or not (`beforeK_W_of`). -/
theorem before0_0 (c : Dev nD) (t : Fin cfg0.N) (d) : (dats m hs 0 c).before 0 t d = iblk m c 0 t :=
  before0_0_of m (dats m hs 0 c) (A_eq m hs c 0) (after0_0 m hs c) t d
theorem before0_1 (c : Dev nD) (t : Fin cfg0.N) (d) : (dats m hs 0 c).before 1 t d = iblk m c 1 t :=
  before0_1_of m (dats m hs 0 c) (A_eq m hs c 1) (after0_1 m hs c) t d
theorem before0_2 (c : Dev nD) (t : Fin cfg0.N) (d) : (dats m hs 0 c).before 2 t d = iblk m c 2 t :=
  before0_2_of m (dats m hs 0 c) (A_eq m hs c 2) (after0_2 m hs c) t d
theorem before0_3 (c : Dev nD) (t : Fin cfg0.N) (d) : (dats m hs 0 c).before 3 t d = iblk m c 3 t :=
  before0_3_of m (dats m hs 0 c) (A_eq m hs c 3) (after0_3 m hs c) t d
theorem before0_4 (c : Dev nD) (t : Fin cfg0.N) (d) : (dats m hs 0 c).before 4 t d = iblk m c 4 t :=
  before0_4_of m (dats m hs 0 c) (A_eq m hs c 4) (after0_4 m hs c) t d
theorem before0_5 (c : Dev nD) (t : Fin cfg0.N) (d) : (dats m hs 0 c).before 5 t d = iblk m c 5 t :=
  before0_5_of m (dats m hs 0 c) (A_eq m hs c 5) (after0_5 m hs c) t d
theorem before0_6 (c : Dev nD) (t : Fin cfg0.N) (d) : (dats m hs 0 c).before 6 t d = iblk m c 6 t :=
  before0_6_of m (dats m hs 0 c) (A_eq m hs c 6) (after0_6 m hs c) t d
theorem before0_7 (c : Dev nD) (t : Fin cfg0.N) (d) : (dats m hs 0 c).before 7 t d = iblk m c 7 t :=
  before0_7_of m (dats m hs 0 c) (A_eq m hs c 7) (after0_7 m hs c) t d

/-! ## The body obligation, at a generic point -/

/-- What the body is called with at point `t` (Lib/Pipeline.lean `BodyObligation`'s precondition, the windows one by one), -/
def bodyPre (c : Dev nD) (t : Fin cfg0.N) : sProp 𝕄 :=
  iprop((dats m hs 0 c).Φ t.castSucc ∗ (dats m hs 0 c).owesAt () t.castSucc
    ∗ (∃ d, owns (c : Thread nD τ) (ms0_0 t) fullShare ((dats m hs 0 c).before 0 t d))
    ∗ (∃ d, owns (c : Thread nD τ) (ms0_1 t) fullShare ((dats m hs 0 c).before 1 t d))
    ∗ (∃ d, owns (c : Thread nD τ) (ms0_2 t) fullShare ((dats m hs 0 c).before 2 t d))
    ∗ (∃ d, owns (c : Thread nD τ) (ms0_3 t) fullShare ((dats m hs 0 c).before 3 t d))
    ∗ (∃ d, owns (c : Thread nD τ) (ms0_4 t) fullShare ((dats m hs 0 c).before 4 t d))
    ∗ (∃ d, owns (c : Thread nD τ) (ms0_5 t) fullShare ((dats m hs 0 c).before 5 t d))
    ∗ (∃ d, owns (c : Thread nD τ) (ms0_6 t) fullShare ((dats m hs 0 c).before 6 t d))
    ∗ (∃ d, owns (c : Thread nD τ) (ms0_7 t) fullShare ((dats m hs 0 c).before 7 t d))
    ∗ (∃ d, owns (c : Thread nD τ) (ms0_8 t) fullShare ((dats m hs 0 c).before 8 t d))
    ∗ (∃ d, owns (c : Thread nD τ) (ms0_9 t) fullShare ((dats m hs 0 c).before 9 t d)))

/-- and what it returns. -/
def bodyPost (c : Dev nD) (t : Fin cfg0.N) : sProp 𝕄 :=
  iprop((dats m hs 0 c).Φ t.succ ∗ (dats m hs 0 c).owesAt () t.succ
    ∗ (dats m hs 0 c).leavesExact 0 t
    ∗ (dats m hs 0 c).leavesExact 1 t
    ∗ (dats m hs 0 c).leavesExact 2 t
    ∗ (dats m hs 0 c).leavesExact 3 t
    ∗ (dats m hs 0 c).leavesExact 4 t
    ∗ (dats m hs 0 c).leavesExact 5 t
    ∗ (dats m hs 0 c).leavesExact 6 t
    ∗ (dats m hs 0 c).leavesExact 7 t
    ∗ (dats m hs 0 c).leavesExact 8 t
    ∗ (dats m hs 0 c).leavesExact 9 t)

set_option maxHeartbeats 14400000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m hs c t ⊢ wp frame (wpE (defs₀ (F := F)) Variants.none c none) Set.univ (bodyAt0 t) (fun _ => bodyPost m hs c t) := by
  unfold bodyPre bodyPost bodyAt0
  simp only [before0_0, before0_1, before0_2, before0_3, before0_4, before0_5, before0_6, before0_7]
  rw [show (dats m hs 0 c).owesAt () t.succ = (dats m hs 0 c).owesAt () t.castSucc from rfl]
  rw [show (dats m hs 0 c).Φ t.succ = PhiS m c (t.val + 1) t.isLt from rfl, PhiS_succ]
  have hN : t.val < 3 := lt_of_lt_of_eq t.isLt (show cfg0.N = 3 from N_0)
  by_cases h0 : t.val % 3 = 0
  · by_cases h1 : t.val % 3 = 2
    · exfalso; omega
    · rw [show (dats m hs 0 c).leavesExact 0 t = owns (c : Thread nD τ) (ms0_0 t) fullShare ((dats m hs 0 c).after 0 t) from by
      unfold Dat.leavesExact; rw [liveAt0_0 t], after0_0]
      rw [show (dats m hs 0 c).leavesExact 1 t = owns (c : Thread nD τ) (ms0_1 t) fullShare ((dats m hs 0 c).after 1 t) from by
      unfold Dat.leavesExact; rw [liveAt0_1 t], after0_1]
      rw [show (dats m hs 0 c).leavesExact 2 t = owns (c : Thread nD τ) (ms0_2 t) fullShare ((dats m hs 0 c).after 2 t) from by
      unfold Dat.leavesExact; rw [liveAt0_2 t], after0_2]
      rw [show (dats m hs 0 c).leavesExact 3 t = owns (c : Thread nD τ) (ms0_3 t) fullShare ((dats m hs 0 c).after 3 t) from by
      unfold Dat.leavesExact; rw [liveAt0_3 t], after0_3]
      rw [show (dats m hs 0 c).leavesExact 4 t = owns (c : Thread nD τ) (ms0_4 t) fullShare ((dats m hs 0 c).after 4 t) from by
      unfold Dat.leavesExact; rw [liveAt0_4 t], after0_4]
      rw [show (dats m hs 0 c).leavesExact 5 t = owns (c : Thread nD τ) (ms0_5 t) fullShare ((dats m hs 0 c).after 5 t) from by
      unfold Dat.leavesExact; rw [liveAt0_5 t], after0_5]
      rw [show (dats m hs 0 c).leavesExact 6 t = owns (c : Thread nD τ) (ms0_6 t) fullShare ((dats m hs 0 c).after 6 t) from by
      unfold Dat.leavesExact; rw [liveAt0_6 t], after0_6]
      rw [show (dats m hs 0 c).leavesExact 7 t = owns (c : Thread nD τ) (ms0_7 t) fullShare ((dats m hs 0 c).after 7 t) from by
      unfold Dat.leavesExact; rw [liveAt0_7 t], after0_7]
      rw [Dat.leavesExact_idle (dats m hs 0 c) 8 t (idleAt0_8_A t ((hcond0_0 t).mpr h0) (fun h => h1 ((hcond0_1 t).mp h))) (noFlush0_8_A t ((hcond0_0 t).mpr h0) (fun h => h1 ((hcond0_1 t).mp h)))]
      rw [Dat.leavesExact_idle (dats m hs 0 c) 9 t (idleAt0_9_A t ((hcond0_0 t).mpr h0) (fun h => h1 ((hcond0_1 t).mp h))) (noFlush0_9_A t ((hcond0_0 t).mpr h0) (fun h => h1 ((hcond0_1 t).mp h)))]
      by_cases hz : t.val = 0
      · rw [PhiS_castSucc m hs c t, PhiS_zero m c _ _ hz, PhiA0_eq]
        iintro ⟨⟨⟨⟨%e0, HS0⟩, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
        iapply ((kernelRun0_A c (grid0.coords t) _ _ _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) e0 (hwAt m hs c t)).2.2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [HS0]; · iexact HS0
        isplitl [HS1]; · iexact HS1
        iintro ⟨H0, H1, H2, H3, H4, H5, H6, H7, H8, H9, HS0, ⟨%es1, HS1⟩⟩
        isplitl [HS0 HS1 Hg]
        · isplitl [HS0 HS1]
          · isplitl [HS0]
            · iexists _; unfold owns; iexists _; isplitr
              swap; · iexact HS0
              ipureintro; exact rfl
            unfold owns; iexists _; isplitr
            swap; · iexact HS1
            ipureintro
            exact (runA_rows c _ _ _ _ _ _ _ _ _ _ _ _ _ _ _ _ _ _ _ _ _ _ _ _ _ _ _ _ _ _ _ _ _ _ _ _ _ _).trans (rowsAt_first m c t hz).symm
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexists _; iexact H8
        iexists _; iexact H9
      · exfalso; have hN : t.val < 3 := lt_of_lt_of_eq t.isLt (show cfg0.N = 3 from N_0); omega
  · by_cases h1 : t.val % 3 = 2
    · rw [show (dats m hs 0 c).leavesExact 0 t = owns (c : Thread nD τ) (ms0_0 t) fullShare ((dats m hs 0 c).after 0 t) from by
      unfold Dat.leavesExact; rw [liveAt0_0 t], after0_0]
      rw [show (dats m hs 0 c).leavesExact 1 t = owns (c : Thread nD τ) (ms0_1 t) fullShare ((dats m hs 0 c).after 1 t) from by
      unfold Dat.leavesExact; rw [liveAt0_1 t], after0_1]
      rw [show (dats m hs 0 c).leavesExact 2 t = owns (c : Thread nD τ) (ms0_2 t) fullShare ((dats m hs 0 c).after 2 t) from by
      unfold Dat.leavesExact; rw [liveAt0_2 t], after0_2]
      rw [show (dats m hs 0 c).leavesExact 3 t = owns (c : Thread nD τ) (ms0_3 t) fullShare ((dats m hs 0 c).after 3 t) from by
      unfold Dat.leavesExact; rw [liveAt0_3 t], after0_3]
      rw [show (dats m hs 0 c).leavesExact 4 t = owns (c : Thread nD τ) (ms0_4 t) fullShare ((dats m hs 0 c).after 4 t) from by
      unfold Dat.leavesExact; rw [liveAt0_4 t], after0_4]
      rw [show (dats m hs 0 c).leavesExact 5 t = owns (c : Thread nD τ) (ms0_5 t) fullShare ((dats m hs 0 c).after 5 t) from by
      unfold Dat.leavesExact; rw [liveAt0_5 t], after0_5]
      rw [show (dats m hs 0 c).leavesExact 6 t = owns (c : Thread nD τ) (ms0_6 t) fullShare ((dats m hs 0 c).after 6 t) from by
      unfold Dat.leavesExact; rw [liveAt0_6 t], after0_6]
      rw [show (dats m hs 0 c).leavesExact 7 t = owns (c : Thread nD τ) (ms0_7 t) fullShare ((dats m hs 0 c).after 7 t) from by
      unfold Dat.leavesExact; rw [liveAt0_7 t], after0_7]
      rw [show (dats m hs 0 c).leavesExact 8 t = owns (c : Thread nD τ) (ms0_8 t) fullShare ((dats m hs 0 c).after 8 t) from by
      unfold Dat.leavesExact; rw [liveAt0_8_C t (fun h => h0 ((hcond0_0 t).mp h)) ((hcond0_1 t).mpr h1)], after0_8]
      rw [show (dats m hs 0 c).leavesExact 9 t = owns (c : Thread nD τ) (ms0_9 t) fullShare ((dats m hs 0 c).after 9 t) from by
      unfold Dat.leavesExact; rw [liveAt0_9_C t (fun h => h0 ((hcond0_0 t).mp h)) ((hcond0_1 t).mpr h1)], after0_9]
      by_cases hz : t.val = 0
      · exfalso; have hN : t.val < 3 := lt_of_lt_of_eq t.isLt (show cfg0.N = 3 from N_0); omega
      · rw [PhiS_castSucc m hs c t, PhiS_pos m c _ _ hz]
        iintro ⟨⟨⟨⟨%e0, HS0⟩, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
        iapply ((kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (rowsAt m c (t.val + 1)) (hwAt m hs c t)).2.2 e0 (rowsAt m c t.val) (by rw [rowsAt_succ]; exact point_contents (grid0.coords t) _ _ _ _ _ _ _ _ _ _ _ _ _ _ _ _ _ _ _ _ _) Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexists _; iexact H8
        isplitl [H9]; · iexists _; iexact H9
        isplitl [HS0]; · iexact HS0
        isplitl [HS1]; · iexact HS1
        iintro ⟨H0, H1, H2, H3, H4, H5, H6, H7, ⟨%e8, H8⟩, ⟨%e9, H9⟩, HS0, HS1⟩
        isplitl [HS0 HS1 Hg]
        · isplitl [HS0 HS1]
          · isplitl [HS0]; · iexact HS0
            iexact HS1
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]
        · unfold owns; iexists _; isplitr
          swap; · iexact H8
          ipureintro; rw [outAt8_C m hs c t (fun h => h0 ((hcond0_0 t).mp h)) ((hcond0_1 t).mpr h1)]; exact View.read_writes_of_cover _ _ _ _ _ (cover0_C_8 c _ _ _ _ _ _ _ _ _ _ _ _ _ _ _ _ _ _ _ _ _ _ _ _ _ _ _ _ _ _ _ _ _ _ _ _ _)
        unfold owns; iexists _; isplitr
        swap; · iexact H9
        ipureintro; rw [outAt9_C m hs c t (fun h => h0 ((hcond0_0 t).mp h)) ((hcond0_1 t).mpr h1)]; exact View.read_writes_of_cover _ _ _ _ _ (cover0_C_9 c _ _ _ _ _ _ _ _ _ _ _ _ _ _ _ _ _ _ _ _ _ _ _ _ _ _ _ _ _ _ _ _ _ _ _ _ _)
    · rw [show (dats m hs 0 c).leavesExact 0 t = owns (c : Thread nD τ) (ms0_0 t) fullShare ((dats m hs 0 c).after 0 t) from by
      unfold Dat.leavesExact; rw [liveAt0_0 t], after0_0]
      rw [show (dats m hs 0 c).leavesExact 1 t = owns (c : Thread nD τ) (ms0_1 t) fullShare ((dats m hs 0 c).after 1 t) from by
      unfold Dat.leavesExact; rw [liveAt0_1 t], after0_1]
      rw [show (dats m hs 0 c).leavesExact 2 t = owns (c : Thread nD τ) (ms0_2 t) fullShare ((dats m hs 0 c).after 2 t) from by
      unfold Dat.leavesExact; rw [liveAt0_2 t], after0_2]
      rw [show (dats m hs 0 c).leavesExact 3 t = owns (c : Thread nD τ) (ms0_3 t) fullShare ((dats m hs 0 c).after 3 t) from by
      unfold Dat.leavesExact; rw [liveAt0_3 t], after0_3]
      rw [show (dats m hs 0 c).leavesExact 4 t = owns (c : Thread nD τ) (ms0_4 t) fullShare ((dats m hs 0 c).after 4 t) from by
      unfold Dat.leavesExact; rw [liveAt0_4 t], after0_4]
      rw [show (dats m hs 0 c).leavesExact 5 t = owns (c : Thread nD τ) (ms0_5 t) fullShare ((dats m hs 0 c).after 5 t) from by
      unfold Dat.leavesExact; rw [liveAt0_5 t], after0_5]
      rw [show (dats m hs 0 c).leavesExact 6 t = owns (c : Thread nD τ) (ms0_6 t) fullShare ((dats m hs 0 c).after 6 t) from by
      unfold Dat.leavesExact; rw [liveAt0_6 t], after0_6]
      rw [show (dats m hs 0 c).leavesExact 7 t = owns (c : Thread nD τ) (ms0_7 t) fullShare ((dats m hs 0 c).after 7 t) from by
      unfold Dat.leavesExact; rw [liveAt0_7 t], after0_7]
      rw [Dat.leavesExact_idle (dats m hs 0 c) 8 t (idleAt0_8_B t (fun h => h0 ((hcond0_0 t).mp h)) (fun h => h1 ((hcond0_1 t).mp h))) (noFlush0_8_B t (fun h => h0 ((hcond0_0 t).mp h)) (fun h => h1 ((hcond0_1 t).mp h)))]
      rw [Dat.leavesExact_idle (dats m hs 0 c) 9 t (idleAt0_9_B t (fun h => h0 ((hcond0_0 t).mp h)) (fun h => h1 ((hcond0_1 t).mp h))) (noFlush0_9_B t (fun h => h0 ((hcond0_0 t).mp h)) (fun h => h1 ((hcond0_1 t).mp h)))]
      by_cases hz : t.val = 0
      · exfalso; have hN : t.val < 3 := lt_of_lt_of_eq t.isLt (show cfg0.N = 3 from N_0); omega
      · rw [PhiS_castSucc m hs c t, PhiS_pos m c _ _ hz]
        iintro ⟨⟨⟨⟨%e0, HS0⟩, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
        iapply ((kernelRun0_B c (grid0.coords t) _ _ _ _ _ _ _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) e0 (hwAt m hs c t)).2.2.2.2 _ _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [HS0]; · iexact HS0
        isplitl [HS1]; · iexact HS1
        iintro ⟨H0, H1, H2, H3, H4, H5, H6, H7, H8, H9, HS0, HS1⟩
        isplitl [HS0 HS1 Hg]
        · isplitl [HS0 HS1]
          · isplitl [HS0]
            · iexists _; unfold owns; iexists _; isplitr
              swap; · iexact HS0
              ipureintro; exact rfl
            unfold owns; iexists _; isplitr
            swap; · iexact HS1
            ipureintro
            exact (runB_rows c _ _ _ _ _ _ _ _ _ _ _ _ _ _ _ _ _ _ _ _ _ _ _ _ _ _ _ _ _ _ _ _ _ _ _ _ _ _).trans (rowsAt_succ m c t).symm
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexists _; iexact H8
        iexists _; iexact H9

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m hs 0 c) (defs₀ (F := F)) Variants.none () Set.univ := fun t => by
  rw [bigSep_W0, bigSep_W0, defs₀_row]
  exact triple_restated (sound_body m hs c t) rfl .rfl fun _ => .rfl

/-- What the launch hands the region (`ΦA`) is the invariant before the first point. -/
theorem hin (c : Dev nD) : Pipeline.ΦA spec0 c ⊢ (dats m hs 0 c).Φ 0 := by
  rw [show (dats m hs 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m hs 0 c).Φ t ⊢ Pipeline.ΦA spec0 c := by
  rw [show (dats m hs 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]; · iexact HS0
    iexists _; iexact HS1
  iexact Hg

/-- The same after the last point. -/
theorem hout (c : Dev nD) : (dats m hs 0 c).Φ (Fin.last cfg0.N) ⊢ Pipeline.ΦA spec0 c :=
  Phi_out m hs c _ (by rw [Fin.val_last]; have : cfg0.N = 3 := N_0; omega)

/-! ## The run and the frame -/

-- `θ_run_frame_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m hs) 0 (V m)) r ∧ r.2.sem = fun _ => 0) :=
  Pipeline.θ_run_frame_track (Q' := _) cfgs (dats m hs) (0 : Fin 1) launch0 defs₀ Variants.none m ρ main
    (hbody := fun c => (body_obligation m hs c).loose) (hshare := fun c => (dats m hs 0 c).share_full fun _ => rfl)
    (howed := fun _ _ => rfl) (V := V m) (hmain := hmain m Variants.none) (hA := A_eq m hs) (hin := hin m hs) (hout := hout m hs)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m hs) 0 (V m)) :=
  (θ_run defs _ _).mono (fun _ h => h.1) (run_main_quiescent m hs ρ)

include hs in
/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m hs) (A_eq m hs) (run_main m hs ρ)

include hs in
/-- It runs to the end, its arguments unchanged, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m hs ρ) ((θ_run defs _ _).mono (fun _ h => h.2) (run_main_quiescent m hs ρ))

end Cert.VProjIdeal.Gen

end
-- ==== Proof.VBits.lean ====
/-
  The value projection's frame at machine arithmetic. Its printed program and its idealisation's are one and the same text, so
  they are one program at every arithmetic, and the frame proved of the one is the frame of the other.
-/
module

public import proofs.«01_k».proof.Proof.Gen.VProj
public import proofs.«01_k».proof.Proof.VFrame
public import Idealize.ShloMosaic.Lib.Pipeline.Regions

@[expose] public section

set_option maxRecDepth 65536

noncomputable section

namespace Cert.VProj.Bits

open Idealize.ShloMosaic Idealize.ShloMosaic.TcCoe Idealize.SL.Sem

variable {F : FTy → Type} [FloatOps F]

/-- The two programs are the same. -/
theorem main_eq : (VProjIdeal.main (F := F)) = (VProj.main (F := F)) := by chain_rfl

/-- So are the bodies they call. -/
theorem defs_eq : (VProjIdeal.defs (F := F)) = (VProj.defs (F := F)) := by chain_rfl

/-- Every slot is one of the pool's. -/
def SlotsOk (m : (ℓ : Loc VProj.nD VProj.τ VProj.sig) → Buf (Elt F) ℓ) : Prop :=
  ∀ (c : Dev VProj.nD) (b : Fin 3) (k : Fin 640), (m ((c : Thread VProj.nD VProj.τ).loc VProj.main_arg0) (VProjIdeal.Gen.slotIx b k) : BitVec 32).toNat < 2400

/-- It runs to the end, its arguments unchanged, every counter at zero. -/
theorem frame (m : (ℓ : Loc VProj.nD VProj.τ VProj.sig) → Buf (Elt F) ℓ) (hs : SlotsOk m) (ρ : Dev VProj.nD → PrngReg) :
    θ_run (VProj.defs (F := F)) (onTc (τ := VProj.τ) (VProj.main (F := F))) ⟨m, fun _ => 0, ρ⟩ (fun r => (∀ c : Dev VProj.nD,
      r.2.mem ((c.tc : Thread VProj.nD VProj.τ).loc VProj.main_arg0) = m ((c.tc : Thread VProj.nD VProj.τ).loc VProj.main_arg0)
      ∧ r.2.mem ((c.tc : Thread VProj.nD VProj.τ).loc VProj.main_arg1) = m ((c.tc : Thread VProj.nD VProj.τ).loc VProj.main_arg1)
      ∧ r.2.mem ((c.tc : Thread VProj.nD VProj.τ).loc VProj.main_arg2) = m ((c.tc : Thread VProj.nD VProj.τ).loc VProj.main_arg2)
      ∧ r.2.mem ((c.tc : Thread VProj.nD VProj.τ).loc VProj.main_arg3) = m ((c.tc : Thread VProj.nD VProj.τ).loc VProj.main_arg3)
      ∧ r.2.mem ((c.tc : Thread VProj.nD VProj.τ).loc VProj.main_arg4) = m ((c.tc : Thread VProj.nD VProj.τ).loc VProj.main_arg4)
      ∧ r.2.mem ((c.tc : Thread VProj.nD VProj.τ).loc VProj.main_arg5) = m ((c.tc : Thread VProj.nD VProj.τ).loc VProj.main_arg5)
      ∧ r.2.mem ((c.tc : Thread VProj.nD VProj.τ).loc VProj.main_arg6) = m ((c.tc : Thread VProj.nD VProj.τ).loc VProj.main_arg6))
      ∧ r.2.sem = fun _ => 0) := by
  rw [← main_eq, ← defs_eq]
  exact VProjIdeal.Gen.frame m hs ρ

end Cert.VProj.Bits
-- ==== Proof.KTile.lean ====
/-
  One tile of 128 slots of the key projection: the gathered rows `R`, read as ten square pieces, each turned over, put one
  under the other and cut into eight heads; each head's vector scaled and clipped, and kept where the slot was written.
-/
module

public import proofs.«01_k».proof.Proof.KRows
public import proofs.«01_k».proof.Proof.Tile

public section

set_option maxRecDepth 16384

noncomputable section

namespace Cert.KProjIdeal.KTile

open Cert.KProjIdeal Cert.KProjIdeal.Gen Idealize.ShloMosaic
open Cert.KernelIdeal.Tile (tops tops_at stack column heads_at column_at)

/-- The new entry where the slot was written, the old one elsewhere. -/
@[expose] def mix (hit : BitVec 32) (new old : EReal) : EReal := Scalar.select (IntOp.cmpi .ne hit 0#32) new old

/-- The codes of a tile. -/
@[expose] def codes (w : FVec Ideal S8x160x128 .f32) : FVec Ideal S8x160x128 .fp8e4m3 :=
  truncf .fp8e4m3
    (minimumf (broadcast S8x160x128 (Scalar.ofBits .f32 0x43E00000#32))
      (maximumf (broadcast S8x160x128 (Scalar.ofBits .f32 0xC3E00000#32))
        (mulf w (broadcastTo S8x160x128 (shapeCast S8x1x128 (Ladder.down (tops w)) shapeCasts_S8x128_S8x1x128)
          broadcasts_S8x1x128_S8x160x128))))
    bitsLt_fp8e4m3_f32

theorem codes_at (w : FVec Ideal S8x160x128 .f32) (h : Fin 8) (d : Fin 160) (r : Fin 128) :
    codes w (ix3 h d r) = Spec.code (fun d => w (ix3 h d r)) d := by
  unfold Spec.code
  rw [← tops_at, ← Ladder.down_at]
  generalize hg : Ladder.down (tops w) = g
  unfold codes
  rw [hg]
  pointwise

theorem scales_at (w : FVec Ideal S8x160x128 .f32) (h : Fin 8) (r : Fin 128) :
    Ladder.up (tops w) (ix2 h r) = Spec.scale (fun d => w (ix3 h d r)) := by
  unfold Spec.scale
  rw [← tops_at, ← Ladder.up_at]

/-- A whole tile's stored codes, from the new codes, the tile's hits and the old codes. -/
@[expose] def mixCodes (q : FVec Ideal S8x160x128 .fp8e4m3) (hit : Vec Ideal S1x128 .i32) (old : Vec Ideal S8x160x128 .fp8e4m3) :
    FVec Ideal S8x160x128 .fp8e4m3 :=
  truncf .fp8e4m3
    (select
      (broadcastTo S8x160x128
        (shapeCast S1x1x128
          (shapeCast S1x1x128 (cmpi .ne (shapeCast S1x128 hit shapeCasts_S1x128_S1x128) (broadcast S1x128 0#32))
            shapeCasts_S1x128_S1x1x128) shapeCasts_S1x1x128_S1x1x128) broadcasts_S1x1x128_S8x160x128)
      (extf .f32 q bitsLt_fp8e4m3_f32)
      (extf .f32 (shapeCast S8x160x128 old shapeCasts_S8x160x128_S8x160x128) bitsLt_fp8e4m3_f32))
    bitsLt_fp8e4m3_f32

theorem mixCodes_at (q : FVec Ideal S8x160x128 .fp8e4m3) (hit : Vec Ideal S1x128 .i32) (old : Vec Ideal S8x160x128 .fp8e4m3)
    (h : Fin 8) (d : Fin 160) (r : Fin 128) :
    mixCodes q hit old (ix3 h d r) = mix (hit (ix2 0 r)) (q (ix3 h d r)) (old (ix3 h d r)) := by
  unfold mix
  pointwise [mixCodes]

/-- A whole tile's stored scales. -/
@[expose] def mixScales (q : FVec Ideal S8x128 .f32) (hit : Vec Ideal S1x128 .i32) (old : Vec Ideal S8x128 .f32) :
    FVec Ideal S8x128 .f32 :=
  select
    (broadcastTo S8x128
      (shapeCast S1x128 (cmpi .ne (shapeCast S1x128 hit shapeCasts_S1x128_S1x128) (broadcast S1x128 0#32))
        shapeCasts_S1x128_S1x128) broadcasts_S1x128_S8x128)
    q (shapeCast S8x128 old shapeCasts_S8x128_S8x128)

theorem mixScales_at (q : FVec Ideal S8x128 .f32) (hit : Vec Ideal S1x128 .i32) (old : Vec Ideal S8x128 .f32)
    (h : Fin 8) (r : Fin 128) :
    mixScales q hit old (ix2 h r) = mix (hit (ix2 0 r)) (q (ix2 h r)) (old (ix2 h r)) := by
  unfold mix
  pointwise [mixScales]

/-- The last tile's stored codes: its first 96 slots. -/
@[expose] def lastCodes (q : FVec Ideal S8x160x128 .fp8e4m3) (hit : Vec Ideal S1x96 .i32) (old : Vec Ideal S8x160x96 .fp8e4m3) :
    FVec Ideal S8x160x96 .fp8e4m3 :=
  truncf .fp8e4m3
    (select
      (broadcastTo S8x160x96
        (shapeCast S1x1x96
          (shapeCast S1x1x96 (cmpi .ne (shapeCast S1x96 hit shapeCasts_S1x96_S1x96) (broadcast S1x96 0#32))
            shapeCasts_S1x96_S1x1x96) shapeCasts_S1x1x96_S1x1x96) broadcasts_S1x1x96_S8x160x96)
      (extf .f32 (extractStridedSlice S8x160x96 ![0, 0, 0] q slices_S8x160x128_o0_0_0_S8x160x96) bitsLt_fp8e4m3_f32)
      (extf .f32 (shapeCast S8x160x96 old shapeCasts_S8x160x96_S8x160x96) bitsLt_fp8e4m3_f32))
    bitsLt_fp8e4m3_f32

theorem lastCodes_at (q : FVec Ideal S8x160x128 .fp8e4m3) (hit : Vec Ideal S1x96 .i32) (old : Vec Ideal S8x160x96 .fp8e4m3)
    (h : Fin 8) (d : Fin 160) (r : Fin 96) :
    lastCodes q hit old (ix3 h d r) = mix (hit (ix2 0 r)) (q (ix3 h d (⟨r.val, by omega⟩ : Fin 128))) (old (ix3 h d r)) := by
  unfold mix
  pointwise [lastCodes]

/-- The last tile's stored scales. -/
@[expose] def lastScales (q : FVec Ideal S8x128 .f32) (hit : Vec Ideal S1x96 .i32) (old : Vec Ideal S8x96 .f32) :
    FVec Ideal S8x96 .f32 :=
  select
    (broadcastTo S8x96
      (shapeCast S1x96 (cmpi .ne (shapeCast S1x96 hit shapeCasts_S1x96_S1x96) (broadcast S1x96 0#32))
        shapeCasts_S1x96_S1x96) broadcasts_S1x96_S8x96)
    (extractStridedSlice S8x96 ![0, 0] q slices_S8x128_o0_0_S8x96) (shapeCast S8x96 old shapeCasts_S8x96_S8x96)

theorem lastScales_at (q : FVec Ideal S8x128 .f32) (hit : Vec Ideal S1x96 .i32) (old : Vec Ideal S8x96 .f32)
    (h : Fin 8) (r : Fin 96) :
    lastScales q hit old (ix2 h r) = mix (hit (ix2 0 r)) (q (ix2 h (⟨r.val, by omega⟩ : Fin 128))) (old (ix2 h r)) := by
  unfold mix
  pointwise [lastScales]

/-- Entry `n` of the row gathered for slot `s`. -/
@[expose] def entry (R : Vec Ideal S24360x128 .f32) (s : Fin 2400) (n : Fin 1280) : EReal :=
  R (gatherIx (⟨s.val, by omega⟩ : Fin 2436) (⟨n.val / 128, by omega⟩ : Fin 10) (⟨n.val % 128, by omega⟩ : Fin 128))

/-- Head `h` of the row gathered for slot `s`. -/
@[expose] def head (R : Vec Ideal S24360x128 .f32) (s : Fin 2400) (h : Fin 8) : Fin 160 → EReal :=
  fun d => entry R s (⟨160 * h.val + d.val, by omega⟩ : Fin 1280)

theorem pieces_inb (t : Fin 19) (c : Fin 10) : ∀ a, (![2436 * c.val + 128 * t.val, 0] : Fin 2 → ℕ) a + S128x128.size a ≤ S24360x128.size a
  | ⟨0, _⟩ => by show 2436 * c.val + 128 * t.val + 128 ≤ 24360; omega
  | ⟨1, _⟩ => by show 0 + 128 ≤ 128; omega

/-- Square piece `c` of tile `t`. -/
@[expose] def piece (R : Vec Ideal S24360x128 .f32) (t : Fin 19) (c : Fin 10) : Vec Ideal S128x128 .f32 :=
  View.ld R (Rect.unit (s := S24360x128) ![2436 * c.val + 128 * t.val, 0] S128x128.size (pieces_inb t c))

theorem piece_at (R : Vec Ideal S24360x128 .f32) (t : Fin 19) (c : Fin 10) (r l : Fin 128) :
    piece R t c (ix2 r l) = R (ix2 (⟨2436 * c.val + 128 * t.val + r.val, by omega⟩ : Fin 24360) l) := by
  refine congrArg R (funext fun a => Fin.ext ?_)
  match a with
  | ⟨0, _⟩ => show 2436 * c.val + 128 * t.val + 1 * r.val = _; show _ = 2436 * c.val + 128 * t.val + r.val; omega
  | ⟨1, _⟩ => show 0 + 1 * l.val = l.val; omega

/-- A tile's vectors are the heads of its slots' rows. -/
theorem stack_at (R : Vec Ideal S24360x128 .f32) (t : Fin 19) (h : Fin 8) (d : Fin 160) (r : Fin 128) (s : Fin 2400)
    (hs : s.val = 128 * t.val + r.val) :
    stack (piece R t) (ix3 h d r) = head R s h d := by
  have hh := h.isLt; have hd := d.isLt
  unfold stack
  rw [heads_at, column_at]
  refine Eq.trans (?_ : _ = piece R t (⟨(160 * h.val + d.val) / 128, by omega⟩ : Fin 10) (ix2 r (⟨(160 * h.val + d.val) % 128, by omega⟩ : Fin 128))) ?_
  · pointwise
  rw [piece_at]
  refine congrArg R (funext fun a => Fin.ext ?_)
  match a with
  | ⟨0, _⟩ => show 2436 * ((160 * h.val + d.val) / 128) + 128 * t.val + r.val = 2436 * ((160 * h.val + d.val) / 128) + s.val; omega
  | ⟨1, _⟩ => rfl

/-- The codes the last point leaves, from the gathered rows, the hits and the old codes. -/
@[expose] def allCodes (R : Vec Ideal S24360x128 .f32) (hit : Vec Ideal S1x2400 .i32) (old : Vec Ideal S8x160x2400 .fp8e4m3) : Vec Ideal S8x160x2400 .fp8e4m3 :=
  fun j => mix (hit (ix2 (0 : Fin 1) (j 2 : Fin 2400))) (Spec.code (n := 160) (head R (j 2) (j 0)) (j 1)) (old j)

/-- The scales the last point leaves. -/
@[expose] def allScales (R : Vec Ideal S24360x128 .f32) (hit : Vec Ideal S1x2400 .i32) (old : Vec Ideal S8x2400 .f32) : Vec Ideal S8x2400 .f32 :=
  fun j => mix (hit (ix2 (0 : Fin 1) (j 1 : Fin 2400))) (Spec.scale (n := 160) (head R (j 1) (j 0))) (old j)

theorem cut2 (t : Fin 18) : 128 * t.val + 128 ≤ 2400 := by omega

theorem codes_inb (o n : ℕ) (h : o + n ≤ 2400) : ∀ a, (![0, 0, o] : Fin 3 → ℕ) a + (![8, 160, n] : Fin 3 → ℕ) a ≤ S8x160x2400.size a
  | ⟨0, _⟩ => by show 0 + 8 ≤ 8; omega
  | ⟨1, _⟩ => by show 0 + 160 ≤ 160; omega
  | ⟨2, _⟩ => by show o + n ≤ 2400; omega

theorem scales_inb (o n : ℕ) (h : o + n ≤ 2400) : ∀ a, (![0, o] : Fin 2 → ℕ) a + (![8, n] : Fin 2 → ℕ) a ≤ S8x2400.size a
  | ⟨0, _⟩ => by show 0 + 8 ≤ 8; omega
  | ⟨1, _⟩ => by show o + n ≤ 2400; omega

theorem hits_inb (o n : ℕ) (h : o + n ≤ 2400) : ∀ a, (![0, o] : Fin 2 → ℕ) a + (![1, n] : Fin 2 → ℕ) a ≤ S1x2400.size a
  | ⟨0, _⟩ => by show 0 + 1 ≤ 1; omega
  | ⟨1, _⟩ => by show o + n ≤ 2400; omega

/-- The rectangle of the codes' slots `o … o + n - 1`. -/
abbrev codesRect (o n : ℕ) (h : o + n ≤ 2400) : Rect S8x160x2400 := Rect.unit (s := S8x160x2400) ![0, 0, o] ![8, 160, n] (codes_inb o n h)
/-- The rectangle of the scales' slots. -/
abbrev scalesRect (o n : ℕ) (h : o + n ≤ 2400) : Rect S8x2400 := Rect.unit (s := S8x2400) ![0, o] ![8, n] (scales_inb o n h)
/-- The rectangle of the hits' slots. -/
abbrev hitsRect (o n : ℕ) (h : o + n ≤ 2400) : Rect S1x2400 := Rect.unit (s := S1x2400) ![0, o] ![1, n] (hits_inb o n h)

theorem codes_emb (o n : ℕ) (h : o + n ≤ 2400) (a : Fin 8) (d : Fin 160) (r : Fin n) :
    (codesRect o n h).emb (ix3 a d r) = ix3 a d (⟨o + r.val, by omega⟩ : Fin 2400) := by
  funext b; apply Fin.ext
  match b with
  | ⟨0, _⟩ => show 0 + 1 * a.val = a.val; omega
  | ⟨1, _⟩ => show 0 + 1 * d.val = d.val; omega
  | ⟨2, _⟩ => show o + 1 * r.val = o + r.val; omega

theorem scales_emb (o n : ℕ) (h : o + n ≤ 2400) (a : Fin 8) (r : Fin n) :
    (scalesRect o n h).emb (ix2 a r) = ix2 a (⟨o + r.val, by omega⟩ : Fin 2400) := by
  funext b; apply Fin.ext
  match b with
  | ⟨0, _⟩ => show 0 + 1 * a.val = a.val; omega
  | ⟨1, _⟩ => show o + 1 * r.val = o + r.val; omega

theorem hits_emb (o n : ℕ) (h : o + n ≤ 2400) (a : Fin 1) (r : Fin n) :
    (hitsRect o n h).emb (ix2 a r) = ix2 a (⟨o + r.val, by omega⟩ : Fin 2400) := by
  funext b; apply Fin.ext
  match b with
  | ⟨0, _⟩ => show 0 + 1 * a.val = a.val; omega
  | ⟨1, _⟩ => show o + 1 * r.val = o + r.val; omega

/-- Tile `t`'s stored codes are the call's at its 128 slots. -/
theorem codes_tile (R : Vec Ideal S24360x128 .f32) (hit : Vec Ideal S1x2400 .i32) (old : Vec Ideal S8x160x2400 .fp8e4m3) (t : Fin 18) (x : S8x160x128.Idx) :
    mixCodes (codes (stack (piece R (⟨t.val, by omega⟩ : Fin 19)))) (View.ld hit (hitsRect (128 * t.val) 128 (cut2 t))) (View.ld old (codesRect (128 * t.val) 128 (cut2 t))) x
      = allCodes R hit old ((codesRect (128 * t.val) 128 (cut2 t)).emb x) := by
  idx_vars x
  rw [mixCodes_at, codes_at]
  refine Eq.trans ?_ (congrArg (allCodes R hit old) (codes_emb (128 * t.val) 128 (cut2 t) x0 x1 x2)).symm
  unfold allCodes
  refine congr (congr (congrArg mix ?_) ?_) ?_
  · exact congrArg hit (hits_emb (128 * t.val) 128 (cut2 t) 0 x2)
  · exact congrArg (fun f => Spec.code f x1) (funext fun d => stack_at R _ x0 d x2 _ rfl)
  · exact congrArg old (codes_emb (128 * t.val) 128 (cut2 t) x0 x1 x2)

/-- Tile `t`'s stored scales are the call's at its 128 slots. -/
theorem scales_tile (R : Vec Ideal S24360x128 .f32) (hit : Vec Ideal S1x2400 .i32) (old : Vec Ideal S8x2400 .f32) (t : Fin 18) (x : S8x128.Idx) :
    mixScales (Ladder.up (tops (stack (piece R (⟨t.val, by omega⟩ : Fin 19))))) (View.ld hit (hitsRect (128 * t.val) 128 (cut2 t))) (View.ld old (scalesRect (128 * t.val) 128 (cut2 t))) x
      = allScales R hit old ((scalesRect (128 * t.val) 128 (cut2 t)).emb x) := by
  idx_vars x
  rw [mixScales_at, scales_at]
  refine Eq.trans ?_ (congrArg (allScales R hit old) (scales_emb (128 * t.val) 128 (cut2 t) x0 x1)).symm
  unfold allScales
  refine congr (congr (congrArg mix ?_) ?_) ?_
  · exact congrArg hit (hits_emb (128 * t.val) 128 (cut2 t) 0 x1)
  · exact congrArg Spec.scale (funext fun d => stack_at R _ x0 d x1 _ rfl)
  · exact congrArg old (scales_emb (128 * t.val) 128 (cut2 t) x0 x1)

/-- The last tile's stored codes are the call's at its 96 slots. -/
theorem codes_last (R : Vec Ideal S24360x128 .f32) (hit : Vec Ideal S1x2400 .i32) (old : Vec Ideal S8x160x2400 .fp8e4m3) (x : S8x160x96.Idx) :
    lastCodes (codes (stack (piece R 18))) (View.ld hit (hitsRect 2304 96 (by decide))) (View.ld old (codesRect 2304 96 (by decide))) x
      = allCodes R hit old ((codesRect 2304 96 (by decide)).emb x) := by
  idx_vars x
  rw [lastCodes_at, codes_at]
  refine Eq.trans ?_ (congrArg (allCodes R hit old) (codes_emb 2304 96 (by decide) x0 x1 x2)).symm
  unfold allCodes
  refine congr (congr (congrArg mix ?_) ?_) ?_
  · exact congrArg hit (hits_emb 2304 96 (by decide) 0 x2)
  · exact congrArg (fun f => Spec.code f x1) (funext fun d => stack_at R _ x0 d _ _ rfl)
  · exact congrArg old (codes_emb 2304 96 (by decide) x0 x1 x2)

/-- The last tile's stored scales are the call's at its 96 slots. -/
theorem scales_last (R : Vec Ideal S24360x128 .f32) (hit : Vec Ideal S1x2400 .i32) (old : Vec Ideal S8x2400 .f32) (x : S8x96.Idx) :
    lastScales (Ladder.up (tops (stack (piece R 18)))) (View.ld hit (hitsRect 2304 96 (by decide))) (View.ld old (scalesRect 2304 96 (by decide))) x
      = allScales R hit old ((scalesRect 2304 96 (by decide)).emb x) := by
  idx_vars x
  rw [lastScales_at, scales_at]
  refine Eq.trans ?_ (congrArg (allScales R hit old) (scales_emb 2304 96 (by decide) x0 x1)).symm
  unfold allScales
  refine congr (congr (congrArg mix ?_) ?_) ?_
  · exact congrArg hit (hits_emb 2304 96 (by decide) 0 x1)
  · exact congrArg Spec.scale (funext fun d => stack_at R _ x0 d _ _ rfl)
  · exact congrArg old (scales_emb 2304 96 (by decide) x0 x1)

end Cert.KProjIdeal.KTile
-- ==== Proof.KOut.lean ====
/-
  What the last point of the key projection leaves in its two results: its nineteen tiles, each at its own slots, are one
  function of the gathered rows.
-/
module

public import proofs.«01_k».proof.Proof.KFrame
public import proofs.«01_k».proof.Proof.KTile

public section

set_option maxRecDepth 16384

noncomputable section

namespace Cert.KProjIdeal.KTile

open Cert.KProjIdeal Cert.KProjIdeal.Gen Idealize.ShloMosaic Idealize.ShloMosaic.TcCoe Idealize.ShloMosaic.Tactic

set_option maxHeartbeats 16000000 in
/-- What the last point leaves in the scales. -/
theorem out9 (c : Dev nD) (i : grid0.Coords) (arg1 : Memref sig .tc .smem S3x640 .i32) (harg1 : arg1.IsWhole) (arg2 : Memref sig .tc .vmem S1x640x6144 .fp8e4m3) (harg2 : arg2.IsWhole) (arg3 : Memref sig .tc .vmem S1x640x128 .f32) (harg3 : arg3.IsWhole) (arg4 : Memref sig .tc .vmem S6144x1280 .fp8e4m3) (harg4 : arg4.IsWhole) (arg5 : Memref sig .tc .vmem S1x1280 .f32) (harg5 : arg5.IsWhole) (arg6 : Memref sig .tc .vmem S1x2400 .i32) (harg6 : arg6.IsWhole) (arg7 : Memref sig .tc .vmem S8x160x2400 .fp8e4m3) (harg7 : arg7.IsWhole) (arg8 : Memref sig .tc .vmem S8x2400 .f32) (harg8 : arg8.IsWhole) (arg9 : Memref sig .tc .vmem S8x160x2400 .fp8e4m3) (harg9 : arg9.IsWhole) (arg10 : Memref sig .tc .vmem S8x2400 .f32) (harg10 : arg10.IsWhole) (arg11 : Memref sig .tc .vmem S6440x128 .f32) (harg11 : arg11.IsWhole) (arg12 : Memref sig .tc .vmem S24360x128 .f32) (harg12 : arg12.IsWhole) (hc0 : ¬cond0_0 i) (hc1 : cond0_1 i)
    (x0 : Vec Ideal S3x640 .i32) (x1 : Vec Ideal S1x640x6144 .fp8e4m3) (x2 : Vec Ideal S1x640x128 .f32) (x3 : Vec Ideal S6144x1280 .fp8e4m3) (x4 : Vec Ideal S1x1280 .f32) (x5 : Vec Ideal S1x2400 .i32) (x6 : Vec Ideal S8x160x2400 .fp8e4m3) (x7 : Vec Ideal S8x2400 .f32) (R : Vec Ideal S24360x128 .f32) (hw : ∀ k, k0_chk1 (word (F := Ideal) i arg1 (harg1.unread x0) k)) :
    out0_C_9 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 R hw = allScales R x5 x7 := by
  unfold out0_C_9
  rw [View.read_writes_eq_canon _ _ _ (cover0_C_9 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 R hw)]
  funext j
  refine View.canon_apply_of_pieces (allScales R x5 x7) _ ?_ j (cover0_C_9 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 R hw j)
  unfold kernelRun0_C
  dsimp only
  sl_unfold_words
  simp only [View.readAt_eq_ld, harg6.read_unread, harg7.read_unread, harg8.read_unread, harg12.read_unread]
  intro pc hpc
  rcases List.mem_cons.mp hpc with rfl | hpc
  · exact fun x => scales_last R x5 x7 x
  rcases List.mem_cons.mp hpc with rfl | hpc
  · exact fun x => scales_tile R x5 x7 17 x
  rcases List.mem_cons.mp hpc with rfl | hpc
  · exact fun x => scales_tile R x5 x7 16 x
  rcases List.mem_cons.mp hpc with rfl | hpc
  · exact fun x => scales_tile R x5 x7 15 x
  rcases List.mem_cons.mp hpc with rfl | hpc
  · exact fun x => scales_tile R x5 x7 14 x
  rcases List.mem_cons.mp hpc with rfl | hpc
  · exact fun x => scales_tile R x5 x7 13 x
  rcases List.mem_cons.mp hpc with rfl | hpc
  · exact fun x => scales_tile R x5 x7 12 x
  rcases List.mem_cons.mp hpc with rfl | hpc
  · exact fun x => scales_tile R x5 x7 11 x
  rcases List.mem_cons.mp hpc with rfl | hpc
  · exact fun x => scales_tile R x5 x7 10 x
  rcases List.mem_cons.mp hpc with rfl | hpc
  · exact fun x => scales_tile R x5 x7 9 x
  rcases List.mem_cons.mp hpc with rfl | hpc
  · exact fun x => scales_tile R x5 x7 8 x
  rcases List.mem_cons.mp hpc with rfl | hpc
  · exact fun x => scales_tile R x5 x7 7 x
  rcases List.mem_cons.mp hpc with rfl | hpc
  · exact fun x => scales_tile R x5 x7 6 x
  rcases List.mem_cons.mp hpc with rfl | hpc
  · exact fun x => scales_tile R x5 x7 5 x
  rcases List.mem_cons.mp hpc with rfl | hpc
  · exact fun x => scales_tile R x5 x7 4 x
  rcases List.mem_cons.mp hpc with rfl | hpc
  · exact fun x => scales_tile R x5 x7 3 x
  rcases List.mem_cons.mp hpc with rfl | hpc
  · exact fun x => scales_tile R x5 x7 2 x
  rcases List.mem_cons.mp hpc with rfl | hpc
  · exact fun x => scales_tile R x5 x7 1 x
  rcases List.mem_cons.mp hpc with rfl | hpc
  · exact fun x => scales_tile R x5 x7 0 x
  nomatch hpc

set_option maxHeartbeats 16000000 in
/-- What the last point leaves in the codes. -/
theorem out8 (c : Dev nD) (i : grid0.Coords) (arg1 : Memref sig .tc .smem S3x640 .i32) (harg1 : arg1.IsWhole) (arg2 : Memref sig .tc .vmem S1x640x6144 .fp8e4m3) (harg2 : arg2.IsWhole) (arg3 : Memref sig .tc .vmem S1x640x128 .f32) (harg3 : arg3.IsWhole) (arg4 : Memref sig .tc .vmem S6144x1280 .fp8e4m3) (harg4 : arg4.IsWhole) (arg5 : Memref sig .tc .vmem S1x1280 .f32) (harg5 : arg5.IsWhole) (arg6 : Memref sig .tc .vmem S1x2400 .i32) (harg6 : arg6.IsWhole) (arg7 : Memref sig .tc .vmem S8x160x2400 .fp8e4m3) (harg7 : arg7.IsWhole) (arg8 : Memref sig .tc .vmem S8x2400 .f32) (harg8 : arg8.IsWhole) (arg9 : Memref sig .tc .vmem S8x160x2400 .fp8e4m3) (harg9 : arg9.IsWhole) (arg10 : Memref sig .tc .vmem S8x2400 .f32) (harg10 : arg10.IsWhole) (arg11 : Memref sig .tc .vmem S6440x128 .f32) (harg11 : arg11.IsWhole) (arg12 : Memref sig .tc .vmem S24360x128 .f32) (harg12 : arg12.IsWhole) (hc0 : ¬cond0_0 i) (hc1 : cond0_1 i)
    (x0 : Vec Ideal S3x640 .i32) (x1 : Vec Ideal S1x640x6144 .fp8e4m3) (x2 : Vec Ideal S1x640x128 .f32) (x3 : Vec Ideal S6144x1280 .fp8e4m3) (x4 : Vec Ideal S1x1280 .f32) (x5 : Vec Ideal S1x2400 .i32) (x6 : Vec Ideal S8x160x2400 .fp8e4m3) (x7 : Vec Ideal S8x2400 .f32) (R : Vec Ideal S24360x128 .f32) (hw : ∀ k, k0_chk1 (word (F := Ideal) i arg1 (harg1.unread x0) k)) :
    out0_C_8 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 R hw = allCodes R x5 x6 := by
  unfold out0_C_8
  rw [View.read_writes_eq_canon _ _ _ (cover0_C_8 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 R hw)]
  funext j
  refine View.canon_apply_of_pieces (allCodes R x5 x6) _ ?_ j (cover0_C_8 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 R hw j)
  unfold kernelRun0_C
  dsimp only
  sl_unfold_words
  simp only [View.readAt_eq_ld, harg6.read_unread, harg7.read_unread, harg8.read_unread, harg12.read_unread]
  intro pc hpc
  rcases List.mem_cons.mp hpc with rfl | hpc
  · exact fun x => codes_last R x5 x6 x
  rcases List.mem_cons.mp hpc with rfl | hpc
  · exact fun x => codes_tile R x5 x6 17 x
  rcases List.mem_cons.mp hpc with rfl | hpc
  · exact fun x => codes_tile R x5 x6 16 x
  rcases List.mem_cons.mp hpc with rfl | hpc
  · exact fun x => codes_tile R x5 x6 15 x
  rcases List.mem_cons.mp hpc with rfl | hpc
  · exact fun x => codes_tile R x5 x6 14 x
  rcases List.mem_cons.mp hpc with rfl | hpc
  · exact fun x => codes_tile R x5 x6 13 x
  rcases List.mem_cons.mp hpc with rfl | hpc
  · exact fun x => codes_tile R x5 x6 12 x
  rcases List.mem_cons.mp hpc with rfl | hpc
  · exact fun x => codes_tile R x5 x6 11 x
  rcases List.mem_cons.mp hpc with rfl | hpc
  · exact fun x => codes_tile R x5 x6 10 x
  rcases List.mem_cons.mp hpc with rfl | hpc
  · exact fun x => codes_tile R x5 x6 9 x
  rcases List.mem_cons.mp hpc with rfl | hpc
  · exact fun x => codes_tile R x5 x6 8 x
  rcases List.mem_cons.mp hpc with rfl | hpc
  · exact fun x => codes_tile R x5 x6 7 x
  rcases List.mem_cons.mp hpc with rfl | hpc
  · exact fun x => codes_tile R x5 x6 6 x
  rcases List.mem_cons.mp hpc with rfl | hpc
  · exact fun x => codes_tile R x5 x6 5 x
  rcases List.mem_cons.mp hpc with rfl | hpc
  · exact fun x => codes_tile R x5 x6 4 x
  rcases List.mem_cons.mp hpc with rfl | hpc
  · exact fun x => codes_tile R x5 x6 3 x
  rcases List.mem_cons.mp hpc with rfl | hpc
  · exact fun x => codes_tile R x5 x6 2 x
  rcases List.mem_cons.mp hpc with rfl | hpc
  · exact fun x => codes_tile R x5 x6 1 x
  rcases List.mem_cons.mp hpc with rfl | hpc
  · exact fun x => codes_tile R x5 x6 0 x
  nomatch hpc

end Cert.KProjIdeal.KTile
-- ==== Proof.KScatter.lean ====
/-
  Moving rows into an array one after another, the last one winning: as a recursion over the tokens, and as the host's scatter.
-/
module

public import proofs.«01_k».proof.Proof.Gen.KReferenceIdeal
public import proofs.«01_k».proof.Proof.Gen.KProjIdeal
public import Idealize.ShloMosaic.Lib.Routing.OpsSet
public import Idealize.ShloMosaic.Lib.Routing.OpsPair
public import Idealize.ShloMosaic.Lib.Pointwise

@[expose] public section

set_option maxRecDepth 16384

namespace Cert.Last

open Idealize.ShloMosaic

/-- What slot `s` holds after the first `n` tokens were written one after another over `old`: the last token sent to `s`. -/
def last {α : Type} (slot : ℕ → ℕ) (val : ℕ → α) (old : α) (s : ℕ) : ℕ → α
  | 0 => old
  | k + 1 => if slot k = s then val k else last slot val old s k

/-- Either some token is the last one sent to `s`, or none is sent there. -/
theorem last_cases (slot : ℕ → ℕ) (s : ℕ) : ∀ n,
    (∃ k, k < n ∧ slot k = s ∧ (∀ j, k < j → j < n → slot j ≠ s) ∧ ∀ {α : Type} (val : ℕ → α) (old : α), last slot val old s n = val k)
      ∨ ((∀ k, k < n → slot k ≠ s) ∧ ∀ {α : Type} (val : ℕ → α) (old : α), last slot val old s n = old)
  | 0 => .inr ⟨fun k hk => absurd hk (Nat.not_lt_zero _), fun {_} _ _ => rfl⟩
  | n + 1 => by
    by_cases h : slot n = s
    · exact .inl ⟨n, by omega, h, fun j h1 h2 => by omega, fun {_} val old => if_pos h⟩
    · rcases last_cases slot s n with ⟨k, hk, hh, hl, hv⟩ | ⟨hn, hv⟩
      · refine .inl ⟨k, by omega, hh, fun j h1 h2 => ?_, fun {_} val old => (if_neg h).trans (hv val old)⟩
        by_cases hj : j = n
        · rw [hj]; exact h
        · exact hl j h1 (by omega)
      · refine .inr ⟨fun k hk => ?_, fun {_} val old => (if_neg h).trans (hv val old)⟩
        by_cases hj : k = n
        · rw [hj]; exact h
        · exact hn k (by omega)

/-- Writing `lo` tokens and then `n` more. -/
theorem last_add {α : Type} (slot : ℕ → ℕ) (val : ℕ → α) (old : α) (s lo : ℕ) :
    ∀ n, last slot val old s (lo + n) = last (fun k => slot (lo + k)) (fun k => val (lo + k)) (last slot val old s lo) s n
  | 0 => rfl
  | n + 1 => by
    show (if slot (lo + n) = s then val (lo + n) else last slot val old s (lo + n)) = _
    rw [last_add slot val old s lo n]
    rfl

/-- Only the first `n` tokens matter. -/
theorem last_congr {α : Type} {slot slot' : ℕ → ℕ} {val val' : ℕ → α} (old : α) (s : ℕ) :
    ∀ n, (∀ k, k < n → slot k = slot' k) → (∀ k, k < n → val k = val' k) → last slot val old s n = last slot' val' old s n
  | 0, _, _ => rfl
  | n + 1, h1, h2 => by
    show (if slot n = s then val n else last slot val old s n) = (if slot' n = s then val' n else last slot' val' old s n)
    rw [h1 n (by omega), h2 n (by omega), last_congr old s n (fun k hk => h1 k (by omega)) (fun k hk => h2 k (by omega))]

/-- A fold that keeps the last update landing. -/
theorem foldl_last {α : Type} : ∀ {N : ℕ} (P : Fin N → Prop) [DecidablePred P] (v : Fin N → α) (a : α) (n0 : Fin N) (_ : P n0)
    (_ : ∀ n, n0 < n → ¬P n), (List.finRange N).foldl (fun a n => if P n then v n else a) a = v n0
  | 0, _, _, _, _, n0, _, _ => n0.elim0
  | N + 1, P, _, v, a, n0, h0, hl => by
    rw [List.finRange_succ_last, List.foldl_append, List.foldl_map]
    show (if P (Fin.last N) then v (Fin.last N) else _) = _
    by_cases hn : n0 = Fin.last N
    · rw [← hn, if_pos h0]
    · have hlt : n0.val < N := by
        have := n0.isLt
        have h2 : n0.val ≠ N := fun h => hn (Fin.ext h)
        omega
      rw [if_neg (hl (Fin.last N) (by show n0.val < N; exact hlt))]
      exact foldl_last (fun n : Fin N => P n.castSucc) (fun n => v n.castSucc) a ⟨n0.val, hlt⟩ h0 (fun n hn => hl n.castSucc hn)

/-- The host's scatter read where one update is the last to land. -/
theorem scatter_last {α : Type} {s si u : Shape} {w : Nat} (d : ScatterDims s si u) (x0 : s.Idx → α) (idx : IVec si w) (upd : u.Idx → α) (ι : s.Idx)
    (k : u.Idx) (hk : d.resultIdx? k idx = some ι)
    (hl : ∀ k', u.rowMajor k < u.rowMajor k' → d.resultIdx? k' idx ≠ some ι) :
    Host.scatter d (fun _ b => b) x0 idx upd ι = upd k := by
  rw [Idealize.ShloMosaic.Routing.scatter_at]
  refine (foldl_last (fun n => d.resultIdx? (u.rowMajor.symm n) idx = some ι) (fun n => upd (u.rowMajor.symm n)) _ (u.rowMajor k) ?_ ?_).trans ?_
  · show d.resultIdx? (u.rowMajor.symm (u.rowMajor k)) idx = some ι
    rw [Equiv.symm_apply_apply]; exact hk
  · intro n hn
    refine hl _ ?_
    rw [Equiv.apply_symm_apply]; exact hn
  · show upd (u.rowMajor.symm (u.rowMajor k)) = _
    rw [Equiv.symm_apply_apply]

end Cert.Last

namespace Cert.KReferenceIdeal.Scatter

open Cert.KReferenceIdeal Cert.KReferenceIdeal.Gen Idealize.ShloMosaic Cert.Last

abbrev dC := scatter_S2400x8x160_S1920x1_S1920x8x160_12_0_0_1
abbrev dS := scatter_S2400x8_S1920x1_S1920x8_1_0_0_1

theorem startC (idx : IVec S1920x1 32) (k : Fin 1920) (h : Fin 8) (d : Fin 160) :
    dC.start (ix3 k h d) idx 0 = (idx (ix2 k 0)).toInt := by
  unfold ScatterDims.start
  rw [dif_pos (by decide)]
  congr 2
  funext a
  match a with
  | ⟨0, _⟩ => rfl
  | ⟨1, _⟩ => rfl

theorem landsC (idx : IVec S1920x1 32) (k : Fin 1920) (h : Fin 8) (d : Fin 160) (s : Fin 2400) (h' : Fin 8) (d' : Fin 160) :
    dC.resultIdx? (ix3 k h d) idx = some (ix3 s h' d') ↔ (idx (ix2 k 0)).toInt = s.val ∧ h = h' ∧ d = d' := by
  rw [Idealize.ShloMosaic.Routing.resultIdx?_eq_some]
  have w0 : dC.window (ix3 k h d) 0 = 0 := rfl
  have w1 : dC.window (ix3 k h d) 1 = h.val := rfl
  have w2 : dC.window (ix3 k h d) 2 = d.val := rfl
  have s0 := startC idx k h d
  have s1 : dC.start (ix3 k h d) idx 1 = 0 := rfl
  have s2 : dC.start (ix3 k h d) idx 2 = 0 := rfl
  constructor
  · intro q
    have q0 := q 0; have q1 := q 1; have q2 := q 2
    rw [s0, w0] at q0; rw [s1, w1] at q1; rw [s2, w2] at q2
    change _ = (s.val : Int) at q0; change _ = (h'.val : Int) at q1; change _ = (d'.val : Int) at q2
    exact ⟨by omega, Fin.ext (by omega), Fin.ext (by omega)⟩
  · rintro ⟨q0, rfl, rfl⟩ a
    match a with
    | ⟨0, _⟩ => refine (congrArg₂ (· + ·) s0 (congrArg Nat.cast w0)).trans ?_; show _ = (s.val : Int); rw [q0]; rfl
    | ⟨1, _⟩ => refine (congrArg₂ (· + ·) s1 (congrArg Nat.cast w1)).trans ?_; show _ = (h.val : Int); omega
    | ⟨2, _⟩ => refine (congrArg₂ (· + ·) s2 (congrArg Nat.cast w2)).trans ?_; show _ = (d.val : Int); omega

theorem startS (idx : IVec S1920x1 32) (k : Fin 1920) (h : Fin 8) :
    dS.start (ix2 k h) idx 0 = (idx (ix2 k 0)).toInt := by
  unfold ScatterDims.start
  rw [dif_pos (by decide)]
  congr 2
  funext a
  match a with
  | ⟨0, _⟩ => rfl
  | ⟨1, _⟩ => rfl

theorem landsS (idx : IVec S1920x1 32) (k : Fin 1920) (h : Fin 8) (s : Fin 2400) (h' : Fin 8) :
    dS.resultIdx? (ix2 k h) idx = some (ix2 s h') ↔ (idx (ix2 k 0)).toInt = s.val ∧ h = h' := by
  rw [Idealize.ShloMosaic.Routing.resultIdx?_eq_some]
  have w0 : dS.window (ix2 k h) 0 = 0 := rfl
  have w1 : dS.window (ix2 k h) 1 = h.val := rfl
  have s0 := startS idx k h
  have s1 : dS.start (ix2 k h) idx 1 = 0 := rfl
  constructor
  · intro q
    have q0 := q 0; have q1 := q 1
    rw [s0, w0] at q0; rw [s1, w1] at q1
    change _ = (s.val : Int) at q0; change _ = (h'.val : Int) at q1
    exact ⟨by omega, Fin.ext (by omega)⟩
  · rintro ⟨q0, rfl⟩ a
    match a with
    | ⟨0, _⟩ => refine (congrArg₂ (· + ·) s0 (congrArg Nat.cast w0)).trans ?_; show _ = (s.val : Int); rw [q0]; rfl
    | ⟨1, _⟩ => refine (congrArg₂ (· + ·) s1 (congrArg Nat.cast w1)).trans ?_; show _ = (h.val : Int); omega

/-- Scattering the tokens' codes: each slot holds the last token sent to it. -/
theorem scatterC {α : Type} (x0 : S2400x8x160.Idx → α) (idx : IVec S1920x1 32) (upd : S1920x8x160.Idx → α) (slot : ℕ → ℕ)
    (hs : ∀ k : Fin 1920, (idx (ix2 k 0)).toInt = slot k.val) (val : ℕ → α) (s : Fin 2400) (h : Fin 8) (d : Fin 160)
    (hv : ∀ k : Fin 1920, upd (ix3 k h d) = val k.val) :
    Host.scatter dC (fun _ b => b) x0 idx upd (ix3 s h d) = last slot val (x0 (ix3 s h d)) s.val 1920 := by
  rcases last_cases slot s.val 1920 with ⟨k, hk, hh, hl, he⟩ | ⟨hn, he⟩
  · rw [he]
    refine (scatter_last dC x0 idx upd _ (ix3 (⟨k, hk⟩ : Fin 1920) h d) ((landsC _ _ _ _ _ _ _).2 ⟨by rw [hs, hh], rfl, rfl⟩) fun k' hlt => ?_).trans (hv ⟨k, hk⟩)
    change S1920x8x160.Idx at k'
    idx_vars k'
    intro q
    obtain ⟨q0, rfl, rfl⟩ := (landsC _ _ _ _ _ _ _).1 q
    rw [hs] at q0
    have hlt' := Fin.lt_def.1 hlt
    rw [Shape.rowMajor_val_three, Shape.rowMajor_val_three] at hlt'
    change (k * 8 + k'1.val) * 160 + k'2.val < (k'0.val * 8 + k'1.val) * 160 + k'2.val at hlt'
    exact hl k'0.val (by omega) k'0.isLt (by omega)
  · rw [he]
    refine Idealize.ShloMosaic.Routing.scatter_set_miss dC x0 idx upd _ fun k' => ?_
    change S1920x8x160.Idx at k'
    idx_vars k'
    intro q
    obtain ⟨q0, -, -⟩ := (landsC _ _ _ _ _ _ _).1 q
    rw [hs] at q0
    exact hn k'0.val k'0.isLt (by omega)

/-- Scattering the tokens' scales. -/
theorem scatterS {α : Type} (x0 : S2400x8.Idx → α) (idx : IVec S1920x1 32) (upd : S1920x8.Idx → α) (slot : ℕ → ℕ)
    (hs : ∀ k : Fin 1920, (idx (ix2 k 0)).toInt = slot k.val) (val : ℕ → α) (s : Fin 2400) (h : Fin 8)
    (hv : ∀ k : Fin 1920, upd (ix2 k h) = val k.val) :
    Host.scatter dS (fun _ b => b) x0 idx upd (ix2 s h) = last slot val (x0 (ix2 s h)) s.val 1920 := by
  rcases last_cases slot s.val 1920 with ⟨k, hk, hh, hl, he⟩ | ⟨hn, he⟩
  · rw [he]
    refine (scatter_last dS x0 idx upd _ (ix2 (⟨k, hk⟩ : Fin 1920) h) ((landsS _ _ _ _ _).2 ⟨by rw [hs, hh], rfl⟩) fun k' hlt => ?_).trans (hv ⟨k, hk⟩)
    change S1920x8.Idx at k'
    idx_vars k'
    intro q
    obtain ⟨q0, rfl⟩ := (landsS _ _ _ _ _).1 q
    rw [hs] at q0
    have hlt' := Fin.lt_def.1 hlt
    rw [Shape.rowMajor_val_two, Shape.rowMajor_val_two] at hlt'
    change k * 8 + k'1.val < k'0.val * 8 + k'1.val at hlt'
    exact hl k'0.val (by omega) k'0.isLt (by omega)
  · rw [he]
    refine Idealize.ShloMosaic.Routing.scatter_set_miss dS x0 idx upd _ fun k' => ?_
    change S1920x8.Idx at k'
    idx_vars k'
    intro q
    obtain ⟨q0, -⟩ := (landsS _ _ _ _ _).1 q
    rw [hs] at q0
    exact hn k'0.val k'0.isLt (by omega)

end Cert.KReferenceIdeal.Scatter

namespace Cert.KProjIdeal.Scatter

open Cert.KProjIdeal Cert.KProjIdeal.Gen Idealize.ShloMosaic Cert.Last

abbrev dH := scatter_S1x2400_S1920x2_S1920_n_01_01_1

theorem startH0 (idx : IVec S1920x2 32) (k : Fin 1920) :
    dH.start (ix1 k) idx 0 = (idx (ix2 k 0)).toInt := by
  unfold ScatterDims.start
  rw [dif_pos (by decide)]
  congr 2
  funext a
  match a with
  | ⟨0, _⟩ => rfl
  | ⟨1, _⟩ => rfl

theorem startH1 (idx : IVec S1920x2 32) (k : Fin 1920) :
    dH.start (ix1 k) idx 1 = (idx (ix2 k 1)).toInt := by
  unfold ScatterDims.start
  rw [dif_pos (by decide)]
  congr 2
  funext a
  match a with
  | ⟨0, _⟩ => rfl
  | ⟨1, _⟩ => rfl

theorem landsH (idx : IVec S1920x2 32) (k : Fin 1920) (s : Fin 2400) (z : Fin 1) :
    dH.resultIdx? (ix1 k) idx = some (ix2 z s) ↔ (idx (ix2 k 0)).toInt = z.val ∧ (idx (ix2 k 1)).toInt = s.val := by
  refine (Idealize.ShloMosaic.Routing.resultIdx?_ix2 (R := 1) (C := 2400) dH (ix1 k) idx z s).trans ?_
  have w0 : dH.window (ix1 k) 0 = 0 := rfl
  have w1 : dH.window (ix1 k) 1 = 0 := rfl
  have s0 := startH0 idx k
  have s1 := startH1 idx k
  constructor
  · rintro ⟨q0, q1⟩
    exact ⟨by rw [← s0]; refine Eq.trans ?_ q0; rw [w0]; exact (Int.add_zero _).symm, by rw [← s1]; refine Eq.trans ?_ q1; rw [w1]; exact (Int.add_zero _).symm⟩
  · rintro ⟨q0, q1⟩
    exact ⟨by rw [← q0, ← s0, w0]; exact Int.add_zero _, by rw [← q1, ← s1, w1]; exact Int.add_zero _⟩

/-- Scattering one value at the tokens' slots: it is found where some token is sent, the old value elsewhere. -/
theorem scatterH {α : Type} (x0 : S1x2400.Idx → α) (idx : IVec S1920x2 32) (upd : S1920.Idx → α) (slot : ℕ → ℕ)
    (h0 : ∀ k : Fin 1920, (idx (ix2 k 0)).toInt = 0) (hs : ∀ k : Fin 1920, (idx (ix2 k 1)).toInt = slot k.val) (v : α) (s : Fin 2400)
    (hv : ∀ k : S1920.Idx, upd k = v) :
    Host.scatter dH (fun _ b => b) x0 idx upd (ix2 0 s) = last slot (fun _ => v) (x0 (ix2 0 s)) s.val 1920 := by
  rcases last_cases slot s.val 1920 with ⟨k, hk, hh, hl, he⟩ | ⟨hn, he⟩
  · rw [he]
    exact Idealize.ShloMosaic.Routing.scatter_set_hit dH x0 idx upd _ v (fun k _ => hv k) (ix1 (⟨k, hk⟩ : Fin 1920))
      ((landsH _ _ _ _).2 ⟨h0 _, by rw [hs, hh]⟩)
  · rw [he]
    refine Idealize.ShloMosaic.Routing.scatter_set_miss dH x0 idx upd _ fun k' => ?_
    change S1920.Idx at k'
    idx_vars k'
    intro q
    obtain ⟨-, q0⟩ := (landsH _ _ _ _).1 q
    rw [hs] at q0
    exact hn k'0.val k'0.isLt (by omega)

end Cert.KProjIdeal.Scatter
-- ==== Proof.KSpec.lean ====
/-
  What a call that fills a pool of slots computes, over the extended reals: each of the 1920 tokens' projected rows, cut into
  eight heads of 160 and quantised, goes to the token's slot, later tokens over earlier ones; other slots keep what they had.
  `o` is the first column of the projection the call takes: 7680 for keys, 8960 for values.
-/
module

public import proofs.«01_k».proof.Proof.Spec
public import proofs.«01_k».proof.Proof.KScatter

@[expose] public section

noncomputable section

namespace Cert.Spec

open Idealize.ShloMosaic Cert.Last

variable (x0 : (⟨2, ![3, 640]⟩ : Shape).Idx → BitVec 32)
  (x : (⟨3, ![3, 640, 6144]⟩ : Shape).Idx → EReal) (xs : (⟨3, ![3, 640, 128]⟩ : Shape).Idx → EReal)
  (w : (⟨2, ![6144, 10240]⟩ : Shape).Idx → EReal) (ws : (⟨2, ![1, 10240]⟩ : Shape).Idx → EReal)

/-- The slot of token `k`, tokens counted row by row. -/
def slotOf (k : ℕ) : ℕ :=
  if h : k < 1920 then (x0 (ix2 (⟨k / 640, by omega⟩ : Fin 3) (⟨k % 640, by omega⟩ : Fin 640))).toNat else 0

variable (o : ℕ) (ho : o ≤ 8960)

/-- Entry `n` of token `k`'s projected row, counted from column `o`. -/
def rowOf (k : ℕ) (n : Fin 1280) : EReal :=
  if h : k < 1920 then proj x xs w ws (⟨k / 640, by omega⟩ : Fin 3) (⟨k % 640, by omega⟩ : Fin 640) ⟨o + n.val, by omega⟩ else 0

/-- Head `h` of token `k`. -/
def headOf (k : ℕ) (h : Fin 8) : Fin 160 → EReal := fun d => rowOf x xs w ws o ho k ⟨160 * h.val + d.val, by omega⟩

/-- The codes of the pool after the call. -/
def poolCodes (pool : (⟨3, ![2400, 8, 160]⟩ : Shape).Idx → EReal) (h : Fin 8) (d : Fin 160) (s : Fin 2400) : EReal :=
  last (slotOf x0) (fun k => code (headOf x xs w ws o ho k h) d) (pool (ix3 s h d)) s.val 1920

/-- The scales of the pool after the call. -/
def poolScale (pool : (⟨2, ![2400, 8]⟩ : Shape).Idx → EReal) (h : Fin 8) (s : Fin 2400) : EReal :=
  last (slotOf x0) (fun k => scale (headOf x xs w ws o ho k h)) (pool (ix2 s h)) s.val 1920

end Cert.Spec
-- ==== Proof.KArr.lean ====
/-
  The two arrays the key projection returns are the specification's.
-/
module

public import proofs.«01_k».proof.Proof.KOut
public import proofs.«01_k».proof.Proof.KSpec
public import Idealize.ShloMosaic.Lib.Pipeline.ValueKit

public section

set_option maxRecDepth 16384

noncomputable section

namespace Cert.KProjIdeal.Arr

open Cert.KProjIdeal Cert.KProjIdeal.Gen Idealize.ShloMosaic Idealize.ShloMosaic.TcCoe Idealize.ShloMosaic.Tactic Cert.Last

variable (m : (ℓ : Loc nD τ sig) → Buf (Elt Ideal) ℓ)

/-- The slot of token `k`. -/
abbrev slot (c : Dev nD) : ℕ → ℕ := Spec.slotOf (m ((c : Thread nD τ).loc main_arg0))

/-- An entry of a token's projected row. -/
abbrev row (c : Dev nD) : ℕ → Fin 1280 → EReal :=
  Spec.rowOf (m ((c : Thread nD τ).loc main_arg1)) (m ((c : Thread nD τ).loc main_arg2)) (m ((c : Thread nD τ).loc main_arg3)) (m ((c : Thread nD τ).loc main_arg4)) 7680 (by decide)

/-- The codes as the specification has them, of the call's arguments. -/
@[expose] def G8 (c : Dev nD) : S8x160x2400.Idx → EReal := fun j =>
  Spec.poolCodes (m ((c : Thread nD τ).loc main_arg0)) (m ((c : Thread nD τ).loc main_arg1)) (m ((c : Thread nD τ).loc main_arg2)) (m ((c : Thread nD τ).loc main_arg3)) (m ((c : Thread nD τ).loc main_arg4)) 7680 (by decide) (m ((c : Thread nD τ).loc main_arg5)) (j 0) (j 1) (j 2)

/-- The scales. -/
@[expose] def G9 (c : Dev nD) : S8x2400.Idx → EReal := fun j =>
  Spec.poolScale (m ((c : Thread nD τ).loc main_arg0)) (m ((c : Thread nD τ).loc main_arg1)) (m ((c : Thread nD τ).loc main_arg2)) (m ((c : Thread nD τ).loc main_arg3)) (m ((c : Thread nD τ).loc main_arg4)) 7680 (by decide) (m ((c : Thread nD τ).loc main_arg6)) (j 0) (j 1)

/-! ## What the host hands the call -/

/-- A slot in range reads the same signed, and the host's wrapping of negative indices leaves it alone. -/
theorem wrap (a b : BitVec 32) (h : a.toNat < 2400) : (Scalar.select (IntOp.cmpi .slt a 0#32) b a).toInt = (a.toNat : Int) := by
  rw [Idealize.ShloMosaic.Routing.wrap_of_lt a b (by omega)]
  rw [BitVec.toInt_eq_toNat_of_lt (by omega)]

/-- Token `k`'s slot, spelt out. -/
theorem slot_eq (c : Dev nD) (k : Fin 1920) :
    slot m c k.val = (m ((c : Thread nD τ).loc main_arg0) (ix2 (⟨k.val / 640, by omega⟩ : Fin 3) (⟨k.val % 640, by omega⟩ : Fin 640)) : BitVec 32).toNat := by
  unfold slot Spec.slotOf
  rw [dif_pos k.isLt]

theorem slot_lt (hs : SlotsOk m) (c : Dev nD) (k : Fin 1920) :
    (m ((c : Thread nD τ).loc main_arg0) (ix2 (⟨k.val / 640, by omega⟩ : Fin 3) (⟨k.val % 640, by omega⟩ : Fin 640)) : BitVec 32).toNat < 2400 := by
  have h := hs c (⟨k.val / 640, by omega⟩ : Fin 3) (⟨k.val % 640, by omega⟩ : Fin 640)
  have e : slotIx (⟨k.val / 640, by omega⟩ : Fin 3) (⟨k.val % 640, by omega⟩ : Fin 640) = ix2 (⟨k.val / 640, by omega⟩ : Fin 3) (⟨k.val % 640, by omega⟩ : Fin 640) := by
    funext a
    match a with
    | ⟨0, _⟩ => rfl
    | ⟨1, _⟩ => rfl
  rwa [e] at h

/-- Which slots are written: 1 at a written slot, 0 elsewhere. -/
theorem hits (hs : SlotsOk m) (c : Dev nD) (s : Fin 2400) :
    V m c main_v13 (ix2 0 s) = last (slot m c) (fun _ => 1#32) 0#32 s.val 1920 := by
  entry_read
  refine (Scatter.scatterH _ _ _ (slot m c) (fun k => ?_) (fun k => ?_) (1#32) s fun k => ?_).trans ?_
  · pointwise
    rfl
  · pointwise
    rw [slot_eq m c k]
    exact wrap _ _ (slot_lt m hs c k)
  · rfl
  · rfl

/-- The pool's codes come turned over. -/
theorem pool (c : Dev nD) (h : Fin 8) (d : Fin 160) (s : Fin 2400) :
    V m c main_v14 (ix3 h d s) = m ((c : Thread nD τ).loc main_arg5) (ix3 s h d) := by
  entry_read
  pointwise

/-- And its scales. -/
theorem spool (c : Dev nD) (h : Fin 8) (s : Fin 2400) :
    V m c main_v15 (ix2 h s) = m ((c : Thread nD τ).loc main_arg6) (ix2 s h) := by
  entry_read
  pointwise

/-- Where the windows stand at a grid point. -/
theorem idx : ∀ t : Fin cfg0.N,
    win0_1.index t = ![t.val, 0, 0] ∧ win0_2.index t = ![t.val, 0, 0] ∧ win0_3.index t = ![0, 6] ∧ win0_4.index t = ![0, 6]
    ∧ win0_5.index t = ![0, 0] ∧ win0_6.index t = ![0, 0, 0] ∧ win0_7.index t = ![0, 0] ∧ win0_8.index t = ![0, 0, 0] ∧ win0_9.index t = ![0, 0] :=
  (by decide +kernel : ∀ t : Fin grid0.N,
    win0_1.index t = ![t.val, 0, 0] ∧ win0_2.index t = ![t.val, 0, 0] ∧ win0_3.index t = ![0, 6] ∧ win0_4.index t = ![0, 6]
    ∧ win0_5.index t = ![0, 0] ∧ win0_6.index t = ![0, 0, 0] ∧ win0_7.index t = ![0, 0] ∧ win0_8.index t = ![0, 0, 0] ∧ win0_9.index t = ![0, 0])

theorem coord : ∀ t : Fin cfg0.N, (grid0.coords t 0).val = t.val := (by decide +kernel : ∀ t : Fin grid0.N, (grid0.coords t 0).val = t.val)

/-! ## The gathered rows -/

theorem place_last {α : Type} (slot : ℕ → ℕ) (y : ℕ → Fin 10 → Fin 128 → α) (R : Fin 2436 → Fin 10 → Fin 128 → α) (s : Fin 2436) (c : Fin 10) (l : Fin 128) :
    ∀ n, place slot y R n s c l = last slot (fun k => y k c l) (R s c l) s.val n
  | 0 => rfl
  | n + 1 => by
    show (if slot n = s.val then y n c l else place slot y R n s c l) = _
    rw [place_last slot y R s c l n]
    rfl

/-- A point's slots are its tokens'. -/
theorem slots_at (c : Dev nD) (t : Fin cfg0.N) (k : ℕ) (hk : k < 640) :
    slotNum (grid0.coords t) (iblk m c 0 t) k = slot m c (640 * t.val + k) := by
  have ht : t.val < 3 := t.isLt
  unfold slotNum slot Spec.slotOf
  rw [dif_pos hk, dif_pos (by omega), iblk0_at]
  refine congrArg (fun q => (m ((c : Thread nD τ).loc main_arg0) q : BitVec 32).toNat) (funext fun a => Fin.ext ?_)
  match a with
  | ⟨0, _⟩ => show (grid0.coords t 0).val = (640 * t.val + k) / 640; rw [coord]; omega
  | ⟨1, _⟩ => show k = (640 * t.val + k) % 640; omega

/-- A point's projected rows are its tokens'. -/
theorem rows_at (c : Dev nD) (t : Fin cfg0.N) (k : ℕ) (hk : k < 640) (q : Fin 10) (l : Fin 128) :
    rowNum (iblk m c 1 t) (iblk m c 2 t) (iblk m c 3 t) (iblk m c 4 t) k q l = row m c (640 * t.val + k) ⟨128 * q.val + l.val, by omega⟩ := by
  have ht : t.val < 3 := t.isLt
  obtain ⟨h1, h2, h3, h4, -⟩ := idx t
  have e0 : rowIx ⟨k, hk⟩ q l = ix2 (⟨k, hk⟩ : Fin 640) (⟨128 * q.val + l.val, by omega⟩ : Fin 1280) := by
    funext a
    match a with
    | ⟨0, _⟩ => rfl
    | ⟨1, _⟩ => rfl
  have eb : (⟨(640 * t.val + k) / 640, by omega⟩ : Fin 3) = ⟨t.val, ht⟩ := Fin.ext (by show (640 * t.val + k) / 640 = t.val; omega)
  have er : (⟨(640 * t.val + k) % 640, by omega⟩ : Fin 640) = ⟨k, hk⟩ := Fin.ext (by show (640 * t.val + k) % 640 = k; omega)
  unfold rowNum row Spec.rowOf
  rw [dif_pos hk, dif_pos (by omega), e0, eb, er]
  generalize (⟨k, hk⟩ : Fin 640) = r
  obtain ⟨n, hn⟩ : ∃ n : Fin 1280, n = ⟨128 * q.val + l.val, by omega⟩ := ⟨_, rfl⟩
  rw [← hn]
  unfold Spec.proj
  pointwise [k0_pay335]
  blk_point [iblk, V, h1, h2, h3, h4]

/-- No row is gathered at the start. -/
theorem noRows_at (q : S24360x128.Idx) : (noRows : Vec Ideal S24360x128 .f32) q = 0 := by
  unfold noRows
  pointwise [k0_pay334]

/-- The rows gathered after `n` points: each slot's last token's. -/
theorem gathered_rows (c : Dev nD) (s : Fin 2436) (q : Fin 10) (l : Fin 128) : ∀ n, n ≤ 3 →
    rowsAt m c n (gatherIx s q l) = last (slot m c) (fun k => row m c k ⟨128 * q.val + l.val, by omega⟩) 0 s.val (640 * n)
  | 0, _ => noRows_at _
  | n + 1, hn => by
    have hN : n < cfg0.N := lt_of_lt_of_eq (by omega) (show 3 = cfg0.N from N_0.symm)
    refine (congrFun (rowsAt_succ m c ⟨n, hN⟩) _).trans ?_
    refine (gathered_at _ _ _ _ _ _ _ s q l).trans ?_
    rw [place_last, show 640 * (n + 1) = 640 * n + 640 by omega, last_add]
    refine (last_congr _ _ 640 (fun k hk => slots_at m c ⟨n, hN⟩ k hk) (fun k hk => rows_at m c ⟨n, hN⟩ k hk q l)).trans ?_
    rw [gathered_rows c s q l n (by omega)]

/-- An entry of the row gathered for a slot once all points are done. -/
theorem entry_last (c : Dev nD) (s : Fin 2400) (n : Fin 1280) :
    KTile.entry (rowsAt m c 3) s n = last (slot m c) (fun k => row m c k n) 0 s.val 1920 := by
  unfold KTile.entry
  rw [gathered_rows m c _ _ _ 3 (le_refl 3)]
  have e : (⟨128 * (n.val / 128) + n.val % 128, by omega⟩ : Fin 1280) = n := Fin.ext (by show 128 * (n.val / 128) + n.val % 128 = n.val; omega)
  exact congrArg (fun z => last (slot m c) (fun k => row m c k z) 0 s.val 1920) e

/-- Where a slot is marked as written the quantity comes from the last token's rows, elsewhere the pool keeps its own. -/
theorem mix_last (slot : ℕ → ℕ) (rows : ℕ → Fin 1280 → EReal) (R : Fin 1280 → EReal) (f : (Fin 1280 → EReal) → EReal) (old : EReal) (s : ℕ)
    (hR : ∀ n, R n = last slot (fun k => rows k n) 0 s 1920) :
    KTile.mix (last slot (fun _ => 1#32) 0#32 s 1920) (f R) old = last slot (fun k => f (rows k)) old s 1920 := by
  rcases last_cases slot s 1920 with ⟨k, -, -, -, h⟩ | ⟨-, h⟩
  · rw [h, h, show R = rows k from funext fun n => (hR n).trans (h _ _)]
    rfl
  · rw [h, h]
    rfl

/-! ## The arrays -/

/-- The windows of the outputs are flushed at the last point alone. -/
theorem flush8 : ∀ t : Fin cfg0.N, (cfg0.win 8).flush t = true → t.val = 2 := by decide +kernel
theorem flush9 : ∀ t : Fin cfg0.N, (cfg0.win 9).flush t = true → t.val = 2 := by decide +kernel

/-- What the last point has of the marks. -/
theorem hit_blk (hs : SlotsOk m) (c : Dev nD) (t : Fin cfg0.N) (s : Fin 2400) : iblk m c 5 t (ix2 0 s) = last (slot m c) (fun _ => 1#32) 0#32 s.val 1920 := by
  obtain ⟨-, -, -, -, h5, -⟩ := idx t
  refine Eq.trans ?_ (hits m hs c s)
  show V m c main_v13 ((win0_5.blk t).view.emb (ix2 0 s)) = _
  have e : (win0_5.blk t).view.emb (ix2 0 s) = ix2 0 s := by
    blk_ext [h5]
  rw [e]

/-- And of the pool's codes. -/
theorem pool_blk (c : Dev nD) (t : Fin cfg0.N) (h : Fin 8) (d : Fin 160) (s : Fin 2400) : iblk m c 6 t (ix3 h d s) = m ((c : Thread nD τ).loc main_arg5) (ix3 s h d) := by
  obtain ⟨-, -, -, -, -, h6, -⟩ := idx t
  refine Eq.trans ?_ (pool m c h d s)
  show V m c main_v14 ((win0_6.blk t).view.emb (ix3 h d s)) = _
  have e : (win0_6.blk t).view.emb (ix3 h d s) = ix3 h d s := by
    blk_ext [h6]
  rw [e]

/-- And of its scales. -/
theorem spool_blk (c : Dev nD) (t : Fin cfg0.N) (h : Fin 8) (s : Fin 2400) : iblk m c 7 t (ix2 h s) = m ((c : Thread nD τ).loc main_arg6) (ix2 s h) := by
  obtain ⟨-, -, -, -, -, -, h7, -⟩ := idx t
  refine Eq.trans ?_ (spool m c h s)
  show V m c main_v15 ((win0_7.blk t).view.emb (ix2 h s)) = _
  have e : (win0_7.blk t).view.emb (ix2 h s) = ix2 h s := by
    blk_ext [h7]
  rw [e]

/-- The codes' array. -/
theorem arr8 (hs : SlotsOk m) (c : Dev nD) : (dats m hs 0 c).arrAt 8 cfg0.N = G8 m c := by
  refine (dats m hs 0 c).arrAt_eq_of_covers 8 _ (by decide +kernel) fun t hf y => ?_
  blk_simp
  have ht : t.val = 2 := flush8 t hf
  obtain ⟨-, -, -, -, -, -, -, h8, -⟩ := idx t
  rw [after0_8, outAt8_C m hs c t (fun h => absurd ((hcond0_0 t).mp h) (by omega)) ((hcond0_1 t).mpr (by omega)), KTile.out8]
  change S8x160x2400.Idx at y
  idx_vars y
  have e : (win0_8.blk t).view.emb (ix3 y0 y1 y2) = ix3 y0 y1 y2 := by
    blk_ext [h8]
  rw [e, ht]
  unfold KTile.allCodes
  refine (congr (congr (congrArg KTile.mix (hit_blk m hs c t y2)) rfl) (pool_blk m c t y0 y1 y2)).trans ?_
  exact mix_last (slot m c) (row m c) (KTile.entry (rowsAt m c 3) y2) (fun R => Spec.code (n := 160) (fun d => R ⟨160 * y0.val + d.val, by omega⟩) y1) _ _ (entry_last m c y2)

/-- The scales' array. -/
theorem arr9 (hs : SlotsOk m) (c : Dev nD) : (dats m hs 0 c).arrAt 9 cfg0.N = G9 m c := by
  refine (dats m hs 0 c).arrAt_eq_of_covers 9 _ (by decide +kernel) fun t hf y => ?_
  blk_simp
  have ht : t.val = 2 := flush9 t hf
  obtain ⟨-, -, -, -, -, -, -, -, h9⟩ := idx t
  rw [after0_9, outAt9_C m hs c t (fun h => absurd ((hcond0_0 t).mp h) (by omega)) ((hcond0_1 t).mpr (by omega)), KTile.out9]
  change S8x2400.Idx at y
  idx_vars y
  have e : (win0_9.blk t).view.emb (ix2 y0 y1) = ix2 y0 y1 := by
    blk_ext [h9]
  rw [e, ht]
  unfold KTile.allScales
  refine (congr (congr (congrArg KTile.mix (hit_blk m hs c t y1)) rfl) (spool_blk m c t y0 y1)).trans ?_
  exact mix_last (slot m c) (row m c) (KTile.entry (rowsAt m c 3) y1) (fun R => Spec.scale (n := 160) (fun d => R ⟨160 * y0.val + d.val, by omega⟩)) _ _ (entry_last m c y1)

/-- The call leaves the two arrays and keeps its arguments. -/
theorem run (hs : SlotsOk m) (ρ : Dev nD → PrngReg) : θ_run defs (onTc (τ := τ) (main (F := Ideal))) ⟨m, fun _ => 0, ρ⟩ fun r => ∀ c : Dev nD,
    r.2.mem ((c : Thread nD τ).loc main_v16_0) = G8 m c
    ∧ r.2.mem ((c : Thread nD τ).loc main_v16_1) = G9 m c
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)
    ∧ r.2.mem ((c : Thread nD τ).loc main_arg5) = m ((c : Thread nD τ).loc main_arg5)
    ∧ r.2.mem ((c : Thread nD τ).loc main_arg6) = m ((c : Thread nD τ).loc main_arg6) :=
  (θ_run defs _ _).mono (fun _ h c => ⟨((h c).1 8).trans (arr8 m hs c), ((h c).1 9).trans (arr9 m hs c),
    ((h c).1 0).trans (((dats m hs 0 c).arrAt_in 0 rfl _).trans ((A_eq m hs c 0).trans (V_main_arg0 m c))),
    ((h c).1 1).trans (((dats m hs 0 c).arrAt_in 1 rfl _).trans ((A_eq m hs c 1).trans (V_main_arg1 m c))),
    ((h c).1 2).trans (((dats m hs 0 c).arrAt_in 2 rfl _).trans ((A_eq m hs c 2).trans (V_main_arg2 m c))),
    ((h c).1 3).trans (((dats m hs 0 c).arrAt_in 3 rfl _).trans ((A_eq m hs c 3).trans (V_main_arg3 m c))),
    ((h c).1 4).trans (((dats m hs 0 c).arrAt_in 4 rfl _).trans ((A_eq m hs c 4).trans (V_main_arg4 m c))),
    ((h c).2 main_arg5 (Pipeline.mem_restRefs_of main_arg5 (by decide) (by decide))).trans (V_main_arg5 m c),
    ((h c).2 main_arg6 (Pipeline.mem_restRefs_of main_arg6 (by decide) (by decide))).trans (V_main_arg6 m c)⟩)
    (run_main m hs ρ)

end Cert.KProjIdeal.Arr
-- ==== Proof.KRefRows.lean ====
/-
  The rows of the key projection's reference: its projection as one product of all tokens, and its quantiser on them.
-/
module

public import proofs.«01_k».proof.Proof.Gen.KReferenceIdeal
public import proofs.«01_k».proof.Proof.Gen.KReferenceIdeal.Frame
public import proofs.«01_k».proof.Proof.Gen.KReferenceIdeal.Skeleton
public import proofs.«01_k».proof.Proof.Scale
public import proofs.«01_k».proof.Proof.KSpec
public import Idealize.ShloMosaic.Lib.Pointwise
public import Idealize.ShloMosaic.Lib.Pipeline.ValueKit

public section

set_option maxRecDepth 16384

noncomputable section

namespace Cert.KReferenceIdeal.Rows

open Cert.KReferenceIdeal Cert.KReferenceIdeal.Gen Idealize.ShloMosaic Idealize.ShloMosaic.TcCoe Idealize.ShloMosaic.Tactic

/-- Reading the flat product by head: column `160 h + d`. -/
theorem heads_at (v : FVec Ideal S1920x1280 .f32) (n : Fin 1920) (h : Fin 8) (d : Fin 160) :
    shapeCast S1920x8x160 v shapeCasts_S1920x1280_S1920x8x160 (ix3 n h d) = v (ix2 n (⟨h.val * 160 + d.val, by omega⟩ : Fin 1280)) := by
  pointwise

/-- The largest magnitude of a head's vector. -/
theorem amax_at (v : FVec Ideal S1920x8x160 .f32) (n : Fin 1920) (h : Fin 8) :
    multiReduction .maximumf [2] S1920x8 (absf v) 0xFF800000#32 reduces_S1920x8x160_S1920x8 (.inl rfl) rfl (ix2 n h)
      = Finset.fold max (Ideal.ofBits .f32 0xFF800000#32) (fun d => max (v (ix3 n h d)) (-(v (ix3 n h d)))) Finset.univ := by
  pointwise
  rfl

/-- The same maxima with the reduced axis kept. -/
theorem keep_at (v : FVec Ideal S1920x8 .f32) (n : Fin 1920) (h : Fin 8) :
    shapeCast S1920x8x1 v shapeCasts_S1920x8_S1920x8x1 (ix3 n h 0) = v (ix2 n h) := by
  pointwise

variable (v0 : Vec Ideal S1920x6144 .fp8e4m3) (v2 : Vec Ideal S6144x1280 .fp8e4m3) (v4 : Vec Ideal S1920x1 .f32)
  (v8 : Vec Ideal S1x1280 .f32)

/-- An entry of the projection. -/
theorem proj_at (n : Fin 1920) (h : Fin 8) (d : Fin 160) :
    k0_pay3 v0 v2 v4 v8 (ix3 n h d)
      = (∑ k : Fin 6144, (v0 (ix2 n k) : EReal) * v2 (ix2 k (⟨h.val * 160 + d.val, by omega⟩ : Fin 1280)))
        * v4 (ix2 n 0) * v8 (ix2 0 (⟨h.val * 160 + d.val, by omega⟩ : Fin 1280)) := by
  unfold k0_pay3
  rw [heads_at]
  pointwise

/-- The exponents, of the reduced maxima as a vector. -/
def expos (s : FVec Ideal S1920x8x1 .f32) : FVec Ideal S1920x8x1 .f32 :=
  select (andi (cmpf .oge s (broadcast S1920x8x1 (Scalar.ofBits .f32 0x00800000#32))) (cmpf .olt s (broadcast S1920x8x1 (Scalar.ofBits .f32 0x7E800000#32))))
    (addf (floor (divf (log s) (broadcast S1920x8x1 (Scalar.log (Scalar.ofBits .f32 0x40000000#32))))) (broadcast S1920x8x1 (Scalar.ofBits .f32 0x3F800000#32)))
    (broadcast S1920x8x1 (Scalar.ofBits .f32 0x00000000#32))

/-- They are the specification's, entry by entry. -/
theorem expos_at (s : FVec Ideal S1920x8x1 .f32) (j : S1920x8x1.Idx) : expos s j = Scale.refExpo (s j) := by
  rfl

/-- The body's exponents are these. -/
theorem pay4_eq : k0_pay4 v0 v2 v4 v8 = expos (mulf (shapeCast S1920x8x1 (multiReduction .maximumf [2] S1920x8 (absf (k0_pay3 v0 v2 v4 v8)) 0xFF800000#32 reduces_S1920x8x160_S1920x8 (.inl rfl) rfl) shapeCasts_S1920x8_S1920x8x1) (broadcast S1920x8x1 (Scalar.ofBits .f32 0x3B124925#32))) := by
  unfold k0_pay4 expos
  with_reducible rfl

/-- A product with a constant, entry by entry. -/
theorem times_at (z : FVec Ideal S1920x8x1 .f32) (w : BitVec 32) (j : S1920x8x1.Idx) :
    mulf z (broadcast S1920x8x1 (Scalar.ofBits .f32 w)) j = (z j * Ideal.ofBits .f32 w : EReal) := by
  rfl

/-- The exponent of a head's scale. -/
theorem expo_at (n : Fin 1920) (h : Fin 8) :
    k0_pay4 v0 v2 v4 v8 (ix3 n h 0) = Scale.refExpo (Spec.top fun d => k0_pay3 v0 v2 v4 v8 (ix3 n h d)) := by
  rw [pay4_eq, expos_at, times_at, keep_at, amax_at]
  unfold Spec.top
  with_reducible rfl

/-- The clipped quotients, of the exponents and the projection as vectors. -/
theorem clip_at (e : FVec Ideal S1920x8x1 .f32) (y : FVec Ideal S1920x8x160 .f32) (n : Fin 1920) (h : Fin 8) (d : Fin 160) :
    k0_pay1 (minimumf (broadcast S1920x8x160 (Scalar.ofBits .f32 0x43E00000#32)) (maximumf (broadcast S1920x8x160 (Scalar.ofBits .f32 0xC3E00000#32))
        (mulf y (broadcastTo S1920x8x160 (exp2 (subf (broadcast S1920x8x1 (Scalar.ofBits .f32 0x00000000#32)) e)) broadcasts_S1920x8x1_S1920x8x160)))) (ix3 n h d)
      = (min (Ideal.ofBits .f32 0x43E00000#32) (max (Ideal.ofBits .f32 0xC3E00000#32)
          (y (ix3 n h d) * Ideal.exp2 (Ideal.ofBits .f32 0x00000000#32 - e (ix3 n h 0)))) : EReal) := by
  unfold k0_pay1
  pointwise
  rfl

/-- The body's clipped quotients are these. -/
theorem pay6_eq : k0_pay6 v0 v2 v4 v8 = minimumf (broadcast S1920x8x160 (Scalar.ofBits .f32 0x43E00000#32)) (maximumf (broadcast S1920x8x160 (Scalar.ofBits .f32 0xC3E00000#32))
        (mulf (k0_pay3 v0 v2 v4 v8) (broadcastTo S1920x8x160 (exp2 (subf (broadcast S1920x8x1 (Scalar.ofBits .f32 0x00000000#32)) (k0_pay4 v0 v2 v4 v8))) broadcasts_S1920x8x1_S1920x8x160))) := by
  unfold k0_pay6
  with_reducible rfl

/-- A head's code. -/
theorem code_at (n : Fin 1920) (h : Fin 8) (d : Fin 160) :
    k0_pay1 (k0_pay6 v0 v2 v4 v8) (ix3 n h d) = Spec.code (fun d => k0_pay3 v0 v2 v4 v8 (ix3 n h d)) d := by
  rw [pay6_eq, clip_at, expo_at]
  unfold Spec.code
  with_reducible rfl

/-- The scales stored, read off the exponents. -/
theorem pow_at (e : FVec Ideal S1920x8x1 .f32) (n : Fin 1920) (h : Fin 8) : k0_pay2 (exp2 e) (ix2 n h) = (Ideal.exp2 (e (ix3 n h 0)) : EReal) := by
  unfold k0_pay2
  pointwise
  rfl

/-- A head's scale. -/
theorem scale_at (n : Fin 1920) (h : Fin 8) :
    k0_pay2 (k0_pay5 v0 v2 v4 v8) (ix2 n h) = Spec.scale (fun d => k0_pay3 v0 v2 v4 v8 (ix3 n h d)) := by
  unfold k0_pay5 Spec.scale
  rw [pow_at, expo_at]

/-! ## What is loaded and stored whole -/

theorem whole_x (x : S1920x6144.Idx) : r0_0.idx x = x := by
  funext a
  apply Fin.ext
  fin_cases a
  · show 0 + 1 * (x 0).val = (x 0).val; omega
  · show 0 + 1 * (x 1).val = (x 1).val; omega

theorem whole_xs (x : S1920x1.Idx) : r0_2.idx x = x := by
  funext a
  apply Fin.ext
  fin_cases a
  · show 0 + 1 * (x 0).val = (x 0).val; omega
  · show 0 + 1 * (x 1).val = (x 1).val; omega

theorem whole_codes (x : S1920x8x160.Idx) : r0_4.idx x = x := by
  funext a
  apply Fin.ext
  fin_cases a
  · show 0 + 1 * (x 0).val = (x 0).val; omega
  · show 0 + 1 * (x 1).val = (x 1).val; omega
  · show 0 + 1 * (x 2).val = (x 2).val; omega

theorem whole_scale (x : S1920x8.Idx) : r0_5.idx x = x := by
  funext a
  apply Fin.ext
  fin_cases a
  · show 0 + 1 * (x 0).val = (x 0).val; omega
  · show 0 + 1 * (x 1).val = (x 1).val; omega

theorem canon_4 (p : Vec Ideal S1920x8x160 .fp8e4m3) (y : S1920x8x160.Idx) : (View.canon [⟨r0_4, p⟩] : Vec Ideal S1920x8x160 .fp8e4m3) y = p y := by
  refine View.canon_apply_of_pieces p _ ?_ y (cover0_4 p y)
  intro pc hpc
  rcases List.mem_cons.mp hpc with rfl | hpc
  · exact fun y => congrArg p (whole_codes y).symm
  nomatch hpc

theorem canon_5 (p : Vec Ideal S1920x8 .f32) (y : S1920x8.Idx) : (View.canon [⟨r0_5, p⟩] : Vec Ideal S1920x8 .f32) y = p y := by
  refine View.canon_apply_of_pieces p _ ?_ y (cover0_5 p y)
  intro pc hpc
  rcases List.mem_cons.mp hpc with rfl | hpc
  · exact fun y => congrArg p (whole_scale y).symm
  nomatch hpc

end Cert.KReferenceIdeal.Rows
-- ==== Proof.KRefArr.lean ====
/-
  The two arrays the key projection's reference returns are the specification's: its call quantises every token's heads, and the
  host sends the codes and scales to the tokens' slots.
-/
module

public import proofs.«01_k».proof.Proof.KRefRows

public section

set_option maxRecDepth 16384

noncomputable section

namespace Cert.KReferenceIdeal.Arr

open Cert.KReferenceIdeal Cert.KReferenceIdeal.Gen Idealize.ShloMosaic Idealize.ShloMosaic.TcCoe Idealize.ShloMosaic.Tactic Cert.Last

variable (m : (ℓ : Loc nD τ sig) → Buf (Elt Ideal) ℓ)

/-- Every slot is one of the pool's. -/
@[expose] def InRange (x0 : (⟨2, ![3, 640]⟩ : Shape).Idx → BitVec 32) : Prop := ∀ j, (x0 j).toNat < 2400

/-- The slot of token `k`. -/
abbrev slot (c : Dev nD) : ℕ → ℕ := Spec.slotOf (m ((c : Thread nD τ).loc main_arg0))

/-- A head of a token's projected row. -/
abbrev head (c : Dev nD) : ℕ → Fin 8 → Fin 160 → EReal :=
  Spec.headOf (m ((c : Thread nD τ).loc main_arg1)) (m ((c : Thread nD τ).loc main_arg2)) (m ((c : Thread nD τ).loc main_arg3)) (m ((c : Thread nD τ).loc main_arg4)) 7680 (by decide)

/-- The codes as the specification has them, of the arguments. -/
@[expose] def G12 (c : Dev nD) : S8x160x2400.Idx → EReal := fun j =>
  Spec.poolCodes (m ((c : Thread nD τ).loc main_arg0)) (m ((c : Thread nD τ).loc main_arg1)) (m ((c : Thread nD τ).loc main_arg2)) (m ((c : Thread nD τ).loc main_arg3)) (m ((c : Thread nD τ).loc main_arg4)) 7680 (by decide) (m ((c : Thread nD τ).loc main_arg5)) (j 0) (j 1) (j 2)

/-- The scales. -/
@[expose] def G20 (c : Dev nD) : S8x2400.Idx → EReal := fun j =>
  Spec.poolScale (m ((c : Thread nD τ).loc main_arg0)) (m ((c : Thread nD τ).loc main_arg1)) (m ((c : Thread nD τ).loc main_arg2)) (m ((c : Thread nD τ).loc main_arg3)) (m ((c : Thread nD τ).loc main_arg4)) 7680 (by decide) (m ((c : Thread nD τ).loc main_arg6)) (j 0) (j 1)

/-- The only point's windows stand at the origin. -/
theorem idx : ∀ t : Fin cfg0.N, win0_0.index t = ![0, 0] ∧ win0_1.index t = ![0, 0] ∧ win0_2.index t = ![0, 0] ∧ win0_3.index t = ![0, 0]
    ∧ win0_4.index t = ![0, 0, 0] ∧ win0_5.index t = ![0, 0] :=
  (by decide +kernel : ∀ t : Fin grid0.N, win0_0.index t = ![0, 0] ∧ win0_1.index t = ![0, 0] ∧ win0_2.index t = ![0, 0] ∧ win0_3.index t = ![0, 0]
    ∧ win0_4.index t = ![0, 0, 0] ∧ win0_5.index t = ![0, 0])

/-- The tokens' codes as the call finds them, rows counted through. -/
theorem x_at (c : Dev nD) (n : Fin 1920) (k : Fin 6144) :
    V m c main_v0 (ix2 n k) = m ((c : Thread nD τ).loc main_arg1) (ix3 (⟨n.val / 640, by omega⟩ : Fin 3) (⟨n.val % 640, by omega⟩ : Fin 640) k) := by
  show StableHlo.after hostOps0 (fun b => m (c, b)) (Proc.devRef .tc main_v0) (ix2 n k) = _
  entry_read
  pointwise

/-- And their scales. -/
theorem xs_at (c : Dev nD) (n : Fin 1920) :
    V m c main_v2 (ix2 n 0) = m ((c : Thread nD τ).loc main_arg2) (ix3 (⟨n.val / 640, by omega⟩ : Fin 3) (⟨n.val % 640, by omega⟩ : Fin 640) 0) := by
  show StableHlo.after hostOps0 (fun b => m (c, b)) (Proc.devRef .tc main_v2) (ix2 n 0) = _
  entry_read
  pointwise

/-- An entry of the projection is the specification's. -/
theorem proj_at (c : Dev nD) (t : Fin cfg0.N) (n : Fin 1920) (h : Fin 8) (d : Fin 160) :
    k0_pay3 (View.ld (iblk m c 0 t) r0_0) (View.ld (iblk m c 2 t) r0_1) (View.ld (iblk m c 1 t) r0_2) (View.ld (iblk m c 3 t) r0_3) (ix3 n h d)
      = head m c n.val h d := by
  obtain ⟨h0, h1, h2, h3, -, -⟩ := idx t
  rw [Rows.proj_at]
  unfold head Spec.headOf Spec.rowOf
  rw [dif_pos n.isLt]
  unfold Spec.proj
  blk_point [iblk, V, h0, h1, h2, h3]
  · show V m c main_v0 ((win0_0.blk t).view.emb (r0_0.idx (ix2 n k))) = _
    rw [Rows.whole_x]
    have e : (win0_0.blk t).view.emb (ix2 n k) = ix2 n k := by
      blk_ext [h0]
    rw [e]
    exact x_at m c n k
  · show V m c main_v2 ((win0_1.blk t).view.emb (r0_2.idx (ix2 n 0))) = _
    rw [Rows.whole_xs]
    have e : (win0_1.blk t).view.emb (ix2 n 0) = ix2 n 0 := by
      blk_ext [h1]
    rw [e]
    exact xs_at m c n

/-- Every token's codes. -/
@[expose] def G4 (c : Dev nD) : S1920x8x160.Idx → EReal := fun j => Spec.code (head m c (j 0).val (j 1)) (j 2)

/-- Every token's scales. -/
@[expose] def G5 (c : Dev nD) : S1920x8.Idx → EReal := fun j => Spec.scale (head m c (j 0).val (j 1))

theorem G4_at (c : Dev nD) (n : Fin 1920) (h : Fin 8) (d : Fin 160) : G4 m c (ix3 n h d) = Spec.code (head m c n.val h) d := rfl

theorem G5_at (c : Dev nD) (n : Fin 1920) (h : Fin 8) : G5 m c (ix2 n h) = Spec.scale (head m c n.val h) := rfl

/-- The call's codes. -/
theorem arr4 (c : Dev nD) : (dats m 0 c).arrAt 4 cfg0.N = G4 m c := by
  refine (dats m 0 c).arrAt_eq_of_covers 4 _ (by decide +kernel) fun t hf y => ?_
  blk_simp
  rw [after0_4]
  obtain ⟨-, -, -, -, h4, -⟩ := idx t
  change S1920x8x160.Idx at y
  idx_vars y
  have e : (win0_4.blk t).view.emb (ix3 y0 y1 y2) = ix3 y0 y1 y2 := by
    blk_ext [h4]
  rw [e, G4_at]
  unfold out0_4
  refine (Rows.canon_4 _ _).trans ((Rows.code_at _ _ _ _ y0 y1 y2).trans ?_)
  exact congrArg (fun f => Spec.code f y2) (funext fun d => proj_at m c t y0 y1 d)

/-- The call's scales. -/
theorem arr5 (c : Dev nD) : (dats m 0 c).arrAt 5 cfg0.N = G5 m c := by
  refine (dats m 0 c).arrAt_eq_of_covers 5 _ (by decide +kernel) fun t hf y => ?_
  blk_simp
  rw [after0_5]
  obtain ⟨-, -, -, -, -, h5⟩ := idx t
  change S1920x8.Idx at y
  idx_vars y
  have e : (win0_5.blk t).view.emb (ix2 y0 y1) = ix2 y0 y1 := by
    blk_ext [h5]
  rw [e, G5_at]
  unfold out0_5
  refine (Rows.canon_5 _ _).trans ((Rows.scale_at _ _ _ _ y0 y1).trans ?_)
  exact congrArg (fun f => Spec.scale f) (funext fun d => proj_at m c t y0 y1 d)

/-! ## What the host does with them -/

/-- A slot in range reads the same signed, and the host's wrapping of negative indices leaves it alone. -/
theorem wrap (a b : BitVec 32) (h : a.toNat < 2400) : (Scalar.select (IntOp.cmpi .slt a 0#32) b a).toInt = (a.toNat : Int) := by
  rw [Idealize.ShloMosaic.Routing.wrap_of_lt a b (by omega)]
  rw [BitVec.toInt_eq_toNat_of_lt (by omega)]

/-- Token `k`'s slot, spelt out. -/
theorem slot_eq (x0 : (⟨2, ![3, 640]⟩ : Shape).Idx → BitVec 32) (k : Fin 1920) :
    Spec.slotOf x0 k.val = (x0 (ix2 (⟨k.val / 640, by omega⟩ : Fin 3) (⟨k.val % 640, by omega⟩ : Fin 640))).toNat := by
  unfold Spec.slotOf
  rw [dif_pos k.isLt]

variable (σ : Valuation τ sig (Elt Ideal))

/-- The codes the host returns, of what it finds. -/
theorem tail_codes (hr : InRange (σ (Proc.devRef .tc main_arg0))) (u : S1920x8x160.Idx → EReal) (hu : σ (Proc.devRef .tc main_v3_0) = u) (h : Fin 8) (d : Fin 160) (s : Fin 2400) :
    (StableHlo.after hostOps1 σ (Proc.devRef .tc main_v12) : S8x160x2400.Idx → EReal) (ix3 h d s)
      = last (Spec.slotOf (σ (Proc.devRef .tc main_arg0)))
          (fun k => if hk : k < 1920 then u (ix3 (⟨k, hk⟩ : Fin 1920) h d) else (0 : EReal))
          ((σ (Proc.devRef .tc main_arg5) : S2400x8x160.Idx → EReal) (ix3 s h d)) s.val 1920 := by
  entry_read
  pointwise
  refine Scatter.scatterC _ _ _ _ (fun k => ?_) _ s h d fun k => ?_
  · pointwise
    rw [slot_eq _ k]
    exact wrap _ _ (hr _)
  · rw [dif_pos k.isLt]
    exact congrFun hu _

/-- The scales the host returns. -/
theorem tail_scale (hr : InRange (σ (Proc.devRef .tc main_arg0))) (u : S1920x8.Idx → EReal) (hu : σ (Proc.devRef .tc main_v3_1) = u) (h : Fin 8) (s : Fin 2400) :
    (StableHlo.after hostOps1 σ (Proc.devRef .tc main_v20) : S8x2400.Idx → EReal) (ix2 h s)
      = last (Spec.slotOf (σ (Proc.devRef .tc main_arg0)))
          (fun k => if hk : k < 1920 then u (ix2 (⟨k, hk⟩ : Fin 1920) h) else (0 : EReal))
          ((σ (Proc.devRef .tc main_arg6) : S2400x8.Idx → EReal) (ix2 s h)) s.val 1920 := by
  entry_read
  pointwise
  refine Scatter.scatterS _ _ _ _ (fun k => ?_) _ s h fun k => ?_
  · pointwise
    rw [slot_eq _ k]
    exact wrap _ _ (hr _)
  · rw [dif_pos k.isLt]
    exact congrFun hu _

/-- What the host finds once the call is done. -/
abbrev exit (c : Dev nD) : Valuation τ sig (Elt Ideal) := Pipeline.withArrays spec0 c (V0 m c) fun w => (dats m 0 c).arrAt w cfg0.N

theorem exit_arg0 (c : Dev nD) : exit m c (Proc.devRef .tc main_arg0) = m ((c : Thread nD τ).loc main_arg0) :=
  (Pipeline.withArrays_of_ne _ c (V0 m c) _ main_arg0 (by exact (by decide : ∀ w, Pipeline.arrRef spec0 w ≠ main_arg0))).trans (V_main_arg0 m c)

theorem exit_arg5 (c : Dev nD) : exit m c (Proc.devRef .tc main_arg5) = m ((c : Thread nD τ).loc main_arg5) :=
  (Pipeline.withArrays_of_ne _ c (V0 m c) _ main_arg5 (by exact (by decide : ∀ w, Pipeline.arrRef spec0 w ≠ main_arg5))).trans (V_main_arg5 m c)

theorem exit_arg6 (c : Dev nD) : exit m c (Proc.devRef .tc main_arg6) = m ((c : Thread nD τ).loc main_arg6) :=
  (Pipeline.withArrays_of_ne _ c (V0 m c) _ main_arg6 (by exact (by decide : ∀ w, Pipeline.arrRef spec0 w ≠ main_arg6))).trans (V_main_arg6 m c)

theorem exit_codes (c : Dev nD) : exit m c (Proc.devRef .tc main_v3_0) = G4 m c :=
  (Pipeline.withArrays_arr spec0 (by decide) c (V0 m c) _ 4).trans (arr4 m c)

theorem exit_scale (c : Dev nD) : exit m c (Proc.devRef .tc main_v3_1) = G5 m c :=
  (Pipeline.withArrays_arr spec0 (by decide) c (V0 m c) _ 5).trans (arr5 m c)

/-- The codes' array. -/
theorem codes (c : Dev nD) (hr : InRange (m ((c : Thread nD τ).loc main_arg0))) :
    Pipeline.afterTail₀ cfgs (dats m) 0 (V0 m) [hostOps1] c main_v12 = G12 m c := by
  refine funext fun (y : S8x160x2400.Idx) => ?_
  obtain ⟨h, d, s, rfl⟩ : ∃ (h : Fin 8) (d : Fin 160) (s : Fin 2400), y = ix3 h d s := ⟨y 0, y 1, y 2, by funext a; match a with | ⟨0, _⟩ => rfl | ⟨1, _⟩ => rfl | ⟨2, _⟩ => rfl⟩
  refine (tail_codes (exit m c) (by rw [exit_arg0]; exact hr) (G4 m c) (exit_codes m c) h d s).trans ?_
  rw [exit_arg0, exit_arg5]
  show _ = last (slot m c) (fun k => Spec.code (head m c k h) d) _ s.val 1920
  refine last_congr _ _ 1920 (fun _ _ => rfl) fun k hk => ?_
  rw [dif_pos hk, G4_at]

/-- The scales' array. -/
theorem scales (c : Dev nD) (hr : InRange (m ((c : Thread nD τ).loc main_arg0))) :
    Pipeline.afterTail₀ cfgs (dats m) 0 (V0 m) [hostOps1] c main_v20 = G20 m c := by
  refine funext fun (y : S8x2400.Idx) => ?_
  obtain ⟨h, s, rfl⟩ : ∃ (h : Fin 8) (s : Fin 2400), y = ix2 h s := ⟨y 0, y 1, by funext a; match a with | ⟨0, _⟩ => rfl | ⟨1, _⟩ => rfl⟩
  refine (tail_scale (exit m c) (by rw [exit_arg0]; exact hr) (G5 m c) (exit_scale m c) h s).trans ?_
  rw [exit_arg0, exit_arg6]
  show _ = last (slot m c) (fun k => Spec.scale (head m c k h)) _ s.val 1920
  refine last_congr _ _ 1920 (fun _ _ => rfl) fun k hk => ?_
  rw [dif_pos hk, G5_at]

/-- The reference leaves the two arrays. -/
theorem run (hr : ∀ c : Dev nD, InRange (m ((c : Thread nD τ).loc main_arg0))) (ρ : Dev nD → PrngReg) :
    θ_run defs (onTc (τ := τ) (main (F := Ideal))) ⟨m, fun _ => 0, ρ⟩ fun r => ∀ c : Dev nD,
      r.2.mem ((c : Thread nD τ).loc main_v12) = G12 m c ∧ r.2.mem ((c : Thread nD τ).loc main_v20) = G20 m c :=
  (θ_run defs _ _).mono (fun _ h c => ⟨
    ((h c).2 main_v12 (Pipeline.mem_restRefs_of main_v12 (by decide) (by decide))).trans (codes m c (hr c)),
    ((h c).2 main_v20 (Pipeline.mem_restRefs_of main_v20 (by decide) (by decide))).trans (scales m c (hr c))⟩)
    (run_main m ρ)

end Cert.KReferenceIdeal.Arr
-- ==== Proof.VTile.lean ====
/-
  One tile of 128 slots of the value projection: the gathered rows `R`, read as ten square pieces, each turned over, put one
  under the other and cut into eight heads; each head's vector scaled and clipped, and kept where the slot was written.
-/
module

public import proofs.«01_k».proof.Proof.VRows
public import proofs.«01_k».proof.Proof.Tile

public section

set_option maxRecDepth 16384

noncomputable section

namespace Cert.VProjIdeal.VTile

open Cert.VProjIdeal Cert.VProjIdeal.Gen Idealize.ShloMosaic
open Cert.KernelIdeal.Tile (tops tops_at stack column heads_at column_at)

/-- The new entry where the slot was written, the old one elsewhere. -/
@[expose] def mix (hit : BitVec 32) (new old : EReal) : EReal := Scalar.select (IntOp.cmpi .ne hit 0#32) new old

/-- The codes of a tile. -/
@[expose] def codes (w : FVec Ideal S8x160x128 .f32) : FVec Ideal S8x160x128 .fp8e4m3 :=
  truncf .fp8e4m3
    (minimumf (broadcast S8x160x128 (Scalar.ofBits .f32 0x43E00000#32))
      (maximumf (broadcast S8x160x128 (Scalar.ofBits .f32 0xC3E00000#32))
        (mulf w (broadcastTo S8x160x128 (shapeCast S8x1x128 (Ladder.down (tops w)) shapeCasts_S8x128_S8x1x128)
          broadcasts_S8x1x128_S8x160x128))))
    bitsLt_fp8e4m3_f32

theorem codes_at (w : FVec Ideal S8x160x128 .f32) (h : Fin 8) (d : Fin 160) (r : Fin 128) :
    codes w (ix3 h d r) = Spec.code (fun d => w (ix3 h d r)) d := by
  unfold Spec.code
  rw [← tops_at, ← Ladder.down_at]
  generalize hg : Ladder.down (tops w) = g
  unfold codes
  rw [hg]
  pointwise

theorem scales_at (w : FVec Ideal S8x160x128 .f32) (h : Fin 8) (r : Fin 128) :
    Ladder.up (tops w) (ix2 h r) = Spec.scale (fun d => w (ix3 h d r)) := by
  unfold Spec.scale
  rw [← tops_at, ← Ladder.up_at]

/-- A whole tile's stored codes, from the new codes, the tile's hits and the old codes. -/
@[expose] def mixCodes (q : FVec Ideal S8x160x128 .fp8e4m3) (hit : Vec Ideal S1x128 .i32) (old : Vec Ideal S8x160x128 .fp8e4m3) :
    FVec Ideal S8x160x128 .fp8e4m3 :=
  truncf .fp8e4m3
    (select
      (broadcastTo S8x160x128
        (shapeCast S1x1x128
          (shapeCast S1x1x128 (cmpi .ne (shapeCast S1x128 hit shapeCasts_S1x128_S1x128) (broadcast S1x128 0#32))
            shapeCasts_S1x128_S1x1x128) shapeCasts_S1x1x128_S1x1x128) broadcasts_S1x1x128_S8x160x128)
      (extf .f32 q bitsLt_fp8e4m3_f32)
      (extf .f32 (shapeCast S8x160x128 old shapeCasts_S8x160x128_S8x160x128) bitsLt_fp8e4m3_f32))
    bitsLt_fp8e4m3_f32

theorem mixCodes_at (q : FVec Ideal S8x160x128 .fp8e4m3) (hit : Vec Ideal S1x128 .i32) (old : Vec Ideal S8x160x128 .fp8e4m3)
    (h : Fin 8) (d : Fin 160) (r : Fin 128) :
    mixCodes q hit old (ix3 h d r) = mix (hit (ix2 0 r)) (q (ix3 h d r)) (old (ix3 h d r)) := by
  unfold mix
  pointwise [mixCodes]

/-- A whole tile's stored scales. -/
@[expose] def mixScales (q : FVec Ideal S8x128 .f32) (hit : Vec Ideal S1x128 .i32) (old : Vec Ideal S8x128 .f32) :
    FVec Ideal S8x128 .f32 :=
  select
    (broadcastTo S8x128
      (shapeCast S1x128 (cmpi .ne (shapeCast S1x128 hit shapeCasts_S1x128_S1x128) (broadcast S1x128 0#32))
        shapeCasts_S1x128_S1x128) broadcasts_S1x128_S8x128)
    q (shapeCast S8x128 old shapeCasts_S8x128_S8x128)

theorem mixScales_at (q : FVec Ideal S8x128 .f32) (hit : Vec Ideal S1x128 .i32) (old : Vec Ideal S8x128 .f32)
    (h : Fin 8) (r : Fin 128) :
    mixScales q hit old (ix2 h r) = mix (hit (ix2 0 r)) (q (ix2 h r)) (old (ix2 h r)) := by
  unfold mix
  pointwise [mixScales]

/-- The last tile's stored codes: its first 96 slots. -/
@[expose] def lastCodes (q : FVec Ideal S8x160x128 .fp8e4m3) (hit : Vec Ideal S1x96 .i32) (old : Vec Ideal S8x160x96 .fp8e4m3) :
    FVec Ideal S8x160x96 .fp8e4m3 :=
  truncf .fp8e4m3
    (select
      (broadcastTo S8x160x96
        (shapeCast S1x1x96
          (shapeCast S1x1x96 (cmpi .ne (shapeCast S1x96 hit shapeCasts_S1x96_S1x96) (broadcast S1x96 0#32))
            shapeCasts_S1x96_S1x1x96) shapeCasts_S1x1x96_S1x1x96) broadcasts_S1x1x96_S8x160x96)
      (extf .f32 (extractStridedSlice S8x160x96 ![0, 0, 0] q slices_S8x160x128_o0_0_0_S8x160x96) bitsLt_fp8e4m3_f32)
      (extf .f32 (shapeCast S8x160x96 old shapeCasts_S8x160x96_S8x160x96) bitsLt_fp8e4m3_f32))
    bitsLt_fp8e4m3_f32

theorem lastCodes_at (q : FVec Ideal S8x160x128 .fp8e4m3) (hit : Vec Ideal S1x96 .i32) (old : Vec Ideal S8x160x96 .fp8e4m3)
    (h : Fin 8) (d : Fin 160) (r : Fin 96) :
    lastCodes q hit old (ix3 h d r) = mix (hit (ix2 0 r)) (q (ix3 h d (⟨r.val, by omega⟩ : Fin 128))) (old (ix3 h d r)) := by
  unfold mix
  pointwise [lastCodes]

/-- The last tile's stored scales. -/
@[expose] def lastScales (q : FVec Ideal S8x128 .f32) (hit : Vec Ideal S1x96 .i32) (old : Vec Ideal S8x96 .f32) :
    FVec Ideal S8x96 .f32 :=
  select
    (broadcastTo S8x96
      (shapeCast S1x96 (cmpi .ne (shapeCast S1x96 hit shapeCasts_S1x96_S1x96) (broadcast S1x96 0#32))
        shapeCasts_S1x96_S1x96) broadcasts_S1x96_S8x96)
    (extractStridedSlice S8x96 ![0, 0] q slices_S8x128_o0_0_S8x96) (shapeCast S8x96 old shapeCasts_S8x96_S8x96)

theorem lastScales_at (q : FVec Ideal S8x128 .f32) (hit : Vec Ideal S1x96 .i32) (old : Vec Ideal S8x96 .f32)
    (h : Fin 8) (r : Fin 96) :
    lastScales q hit old (ix2 h r) = mix (hit (ix2 0 r)) (q (ix2 h (⟨r.val, by omega⟩ : Fin 128))) (old (ix2 h r)) := by
  unfold mix
  pointwise [lastScales]

/-- Entry `n` of the row gathered for slot `s`. -/
@[expose] def entry (R : Vec Ideal S24360x128 .f32) (s : Fin 2400) (n : Fin 1280) : EReal :=
  R (gatherIx (⟨s.val, by omega⟩ : Fin 2436) (⟨n.val / 128, by omega⟩ : Fin 10) (⟨n.val % 128, by omega⟩ : Fin 128))

/-- Head `h` of the row gathered for slot `s`. -/
@[expose] def head (R : Vec Ideal S24360x128 .f32) (s : Fin 2400) (h : Fin 8) : Fin 160 → EReal :=
  fun d => entry R s (⟨160 * h.val + d.val, by omega⟩ : Fin 1280)

theorem pieces_inb (t : Fin 19) (c : Fin 10) : ∀ a, (![2436 * c.val + 128 * t.val, 0] : Fin 2 → ℕ) a + S128x128.size a ≤ S24360x128.size a
  | ⟨0, _⟩ => by show 2436 * c.val + 128 * t.val + 128 ≤ 24360; omega
  | ⟨1, _⟩ => by show 0 + 128 ≤ 128; omega

/-- Square piece `c` of tile `t`. -/
@[expose] def piece (R : Vec Ideal S24360x128 .f32) (t : Fin 19) (c : Fin 10) : Vec Ideal S128x128 .f32 :=
  View.ld R (Rect.unit (s := S24360x128) ![2436 * c.val + 128 * t.val, 0] S128x128.size (pieces_inb t c))

theorem piece_at (R : Vec Ideal S24360x128 .f32) (t : Fin 19) (c : Fin 10) (r l : Fin 128) :
    piece R t c (ix2 r l) = R (ix2 (⟨2436 * c.val + 128 * t.val + r.val, by omega⟩ : Fin 24360) l) := by
  refine congrArg R (funext fun a => Fin.ext ?_)
  match a with
  | ⟨0, _⟩ => show 2436 * c.val + 128 * t.val + 1 * r.val = _; show _ = 2436 * c.val + 128 * t.val + r.val; omega
  | ⟨1, _⟩ => show 0 + 1 * l.val = l.val; omega

/-- A tile's vectors are the heads of its slots' rows. -/
theorem stack_at (R : Vec Ideal S24360x128 .f32) (t : Fin 19) (h : Fin 8) (d : Fin 160) (r : Fin 128) (s : Fin 2400)
    (hs : s.val = 128 * t.val + r.val) :
    stack (piece R t) (ix3 h d r) = head R s h d := by
  have hh := h.isLt; have hd := d.isLt
  unfold stack
  rw [heads_at, column_at]
  refine Eq.trans (?_ : _ = piece R t (⟨(160 * h.val + d.val) / 128, by omega⟩ : Fin 10) (ix2 r (⟨(160 * h.val + d.val) % 128, by omega⟩ : Fin 128))) ?_
  · pointwise
  rw [piece_at]
  refine congrArg R (funext fun a => Fin.ext ?_)
  match a with
  | ⟨0, _⟩ => show 2436 * ((160 * h.val + d.val) / 128) + 128 * t.val + r.val = 2436 * ((160 * h.val + d.val) / 128) + s.val; omega
  | ⟨1, _⟩ => rfl

/-- The codes the last point leaves, from the gathered rows, the hits and the old codes. -/
@[expose] def allCodes (R : Vec Ideal S24360x128 .f32) (hit : Vec Ideal S1x2400 .i32) (old : Vec Ideal S8x160x2400 .fp8e4m3) : Vec Ideal S8x160x2400 .fp8e4m3 :=
  fun j => mix (hit (ix2 (0 : Fin 1) (j 2 : Fin 2400))) (Spec.code (n := 160) (head R (j 2) (j 0)) (j 1)) (old j)

/-- The scales the last point leaves. -/
@[expose] def allScales (R : Vec Ideal S24360x128 .f32) (hit : Vec Ideal S1x2400 .i32) (old : Vec Ideal S8x2400 .f32) : Vec Ideal S8x2400 .f32 :=
  fun j => mix (hit (ix2 (0 : Fin 1) (j 1 : Fin 2400))) (Spec.scale (n := 160) (head R (j 1) (j 0))) (old j)

theorem cut2 (t : Fin 18) : 128 * t.val + 128 ≤ 2400 := by omega

theorem codes_inb (o n : ℕ) (h : o + n ≤ 2400) : ∀ a, (![0, 0, o] : Fin 3 → ℕ) a + (![8, 160, n] : Fin 3 → ℕ) a ≤ S8x160x2400.size a
  | ⟨0, _⟩ => by show 0 + 8 ≤ 8; omega
  | ⟨1, _⟩ => by show 0 + 160 ≤ 160; omega
  | ⟨2, _⟩ => by show o + n ≤ 2400; omega

theorem scales_inb (o n : ℕ) (h : o + n ≤ 2400) : ∀ a, (![0, o] : Fin 2 → ℕ) a + (![8, n] : Fin 2 → ℕ) a ≤ S8x2400.size a
  | ⟨0, _⟩ => by show 0 + 8 ≤ 8; omega
  | ⟨1, _⟩ => by show o + n ≤ 2400; omega

theorem hits_inb (o n : ℕ) (h : o + n ≤ 2400) : ∀ a, (![0, o] : Fin 2 → ℕ) a + (![1, n] : Fin 2 → ℕ) a ≤ S1x2400.size a
  | ⟨0, _⟩ => by show 0 + 1 ≤ 1; omega
  | ⟨1, _⟩ => by show o + n ≤ 2400; omega

/-- The rectangle of the codes' slots `o … o + n - 1`. -/
abbrev codesRect (o n : ℕ) (h : o + n ≤ 2400) : Rect S8x160x2400 := Rect.unit (s := S8x160x2400) ![0, 0, o] ![8, 160, n] (codes_inb o n h)
/-- The rectangle of the scales' slots. -/
abbrev scalesRect (o n : ℕ) (h : o + n ≤ 2400) : Rect S8x2400 := Rect.unit (s := S8x2400) ![0, o] ![8, n] (scales_inb o n h)
/-- The rectangle of the hits' slots. -/
abbrev hitsRect (o n : ℕ) (h : o + n ≤ 2400) : Rect S1x2400 := Rect.unit (s := S1x2400) ![0, o] ![1, n] (hits_inb o n h)

theorem codes_emb (o n : ℕ) (h : o + n ≤ 2400) (a : Fin 8) (d : Fin 160) (r : Fin n) :
    (codesRect o n h).emb (ix3 a d r) = ix3 a d (⟨o + r.val, by omega⟩ : Fin 2400) := by
  funext b; apply Fin.ext
  match b with
  | ⟨0, _⟩ => show 0 + 1 * a.val = a.val; omega
  | ⟨1, _⟩ => show 0 + 1 * d.val = d.val; omega
  | ⟨2, _⟩ => show o + 1 * r.val = o + r.val; omega

theorem scales_emb (o n : ℕ) (h : o + n ≤ 2400) (a : Fin 8) (r : Fin n) :
    (scalesRect o n h).emb (ix2 a r) = ix2 a (⟨o + r.val, by omega⟩ : Fin 2400) := by
  funext b; apply Fin.ext
  match b with
  | ⟨0, _⟩ => show 0 + 1 * a.val = a.val; omega
  | ⟨1, _⟩ => show o + 1 * r.val = o + r.val; omega

theorem hits_emb (o n : ℕ) (h : o + n ≤ 2400) (a : Fin 1) (r : Fin n) :
    (hitsRect o n h).emb (ix2 a r) = ix2 a (⟨o + r.val, by omega⟩ : Fin 2400) := by
  funext b; apply Fin.ext
  match b with
  | ⟨0, _⟩ => show 0 + 1 * a.val = a.val; omega
  | ⟨1, _⟩ => show o + 1 * r.val = o + r.val; omega

/-- Tile `t`'s stored codes are the call's at its 128 slots. -/
theorem codes_tile (R : Vec Ideal S24360x128 .f32) (hit : Vec Ideal S1x2400 .i32) (old : Vec Ideal S8x160x2400 .fp8e4m3) (t : Fin 18) (x : S8x160x128.Idx) :
    mixCodes (codes (stack (piece R (⟨t.val, by omega⟩ : Fin 19)))) (View.ld hit (hitsRect (128 * t.val) 128 (cut2 t))) (View.ld old (codesRect (128 * t.val) 128 (cut2 t))) x
      = allCodes R hit old ((codesRect (128 * t.val) 128 (cut2 t)).emb x) := by
  idx_vars x
  rw [mixCodes_at, codes_at]
  refine Eq.trans ?_ (congrArg (allCodes R hit old) (codes_emb (128 * t.val) 128 (cut2 t) x0 x1 x2)).symm
  unfold allCodes
  refine congr (congr (congrArg mix ?_) ?_) ?_
  · exact congrArg hit (hits_emb (128 * t.val) 128 (cut2 t) 0 x2)
  · exact congrArg (fun f => Spec.code f x1) (funext fun d => stack_at R _ x0 d x2 _ rfl)
  · exact congrArg old (codes_emb (128 * t.val) 128 (cut2 t) x0 x1 x2)

/-- Tile `t`'s stored scales are the call's at its 128 slots. -/
theorem scales_tile (R : Vec Ideal S24360x128 .f32) (hit : Vec Ideal S1x2400 .i32) (old : Vec Ideal S8x2400 .f32) (t : Fin 18) (x : S8x128.Idx) :
    mixScales (Ladder.up (tops (stack (piece R (⟨t.val, by omega⟩ : Fin 19))))) (View.ld hit (hitsRect (128 * t.val) 128 (cut2 t))) (View.ld old (scalesRect (128 * t.val) 128 (cut2 t))) x
      = allScales R hit old ((scalesRect (128 * t.val) 128 (cut2 t)).emb x) := by
  idx_vars x
  rw [mixScales_at, scales_at]
  refine Eq.trans ?_ (congrArg (allScales R hit old) (scales_emb (128 * t.val) 128 (cut2 t) x0 x1)).symm
  unfold allScales
  refine congr (congr (congrArg mix ?_) ?_) ?_
  · exact congrArg hit (hits_emb (128 * t.val) 128 (cut2 t) 0 x1)
  · exact congrArg Spec.scale (funext fun d => stack_at R _ x0 d x1 _ rfl)
  · exact congrArg old (scales_emb (128 * t.val) 128 (cut2 t) x0 x1)

/-- The last tile's stored codes are the call's at its 96 slots. -/
theorem codes_last (R : Vec Ideal S24360x128 .f32) (hit : Vec Ideal S1x2400 .i32) (old : Vec Ideal S8x160x2400 .fp8e4m3) (x : S8x160x96.Idx) :
    lastCodes (codes (stack (piece R 18))) (View.ld hit (hitsRect 2304 96 (by decide))) (View.ld old (codesRect 2304 96 (by decide))) x
      = allCodes R hit old ((codesRect 2304 96 (by decide)).emb x) := by
  idx_vars x
  rw [lastCodes_at, codes_at]
  refine Eq.trans ?_ (congrArg (allCodes R hit old) (codes_emb 2304 96 (by decide) x0 x1 x2)).symm
  unfold allCodes
  refine congr (congr (congrArg mix ?_) ?_) ?_
  · exact congrArg hit (hits_emb 2304 96 (by decide) 0 x2)
  · exact congrArg (fun f => Spec.code f x1) (funext fun d => stack_at R _ x0 d _ _ rfl)
  · exact congrArg old (codes_emb 2304 96 (by decide) x0 x1 x2)

/-- The last tile's stored scales are the call's at its 96 slots. -/
theorem scales_last (R : Vec Ideal S24360x128 .f32) (hit : Vec Ideal S1x2400 .i32) (old : Vec Ideal S8x2400 .f32) (x : S8x96.Idx) :
    lastScales (Ladder.up (tops (stack (piece R 18)))) (View.ld hit (hitsRect 2304 96 (by decide))) (View.ld old (scalesRect 2304 96 (by decide))) x
      = allScales R hit old ((scalesRect 2304 96 (by decide)).emb x) := by
  idx_vars x
  rw [lastScales_at, scales_at]
  refine Eq.trans ?_ (congrArg (allScales R hit old) (scales_emb 2304 96 (by decide) x0 x1)).symm
  unfold allScales
  refine congr (congr (congrArg mix ?_) ?_) ?_
  · exact congrArg hit (hits_emb 2304 96 (by decide) 0 x1)
  · exact congrArg Spec.scale (funext fun d => stack_at R _ x0 d _ _ rfl)
  · exact congrArg old (scales_emb 2304 96 (by decide) x0 x1)

end Cert.VProjIdeal.VTile
-- ==== Proof.VOut.lean ====
/-
  What the last point of the value projection leaves in its two results: its nineteen tiles, each at its own slots, are one
  function of the gathered rows.
-/
module

public import proofs.«01_k».proof.Proof.VFrame
public import proofs.«01_k».proof.Proof.VTile

public section

set_option maxRecDepth 16384

noncomputable section

namespace Cert.VProjIdeal.VTile

open Cert.VProjIdeal Cert.VProjIdeal.Gen Idealize.ShloMosaic Idealize.ShloMosaic.TcCoe Idealize.ShloMosaic.Tactic

set_option maxHeartbeats 16000000 in
/-- What the last point leaves in the scales. -/
theorem out9 (c : Dev nD) (i : grid0.Coords) (arg1 : Memref sig .tc .smem S3x640 .i32) (harg1 : arg1.IsWhole) (arg2 : Memref sig .tc .vmem S1x640x6144 .fp8e4m3) (harg2 : arg2.IsWhole) (arg3 : Memref sig .tc .vmem S1x640x128 .f32) (harg3 : arg3.IsWhole) (arg4 : Memref sig .tc .vmem S6144x1280 .fp8e4m3) (harg4 : arg4.IsWhole) (arg5 : Memref sig .tc .vmem S1x1280 .f32) (harg5 : arg5.IsWhole) (arg6 : Memref sig .tc .vmem S1x2400 .i32) (harg6 : arg6.IsWhole) (arg7 : Memref sig .tc .vmem S8x160x2400 .fp8e4m3) (harg7 : arg7.IsWhole) (arg8 : Memref sig .tc .vmem S8x2400 .f32) (harg8 : arg8.IsWhole) (arg9 : Memref sig .tc .vmem S8x160x2400 .fp8e4m3) (harg9 : arg9.IsWhole) (arg10 : Memref sig .tc .vmem S8x2400 .f32) (harg10 : arg10.IsWhole) (arg11 : Memref sig .tc .vmem S6440x128 .f32) (harg11 : arg11.IsWhole) (arg12 : Memref sig .tc .vmem S24360x128 .f32) (harg12 : arg12.IsWhole) (hc0 : ¬cond0_0 i) (hc1 : cond0_1 i)
    (x0 : Vec Ideal S3x640 .i32) (x1 : Vec Ideal S1x640x6144 .fp8e4m3) (x2 : Vec Ideal S1x640x128 .f32) (x3 : Vec Ideal S6144x1280 .fp8e4m3) (x4 : Vec Ideal S1x1280 .f32) (x5 : Vec Ideal S1x2400 .i32) (x6 : Vec Ideal S8x160x2400 .fp8e4m3) (x7 : Vec Ideal S8x2400 .f32) (R : Vec Ideal S24360x128 .f32) (hw : ∀ k, k0_chk1 (word (F := Ideal) i arg1 (harg1.unread x0) k)) :
    out0_C_9 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 R hw = allScales R x5 x7 := by
  unfold out0_C_9
  rw [View.read_writes_eq_canon _ _ _ (cover0_C_9 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 R hw)]
  funext j
  refine View.canon_apply_of_pieces (allScales R x5 x7) _ ?_ j (cover0_C_9 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 R hw j)
  unfold kernelRun0_C
  dsimp only
  sl_unfold_words
  simp only [View.readAt_eq_ld, harg6.read_unread, harg7.read_unread, harg8.read_unread, harg12.read_unread]
  intro pc hpc
  rcases List.mem_cons.mp hpc with rfl | hpc
  · exact fun x => scales_last R x5 x7 x
  rcases List.mem_cons.mp hpc with rfl | hpc
  · exact fun x => scales_tile R x5 x7 17 x
  rcases List.mem_cons.mp hpc with rfl | hpc
  · exact fun x => scales_tile R x5 x7 16 x
  rcases List.mem_cons.mp hpc with rfl | hpc
  · exact fun x => scales_tile R x5 x7 15 x
  rcases List.mem_cons.mp hpc with rfl | hpc
  · exact fun x => scales_tile R x5 x7 14 x
  rcases List.mem_cons.mp hpc with rfl | hpc
  · exact fun x => scales_tile R x5 x7 13 x
  rcases List.mem_cons.mp hpc with rfl | hpc
  · exact fun x => scales_tile R x5 x7 12 x
  rcases List.mem_cons.mp hpc with rfl | hpc
  · exact fun x => scales_tile R x5 x7 11 x
  rcases List.mem_cons.mp hpc with rfl | hpc
  · exact fun x => scales_tile R x5 x7 10 x
  rcases List.mem_cons.mp hpc with rfl | hpc
  · exact fun x => scales_tile R x5 x7 9 x
  rcases List.mem_cons.mp hpc with rfl | hpc
  · exact fun x => scales_tile R x5 x7 8 x
  rcases List.mem_cons.mp hpc with rfl | hpc
  · exact fun x => scales_tile R x5 x7 7 x
  rcases List.mem_cons.mp hpc with rfl | hpc
  · exact fun x => scales_tile R x5 x7 6 x
  rcases List.mem_cons.mp hpc with rfl | hpc
  · exact fun x => scales_tile R x5 x7 5 x
  rcases List.mem_cons.mp hpc with rfl | hpc
  · exact fun x => scales_tile R x5 x7 4 x
  rcases List.mem_cons.mp hpc with rfl | hpc
  · exact fun x => scales_tile R x5 x7 3 x
  rcases List.mem_cons.mp hpc with rfl | hpc
  · exact fun x => scales_tile R x5 x7 2 x
  rcases List.mem_cons.mp hpc with rfl | hpc
  · exact fun x => scales_tile R x5 x7 1 x
  rcases List.mem_cons.mp hpc with rfl | hpc
  · exact fun x => scales_tile R x5 x7 0 x
  nomatch hpc

set_option maxHeartbeats 16000000 in
/-- What the last point leaves in the codes. -/
theorem out8 (c : Dev nD) (i : grid0.Coords) (arg1 : Memref sig .tc .smem S3x640 .i32) (harg1 : arg1.IsWhole) (arg2 : Memref sig .tc .vmem S1x640x6144 .fp8e4m3) (harg2 : arg2.IsWhole) (arg3 : Memref sig .tc .vmem S1x640x128 .f32) (harg3 : arg3.IsWhole) (arg4 : Memref sig .tc .vmem S6144x1280 .fp8e4m3) (harg4 : arg4.IsWhole) (arg5 : Memref sig .tc .vmem S1x1280 .f32) (harg5 : arg5.IsWhole) (arg6 : Memref sig .tc .vmem S1x2400 .i32) (harg6 : arg6.IsWhole) (arg7 : Memref sig .tc .vmem S8x160x2400 .fp8e4m3) (harg7 : arg7.IsWhole) (arg8 : Memref sig .tc .vmem S8x2400 .f32) (harg8 : arg8.IsWhole) (arg9 : Memref sig .tc .vmem S8x160x2400 .fp8e4m3) (harg9 : arg9.IsWhole) (arg10 : Memref sig .tc .vmem S8x2400 .f32) (harg10 : arg10.IsWhole) (arg11 : Memref sig .tc .vmem S6440x128 .f32) (harg11 : arg11.IsWhole) (arg12 : Memref sig .tc .vmem S24360x128 .f32) (harg12 : arg12.IsWhole) (hc0 : ¬cond0_0 i) (hc1 : cond0_1 i)
    (x0 : Vec Ideal S3x640 .i32) (x1 : Vec Ideal S1x640x6144 .fp8e4m3) (x2 : Vec Ideal S1x640x128 .f32) (x3 : Vec Ideal S6144x1280 .fp8e4m3) (x4 : Vec Ideal S1x1280 .f32) (x5 : Vec Ideal S1x2400 .i32) (x6 : Vec Ideal S8x160x2400 .fp8e4m3) (x7 : Vec Ideal S8x2400 .f32) (R : Vec Ideal S24360x128 .f32) (hw : ∀ k, k0_chk1 (word (F := Ideal) i arg1 (harg1.unread x0) k)) :
    out0_C_8 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 R hw = allCodes R x5 x6 := by
  unfold out0_C_8
  rw [View.read_writes_eq_canon _ _ _ (cover0_C_8 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 R hw)]
  funext j
  refine View.canon_apply_of_pieces (allCodes R x5 x6) _ ?_ j (cover0_C_8 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 R hw j)
  unfold kernelRun0_C
  dsimp only
  sl_unfold_words
  simp only [View.readAt_eq_ld, harg6.read_unread, harg7.read_unread, harg8.read_unread, harg12.read_unread]
  intro pc hpc
  rcases List.mem_cons.mp hpc with rfl | hpc
  · exact fun x => codes_last R x5 x6 x
  rcases List.mem_cons.mp hpc with rfl | hpc
  · exact fun x => codes_tile R x5 x6 17 x
  rcases List.mem_cons.mp hpc with rfl | hpc
  · exact fun x => codes_tile R x5 x6 16 x
  rcases List.mem_cons.mp hpc with rfl | hpc
  · exact fun x => codes_tile R x5 x6 15 x
  rcases List.mem_cons.mp hpc with rfl | hpc
  · exact fun x => codes_tile R x5 x6 14 x
  rcases List.mem_cons.mp hpc with rfl | hpc
  · exact fun x => codes_tile R x5 x6 13 x
  rcases List.mem_cons.mp hpc with rfl | hpc
  · exact fun x => codes_tile R x5 x6 12 x
  rcases List.mem_cons.mp hpc with rfl | hpc
  · exact fun x => codes_tile R x5 x6 11 x
  rcases List.mem_cons.mp hpc with rfl | hpc
  · exact fun x => codes_tile R x5 x6 10 x
  rcases List.mem_cons.mp hpc with rfl | hpc
  · exact fun x => codes_tile R x5 x6 9 x
  rcases List.mem_cons.mp hpc with rfl | hpc
  · exact fun x => codes_tile R x5 x6 8 x
  rcases List.mem_cons.mp hpc with rfl | hpc
  · exact fun x => codes_tile R x5 x6 7 x
  rcases List.mem_cons.mp hpc with rfl | hpc
  · exact fun x => codes_tile R x5 x6 6 x
  rcases List.mem_cons.mp hpc with rfl | hpc
  · exact fun x => codes_tile R x5 x6 5 x
  rcases List.mem_cons.mp hpc with rfl | hpc
  · exact fun x => codes_tile R x5 x6 4 x
  rcases List.mem_cons.mp hpc with rfl | hpc
  · exact fun x => codes_tile R x5 x6 3 x
  rcases List.mem_cons.mp hpc with rfl | hpc
  · exact fun x => codes_tile R x5 x6 2 x
  rcases List.mem_cons.mp hpc with rfl | hpc
  · exact fun x => codes_tile R x5 x6 1 x
  rcases List.mem_cons.mp hpc with rfl | hpc
  · exact fun x => codes_tile R x5 x6 0 x
  nomatch hpc

end Cert.VProjIdeal.VTile
-- ==== Proof.VArr.lean ====
/-
  The two arrays the value projection returns are the specification's.
-/
module

public import proofs.«01_k».proof.Proof.VOut
public import proofs.«01_k».proof.Proof.KSpec
public import Idealize.ShloMosaic.Lib.Pipeline.ValueKit

public section

set_option maxRecDepth 16384

noncomputable section

namespace Cert.VProjIdeal.Arr

open Cert.VProjIdeal Cert.VProjIdeal.Gen Idealize.ShloMosaic Idealize.ShloMosaic.TcCoe Idealize.ShloMosaic.Tactic Cert.Last

variable (m : (ℓ : Loc nD τ sig) → Buf (Elt Ideal) ℓ)

/-- The slot of token `k`. -/
abbrev slot (c : Dev nD) : ℕ → ℕ := Spec.slotOf (m ((c : Thread nD τ).loc main_arg0))

/-- An entry of a token's projected row. -/
abbrev row (c : Dev nD) : ℕ → Fin 1280 → EReal :=
  Spec.rowOf (m ((c : Thread nD τ).loc main_arg1)) (m ((c : Thread nD τ).loc main_arg2)) (m ((c : Thread nD τ).loc main_arg3)) (m ((c : Thread nD τ).loc main_arg4)) 8960 (by decide)

/-- The codes as the specification has them, of the call's arguments. -/
@[expose] def G8 (c : Dev nD) : S8x160x2400.Idx → EReal := fun j =>
  Spec.poolCodes (m ((c : Thread nD τ).loc main_arg0)) (m ((c : Thread nD τ).loc main_arg1)) (m ((c : Thread nD τ).loc main_arg2)) (m ((c : Thread nD τ).loc main_arg3)) (m ((c : Thread nD τ).loc main_arg4)) 8960 (by decide) (m ((c : Thread nD τ).loc main_arg5)) (j 0) (j 1) (j 2)

/-- The scales. -/
@[expose] def G9 (c : Dev nD) : S8x2400.Idx → EReal := fun j =>
  Spec.poolScale (m ((c : Thread nD τ).loc main_arg0)) (m ((c : Thread nD τ).loc main_arg1)) (m ((c : Thread nD τ).loc main_arg2)) (m ((c : Thread nD τ).loc main_arg3)) (m ((c : Thread nD τ).loc main_arg4)) 8960 (by decide) (m ((c : Thread nD τ).loc main_arg6)) (j 0) (j 1)

/-! ## What the host hands the call -/

/-- A slot in range reads the same signed, and the host's wrapping of negative indices leaves it alone. -/
theorem wrap (a b : BitVec 32) (h : a.toNat < 2400) : (Scalar.select (IntOp.cmpi .slt a 0#32) b a).toInt = (a.toNat : Int) := by
  rw [Idealize.ShloMosaic.Routing.wrap_of_lt a b (by omega)]
  rw [BitVec.toInt_eq_toNat_of_lt (by omega)]

/-- Token `k`'s slot, spelt out. -/
theorem slot_eq (c : Dev nD) (k : Fin 1920) :
    slot m c k.val = (m ((c : Thread nD τ).loc main_arg0) (ix2 (⟨k.val / 640, by omega⟩ : Fin 3) (⟨k.val % 640, by omega⟩ : Fin 640)) : BitVec 32).toNat := by
  unfold slot Spec.slotOf
  rw [dif_pos k.isLt]

theorem slot_lt (hs : SlotsOk m) (c : Dev nD) (k : Fin 1920) :
    (m ((c : Thread nD τ).loc main_arg0) (ix2 (⟨k.val / 640, by omega⟩ : Fin 3) (⟨k.val % 640, by omega⟩ : Fin 640)) : BitVec 32).toNat < 2400 := by
  have h := hs c (⟨k.val / 640, by omega⟩ : Fin 3) (⟨k.val % 640, by omega⟩ : Fin 640)
  have e : slotIx (⟨k.val / 640, by omega⟩ : Fin 3) (⟨k.val % 640, by omega⟩ : Fin 640) = ix2 (⟨k.val / 640, by omega⟩ : Fin 3) (⟨k.val % 640, by omega⟩ : Fin 640) := by
    funext a
    match a with
    | ⟨0, _⟩ => rfl
    | ⟨1, _⟩ => rfl
  rwa [e] at h

/-- Which slots are written: 1 at a written slot, 0 elsewhere. -/
theorem hits (hs : SlotsOk m) (c : Dev nD) (s : Fin 2400) :
    V m c main_v13 (ix2 0 s) = last (slot m c) (fun _ => 1#32) 0#32 s.val 1920 := by
  entry_read
  refine (Cert.KProjIdeal.Scatter.scatterH _ _ _ (slot m c) (fun k => ?_) (fun k => ?_) (1#32) s fun k => ?_).trans ?_
  · pointwise
    rfl
  · pointwise
    rw [slot_eq m c k]
    exact wrap _ _ (slot_lt m hs c k)
  · rfl
  · rfl

/-- The pool's codes come turned over. -/
theorem pool (c : Dev nD) (h : Fin 8) (d : Fin 160) (s : Fin 2400) :
    V m c main_v14 (ix3 h d s) = m ((c : Thread nD τ).loc main_arg5) (ix3 s h d) := by
  entry_read
  pointwise

/-- And its scales. -/
theorem spool (c : Dev nD) (h : Fin 8) (s : Fin 2400) :
    V m c main_v15 (ix2 h s) = m ((c : Thread nD τ).loc main_arg6) (ix2 s h) := by
  entry_read
  pointwise

/-- Where the windows stand at a grid point. -/
theorem idx : ∀ t : Fin cfg0.N,
    win0_1.index t = ![t.val, 0, 0] ∧ win0_2.index t = ![t.val, 0, 0] ∧ win0_3.index t = ![0, 7] ∧ win0_4.index t = ![0, 7]
    ∧ win0_5.index t = ![0, 0] ∧ win0_6.index t = ![0, 0, 0] ∧ win0_7.index t = ![0, 0] ∧ win0_8.index t = ![0, 0, 0] ∧ win0_9.index t = ![0, 0] :=
  (by decide +kernel : ∀ t : Fin grid0.N,
    win0_1.index t = ![t.val, 0, 0] ∧ win0_2.index t = ![t.val, 0, 0] ∧ win0_3.index t = ![0, 7] ∧ win0_4.index t = ![0, 7]
    ∧ win0_5.index t = ![0, 0] ∧ win0_6.index t = ![0, 0, 0] ∧ win0_7.index t = ![0, 0] ∧ win0_8.index t = ![0, 0, 0] ∧ win0_9.index t = ![0, 0])

theorem coord : ∀ t : Fin cfg0.N, (grid0.coords t 0).val = t.val := (by decide +kernel : ∀ t : Fin grid0.N, (grid0.coords t 0).val = t.val)

/-! ## The gathered rows -/

theorem place_last {α : Type} (slot : ℕ → ℕ) (y : ℕ → Fin 10 → Fin 128 → α) (R : Fin 2436 → Fin 10 → Fin 128 → α) (s : Fin 2436) (c : Fin 10) (l : Fin 128) :
    ∀ n, place slot y R n s c l = last slot (fun k => y k c l) (R s c l) s.val n
  | 0 => rfl
  | n + 1 => by
    show (if slot n = s.val then y n c l else place slot y R n s c l) = _
    rw [place_last slot y R s c l n]
    rfl

/-- A point's slots are its tokens'. -/
theorem slots_at (c : Dev nD) (t : Fin cfg0.N) (k : ℕ) (hk : k < 640) :
    slotNum (grid0.coords t) (iblk m c 0 t) k = slot m c (640 * t.val + k) := by
  have ht : t.val < 3 := t.isLt
  unfold slotNum slot Spec.slotOf
  rw [dif_pos hk, dif_pos (by omega), iblk0_at]
  refine congrArg (fun q => (m ((c : Thread nD τ).loc main_arg0) q : BitVec 32).toNat) (funext fun a => Fin.ext ?_)
  match a with
  | ⟨0, _⟩ => show (grid0.coords t 0).val = (640 * t.val + k) / 640; rw [coord]; omega
  | ⟨1, _⟩ => show k = (640 * t.val + k) % 640; omega

/-- A point's projected rows are its tokens'. -/
theorem rows_at (c : Dev nD) (t : Fin cfg0.N) (k : ℕ) (hk : k < 640) (q : Fin 10) (l : Fin 128) :
    rowNum (iblk m c 1 t) (iblk m c 2 t) (iblk m c 3 t) (iblk m c 4 t) k q l = row m c (640 * t.val + k) ⟨128 * q.val + l.val, by omega⟩ := by
  have ht : t.val < 3 := t.isLt
  obtain ⟨h1, h2, h3, h4, -⟩ := idx t
  have e0 : rowIx ⟨k, hk⟩ q l = ix2 (⟨k, hk⟩ : Fin 640) (⟨128 * q.val + l.val, by omega⟩ : Fin 1280) := by
    funext a
    match a with
    | ⟨0, _⟩ => rfl
    | ⟨1, _⟩ => rfl
  have eb : (⟨(640 * t.val + k) / 640, by omega⟩ : Fin 3) = ⟨t.val, ht⟩ := Fin.ext (by show (640 * t.val + k) / 640 = t.val; omega)
  have er : (⟨(640 * t.val + k) % 640, by omega⟩ : Fin 640) = ⟨k, hk⟩ := Fin.ext (by show (640 * t.val + k) % 640 = k; omega)
  unfold rowNum row Spec.rowOf
  rw [dif_pos hk, dif_pos (by omega), e0, eb, er]
  generalize (⟨k, hk⟩ : Fin 640) = r
  obtain ⟨n, hn⟩ : ∃ n : Fin 1280, n = ⟨128 * q.val + l.val, by omega⟩ := ⟨_, rfl⟩
  rw [← hn]
  unfold Spec.proj
  pointwise [k0_pay335]
  blk_point [iblk, V, h1, h2, h3, h4]

/-- No row is gathered at the start. -/
theorem noRows_at (q : S24360x128.Idx) : (noRows : Vec Ideal S24360x128 .f32) q = 0 := by
  unfold noRows
  pointwise [k0_pay334]

/-- The rows gathered after `n` points: each slot's last token's. -/
theorem gathered_rows (c : Dev nD) (s : Fin 2436) (q : Fin 10) (l : Fin 128) : ∀ n, n ≤ 3 →
    rowsAt m c n (gatherIx s q l) = last (slot m c) (fun k => row m c k ⟨128 * q.val + l.val, by omega⟩) 0 s.val (640 * n)
  | 0, _ => noRows_at _
  | n + 1, hn => by
    have hN : n < cfg0.N := lt_of_lt_of_eq (by omega) (show 3 = cfg0.N from N_0.symm)
    refine (congrFun (rowsAt_succ m c ⟨n, hN⟩) _).trans ?_
    refine (gathered_at _ _ _ _ _ _ _ s q l).trans ?_
    rw [place_last, show 640 * (n + 1) = 640 * n + 640 by omega, last_add]
    refine (last_congr _ _ 640 (fun k hk => slots_at m c ⟨n, hN⟩ k hk) (fun k hk => rows_at m c ⟨n, hN⟩ k hk q l)).trans ?_
    rw [gathered_rows c s q l n (by omega)]

/-- An entry of the row gathered for a slot once all points are done. -/
theorem entry_last (c : Dev nD) (s : Fin 2400) (n : Fin 1280) :
    VTile.entry (rowsAt m c 3) s n = last (slot m c) (fun k => row m c k n) 0 s.val 1920 := by
  unfold VTile.entry
  rw [gathered_rows m c _ _ _ 3 (le_refl 3)]
  have e : (⟨128 * (n.val / 128) + n.val % 128, by omega⟩ : Fin 1280) = n := Fin.ext (by show 128 * (n.val / 128) + n.val % 128 = n.val; omega)
  exact congrArg (fun z => last (slot m c) (fun k => row m c k z) 0 s.val 1920) e

/-- Where a slot is marked as written the quantity comes from the last token's rows, elsewhere the pool keeps its own. -/
theorem mix_last (slot : ℕ → ℕ) (rows : ℕ → Fin 1280 → EReal) (R : Fin 1280 → EReal) (f : (Fin 1280 → EReal) → EReal) (old : EReal) (s : ℕ)
    (hR : ∀ n, R n = last slot (fun k => rows k n) 0 s 1920) :
    VTile.mix (last slot (fun _ => 1#32) 0#32 s 1920) (f R) old = last slot (fun k => f (rows k)) old s 1920 := by
  rcases last_cases slot s 1920 with ⟨k, -, -, -, h⟩ | ⟨-, h⟩
  · rw [h, h, show R = rows k from funext fun n => (hR n).trans (h _ _)]
    rfl
  · rw [h, h]
    rfl

/-! ## The arrays -/

/-- The windows of the outputs are flushed at the last point alone. -/
theorem flush8 : ∀ t : Fin cfg0.N, (cfg0.win 8).flush t = true → t.val = 2 := by decide +kernel
theorem flush9 : ∀ t : Fin cfg0.N, (cfg0.win 9).flush t = true → t.val = 2 := by decide +kernel

/-- What the last point has of the marks. -/
theorem hit_blk (hs : SlotsOk m) (c : Dev nD) (t : Fin cfg0.N) (s : Fin 2400) : iblk m c 5 t (ix2 0 s) = last (slot m c) (fun _ => 1#32) 0#32 s.val 1920 := by
  obtain ⟨-, -, -, -, h5, -⟩ := idx t
  refine Eq.trans ?_ (hits m hs c s)
  show V m c main_v13 ((win0_5.blk t).view.emb (ix2 0 s)) = _
  have e : (win0_5.blk t).view.emb (ix2 0 s) = ix2 0 s := by
    blk_ext [h5]
  rw [e]

/-- And of the pool's codes. -/
theorem pool_blk (c : Dev nD) (t : Fin cfg0.N) (h : Fin 8) (d : Fin 160) (s : Fin 2400) : iblk m c 6 t (ix3 h d s) = m ((c : Thread nD τ).loc main_arg5) (ix3 s h d) := by
  obtain ⟨-, -, -, -, -, h6, -⟩ := idx t
  refine Eq.trans ?_ (pool m c h d s)
  show V m c main_v14 ((win0_6.blk t).view.emb (ix3 h d s)) = _
  have e : (win0_6.blk t).view.emb (ix3 h d s) = ix3 h d s := by
    blk_ext [h6]
  rw [e]

/-- And of its scales. -/
theorem spool_blk (c : Dev nD) (t : Fin cfg0.N) (h : Fin 8) (s : Fin 2400) : iblk m c 7 t (ix2 h s) = m ((c : Thread nD τ).loc main_arg6) (ix2 s h) := by
  obtain ⟨-, -, -, -, -, -, h7, -⟩ := idx t
  refine Eq.trans ?_ (spool m c h s)
  show V m c main_v15 ((win0_7.blk t).view.emb (ix2 h s)) = _
  have e : (win0_7.blk t).view.emb (ix2 h s) = ix2 h s := by
    blk_ext [h7]
  rw [e]

/-- The codes' array. -/
theorem arr8 (hs : SlotsOk m) (c : Dev nD) : (dats m hs 0 c).arrAt 8 cfg0.N = G8 m c := by
  refine (dats m hs 0 c).arrAt_eq_of_covers 8 _ (by decide +kernel) fun t hf y => ?_
  blk_simp
  have ht : t.val = 2 := flush8 t hf
  obtain ⟨-, -, -, -, -, -, -, h8, -⟩ := idx t
  rw [after0_8, outAt8_C m hs c t (fun h => absurd ((hcond0_0 t).mp h) (by omega)) ((hcond0_1 t).mpr (by omega)), VTile.out8]
  change S8x160x2400.Idx at y
  idx_vars y
  have e : (win0_8.blk t).view.emb (ix3 y0 y1 y2) = ix3 y0 y1 y2 := by
    blk_ext [h8]
  rw [e, ht]
  unfold VTile.allCodes
  refine (congr (congr (congrArg VTile.mix (hit_blk m hs c t y2)) rfl) (pool_blk m c t y0 y1 y2)).trans ?_
  exact mix_last (slot m c) (row m c) (VTile.entry (rowsAt m c 3) y2) (fun R => Spec.code (n := 160) (fun d => R ⟨160 * y0.val + d.val, by omega⟩) y1) _ _ (entry_last m c y2)

/-- The scales' array. -/
theorem arr9 (hs : SlotsOk m) (c : Dev nD) : (dats m hs 0 c).arrAt 9 cfg0.N = G9 m c := by
  refine (dats m hs 0 c).arrAt_eq_of_covers 9 _ (by decide +kernel) fun t hf y => ?_
  blk_simp
  have ht : t.val = 2 := flush9 t hf
  obtain ⟨-, -, -, -, -, -, -, -, h9⟩ := idx t
  rw [after0_9, outAt9_C m hs c t (fun h => absurd ((hcond0_0 t).mp h) (by omega)) ((hcond0_1 t).mpr (by omega)), VTile.out9]
  change S8x2400.Idx at y
  idx_vars y
  have e : (win0_9.blk t).view.emb (ix2 y0 y1) = ix2 y0 y1 := by
    blk_ext [h9]
  rw [e, ht]
  unfold VTile.allScales
  refine (congr (congr (congrArg VTile.mix (hit_blk m hs c t y1)) rfl) (spool_blk m c t y0 y1)).trans ?_
  exact mix_last (slot m c) (row m c) (VTile.entry (rowsAt m c 3) y1) (fun R => Spec.scale (n := 160) (fun d => R ⟨160 * y0.val + d.val, by omega⟩)) _ _ (entry_last m c y1)

/-- The call leaves the two arrays and keeps its arguments. -/
theorem run (hs : SlotsOk m) (ρ : Dev nD → PrngReg) : θ_run defs (onTc (τ := τ) (main (F := Ideal))) ⟨m, fun _ => 0, ρ⟩ fun r => ∀ c : Dev nD,
    r.2.mem ((c : Thread nD τ).loc main_v16_0) = G8 m c
    ∧ r.2.mem ((c : Thread nD τ).loc main_v16_1) = G9 m c
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)
    ∧ r.2.mem ((c : Thread nD τ).loc main_arg5) = m ((c : Thread nD τ).loc main_arg5)
    ∧ r.2.mem ((c : Thread nD τ).loc main_arg6) = m ((c : Thread nD τ).loc main_arg6) :=
  (θ_run defs _ _).mono (fun _ h c => ⟨((h c).1 8).trans (arr8 m hs c), ((h c).1 9).trans (arr9 m hs c),
    ((h c).1 0).trans (((dats m hs 0 c).arrAt_in 0 rfl _).trans ((A_eq m hs c 0).trans (V_main_arg0 m c))),
    ((h c).1 1).trans (((dats m hs 0 c).arrAt_in 1 rfl _).trans ((A_eq m hs c 1).trans (V_main_arg1 m c))),
    ((h c).1 2).trans (((dats m hs 0 c).arrAt_in 2 rfl _).trans ((A_eq m hs c 2).trans (V_main_arg2 m c))),
    ((h c).1 3).trans (((dats m hs 0 c).arrAt_in 3 rfl _).trans ((A_eq m hs c 3).trans (V_main_arg3 m c))),
    ((h c).1 4).trans (((dats m hs 0 c).arrAt_in 4 rfl _).trans ((A_eq m hs c 4).trans (V_main_arg4 m c))),
    ((h c).2 main_arg5 (Pipeline.mem_restRefs_of main_arg5 (by decide) (by decide))).trans (V_main_arg5 m c),
    ((h c).2 main_arg6 (Pipeline.mem_restRefs_of main_arg6 (by decide) (by decide))).trans (V_main_arg6 m c)⟩)
    (run_main m hs ρ)

end Cert.VProjIdeal.Arr
-- ==== Proof.VRefRows.lean ====
/-
  The rows of the value projection's reference: its projection as one product of all tokens, and its quantiser on them.
-/
module

public import proofs.«01_k».proof.Proof.Gen.VReferenceIdeal
public import proofs.«01_k».proof.Proof.Gen.VReferenceIdeal.Frame
public import proofs.«01_k».proof.Proof.Gen.VReferenceIdeal.Skeleton
public import proofs.«01_k».proof.Proof.Scale
public import proofs.«01_k».proof.Proof.KSpec
public import Idealize.ShloMosaic.Lib.Pointwise
public import Idealize.ShloMosaic.Lib.Pipeline.ValueKit

public section

set_option maxRecDepth 16384

noncomputable section

namespace Cert.VReferenceIdeal.Rows

open Cert.VReferenceIdeal Cert.VReferenceIdeal.Gen Idealize.ShloMosaic Idealize.ShloMosaic.TcCoe Idealize.ShloMosaic.Tactic

/-- Reading the flat product by head: column `160 h + d`. -/
theorem heads_at (v : FVec Ideal S1920x1280 .f32) (n : Fin 1920) (h : Fin 8) (d : Fin 160) :
    shapeCast S1920x8x160 v shapeCasts_S1920x1280_S1920x8x160 (ix3 n h d) = v (ix2 n (⟨h.val * 160 + d.val, by omega⟩ : Fin 1280)) := by
  pointwise

/-- The largest magnitude of a head's vector. -/
theorem amax_at (v : FVec Ideal S1920x8x160 .f32) (n : Fin 1920) (h : Fin 8) :
    multiReduction .maximumf [2] S1920x8 (absf v) 0xFF800000#32 reduces_S1920x8x160_S1920x8 (.inl rfl) rfl (ix2 n h)
      = Finset.fold max (Ideal.ofBits .f32 0xFF800000#32) (fun d => max (v (ix3 n h d)) (-(v (ix3 n h d)))) Finset.univ := by
  pointwise
  rfl

/-- The same maxima with the reduced axis kept. -/
theorem keep_at (v : FVec Ideal S1920x8 .f32) (n : Fin 1920) (h : Fin 8) :
    shapeCast S1920x8x1 v shapeCasts_S1920x8_S1920x8x1 (ix3 n h 0) = v (ix2 n h) := by
  pointwise

variable (v0 : Vec Ideal S1920x6144 .fp8e4m3) (v2 : Vec Ideal S6144x1280 .fp8e4m3) (v4 : Vec Ideal S1920x1 .f32)
  (v8 : Vec Ideal S1x1280 .f32)

/-- An entry of the projection. -/
theorem proj_at (n : Fin 1920) (h : Fin 8) (d : Fin 160) :
    k0_pay3 v0 v2 v4 v8 (ix3 n h d)
      = (∑ k : Fin 6144, (v0 (ix2 n k) : EReal) * v2 (ix2 k (⟨h.val * 160 + d.val, by omega⟩ : Fin 1280)))
        * v4 (ix2 n 0) * v8 (ix2 0 (⟨h.val * 160 + d.val, by omega⟩ : Fin 1280)) := by
  unfold k0_pay3
  rw [heads_at]
  pointwise

/-- The exponents, of the reduced maxima as a vector. -/
def expos (s : FVec Ideal S1920x8x1 .f32) : FVec Ideal S1920x8x1 .f32 :=
  select (andi (cmpf .oge s (broadcast S1920x8x1 (Scalar.ofBits .f32 0x00800000#32))) (cmpf .olt s (broadcast S1920x8x1 (Scalar.ofBits .f32 0x7E800000#32))))
    (addf (floor (divf (log s) (broadcast S1920x8x1 (Scalar.log (Scalar.ofBits .f32 0x40000000#32))))) (broadcast S1920x8x1 (Scalar.ofBits .f32 0x3F800000#32)))
    (broadcast S1920x8x1 (Scalar.ofBits .f32 0x00000000#32))

/-- They are the specification's, entry by entry. -/
theorem expos_at (s : FVec Ideal S1920x8x1 .f32) (j : S1920x8x1.Idx) : expos s j = Scale.refExpo (s j) := by
  rfl

/-- The body's exponents are these. -/
theorem pay4_eq : k0_pay4 v0 v2 v4 v8 = expos (mulf (shapeCast S1920x8x1 (multiReduction .maximumf [2] S1920x8 (absf (k0_pay3 v0 v2 v4 v8)) 0xFF800000#32 reduces_S1920x8x160_S1920x8 (.inl rfl) rfl) shapeCasts_S1920x8_S1920x8x1) (broadcast S1920x8x1 (Scalar.ofBits .f32 0x3B124925#32))) := by
  unfold k0_pay4 expos
  with_reducible rfl

/-- A product with a constant, entry by entry. -/
theorem times_at (z : FVec Ideal S1920x8x1 .f32) (w : BitVec 32) (j : S1920x8x1.Idx) :
    mulf z (broadcast S1920x8x1 (Scalar.ofBits .f32 w)) j = (z j * Ideal.ofBits .f32 w : EReal) := by
  rfl

/-- The exponent of a head's scale. -/
theorem expo_at (n : Fin 1920) (h : Fin 8) :
    k0_pay4 v0 v2 v4 v8 (ix3 n h 0) = Scale.refExpo (Spec.top fun d => k0_pay3 v0 v2 v4 v8 (ix3 n h d)) := by
  rw [pay4_eq, expos_at, times_at, keep_at, amax_at]
  unfold Spec.top
  with_reducible rfl

/-- The clipped quotients, of the exponents and the projection as vectors. -/
theorem clip_at (e : FVec Ideal S1920x8x1 .f32) (y : FVec Ideal S1920x8x160 .f32) (n : Fin 1920) (h : Fin 8) (d : Fin 160) :
    k0_pay1 (minimumf (broadcast S1920x8x160 (Scalar.ofBits .f32 0x43E00000#32)) (maximumf (broadcast S1920x8x160 (Scalar.ofBits .f32 0xC3E00000#32))
        (mulf y (broadcastTo S1920x8x160 (exp2 (subf (broadcast S1920x8x1 (Scalar.ofBits .f32 0x00000000#32)) e)) broadcasts_S1920x8x1_S1920x8x160)))) (ix3 n h d)
      = (min (Ideal.ofBits .f32 0x43E00000#32) (max (Ideal.ofBits .f32 0xC3E00000#32)
          (y (ix3 n h d) * Ideal.exp2 (Ideal.ofBits .f32 0x00000000#32 - e (ix3 n h 0)))) : EReal) := by
  unfold k0_pay1
  pointwise
  rfl

/-- The body's clipped quotients are these. -/
theorem pay6_eq : k0_pay6 v0 v2 v4 v8 = minimumf (broadcast S1920x8x160 (Scalar.ofBits .f32 0x43E00000#32)) (maximumf (broadcast S1920x8x160 (Scalar.ofBits .f32 0xC3E00000#32))
        (mulf (k0_pay3 v0 v2 v4 v8) (broadcastTo S1920x8x160 (exp2 (subf (broadcast S1920x8x1 (Scalar.ofBits .f32 0x00000000#32)) (k0_pay4 v0 v2 v4 v8))) broadcasts_S1920x8x1_S1920x8x160))) := by
  unfold k0_pay6
  with_reducible rfl

/-- A head's code. -/
theorem code_at (n : Fin 1920) (h : Fin 8) (d : Fin 160) :
    k0_pay1 (k0_pay6 v0 v2 v4 v8) (ix3 n h d) = Spec.code (fun d => k0_pay3 v0 v2 v4 v8 (ix3 n h d)) d := by
  rw [pay6_eq, clip_at, expo_at]
  unfold Spec.code
  with_reducible rfl

/-- The scales stored, read off the exponents. -/
theorem pow_at (e : FVec Ideal S1920x8x1 .f32) (n : Fin 1920) (h : Fin 8) : k0_pay2 (exp2 e) (ix2 n h) = (Ideal.exp2 (e (ix3 n h 0)) : EReal) := by
  unfold k0_pay2
  pointwise
  rfl

/-- A head's scale. -/
theorem scale_at (n : Fin 1920) (h : Fin 8) :
    k0_pay2 (k0_pay5 v0 v2 v4 v8) (ix2 n h) = Spec.scale (fun d => k0_pay3 v0 v2 v4 v8 (ix3 n h d)) := by
  unfold k0_pay5 Spec.scale
  rw [pow_at, expo_at]

/-! ## What is loaded and stored whole -/

theorem whole_x (x : S1920x6144.Idx) : r0_0.idx x = x := by
  funext a
  apply Fin.ext
  fin_cases a
  · show 0 + 1 * (x 0).val = (x 0).val; omega
  · show 0 + 1 * (x 1).val = (x 1).val; omega

theorem whole_xs (x : S1920x1.Idx) : r0_2.idx x = x := by
  funext a
  apply Fin.ext
  fin_cases a
  · show 0 + 1 * (x 0).val = (x 0).val; omega
  · show 0 + 1 * (x 1).val = (x 1).val; omega

theorem whole_codes (x : S1920x8x160.Idx) : r0_4.idx x = x := by
  funext a
  apply Fin.ext
  fin_cases a
  · show 0 + 1 * (x 0).val = (x 0).val; omega
  · show 0 + 1 * (x 1).val = (x 1).val; omega
  · show 0 + 1 * (x 2).val = (x 2).val; omega

theorem whole_scale (x : S1920x8.Idx) : r0_5.idx x = x := by
  funext a
  apply Fin.ext
  fin_cases a
  · show 0 + 1 * (x 0).val = (x 0).val; omega
  · show 0 + 1 * (x 1).val = (x 1).val; omega

theorem canon_4 (p : Vec Ideal S1920x8x160 .fp8e4m3) (y : S1920x8x160.Idx) : (View.canon [⟨r0_4, p⟩] : Vec Ideal S1920x8x160 .fp8e4m3) y = p y := by
  refine View.canon_apply_of_pieces p _ ?_ y (cover0_4 p y)
  intro pc hpc
  rcases List.mem_cons.mp hpc with rfl | hpc
  · exact fun y => congrArg p (whole_codes y).symm
  nomatch hpc

theorem canon_5 (p : Vec Ideal S1920x8 .f32) (y : S1920x8.Idx) : (View.canon [⟨r0_5, p⟩] : Vec Ideal S1920x8 .f32) y = p y := by
  refine View.canon_apply_of_pieces p _ ?_ y (cover0_5 p y)
  intro pc hpc
  rcases List.mem_cons.mp hpc with rfl | hpc
  · exact fun y => congrArg p (whole_scale y).symm
  nomatch hpc

end Cert.VReferenceIdeal.Rows
-- ==== Proof.VRefArr.lean ====
/-
  The two arrays the value projection's reference returns are the specification's: its call quantises every token's heads, and the
  host sends the codes and scales to the tokens' slots.
-/
module

public import proofs.«01_k».proof.Proof.VRefRows

public section

set_option maxRecDepth 16384

noncomputable section

namespace Cert.VReferenceIdeal.Arr

open Cert.VReferenceIdeal Cert.VReferenceIdeal.Gen Idealize.ShloMosaic Idealize.ShloMosaic.TcCoe Idealize.ShloMosaic.Tactic Cert.Last

variable (m : (ℓ : Loc nD τ sig) → Buf (Elt Ideal) ℓ)

/-- Every slot is one of the pool's. -/
@[expose] def InRange (x0 : (⟨2, ![3, 640]⟩ : Shape).Idx → BitVec 32) : Prop := ∀ j, (x0 j).toNat < 2400

/-- The slot of token `k`. -/
abbrev slot (c : Dev nD) : ℕ → ℕ := Spec.slotOf (m ((c : Thread nD τ).loc main_arg0))

/-- A head of a token's projected row. -/
abbrev head (c : Dev nD) : ℕ → Fin 8 → Fin 160 → EReal :=
  Spec.headOf (m ((c : Thread nD τ).loc main_arg1)) (m ((c : Thread nD τ).loc main_arg2)) (m ((c : Thread nD τ).loc main_arg3)) (m ((c : Thread nD τ).loc main_arg4)) 8960 (by decide)

/-- The codes as the specification has them, of the arguments. -/
@[expose] def G12 (c : Dev nD) : S8x160x2400.Idx → EReal := fun j =>
  Spec.poolCodes (m ((c : Thread nD τ).loc main_arg0)) (m ((c : Thread nD τ).loc main_arg1)) (m ((c : Thread nD τ).loc main_arg2)) (m ((c : Thread nD τ).loc main_arg3)) (m ((c : Thread nD τ).loc main_arg4)) 8960 (by decide) (m ((c : Thread nD τ).loc main_arg5)) (j 0) (j 1) (j 2)

/-- The scales. -/
@[expose] def G20 (c : Dev nD) : S8x2400.Idx → EReal := fun j =>
  Spec.poolScale (m ((c : Thread nD τ).loc main_arg0)) (m ((c : Thread nD τ).loc main_arg1)) (m ((c : Thread nD τ).loc main_arg2)) (m ((c : Thread nD τ).loc main_arg3)) (m ((c : Thread nD τ).loc main_arg4)) 8960 (by decide) (m ((c : Thread nD τ).loc main_arg6)) (j 0) (j 1)

/-- The only point's windows stand at the origin. -/
theorem idx : ∀ t : Fin cfg0.N, win0_0.index t = ![0, 0] ∧ win0_1.index t = ![0, 0] ∧ win0_2.index t = ![0, 0] ∧ win0_3.index t = ![0, 0]
    ∧ win0_4.index t = ![0, 0, 0] ∧ win0_5.index t = ![0, 0] :=
  (by decide +kernel : ∀ t : Fin grid0.N, win0_0.index t = ![0, 0] ∧ win0_1.index t = ![0, 0] ∧ win0_2.index t = ![0, 0] ∧ win0_3.index t = ![0, 0]
    ∧ win0_4.index t = ![0, 0, 0] ∧ win0_5.index t = ![0, 0])

/-- The tokens' codes as the call finds them, rows counted through. -/
theorem x_at (c : Dev nD) (n : Fin 1920) (k : Fin 6144) :
    V m c main_v0 (ix2 n k) = m ((c : Thread nD τ).loc main_arg1) (ix3 (⟨n.val / 640, by omega⟩ : Fin 3) (⟨n.val % 640, by omega⟩ : Fin 640) k) := by
  show StableHlo.after hostOps0 (fun b => m (c, b)) (Proc.devRef .tc main_v0) (ix2 n k) = _
  entry_read
  pointwise

/-- And their scales. -/
theorem xs_at (c : Dev nD) (n : Fin 1920) :
    V m c main_v2 (ix2 n 0) = m ((c : Thread nD τ).loc main_arg2) (ix3 (⟨n.val / 640, by omega⟩ : Fin 3) (⟨n.val % 640, by omega⟩ : Fin 640) 0) := by
  show StableHlo.after hostOps0 (fun b => m (c, b)) (Proc.devRef .tc main_v2) (ix2 n 0) = _
  entry_read
  pointwise

/-- An entry of the projection is the specification's. -/
theorem proj_at (c : Dev nD) (t : Fin cfg0.N) (n : Fin 1920) (h : Fin 8) (d : Fin 160) :
    k0_pay3 (View.ld (iblk m c 0 t) r0_0) (View.ld (iblk m c 2 t) r0_1) (View.ld (iblk m c 1 t) r0_2) (View.ld (iblk m c 3 t) r0_3) (ix3 n h d)
      = head m c n.val h d := by
  obtain ⟨h0, h1, h2, h3, -, -⟩ := idx t
  rw [Rows.proj_at]
  unfold head Spec.headOf Spec.rowOf
  rw [dif_pos n.isLt]
  unfold Spec.proj
  blk_point [iblk, V, h0, h1, h2, h3]
  · show V m c main_v0 ((win0_0.blk t).view.emb (r0_0.idx (ix2 n k))) = _
    rw [Rows.whole_x]
    have e : (win0_0.blk t).view.emb (ix2 n k) = ix2 n k := by
      blk_ext [h0]
    rw [e]
    exact x_at m c n k
  · show V m c main_v2 ((win0_1.blk t).view.emb (r0_2.idx (ix2 n 0))) = _
    rw [Rows.whole_xs]
    have e : (win0_1.blk t).view.emb (ix2 n 0) = ix2 n 0 := by
      blk_ext [h1]
    rw [e]
    exact xs_at m c n

/-- Every token's codes. -/
@[expose] def G4 (c : Dev nD) : S1920x8x160.Idx → EReal := fun j => Spec.code (head m c (j 0).val (j 1)) (j 2)

/-- Every token's scales. -/
@[expose] def G5 (c : Dev nD) : S1920x8.Idx → EReal := fun j => Spec.scale (head m c (j 0).val (j 1))

theorem G4_at (c : Dev nD) (n : Fin 1920) (h : Fin 8) (d : Fin 160) : G4 m c (ix3 n h d) = Spec.code (head m c n.val h) d := rfl

theorem G5_at (c : Dev nD) (n : Fin 1920) (h : Fin 8) : G5 m c (ix2 n h) = Spec.scale (head m c n.val h) := rfl

/-- The call's codes. -/
theorem arr4 (c : Dev nD) : (dats m 0 c).arrAt 4 cfg0.N = G4 m c := by
  refine (dats m 0 c).arrAt_eq_of_covers 4 _ (by decide +kernel) fun t hf y => ?_
  blk_simp
  rw [after0_4]
  obtain ⟨-, -, -, -, h4, -⟩ := idx t
  change S1920x8x160.Idx at y
  idx_vars y
  have e : (win0_4.blk t).view.emb (ix3 y0 y1 y2) = ix3 y0 y1 y2 := by
    blk_ext [h4]
  rw [e, G4_at]
  unfold out0_4
  refine (Rows.canon_4 _ _).trans ((Rows.code_at _ _ _ _ y0 y1 y2).trans ?_)
  exact congrArg (fun f => Spec.code f y2) (funext fun d => proj_at m c t y0 y1 d)

/-- The call's scales. -/
theorem arr5 (c : Dev nD) : (dats m 0 c).arrAt 5 cfg0.N = G5 m c := by
  refine (dats m 0 c).arrAt_eq_of_covers 5 _ (by decide +kernel) fun t hf y => ?_
  blk_simp
  rw [after0_5]
  obtain ⟨-, -, -, -, -, h5⟩ := idx t
  change S1920x8.Idx at y
  idx_vars y
  have e : (win0_5.blk t).view.emb (ix2 y0 y1) = ix2 y0 y1 := by
    blk_ext [h5]
  rw [e, G5_at]
  unfold out0_5
  refine (Rows.canon_5 _ _).trans ((Rows.scale_at _ _ _ _ y0 y1).trans ?_)
  exact congrArg (fun f => Spec.scale f) (funext fun d => proj_at m c t y0 y1 d)

/-! ## What the host does with them -/

/-- A slot in range reads the same signed, and the host's wrapping of negative indices leaves it alone. -/
theorem wrap (a b : BitVec 32) (h : a.toNat < 2400) : (Scalar.select (IntOp.cmpi .slt a 0#32) b a).toInt = (a.toNat : Int) := by
  rw [Idealize.ShloMosaic.Routing.wrap_of_lt a b (by omega)]
  rw [BitVec.toInt_eq_toNat_of_lt (by omega)]

/-- Token `k`'s slot, spelt out. -/
theorem slot_eq (x0 : (⟨2, ![3, 640]⟩ : Shape).Idx → BitVec 32) (k : Fin 1920) :
    Spec.slotOf x0 k.val = (x0 (ix2 (⟨k.val / 640, by omega⟩ : Fin 3) (⟨k.val % 640, by omega⟩ : Fin 640))).toNat := by
  unfold Spec.slotOf
  rw [dif_pos k.isLt]

variable (σ : Valuation τ sig (Elt Ideal))

/-- The codes the host returns, of what it finds. -/
theorem tail_codes (hr : InRange (σ (Proc.devRef .tc main_arg0))) (u : S1920x8x160.Idx → EReal) (hu : σ (Proc.devRef .tc main_v3_0) = u) (h : Fin 8) (d : Fin 160) (s : Fin 2400) :
    (StableHlo.after hostOps1 σ (Proc.devRef .tc main_v12) : S8x160x2400.Idx → EReal) (ix3 h d s)
      = last (Spec.slotOf (σ (Proc.devRef .tc main_arg0)))
          (fun k => if hk : k < 1920 then u (ix3 (⟨k, hk⟩ : Fin 1920) h d) else (0 : EReal))
          ((σ (Proc.devRef .tc main_arg5) : S2400x8x160.Idx → EReal) (ix3 s h d)) s.val 1920 := by
  entry_read
  pointwise
  refine Cert.KReferenceIdeal.Scatter.scatterC _ _ _ _ (fun k => ?_) _ s h d fun k => ?_
  · pointwise
    rw [slot_eq _ k]
    exact wrap _ _ (hr _)
  · rw [dif_pos k.isLt]
    exact congrFun hu _

/-- The scales the host returns. -/
theorem tail_scale (hr : InRange (σ (Proc.devRef .tc main_arg0))) (u : S1920x8.Idx → EReal) (hu : σ (Proc.devRef .tc main_v3_1) = u) (h : Fin 8) (s : Fin 2400) :
    (StableHlo.after hostOps1 σ (Proc.devRef .tc main_v20) : S8x2400.Idx → EReal) (ix2 h s)
      = last (Spec.slotOf (σ (Proc.devRef .tc main_arg0)))
          (fun k => if hk : k < 1920 then u (ix2 (⟨k, hk⟩ : Fin 1920) h) else (0 : EReal))
          ((σ (Proc.devRef .tc main_arg6) : S2400x8.Idx → EReal) (ix2 s h)) s.val 1920 := by
  entry_read
  pointwise
  refine Cert.KReferenceIdeal.Scatter.scatterS _ _ _ _ (fun k => ?_) _ s h fun k => ?_
  · pointwise
    rw [slot_eq _ k]
    exact wrap _ _ (hr _)
  · rw [dif_pos k.isLt]
    exact congrFun hu _

/-- What the host finds once the call is done. -/
abbrev exit (c : Dev nD) : Valuation τ sig (Elt Ideal) := Pipeline.withArrays spec0 c (V0 m c) fun w => (dats m 0 c).arrAt w cfg0.N

theorem exit_arg0 (c : Dev nD) : exit m c (Proc.devRef .tc main_arg0) = m ((c : Thread nD τ).loc main_arg0) :=
  (Pipeline.withArrays_of_ne _ c (V0 m c) _ main_arg0 (by exact (by decide : ∀ w, Pipeline.arrRef spec0 w ≠ main_arg0))).trans (V_main_arg0 m c)

theorem exit_arg5 (c : Dev nD) : exit m c (Proc.devRef .tc main_arg5) = m ((c : Thread nD τ).loc main_arg5) :=
  (Pipeline.withArrays_of_ne _ c (V0 m c) _ main_arg5 (by exact (by decide : ∀ w, Pipeline.arrRef spec0 w ≠ main_arg5))).trans (V_main_arg5 m c)

theorem exit_arg6 (c : Dev nD) : exit m c (Proc.devRef .tc main_arg6) = m ((c : Thread nD τ).loc main_arg6) :=
  (Pipeline.withArrays_of_ne _ c (V0 m c) _ main_arg6 (by exact (by decide : ∀ w, Pipeline.arrRef spec0 w ≠ main_arg6))).trans (V_main_arg6 m c)

theorem exit_codes (c : Dev nD) : exit m c (Proc.devRef .tc main_v3_0) = G4 m c :=
  (Pipeline.withArrays_arr spec0 (by decide) c (V0 m c) _ 4).trans (arr4 m c)

theorem exit_scale (c : Dev nD) : exit m c (Proc.devRef .tc main_v3_1) = G5 m c :=
  (Pipeline.withArrays_arr spec0 (by decide) c (V0 m c) _ 5).trans (arr5 m c)

/-- The codes' array. -/
theorem codes (c : Dev nD) (hr : InRange (m ((c : Thread nD τ).loc main_arg0))) :
    Pipeline.afterTail₀ cfgs (dats m) 0 (V0 m) [hostOps1] c main_v12 = G12 m c := by
  refine funext fun (y : S8x160x2400.Idx) => ?_
  obtain ⟨h, d, s, rfl⟩ : ∃ (h : Fin 8) (d : Fin 160) (s : Fin 2400), y = ix3 h d s := ⟨y 0, y 1, y 2, by funext a; match a with | ⟨0, _⟩ => rfl | ⟨1, _⟩ => rfl | ⟨2, _⟩ => rfl⟩
  refine (tail_codes (exit m c) (by rw [exit_arg0]; exact hr) (G4 m c) (exit_codes m c) h d s).trans ?_
  rw [exit_arg0, exit_arg5]
  show _ = last (slot m c) (fun k => Spec.code (head m c k h) d) _ s.val 1920
  refine last_congr _ _ 1920 (fun _ _ => rfl) fun k hk => ?_
  rw [dif_pos hk, G4_at]

/-- The scales' array. -/
theorem scales (c : Dev nD) (hr : InRange (m ((c : Thread nD τ).loc main_arg0))) :
    Pipeline.afterTail₀ cfgs (dats m) 0 (V0 m) [hostOps1] c main_v20 = G20 m c := by
  refine funext fun (y : S8x2400.Idx) => ?_
  obtain ⟨h, s, rfl⟩ : ∃ (h : Fin 8) (s : Fin 2400), y = ix2 h s := ⟨y 0, y 1, by funext a; match a with | ⟨0, _⟩ => rfl | ⟨1, _⟩ => rfl⟩
  refine (tail_scale (exit m c) (by rw [exit_arg0]; exact hr) (G5 m c) (exit_scale m c) h s).trans ?_
  rw [exit_arg0, exit_arg6]
  show _ = last (slot m c) (fun k => Spec.scale (head m c k h)) _ s.val 1920
  refine last_congr _ _ 1920 (fun _ _ => rfl) fun k hk => ?_
  rw [dif_pos hk, G5_at]

/-- The reference leaves the two arrays. -/
theorem run (hr : ∀ c : Dev nD, InRange (m ((c : Thread nD τ).loc main_arg0))) (ρ : Dev nD → PrngReg) :
    θ_run defs (onTc (τ := τ) (main (F := Ideal))) ⟨m, fun _ => 0, ρ⟩ fun r => ∀ c : Dev nD,
      r.2.mem ((c : Thread nD τ).loc main_v12) = G12 m c ∧ r.2.mem ((c : Thread nD τ).loc main_v20) = G20 m c :=
  (θ_run defs _ _).mono (fun _ h c => ⟨
    ((h c).2 main_v12 (Pipeline.mem_restRefs_of main_v12 (by decide) (by decide))).trans (codes m c (hr c)),
    ((h c).2 main_v20 (Pipeline.mem_restRefs_of main_v20 (by decide) (by decide))).trans (scales m c (hr c))⟩)
    (run_main m ρ)

end Cert.VReferenceIdeal.Arr
-- ==== Proof.KPre.lean ====
/-
  The precondition's words: a slot that passes it is one of the pool's 2400.
-/
module

public import proofs.«01_k».proof.Pre_slots_in_range
public import Idealize.ShloMosaic.Lib.StableHlo

public section

noncomputable section

namespace Cert.Pre

open Idealize.ShloMosaic

/-- A word neither negative nor at least 2400, both read signed, is below 2400. -/
theorem word_lt (a : BitVec 32) (h : IntOp.andi (IntOp.cmpi .sge a 0#32) (IntOp.cmpi .slt a 2400#32) = 1#1) : a.toNat < 2400 := by
  simp only [IntOp.andi, IntOp.cmpi] at h
  rcases h1 : BitVec.sle 0#32 a <;> rcases h2 : BitVec.slt a 2400#32 <;> simp [h1, h2] at h
  rw [BitVec.sle_iff_toInt_le] at h1
  rw [BitVec.slt_iff_toInt_lt] at h2
  have e1 : (0#32).toInt = 0 := by decide
  have e2 : (2400#32).toInt = 2400 := by decide
  rw [e1] at h1
  rw [e2] at h2
  rw [BitVec.toInt_eq_toNat_cond] at h1 h2
  have := a.isLt
  split at h1 <;> omega

/-- Where the precondition is all ones every slot is in range. -/
theorem inRange {F : FTy → Type} [FloatOps F] [Cert.Pre_slots_in_range.Facts] (x0 : IVec Pre_slots_in_range.S3x640 32) (x1 : FVec F Pre_slots_in_range.S3x640x6144 .fp8e4m3) (x2 : FVec F Pre_slots_in_range.S3x640x128 .f32)
    (x3 : FVec F Pre_slots_in_range.S6144x10240 .fp8e4m3) (x4 : FVec F Pre_slots_in_range.S1x10240 .f32) (x5 : FVec F Pre_slots_in_range.S2400x8x160 .fp8e4m3) (x6 : FVec F Pre_slots_in_range.S2400x8 .f32)
    (h : Cert.Pre_slots_in_range.fn (F := F) x0 x1 x2 x3 x4 x5 x6 = fun _ => 1#1) (j : Pre_slots_in_range.S3x640.Idx) : (x0 j : BitVec 32).toNat < 2400 :=
  word_lt (x0 j) (congrFun h j)

end Cert.Pre
-- ==== Proof.lean ====
/-
  The proof of `Cert.Claim`: the three frames (arguments kept, semaphores at zero), and the equality over the extended
  reals of what a call and its reference return, for the query, key and value projections and for the normalisation.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Arr
public import proofs.«01_k».proof.Proof.RefArr
public import proofs.«01_k».proof.Proof.NormArr
public import proofs.«01_k».proof.Proof.NormRef
public import proofs.«01_k».proof.Proof.Gen.KernelIdeal.Value
public import proofs.«01_k».proof.Proof.Gen.ReferenceIdeal.Value
public import proofs.«01_k».proof.Proof.Gen.Norm
public import proofs.«01_k».proof.Proof.Gen.Norm.Skeleton
public import proofs.«01_k».proof.Proof.Gen.Norm.Launch
public import proofs.«01_k».proof.Proof.Gen.Norm.Points
public import proofs.«01_k».proof.Proof.Gen.Norm.Frame
public import proofs.«01_k».proof.Proof.Gen.NormIdeal
public import proofs.«01_k».proof.Proof.Gen.NormIdeal.Skeleton
public import proofs.«01_k».proof.Proof.Gen.NormIdeal.Launch
public import proofs.«01_k».proof.Proof.Gen.NormIdeal.Points
public import proofs.«01_k».proof.Proof.Gen.NormIdeal.Frame
public import proofs.«01_k».proof.Proof.Gen.NormReferenceIdeal
public import proofs.«01_k».proof.Proof.Gen.NormReferenceIdeal.Skeleton
public import proofs.«01_k».proof.Proof.Gen.NormReferenceIdeal.Launch
public import proofs.«01_k».proof.Proof.Gen.NormReferenceIdeal.Points
public import proofs.«01_k».proof.Proof.Gen.NormReferenceIdeal.Frame
public import proofs.«01_k».proof.Proof.Gen.KProj
public import proofs.«01_k».proof.Proof.Gen.KProj.Skeleton
public import proofs.«01_k».proof.Proof.Gen.KProj.Launch
public import proofs.«01_k».proof.Proof.Gen.KProj.Points
public import proofs.«01_k».proof.Proof.Gen.KProj.Frame
public import proofs.«01_k».proof.Proof.Gen.KProjIdeal
public import proofs.«01_k».proof.Proof.Gen.KProjIdeal.Skeleton
public import proofs.«01_k».proof.Proof.Gen.KProjIdeal.Launch
public import proofs.«01_k».proof.Proof.Gen.KProjIdeal.Points
public import proofs.«01_k».proof.Proof.Gen.KProjIdeal.Frame
public import proofs.«01_k».proof.Proof.Gen.KReferenceIdeal
public import proofs.«01_k».proof.Proof.Gen.KReferenceIdeal.Skeleton
public import proofs.«01_k».proof.Proof.Gen.KReferenceIdeal.Launch
public import proofs.«01_k».proof.Proof.Gen.KReferenceIdeal.Points
public import proofs.«01_k».proof.Proof.Gen.KReferenceIdeal.Frame
public import proofs.«01_k».proof.Proof.Gen.VProj
public import proofs.«01_k».proof.Proof.Gen.VProj.Skeleton
public import proofs.«01_k».proof.Proof.Gen.VProj.Launch
public import proofs.«01_k».proof.Proof.Gen.VProj.Points
public import proofs.«01_k».proof.Proof.Gen.VProj.Frame
public import proofs.«01_k».proof.Proof.Gen.VProjIdeal
public import proofs.«01_k».proof.Proof.Gen.VProjIdeal.Skeleton
public import proofs.«01_k».proof.Proof.Gen.VProjIdeal.Launch
public import proofs.«01_k».proof.Proof.Gen.VProjIdeal.Points
public import proofs.«01_k».proof.Proof.Gen.VProjIdeal.Frame
public import proofs.«01_k».proof.Proof.Gen.VReferenceIdeal
public import proofs.«01_k».proof.Proof.Gen.VReferenceIdeal.Skeleton
public import proofs.«01_k».proof.Proof.Gen.VReferenceIdeal.Launch
public import proofs.«01_k».proof.Proof.Gen.VReferenceIdeal.Points
public import proofs.«01_k».proof.Proof.Gen.VReferenceIdeal.Frame
public import proofs.«01_k».proof.Proof.KBits
public import proofs.«01_k».proof.Proof.VBits
public import proofs.«01_k».proof.Proof.KArr
public import proofs.«01_k».proof.Proof.KRefArr
public import proofs.«01_k».proof.Proof.VArr
public import proofs.«01_k».proof.Proof.VRefArr
public import proofs.«01_k».proof.Proof.KPre
public import Idealize.ShloMosaic.Adequacy
public import Idealize.ShloMosaic.Init

@[expose] public section

noncomputable section

namespace Cert.Proof

open Idealize.ShloMosaic Idealize.SL.Sem Cert.Kernel

/-- The projection's two arrays are the specification's. -/
theorem runP (m : (ℓ : Loc KernelIdeal.nD KernelIdeal.τ KernelIdeal.sig) → Buf (Elt Ideal) ℓ) (ρ : Dev KernelIdeal.nD → PrngReg) :
    θ_run (KernelIdeal.defs (F := Ideal)) (onTc (τ := KernelIdeal.τ) (KernelIdeal.main (F := Ideal))) ⟨m, fun _ => 0, ρ⟩ fun r => ∀ c : Dev KernelIdeal.nD,
      r.2.mem ((c.tc : Thread KernelIdeal.nD KernelIdeal.τ).loc KernelIdeal.main_v0_0) = KernelIdeal.Arr.G4 m c
      ∧ r.2.mem ((c.tc : Thread KernelIdeal.nD KernelIdeal.τ).loc KernelIdeal.main_v0_1) = KernelIdeal.Arr.G5 m c
      ∧ r.2.mem ((c.tc : Thread KernelIdeal.nD KernelIdeal.τ).loc KernelIdeal.main_arg0) = m ((c.tc : Thread KernelIdeal.nD KernelIdeal.τ).loc KernelIdeal.main_arg0)
      ∧ r.2.mem ((c.tc : Thread KernelIdeal.nD KernelIdeal.τ).loc KernelIdeal.main_arg1) = m ((c.tc : Thread KernelIdeal.nD KernelIdeal.τ).loc KernelIdeal.main_arg1)
      ∧ r.2.mem ((c.tc : Thread KernelIdeal.nD KernelIdeal.τ).loc KernelIdeal.main_arg2) = m ((c.tc : Thread KernelIdeal.nD KernelIdeal.τ).loc KernelIdeal.main_arg2)
      ∧ r.2.mem ((c.tc : Thread KernelIdeal.nD KernelIdeal.τ).loc KernelIdeal.main_arg3) = m ((c.tc : Thread KernelIdeal.nD KernelIdeal.τ).loc KernelIdeal.main_arg3) :=
  (θ_run _ _ _).mono (fun _ h c => ⟨(h c).1.trans (KernelIdeal.Arr.arr4 m c), (h c).2.1.trans (KernelIdeal.Arr.arr5 m c), (h c).2.2⟩)
    (KernelIdeal.Value.run_blocks m ρ)

/-- So are its reference's. -/
theorem runR (m : (ℓ : Loc ReferenceIdeal.nD ReferenceIdeal.τ ReferenceIdeal.sig) → Buf (Elt Ideal) ℓ) (ρ : Dev ReferenceIdeal.nD → PrngReg) :
    θ_run (ReferenceIdeal.defs (F := Ideal)) (onTc (τ := ReferenceIdeal.τ) (ReferenceIdeal.main (F := Ideal))) ⟨m, fun _ => 0, ρ⟩ fun r => ∀ c : Dev ReferenceIdeal.nD,
      r.2.mem ((c.tc : Thread ReferenceIdeal.nD ReferenceIdeal.τ).loc ReferenceIdeal.main_v3_0) = ReferenceIdeal.Arr.G4 m c
      ∧ r.2.mem ((c.tc : Thread ReferenceIdeal.nD ReferenceIdeal.τ).loc ReferenceIdeal.main_v3_1) = ReferenceIdeal.Arr.G5 m c
      ∧ r.2.mem ((c.tc : Thread ReferenceIdeal.nD ReferenceIdeal.τ).loc ReferenceIdeal.main_arg0) = m ((c.tc : Thread ReferenceIdeal.nD ReferenceIdeal.τ).loc ReferenceIdeal.main_arg0)
      ∧ r.2.mem ((c.tc : Thread ReferenceIdeal.nD ReferenceIdeal.τ).loc ReferenceIdeal.main_arg1) = m ((c.tc : Thread ReferenceIdeal.nD ReferenceIdeal.τ).loc ReferenceIdeal.main_arg1)
      ∧ r.2.mem ((c.tc : Thread ReferenceIdeal.nD ReferenceIdeal.τ).loc ReferenceIdeal.main_arg2) = m ((c.tc : Thread ReferenceIdeal.nD ReferenceIdeal.τ).loc ReferenceIdeal.main_arg2)
      ∧ r.2.mem ((c.tc : Thread ReferenceIdeal.nD ReferenceIdeal.τ).loc ReferenceIdeal.main_arg3) = m ((c.tc : Thread ReferenceIdeal.nD ReferenceIdeal.τ).loc ReferenceIdeal.main_arg3) :=
  (θ_run _ _ _).mono (fun _ h c => ⟨(h c).1.trans (ReferenceIdeal.Arr.arr4 m c), (h c).2.1.trans (ReferenceIdeal.Arr.arr5 m c), (h c).2.2⟩)
    (ReferenceIdeal.Value.run_blocks m ρ)

/-- From the same arguments both leave the specification's codes and scales. -/
theorem same : Cert.algebraic_KernelIdeal_ReferenceIdeal := fun m ρ m' ρ' _ hag =>
  ⟨fun c => KernelIdeal.Arr.G4 m c, fun c => KernelIdeal.Arr.G5 m c, runP m ρ,
    (θ_run _ _ _).mono (fun _ h c => by
      have e4 : ReferenceIdeal.Arr.G4 m' c = KernelIdeal.Arr.G4 m c := by
        unfold ReferenceIdeal.Arr.G4 KernelIdeal.Arr.G4
        rw [(hag c).1, (hag c).2.1, (hag c).2.2.1, (hag c).2.2.2]
      have e5 : ReferenceIdeal.Arr.G5 m' c = KernelIdeal.Arr.G5 m c := by
        unfold ReferenceIdeal.Arr.G5 KernelIdeal.Arr.G5
        rw [(hag c).1, (hag c).2.1, (hag c).2.2.1, (hag c).2.2.2]
      exact ⟨(h c).1.trans e4, (h c).2.1.trans e5, (h c).2.2⟩) (runR m' ρ')⟩

/-- From the same tokens and gains the normalisation and its reference leave the specification's codes and scales. -/
theorem sameNorm : Cert.algebraic_NormIdeal_NormReferenceIdeal := fun m ρ m' ρ' _ hag =>
  ⟨fun c => NormIdeal.Arr.G2 m c, fun c => NormIdeal.Arr.G3 m c, fun c => NormIdeal.Arr.G4 m c, NormIdeal.Arr.run m ρ,
    (θ_run _ _ _).mono (fun _ h c => by
      have e2 : NormReferenceIdeal.Arr.G2 m' c = NormIdeal.Arr.G2 m c := by
        unfold NormReferenceIdeal.Arr.G2 NormIdeal.Arr.G2
        rw [(hag c).1, (hag c).2]
      have e3 : NormReferenceIdeal.Arr.G3 m' c = NormIdeal.Arr.G3 m c := by
        unfold NormReferenceIdeal.Arr.G3 NormIdeal.Arr.G3
        rw [(hag c).1, (hag c).2]
      have e4 : NormReferenceIdeal.Arr.G4 m' c = NormIdeal.Arr.G4 m c := by
        unfold NormReferenceIdeal.Arr.G4 NormIdeal.Arr.G4
        rw [(hag c).1, (hag c).2]
      exact ⟨(h c).1.trans e2, (h c).2.1.trans e3, (h c).2.2.1.trans e4, (h c).2.2.2⟩) (NormReferenceIdeal.Arr.run m' ρ')⟩

/-- The shapes the precondition is printed with. -/
theorem preFacts : Cert.Pre_slots_in_range.Facts := ⟨by decide⟩

/-- Under the precondition the key projection's slots are in range. -/
theorem slotsBits [hPre : Cert.Pre_slots_in_range.Facts] (m : (ℓ : Loc KProj.nD KProj.τ KProj.sig) → Buf (Elt Bits) ℓ) (h : Cert.Pre_KProj m) : KProj.Bits.SlotsOk m :=
  fun c b k => Pre.inRange (F := Bits) _ _ _ _ _ _ _ (h c) (KProjIdeal.Gen.slotIx b k)

/-- The same of its idealisation. -/
theorem slotsIdeal [hPre : Cert.Pre_slots_in_range.Facts] (m : (ℓ : Loc KProjIdeal.nD KProjIdeal.τ KProjIdeal.sig) → Buf (Elt Ideal) ℓ) (h : Cert.Pre_KProjIdeal m) : KProjIdeal.Gen.SlotsOk m :=
  fun c b k => Pre.inRange (F := Ideal) _ _ _ _ _ _ _ (h c) (KProjIdeal.Gen.slotIx b k)

/-- From the same arguments, slots in range, the key projection and its reference leave the specification's pools. -/
theorem sameK [hPre : Cert.Pre_slots_in_range.Facts] : Cert.algebraic_KProjIdeal_KReferenceIdeal := fun m ρ m' ρ' hp hag =>
  ⟨fun c => KProjIdeal.Arr.G8 m c, fun c => KProjIdeal.Arr.G9 m c, KProjIdeal.Arr.run m (slotsIdeal m hp) ρ,
    (θ_run _ _ _).mono (fun _ h c => by
      have e8 : KReferenceIdeal.Arr.G12 m' c = KProjIdeal.Arr.G8 m c := by
        unfold KReferenceIdeal.Arr.G12 KProjIdeal.Arr.G8
        rw [(hag c).1, (hag c).2.1, (hag c).2.2.1, (hag c).2.2.2.1, (hag c).2.2.2.2.1, (hag c).2.2.2.2.2.1]
      have e9 : KReferenceIdeal.Arr.G20 m' c = KProjIdeal.Arr.G9 m c := by
        unfold KReferenceIdeal.Arr.G20 KProjIdeal.Arr.G9
        rw [(hag c).1, (hag c).2.1, (hag c).2.2.1, (hag c).2.2.2.1, (hag c).2.2.2.2.1, (hag c).2.2.2.2.2.2]
      exact ⟨(h.1 c).1.trans e8, (h.1 c).2.trans e9, h.2 c⟩)
      (θ_run_and (KReferenceIdeal.Arr.run m' (fun c j => by
        rw [(hag c).1]
        exact Pre.inRange (F := Ideal) _ _ _ _ _ _ _ (hp c) j) ρ') (KReferenceIdeal.Gen.unchanged m' ρ'))⟩

/-- Under the precondition the value projection's slots are in range. -/
theorem slotsBitsV [hPre : Cert.Pre_slots_in_range.Facts] (m : (ℓ : Loc VProj.nD VProj.τ VProj.sig) → Buf (Elt Bits) ℓ) (h : Cert.Pre_VProj m) : VProj.Bits.SlotsOk m :=
  fun c b k => Pre.inRange (F := Bits) _ _ _ _ _ _ _ (h c) (VProjIdeal.Gen.slotIx b k)

/-- The same of its idealisation. -/
theorem slotsIdealV [hPre : Cert.Pre_slots_in_range.Facts] (m : (ℓ : Loc VProjIdeal.nD VProjIdeal.τ VProjIdeal.sig) → Buf (Elt Ideal) ℓ) (h : Cert.Pre_VProjIdeal m) : VProjIdeal.Gen.SlotsOk m :=
  fun c b k => Pre.inRange (F := Ideal) _ _ _ _ _ _ _ (h c) (VProjIdeal.Gen.slotIx b k)

/-- From the same arguments, slots in range, the value projection and its reference leave the specification's pools. -/
theorem sameV [hPre : Cert.Pre_slots_in_range.Facts] : Cert.algebraic_VProjIdeal_VReferenceIdeal := fun m ρ m' ρ' hp hag =>
  ⟨fun c => VProjIdeal.Arr.G8 m c, fun c => VProjIdeal.Arr.G9 m c, VProjIdeal.Arr.run m (slotsIdealV m hp) ρ,
    (θ_run _ _ _).mono (fun _ h c => by
      have e8 : VReferenceIdeal.Arr.G12 m' c = VProjIdeal.Arr.G8 m c := by
        unfold VReferenceIdeal.Arr.G12 VProjIdeal.Arr.G8
        rw [(hag c).1, (hag c).2.1, (hag c).2.2.1, (hag c).2.2.2.1, (hag c).2.2.2.2.1, (hag c).2.2.2.2.2.1]
      have e9 : VReferenceIdeal.Arr.G20 m' c = VProjIdeal.Arr.G9 m c := by
        unfold VReferenceIdeal.Arr.G20 VProjIdeal.Arr.G9
        rw [(hag c).1, (hag c).2.1, (hag c).2.2.1, (hag c).2.2.2.1, (hag c).2.2.2.2.1, (hag c).2.2.2.2.2.2]
      exact ⟨(h.1 c).1.trans e8, (h.1 c).2.trans e9, h.2 c⟩)
      (θ_run_and (VReferenceIdeal.Arr.run m' (fun c j => by
        rw [(hag c).1]
        exact Pre.inRange (F := Ideal) _ _ _ _ _ _ _ (hp c) j) ρ') (VReferenceIdeal.Gen.unchanged m' ρ'))⟩

/-- All the claims. -/
theorem claim : Cert.Claim := ⟨Cert.Kernel.Gen.facts, Cert.KernelIdeal.Gen.facts, Cert.ReferenceIdeal.Gen.facts,
  Cert.Norm.Gen.facts, Cert.NormIdeal.Gen.facts, Cert.NormReferenceIdeal.Gen.facts,
  Cert.KProj.Gen.facts, Cert.KProjIdeal.Gen.facts, Cert.KReferenceIdeal.Gen.facts,
  Cert.VProj.Gen.facts, Cert.VProjIdeal.Gen.facts, Cert.VReferenceIdeal.Gen.facts, preFacts,
  fun m ρ _ => Cert.Kernel.Gen.frame m ρ, fun m ρ _ => Cert.KernelIdeal.Gen.frame m ρ,
  fun m ρ _ => Cert.ReferenceIdeal.Gen.frame m ρ,
  fun m ρ _ => Cert.Norm.Gen.frame m ρ, fun m ρ _ => Cert.NormIdeal.Gen.frame m ρ,
  fun m ρ _ => Cert.NormReferenceIdeal.Gen.frame m ρ,
  fun m ρ h => Cert.KProj.Bits.frame m (slotsBits (hPre := preFacts) m h) ρ,
  fun m ρ h => Cert.KProjIdeal.Gen.frame m (slotsIdeal (hPre := preFacts) m h) ρ,
  fun m ρ _ => Cert.KReferenceIdeal.Gen.frame m ρ,
  fun m ρ h => Cert.VProj.Bits.frame m (slotsBitsV (hPre := preFacts) m h) ρ,
  fun m ρ h => Cert.VProjIdeal.Gen.frame m (slotsIdealV (hPre := preFacts) m h) ρ,
  fun m ρ _ => Cert.VReferenceIdeal.Gen.frame m ρ,
  trivial, same, trivial, sameNorm, trivial, sameK (hPre := preFacts), trivial, sameV (hPre := preFacts)⟩

end Cert.Proof

end
